-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)) (v5 : (c : Dev Cert.Kernel4Ideal.nD) → Buf (Elt Ideal) ((c.tc : Thread Cert.Kernel4Ideal.nD Cert.Kernel4Ideal.τ).loc Cert.Kernel4Ideal.main_v9_5)) (v6 : (c : Dev Cert.Kernel4Ideal.nD) → Buf (Elt Ideal) ((c.tc : Thread Cert.Kernel4Ideal.nD Cert.Kernel4Ideal.τ).loc Cert.Kernel4Ideal.main_v9_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_v9_5) = v5 c
          ∧ r.2.mem ((c.tc : Thread Cert.Kernel4Ideal.nD Cert.Kernel4Ideal.τ).loc Cert.Kernel4Ideal.main_v9_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v54) = v3 c
          ∧ r.2.mem ((c.tc : Thread Cert.Reference4Ideal.nD Cert.Reference4Ideal.τ).loc Cert.Reference4Ideal.main_v56) = v4 c
          ∧ r.2.mem ((c.tc : Thread Cert.Reference4Ideal.nD Cert.Reference4Ideal.τ).loc Cert.Reference4Ideal.main_v57) = v5 c
          ∧ r.2.mem ((c.tc : Thread Cert.Reference4Ideal.nD Cert.Reference4Ideal.τ).loc Cert.Reference4Ideal.main_v50) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4096x3584 : Shape := ⟨2, ![4096, 3584]⟩
abbrev S4096x128 : Shape := ⟨2, ![4096, 128]⟩
abbrev S4096x512 : Shape := ⟨2, ![4096, 512]⟩
abbrev S_ : Shape := ⟨0, ![]⟩
abbrev S1 : Shape := ⟨1, ![1]⟩

class Facts : Prop where
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x512 : S_.BroadcastsInDim S4096x512 (![] : Fin 0 → Fin S4096x512.rank)
  reducesTo_S4096x512_S_d0_1 : S4096x512.ReducesTo [0, 1] S_
  shapeCasts_S_S1 : S_.ShapeCasts S1

variable [Facts]

def fn {F : FTy → Type} [FloatOps F] (main_arg0 : FVec F S4096x3584 .f32) (main_arg1 : FVec F S4096x128 .f32) (main_arg2 : FVec F S4096x512 .f32) : IVec S1 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_c : IVec S_ 1 := constantI S_ 1 1#1
  let main_v3 : IVec S_ 1 := (fun x v => Host.reduce IntOp.andi x v reducesTo_S4096x3584_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : IVec S1 1 := shapeCast S1 main_v13 shapeCasts_S_S1
  main_v14
-- ==== Pre_finite4.lean ====
abbrev S4096x1024 : Shape := ⟨2, ![4096, 1024]⟩
abbrev S4096x512 : Shape := ⟨2, ![4096, 512]⟩
abbrev S4096x3584 : Shape := ⟨2, ![4096, 3584]⟩
abbrev S1x1024 : Shape := ⟨2, ![1, 1024]⟩
abbrev S1024x1024 : Shape := ⟨2, ![1024, 1024]⟩
abbrev S_ : Shape := ⟨0, ![]⟩
abbrev S1 : Shape := ⟨1, ![1]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x3584 : S_.BroadcastsInDim S4096x3584 (![] : Fin 0 → Fin S4096x3584.rank)
  reducesTo_S4096x3584_S_d0_1 : S4096x3584.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  shapeCasts_S_S1 : S_.ShapeCasts S1

variable [Facts]

def fn_part1 {F : FTy → Type} [FloatOps F] (main_arg4 : FVec F S1x1024 .f32) (main_arg5 : FVec F S1024x1024 .f32) (main_v13 : IVec S_ 1) (main_v16 : IVec S4096x3584 1) : IVec S1 1 :=
  let main_c_5 : IVec S_ 1 := constantI S_ 1 1#1
  let main_v17 : IVec S_ 1 := (fun x v => Host.reduce IntOp.andi x v reducesTo_S4096x3584_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : IVec S1 1 := shapeCast S1 main_v28 shapeCasts_S_S1
  main_v29

def fn {F : FTy → Type} [FloatOps F] (main_arg0 : FVec F S4096x1024 .f32) (main_arg1 : FVec F S4096x512 .f32) (main_arg2 : FVec F S4096x512 .f32) (main_arg3 : FVec F S4096x3584 .f32) (main_arg4 : FVec F S1x1024 .f32) (main_arg5 : FVec F S1024x1024 .f32) : IVec S1 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x3584 .f32 := Host.absf main_arg3
  let main_cst_4 : FVec F S_ .f32 := constant S_ .f32 0x7F800000#32
  let main_v15 : FVec F S4096x3584 .f32 := broadcastInDim S4096x3584 ![] bcast_S_S4096x3584 main_cst_4
  let main_v16 : IVec S4096x3584 1 := cmpf .olt main_v14 main_v15
  fn_part1 (F := F) main_arg4 main_arg5 main_v13 main_v16
-- ==== Kernel.lean ====
abbrev S4096x3584 : Shape := ⟨2, ![4096, 3584]⟩
abbrev S4096x128 : Shape := ⟨2, ![4096, 128]⟩
abbrev S4096x512 : Shape := ⟨2, ![4096, 512]⟩
abbrev S2x2048x128 : Shape := ⟨3, ![2, 2048, 128]⟩
abbrev S2x2048x8 : Shape := ⟨3, ![2, 2048, 8]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩
abbrev S512x4096 : Shape := ⟨2, ![512, 4096]⟩
abbrev S512x512 : Shape := ⟨2, ![512, 512]⟩
abbrev S256x512 : Shape := ⟨2, ![256, 512]⟩
abbrev S512x256 : Shape := ⟨2, ![512, 256]⟩
abbrev S256x128 : Shape := ⟨2, ![256, 128]⟩
abbrev S1x8x512 : Shape := ⟨3, ![1, 8, 512]⟩
abbrev S2048x512 : Shape := ⟨2, ![2048, 512]⟩
abbrev S1x8x2048 : Shape := ⟨3, ![1, 8, 2048]⟩
abbrev S8x512x256 : Shape := ⟨3, ![8, 512, 256]⟩
abbrev S8x8x256 : Shape := ⟨3, ![8, 8, 256]⟩
abbrev S1x128 : Shape := ⟨2, ![1, 128]⟩
abbrev S64x256 : Shape := ⟨2, ![64, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S256x1 : Shape := ⟨2, ![256, 1]⟩
abbrev S1x64x256 : Shape := ⟨3, ![1, 64, 256]⟩
abbrev S256 : Shape := ⟨1, ![256]⟩
abbrev S32x256 : Shape := ⟨2, ![32, 256]⟩
abbrev S16x256 : Shape := ⟨2, ![16, 256]⟩
abbrev S8x256 : Shape := ⟨2, ![8, 256]⟩
abbrev S1x512x256 : Shape := ⟨3, ![1, 512, 256]⟩
abbrev S1x8x256 : Shape := ⟨3, ![1, 8, 256]⟩

abbrev nBuf : Space → Nat
  | .hbm => 70
  | .vmem => 37
  | .smem => 0
  | _ => 0

abbrev bufTy : (tb : Table) → Fin (tcTables nBuf tb) → BufTy
  | .hbm, ⟨0, _⟩ => ⟨S4096x3584, .f32⟩
  | .hbm, ⟨1, _⟩ => ⟨S4096x128, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S2x2048x128, .f32⟩
  | .hbm, ⟨7, _⟩ => ⟨S2x2048x8, .f32⟩
  | .hbm, ⟨8, _⟩ => ⟨S2x8x2048, .f32⟩
  | .hbm, ⟨9, _⟩ => ⟨S2x2048x8x64, .f32⟩
  | .hbm, ⟨10, _⟩ => ⟨S2x2048x8x64, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S2x8x2048x1, .f32⟩
  | .hbm, ⟨16, _⟩ => ⟨S2x8x1x2048, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S2x8x2048x2048, .i1⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x1, .f32⟩
  | .hbm, ⟨43, _⟩ => ⟨S2x8x2048x1, .f32⟩
  | .hbm, ⟨44, _⟩ => ⟨S2x8x2048, .f32⟩
  | .hbm, ⟨45, _⟩ => ⟨S2x8x2048x2048, .f32⟩
  | .hbm, ⟨46, _⟩ => ⟨S2x8x2048x2048, .f32⟩
  | .hbm, ⟨47, _⟩ => ⟨S2x2048x8x64, .f32⟩
  | .hbm, ⟨48, _⟩ => ⟨S2x8x64x2048, .f32⟩
  | .hbm, ⟨49, _⟩ => ⟨S2x2048x8x64, .f32⟩
  | .hbm, ⟨50, _⟩ => ⟨S2x2048x8x64, .f32⟩
  | .hbm, ⟨51, _⟩ => ⟨S2x2048x8x64, .f32⟩
  | .hbm, ⟨52, _⟩ => ⟨S_, .f32⟩
  | .hbm, ⟨53, _⟩ => ⟨S2x2048x8, .f32⟩
  | .hbm, ⟨54, _⟩ => ⟨S2x8x2048, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S512x4096, .f32⟩
  | .hbm, ⟨59, _⟩ => ⟨S512x4096, .bf16⟩
  | .hbm, ⟨60, _⟩ => ⟨S512x4096, .f32⟩
  | .hbm, ⟨61, _⟩ => ⟨S512x4096, .bf16⟩
  | .hbm, ⟨62, _⟩ => ⟨S4096x512, .bf16⟩
  | .hbm, ⟨63, _⟩ => ⟨S512x4096, .f32⟩
  | .hbm, ⟨64, _⟩ => ⟨S512x4096, .bf16⟩
  | .hbm, ⟨65, _⟩ => ⟨S4096x512, .bf16⟩
  | .hbm, ⟨66, _⟩ => ⟨S4096x512, .bf16⟩
  | .hbm, ⟨67, _⟩ => ⟨S4096x512, .bf16⟩
  | .hbm, ⟨68, _⟩ => ⟨S4096x128, .f32⟩
  | .hbm, ⟨69, _⟩ => ⟨S2x8x2048, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S256x128, .f32⟩
  | .local _ .vmem, ⟨15, _⟩ => ⟨S256x128, .f32⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S1x8x512, .f32⟩
  | .local _ .vmem, ⟨21, _⟩ => ⟨S1x8x512, .f32⟩
  | .local _ .vmem, ⟨22, _⟩ => ⟨S2048x512, .bf16⟩
  | .local _ .vmem, ⟨23, _⟩ => ⟨S2048x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x128, .f32⟩
  | .local _ .vmem, ⟨29, _⟩ => ⟨S256x128, .f32⟩
  | .local _ .vmem, ⟨30, _⟩ => ⟨S1x8x2048, .f32⟩
  | .local _ .vmem, ⟨31, _⟩ => ⟨S1x8x2048, .f32⟩
  | .local _ .vmem, ⟨32, _⟩ => ⟨S8x512x256, .f32⟩
  | .local _ .vmem, ⟨33, _⟩ => ⟨S256x512, .f32⟩
  | .local _ .vmem, ⟨34, _⟩ => ⟨S256x512, .f32⟩
  | .local _ .vmem, ⟨35, _⟩ => ⟨S256x128, .f32⟩
  | .local _ .vmem, ⟨36, _⟩ => ⟨S8x8x256, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53_0 : Ref sig .tc := ⟨.hbm, 65, rfl⟩
abbrev main_v53_1 : Ref sig .tc := ⟨.hbm, 66, rfl⟩
abbrev main_v53_2 : Ref sig .tc := ⟨.hbm, 67, rfl⟩
abbrev main_v53_3 : Ref sig .tc := ⟨.hbm, 68, rfl⟩
abbrev main_v53_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 20], ![false, false]⟩

def k0_cond3 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_26 : BitVec 32 := 2#32
  let v51 : BitVec 32 := Scalar.muli v44 c2_i32_26
  let c1_i32_27 : BitVec 32 := 1#32
  let v52 : BitVec 32 := Scalar.addi v51 c1_i32_27
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v53 : BitVec 1 := Scalar.cmpi .sgt v52 v43
  let v54 : BitVec 32 := Scalar.extui v53
  let c0_i32_28 : BitVec 32 := 0#32
  let v55 : BitVec 1 := Scalar.cmpi .ne v54 c0_i32_28
  v55

def k0_off1 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v152 : Index := Scalar.indexCast v98
  let c0_83 : Index := 0#32
  let c0_84 : Index := 0#32
  ![v152.toNat, 0, 0]
def k0_off2 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v173 : Index := Scalar.indexCast v98
  let c0_93 : Index := 0#32
  let c0_94 : Index := 0#32
  ![v173.toNat, 0, 0]
def k0_off3 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v240 : Index := Scalar.indexCast v98
  let c64_119 : Index := 64#32
  let c0_120 : Index := 0#32
  ![v240.toNat, 64, 0]
def k0_off4 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v261 : Index := Scalar.indexCast v98
  let c1_129 : Index := 1#32
  let c0_130 : Index := 0#32
  ![v261.toNat, 1, 0]
def k0_off5 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v344 : Index := Scalar.indexCast v98
  let c128_171 : Index := 128#32
  let c0_172 : Index := 0#32
  ![v344.toNat, 128, 0]
def k0_off6 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v365 : Index := Scalar.indexCast v98
  let c2_181 : Index := 2#32
  let c0_182 : Index := 0#32
  ![v365.toNat, 2, 0]
def k0_off7 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v432 : Index := Scalar.indexCast v98
  let c192_207 : Index := 192#32
  let c0_208 : Index := 0#32
  ![v432.toNat, 192, 0]
def k0_off8 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v453 : Index := Scalar.indexCast v98
  let c3_217 : Index := 3#32
  let c0_218 : Index := 0#32
  ![v453.toNat, 3, 0]
def k0_off9 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v536 : Index := Scalar.indexCast v98
  let c256_260 : Index := 256#32
  let c0_261 : Index := 0#32
  ![v536.toNat, 256, 0]
def k0_off10 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v557 : Index := Scalar.indexCast v98
  let c4_270 : Index := 4#32
  let c0_271 : Index := 0#32
  ![v557.toNat, 4, 0]
def k0_off11 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v624 : Index := Scalar.indexCast v98
  let c320_296 : Index := 320#32
  let c0_297 : Index := 0#32
  ![v624.toNat, 320, 0]
def k0_off12 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v645 : Index := Scalar.indexCast v98
  let c5_305 : Index := 5#32
  let c0_306 : Index := 0#32
  ![v645.toNat, 5, 0]
def k0_off13 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v728 : Index := Scalar.indexCast v98
  let c384_347 : Index := 384#32
  let c0_348 : Index := 0#32
  ![v728.toNat, 384, 0]
def k0_off14 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v749 : Index := Scalar.indexCast v98
  let c6_357 : Index := 6#32
  let c0_358 : Index := 0#32
  ![v749.toNat, 6, 0]
def k0_off15 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v816 : Index := Scalar.indexCast v98
  let c448_383 : Index := 448#32
  let c0_384 : Index := 0#32
  ![v816.toNat, 448, 0]
def k0_off16 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v837 : Index := Scalar.indexCast v98
  let c7_393 : Index := 7#32
  let c0_394 : Index := 0#32
  ![v837.toNat, 7, 0]
def k0_cond4 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_29 : BitVec 32 := 2#32
  let v56 : BitVec 32 := Scalar.muli v44 c2_i32_29
  let c1_i32_30 : BitVec 32 := 1#32
  let v57 : BitVec 32 := Scalar.addi v56 c1_i32_30
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v58 : BitVec 1 := Scalar.cmpi .eq v57 v43
  let v59 : BitVec 32 := Scalar.extui v58
  let c0_i32_31 : BitVec 32 := 0#32
  let v60 : BitVec 1 := Scalar.cmpi .ne v59 c0_i32_31
  v60

def k0_off17 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v157 : Index := Scalar.indexCast v98
  let c0_84 : Index := 0#32
  let c0_85 : Index := 0#32
  ![v157.toNat, 0, 0]
def k0_off18 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v178 : Index := Scalar.indexCast v98
  let c0_94 : Index := 0#32
  let c0_95 : Index := 0#32
  ![v178.toNat, 0, 0]
def k0_off19 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v247 : Index := Scalar.indexCast v98
  let c64_121 : Index := 64#32
  let c0_122 : Index := 0#32
  ![v247.toNat, 64, 0]
def k0_off20 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v268 : Index := Scalar.indexCast v98
  let c1_131 : Index := 1#32
  let c0_132 : Index := 0#32
  ![v268.toNat, 1, 0]
def k0_off21 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v353 : Index := Scalar.indexCast v98
  let c128_174 : Index := 128#32
  let c0_175 : Index := 0#32
  ![v353.toNat, 128, 0]
def k0_off22 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v374 : Index := Scalar.indexCast v98
  let c2_184 : Index := 2#32
  let c0_185 : Index := 0#32
  ![v374.toNat, 2, 0]
def k0_off23 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v443 : Index := Scalar.indexCast v98
  let c192_211 : Index := 192#32
  let c0_212 : Index := 0#32
  ![v443.toNat, 192, 0]
def k0_off24 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v464 : Index := Scalar.indexCast v98
  let c3_221 : Index := 3#32
  let c0_222 : Index := 0#32
  ![v464.toNat, 3, 0]
def k0_off25 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v549 : Index := Scalar.indexCast v98
  let c256_265 : Index := 256#32
  let c0_266 : Index := 0#32
  ![v549.toNat, 256, 0]
def k0_off26 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v570 : Index := Scalar.indexCast v98
  let c4_275 : Index := 4#32
  let c0_276 : Index := 0#32
  ![v570.toNat, 4, 0]
def k0_off27 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v639 : Index := Scalar.indexCast v98
  let c320_302 : Index := 320#32
  let c0_303 : Index := 0#32
  ![v639.toNat, 320, 0]
def k0_off28 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v660 : Index := Scalar.indexCast v98
  let c5_311 : Index := 5#32
  let c0_312 : Index := 0#32
  ![v660.toNat, 5, 0]
def k0_off29 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v745 : Index := Scalar.indexCast v98
  let c384_354 : Index := 384#32
  let c0_355 : Index := 0#32
  ![v745.toNat, 384, 0]
def k0_off30 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v766 : Index := Scalar.indexCast v98
  let c6_364 : Index := 6#32
  let c0_365 : Index := 0#32
  ![v766.toNat, 6, 0]
def k0_off31 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v835 : Index := Scalar.indexCast v98
  let c448_391 : Index := 448#32
  let c0_392 : Index := 0#32
  ![v835.toNat, 448, 0]
def k0_off32 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c1_i32_48 : BitVec 32 := 1#32
  let v98 : BitVec 32 := Scalar.addi v97 c1_i32_48
  let v856 : Index := Scalar.indexCast v98
  let c7_401 : Index := 7#32
  let c0_402 : Index := 0#32
  ![v856.toNat, 7, 0]
def k0_cond5 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_32 : BitVec 32 := 2#32
  let v61 : BitVec 32 := Scalar.muli v44 c2_i32_32
  let c0_i32_33 : BitVec 32 := 0#32
  let v62 : BitVec 32 := Scalar.addi v61 c0_i32_33
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v63 : BitVec 1 := Scalar.cmpi .sgt v62 v43
  let v64 : BitVec 32 := Scalar.extui v63
  let c0_i32_34 : BitVec 32 := 0#32
  let v65 : BitVec 1 := Scalar.cmpi .ne v64 c0_i32_34
  v65

def k0_off33 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v152 : Index := Scalar.indexCast v98
  let c0_84 : Index := 0#32
  let c0_85 : Index := 0#32
  ![v152.toNat, 0, 0]
def k0_off34 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v173 : Index := Scalar.indexCast v98
  let c0_94 : Index := 0#32
  let c0_95 : Index := 0#32
  ![v173.toNat, 0, 0]
def k0_off35 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v240 : Index := Scalar.indexCast v98
  let c64_120 : Index := 64#32
  let c0_121 : Index := 0#32
  ![v240.toNat, 64, 0]
def k0_off36 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v261 : Index := Scalar.indexCast v98
  let c1_130 : Index := 1#32
  let c0_131 : Index := 0#32
  ![v261.toNat, 1, 0]
def k0_off37 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v344 : Index := Scalar.indexCast v98
  let c128_172 : Index := 128#32
  let c0_173 : Index := 0#32
  ![v344.toNat, 128, 0]
def k0_off38 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v365 : Index := Scalar.indexCast v98
  let c2_182 : Index := 2#32
  let c0_183 : Index := 0#32
  ![v365.toNat, 2, 0]
def k0_off39 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v432 : Index := Scalar.indexCast v98
  let c192_208 : Index := 192#32
  let c0_209 : Index := 0#32
  ![v432.toNat, 192, 0]
def k0_off40 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v453 : Index := Scalar.indexCast v98
  let c3_218 : Index := 3#32
  let c0_219 : Index := 0#32
  ![v453.toNat, 3, 0]
def k0_off41 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v536 : Index := Scalar.indexCast v98
  let c256_260 : Index := 256#32
  let c0_261 : Index := 0#32
  ![v536.toNat, 256, 0]
def k0_off42 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v557 : Index := Scalar.indexCast v98
  let c4_270 : Index := 4#32
  let c0_271 : Index := 0#32
  ![v557.toNat, 4, 0]
def k0_off43 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v624 : Index := Scalar.indexCast v98
  let c320_296 : Index := 320#32
  let c0_297 : Index := 0#32
  ![v624.toNat, 320, 0]
def k0_off44 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v645 : Index := Scalar.indexCast v98
  let c5_305 : Index := 5#32
  let c0_306 : Index := 0#32
  ![v645.toNat, 5, 0]
def k0_off45 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v728 : Index := Scalar.indexCast v98
  let c384_347 : Index := 384#32
  let c0_348 : Index := 0#32
  ![v728.toNat, 384, 0]
def k0_off46 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v749 : Index := Scalar.indexCast v98
  let c6_357 : Index := 6#32
  let c0_358 : Index := 0#32
  ![v749.toNat, 6, 0]
def k0_off47 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v816 : Index := Scalar.indexCast v98
  let c448_383 : Index := 448#32
  let c0_384 : Index := 0#32
  ![v816.toNat, 448, 0]
def k0_off48 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v837 : Index := Scalar.indexCast v98
  let c7_393 : Index := 7#32
  let c0_394 : Index := 0#32
  ![v837.toNat, 7, 0]
def k0_cond6 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_35 : BitVec 32 := 2#32
  let v66 : BitVec 32 := Scalar.muli v44 c2_i32_35
  let c0_i32_36 : BitVec 32 := 0#32
  let v67 : BitVec 32 := Scalar.addi v66 c0_i32_36
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let v68 : BitVec 1 := Scalar.cmpi .eq v67 v43
  let v69 : BitVec 32 := Scalar.extui v68
  let c0_i32_37 : BitVec 32 := 0#32
  let v70 : BitVec 1 := Scalar.cmpi .ne v69 c0_i32_37
  v70

def k0_off49 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v157 : Index := Scalar.indexCast v98
  let c0_85 : Index := 0#32
  let c0_86 : Index := 0#32
  ![v157.toNat, 0, 0]
def k0_off50 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v178 : Index := Scalar.indexCast v98
  let c0_95 : Index := 0#32
  let c0_96 : Index := 0#32
  ![v178.toNat, 0, 0]
def k0_off51 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v247 : Index := Scalar.indexCast v98
  let c64_122 : Index := 64#32
  let c0_123 : Index := 0#32
  ![v247.toNat, 64, 0]
def k0_off52 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v268 : Index := Scalar.indexCast v98
  let c1_132 : Index := 1#32
  let c0_133 : Index := 0#32
  ![v268.toNat, 1, 0]
def k0_off53 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v353 : Index := Scalar.indexCast v98
  let c128_175 : Index := 128#32
  let c0_176 : Index := 0#32
  ![v353.toNat, 128, 0]
def k0_off54 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v374 : Index := Scalar.indexCast v98
  let c2_185 : Index := 2#32
  let c0_186 : Index := 0#32
  ![v374.toNat, 2, 0]
def k0_off55 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v443 : Index := Scalar.indexCast v98
  let c192_212 : Index := 192#32
  let c0_213 : Index := 0#32
  ![v443.toNat, 192, 0]
def k0_off56 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v464 : Index := Scalar.indexCast v98
  let c3_222 : Index := 3#32
  let c0_223 : Index := 0#32
  ![v464.toNat, 3, 0]
def k0_off57 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v549 : Index := Scalar.indexCast v98
  let c256_265 : Index := 256#32
  let c0_266 : Index := 0#32
  ![v549.toNat, 256, 0]
def k0_off58 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v570 : Index := Scalar.indexCast v98
  let c4_275 : Index := 4#32
  let c0_276 : Index := 0#32
  ![v570.toNat, 4, 0]
def k0_off59 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v639 : Index := Scalar.indexCast v98
  let c320_302 : Index := 320#32
  let c0_303 : Index := 0#32
  ![v639.toNat, 320, 0]
def k0_off60 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v660 : Index := Scalar.indexCast v98
  let c5_311 : Index := 5#32
  let c0_312 : Index := 0#32
  ![v660.toNat, 5, 0]
def k0_off61 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v745 : Index := Scalar.indexCast v98
  let c384_354 : Index := 384#32
  let c0_355 : Index := 0#32
  ![v745.toNat, 384, 0]
def k0_off62 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v766 : Index := Scalar.indexCast v98
  let c6_364 : Index := 6#32
  let c0_365 : Index := 0#32
  ![v766.toNat, 6, 0]
def k0_off63 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v835 : Index := Scalar.indexCast v98
  let c448_391 : Index := 448#32
  let c0_392 : Index := 0#32
  ![v835.toNat, 448, 0]
def k0_off64 (i : grid0.Coords) : Fin 3 → Nat :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c2_i32_47 : BitVec 32 := 2#32
  let v97 : BitVec 32 := Scalar.muli v44 c2_i32_47
  let c0_i32_48 : BitVec 32 := 0#32
  let v98 : BitVec 32 := Scalar.addi v97 c0_i32_48
  let v856 : Index := Scalar.indexCast v98
  let c7_401 : Index := 7#32
  let c0_402 : Index := 0#32
  ![v856.toNat, 7, 0]
def k0_cond8 (i : grid0.Coords) : BitVec 1 :=
  let arg1 : BitVec 32 := BitVec.ofNat 32 (i 1).val
  let c19_i32 : BitVec 32 := 19#32
  let v91 : BitVec 1 := Scalar.cmpi .eq arg1 c19_i32
  let v92 : BitVec 32 := Scalar.extui v91
  let c0_i32_46 : BitVec 32 := 0#32
  let v93 : BitVec 1 := Scalar.cmpi .ne v92 c0_i32_46
  v93

def k0_cond7 (i : grid0.Coords) : BitVec 1 :=
  let c3_i32_21 : BitVec 32 := 3#32
  let arg1 : BitVec 32 := BitVec.ofNat 32 (i 1).val
  let c0_i32_20 : BitVec 32 := 0#32
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let v35 : BitVec 32 := Scalar.addi c0_i32_20 v22
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let v36 : BitVec 32 := Scalar.addi v35 v24
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let v37 : BitVec 32 := Scalar.addi v36 v26
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let v38 : BitVec 32 := Scalar.addi v37 v28
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let v39 : BitVec 32 := Scalar.addi v38 v30
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let v40 : BitVec 32 := Scalar.addi v39 v32
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let v41 : BitVec 32 := Scalar.addi v40 v34
  let v42 : BitVec 32 := Scalar.subi arg1 v41
  let v44 : BitVec 32 := Scalar.subi c3_i32_21 v42
  let c7_i32 : BitVec 32 := 7#32
  let c0_i32 : BitVec 32 := 0#32
  let c1_i32 : BitVec 32 := 1#32
  let v0 : BitVec 1 := Scalar.cmpi .sge arg1 c1_i32
  let v1 : BitVec 32 := Scalar.extui v0
  let v14 : BitVec 32 := Scalar.addi c0_i32 v1
  let c2_i32 : BitVec 32 := 2#32
  let v2 : BitVec 1 := Scalar.cmpi .sge arg1 c2_i32
  let v3 : BitVec 32 := Scalar.extui v2
  let v15 : BitVec 32 := Scalar.addi v14 v3
  let c4_i32 : BitVec 32 := 4#32
  let v4 : BitVec 1 := Scalar.cmpi .sge arg1 c4_i32
  let v5 : BitVec 32 := Scalar.extui v4
  let v16 : BitVec 32 := Scalar.addi v15 v5
  let c6_i32 : BitVec 32 := 6#32
  let v6 : BitVec 1 := Scalar.cmpi .sge arg1 c6_i32
  let v7 : BitVec 32 := Scalar.extui v6
  let v17 : BitVec 32 := Scalar.addi v16 v7
  let c9_i32 : BitVec 32 := 9#32
  let v8 : BitVec 1 := Scalar.cmpi .sge arg1 c9_i32
  let v9 : BitVec 32 := Scalar.extui v8
  let v18 : BitVec 32 := Scalar.addi v17 v9
  let c12_i32 : BitVec 32 := 12#32
  let v10 : BitVec 1 := Scalar.cmpi .sge arg1 c12_i32
  let v11 : BitVec 32 := Scalar.extui v10
  let v19 : BitVec 32 := Scalar.addi v18 v11
  let c16_i32 : BitVec 32 := 16#32
  let v12 : BitVec 1 := Scalar.cmpi .sge arg1 c16_i32
  let v13 : BitVec 32 := Scalar.extui v12
  let v20 : BitVec 32 := Scalar.addi v19 v13
  let v43 : BitVec 32 := Scalar.subi c7_i32 v20
  let c0_i32_39 : BitVec 32 := 0#32
  let v72 : BitVec 1 := Scalar.cmpi .sgt v43 c0_i32_39
  let v73 : BitVec 32 := Scalar.extui v72
  let c0_i32_40 : BitVec 32 := 0#32
  let v74 : BitVec 1 := Scalar.cmpi .slt v43 c0_i32_40
  let v75 : BitVec 32 := Scalar.extui v74
  let v76 : BitVec 32 := Scalar.subi v73 v75
  let c2_i32_38 : BitVec 32 := 2#32
  let c0_i32_41 : BitVec 32 := 0#32
  let v77 : BitVec 1 := Scalar.cmpi .sgt c2_i32_38 c0_i32_41
  let v78 : BitVec 32 := Scalar.extui v77
  let c0_i32_42 : BitVec 32 := 0#32
  let v79 : BitVec 1 := Scalar.cmpi .slt c2_i32_38 c0_i32_42
  let v80 : BitVec 32 := Scalar.extui v79
  let v81 : BitVec 32 := Scalar.subi v78 v80
  let v82 : BitVec 1 := Scalar.cmpi .ne v76 v81
  let v83 : BitVec 32 := Scalar.remsi v43 c2_i32_38
  let c0_i32_43 : BitVec 32 := 0#32
  let v84 : BitVec 1 := Scalar.cmpi .ne v83 c0_i32_43
  let v85 : BitVec 1 := Scalar.andi v82 v84
  let v71 : BitVec 32 := Scalar.divsi v43 c2_i32_38
  let c1_i32_44 : BitVec 32 := 1#32
  let v86 : BitVec 32 := Scalar.subi v71 c1_i32_44
  let v87 : BitVec 32 := Scalar.select v85 v86 v71
  let v88 : BitVec 1 := Scalar.cmpi .eq v44 v87
  let v89 : BitVec 32 := Scalar.extui v88
  let c0_i32_45 : BitVec 32 := 0#32
  let v90 : BitVec 1 := Scalar.cmpi .ne v89 c0_i32_45
  v90

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c3_i32_23 : BitVec 32 := 3#32
  let c0_i32_24 : BitVec 32 := 0#32
  ![v46.toNat, c3_i32_23.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c4_i32_22 : BitVec 32 := 4#32
  let c0_i32_23 : BitVec 32 := 0#32
  ![v46.toNat, c4_i32_22.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c5_i32 : BitVec 32 := 5#32
  let c0_i32_22 : BitVec 32 := 0#32
  ![v46.toNat, c5_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c0_i32_23 : BitVec 32 := 0#32
  let c0_i32_24 : BitVec 32 := 0#32
  ![v46.toNat, c0_i32_23.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c0_i32_23 : BitVec 32 := 0#32
  let c0_i32_24 : BitVec 32 := 0#32
  ![c0_i32_23.toNat, v46.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![c0_i32_22.toNat, v46.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32_0 : BitVec 32 := 4#32
  let v5 : BitVec 1 := Scalar.cmpi .sge arg1 c4_i32_0
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_1 : BitVec 32 := 1#32
  let v22 : BitVec 1 := Scalar.cmpi .sge arg1 c1_i32_1
  let c1_i32_2 : BitVec 32 := 1#32
  let c0_i32_3 : BitVec 32 := 0#32
  let v23 : BitVec 32 := Scalar.select v22 c1_i32_2 c0_i32_3
  let c2_i32_4 : BitVec 32 := 2#32
  let v24 : BitVec 1 := Scalar.cmpi .sge arg1 c2_i32_4
  let c1_i32_5 : BitVec 32 := 1#32
  let c0_i32_6 : BitVec 32 := 0#32
  let v25 : BitVec 32 := Scalar.select v24 c1_i32_5 c0_i32_6
  let c4_i32_7 : BitVec 32 := 4#32
  let v26 : BitVec 1 := Scalar.cmpi .sge arg1 c4_i32_7
  let c2_i32_8 : BitVec 32 := 2#32
  let c0_i32_9 : BitVec 32 := 0#32
  let v27 : BitVec 32 := Scalar.select v26 c2_i32_8 c0_i32_9
  let c6_i32_10 : BitVec 32 := 6#32
  let v28 : BitVec 1 := Scalar.cmpi .sge arg1 c6_i32_10
  let c2_i32_11 : BitVec 32 := 2#32
  let c0_i32_12 : BitVec 32 := 0#32
  let v29 : BitVec 32 := Scalar.select v28 c2_i32_11 c0_i32_12
  let c9_i32_13 : BitVec 32 := 9#32
  let v30 : BitVec 1 := Scalar.cmpi .sge arg1 c9_i32_13
  let c3_i32 : BitVec 32 := 3#32
  let c0_i32_14 : BitVec 32 := 0#32
  let v31 : BitVec 32 := Scalar.select v30 c3_i32 c0_i32_14
  let c12_i32_15 : BitVec 32 := 12#32
  let v32 : BitVec 1 := Scalar.cmpi .sge arg1 c12_i32_15
  let c3_i32_16 : BitVec 32 := 3#32
  let c0_i32_17 : BitVec 32 := 0#32
  let v33 : BitVec 32 := Scalar.select v32 c3_i32_16 c0_i32_17
  let c16_i32_18 : BitVec 32 := 16#32
  let v34 : BitVec 1 := Scalar.cmpi .sge arg1 c16_i32_18
  let c4_i32_19 : BitVec 32 := 4#32
  let c0_i32_20 : BitVec 32 := 0#32
  let v35 : BitVec 32 := Scalar.select v34 c4_i32_19 c0_i32_20
  let c0_i32_21 : BitVec 32 := 0#32
  let v36 : BitVec 32 := Scalar.addi c0_i32_21 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_22 : BitVec 32 := 3#32
  let v45 : BitVec 32 := Scalar.subi c3_i32_22 v43
  let v46 : BitVec 32 := Scalar.addi v0 v45
  let c0_i32_23 : BitVec 32 := 0#32
  let c0_i32_24 : BitVec 32 := 0#32
  ![c0_i32_23.toNat, v46.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c2_i32 : BitVec 32 := 2#32
  let v2 : BitVec 1 := Scalar.cmpi .sge arg1 c2_i32
  let v3 : BitVec 32 := Scalar.extui v2
  let c4_i32 : BitVec 32 := 4#32
  let v4 : BitVec 1 := Scalar.cmpi .sge arg1 c4_i32
  let v5 : BitVec 32 := Scalar.extui v4
  let c6_i32 : BitVec 32 := 6#32
  let v6 : BitVec 1 := Scalar.cmpi .sge arg1 c6_i32
  let v7 : BitVec 32 := Scalar.extui v6
  let c9_i32 : BitVec 32 := 9#32
  let v8 : BitVec 1 := Scalar.cmpi .sge arg1 c9_i32
  let v9 : BitVec 32 := Scalar.extui v8
  let c12_i32 : BitVec 32 := 12#32
  let v10 : BitVec 1 := Scalar.cmpi .sge arg1 c12_i32
  let v11 : BitVec 32 := Scalar.extui v10
  let c16_i32 : BitVec 32 := 16#32
  let v12 : BitVec 1 := Scalar.cmpi .sge arg1 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg1 v41
  let c7_i32 : BitVec 32 := 7#32
  let v43 : BitVec 32 := Scalar.subi c7_i32 v20
  let c3_i32_21 : BitVec 32 := 3#32
  let v44 : BitVec 32 := Scalar.subi c3_i32_21 v42
  let c0_i32_22 : BitVec 32 := 0#32
  let c0_i32_23 : BitVec 32 := 0#32
  ![arg0.toNat, c0_i32_22.toNat, v44.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c2_i32 : BitVec 32 := 2#32
  let v2 : BitVec 1 := Scalar.cmpi .sge arg1 c2_i32
  let v3 : BitVec 32 := Scalar.extui v2
  let c4_i32 : BitVec 32 := 4#32
  let v4 : BitVec 1 := Scalar.cmpi .sge arg1 c4_i32
  let v5 : BitVec 32 := Scalar.extui v4
  let c6_i32 : BitVec 32 := 6#32
  let v6 : BitVec 1 := Scalar.cmpi .sge arg1 c6_i32
  let v7 : BitVec 32 := Scalar.extui v6
  let c9_i32 : BitVec 32 := 9#32
  let v8 : BitVec 1 := Scalar.cmpi .sge arg1 c9_i32
  let v9 : BitVec 32 := Scalar.extui v8
  let c12_i32 : BitVec 32 := 12#32
  let v10 : BitVec 1 := Scalar.cmpi .sge arg1 c12_i32
  let v11 : BitVec 32 := Scalar.extui v10
  let c16_i32 : BitVec 32 := 16#32
  let v12 : BitVec 1 := Scalar.cmpi .sge arg1 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg1 v41
  let c7_i32 : BitVec 32 := 7#32
  let v43 : BitVec 32 := Scalar.subi c7_i32 v20
  let c3_i32_21 : BitVec 32 := 3#32
  let v44 : BitVec 32 := Scalar.subi c3_i32_21 v42
  let c0_i32_22 : BitVec 32 := 0#32
  let c0_i32_23 : BitVec 32 := 0#32
  ![arg0.toNat, c0_i32_22.toNat, v44.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c2_i32 : BitVec 32 := 2#32
  let v2 : BitVec 1 := Scalar.cmpi .sge arg1 c2_i32
  let v3 : BitVec 32 := Scalar.extui v2
  let c4_i32 : BitVec 32 := 4#32
  let v4 : BitVec 1 := Scalar.cmpi .sge arg1 c4_i32
  let v5 : BitVec 32 := Scalar.extui v4
  let c6_i32 : BitVec 32 := 6#32
  let v6 : BitVec 1 := Scalar.cmpi .sge arg1 c6_i32
  let v7 : BitVec 32 := Scalar.extui v6
  let c9_i32 : BitVec 32 := 9#32
  let v8 : BitVec 1 := Scalar.cmpi .sge arg1 c9_i32
  let v9 : BitVec 32 := Scalar.extui v8
  let c12_i32 : BitVec 32 := 12#32
  let v10 : BitVec 1 := Scalar.cmpi .sge arg1 c12_i32
  let v11 : BitVec 32 := Scalar.extui v10
  let c16_i32 : BitVec 32 := 16#32
  let v12 : BitVec 1 := Scalar.cmpi .sge arg1 c16_i32
  let v13 : BitVec 32 := Scalar.extui v12
  let c0_i32 : BitVec 32 := 0#32
  let v14 : BitVec 32 := Scalar.addi c0_i32 v1
  let v15 : BitVec 32 := Scalar.addi v14 v3
  let v16 : BitVec 32 := Scalar.addi v15 v5
  let v17 : BitVec 32 := Scalar.addi v16 v7
  let v18 : BitVec 32 := Scalar.addi v17 v9
  let v19 : BitVec 32 := Scalar.addi v18 v11
  let v20 : BitVec 32 := Scalar.addi v19 v13
  let c1_i32_0 : BitVec 32 := 1#32
  let v21 : BitVec 1 := Scalar.cmpi .sge arg1 c1_i32_0
  let c1_i32_1 : BitVec 32 := 1#32
  let c0_i32_2 : BitVec 32 := 0#32
  let v22 : BitVec 32 := Scalar.select v21 c1_i32_1 c0_i32_2
  let c2_i32_3 : BitVec 32 := 2#32
  let v23 : BitVec 1 := Scalar.cmpi .sge arg1 c2_i32_3
  let c1_i32_4 : BitVec 32 := 1#32
  let c0_i32_5 : BitVec 32 := 0#32
  let v24 : BitVec 32 := Scalar.select v23 c1_i32_4 c0_i32_5
  let c4_i32_6 : BitVec 32 := 4#32
  let v25 : BitVec 1 := Scalar.cmpi .sge arg1 c4_i32_6
  let c2_i32_7 : BitVec 32 := 2#32
  let c0_i32_8 : BitVec 32 := 0#32
  let v26 : BitVec 32 := Scalar.select v25 c2_i32_7 c0_i32_8
  let c6_i32_9 : BitVec 32 := 6#32
  let v27 : BitVec 1 := Scalar.cmpi .sge arg1 c6_i32_9
  let c2_i32_10 : BitVec 32 := 2#32
  let c0_i32_11 : BitVec 32 := 0#32
  let v28 : BitVec 32 := Scalar.select v27 c2_i32_10 c0_i32_11
  let c9_i32_12 : BitVec 32 := 9#32
  let v29 : BitVec 1 := Scalar.cmpi .sge arg1 c9_i32_12
  let c3_i32 : BitVec 32 := 3#32
  let c0_i32_13 : BitVec 32 := 0#32
  let v30 : BitVec 32 := Scalar.select v29 c3_i32 c0_i32_13
  let c12_i32_14 : BitVec 32 := 12#32
  let v31 : BitVec 1 := Scalar.cmpi .sge arg1 c12_i32_14
  let c3_i32_15 : BitVec 32 := 3#32
  let c0_i32_16 : BitVec 32 := 0#32
  let v32 : BitVec 32 := Scalar.select v31 c3_i32_15 c0_i32_16
  let c16_i32_17 : BitVec 32 := 16#32
  let v33 : BitVec 1 := Scalar.cmpi .sge arg1 c16_i32_17
  let c4_i32_18 : BitVec 32 := 4#32
  let c0_i32_19 : BitVec 32 := 0#32
  let v34 : BitVec 32 := Scalar.select v33 c4_i32_18 c0_i32_19
  let c0_i32_20 : BitVec 32 := 0#32
  let v35 : BitVec 32 := Scalar.addi c0_i32_20 v22
  let v36 : BitVec 32 := Scalar.addi v35 v24
  let v37 : BitVec 32 := Scalar.addi v36 v26
  let v38 : BitVec 32 := Scalar.addi v37 v28
  let v39 : BitVec 32 := Scalar.addi v38 v30
  let v40 : BitVec 32 := Scalar.addi v39 v32
  let v41 : BitVec 32 := Scalar.addi v40 v34
  let v42 : BitVec 32 := Scalar.subi arg1 v41
  let c7_i32 : BitVec 32 := 7#32
  let v43 : BitVec 32 := Scalar.subi c7_i32 v20
  let c3_i32_21 : BitVec 32 := 3#32
  let v44 : BitVec 32 := Scalar.subi c3_i32_21 v42
  let c0_i32_22 : BitVec 32 := 0#32
  let c0_i32_23 : BitVec 32 := 0#32
  ![arg0.toNat, c0_i32_22.toNat, v44.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 1 := Scalar.cmpi .sge arg1 c1_i32
  let v2 : BitVec 32 := Scalar.extui v1
  let c2_i32 : BitVec 32 := 2#32
  let v3 : BitVec 1 := Scalar.cmpi .sge arg1 c2_i32
  let v4 : BitVec 32 := Scalar.extui v3
  let c4_i32 : BitVec 32 := 4#32
  let v5 : BitVec 1 := Scalar.cmpi .sge arg1 c4_i32
  let v6 : BitVec 32 := Scalar.extui v5
  let c6_i32 : BitVec 32 := 6#32
  let v7 : BitVec 1 := Scalar.cmpi .sge arg1 c6_i32
  let v8 : BitVec 32 := Scalar.extui v7
  let c9_i32 : BitVec 32 := 9#32
  let v9 : BitVec 1 := Scalar.cmpi .sge arg1 c9_i32
  let v10 : BitVec 32 := Scalar.extui v9
  let c12_i32 : BitVec 32 := 12#32
  let v11 : BitVec 1 := Scalar.cmpi .sge arg1 c12_i32
  let v12 : BitVec 32 := Scalar.extui v11
  let c16_i32 : BitVec 32 := 16#32
  let v13 : BitVec 1 := Scalar.cmpi .sge arg1 c16_i32
  let v14 : BitVec 32 := Scalar.extui v13
  let c0_i32 : BitVec 32 := 0#32
  let v15 : BitVec 32 := Scalar.addi c0_i32 v2
  let v16 : BitVec 32 := Scalar.addi v15 v4
  let v17 : BitVec 32 := Scalar.addi v16 v6
  let v18 : BitVec 32 := Scalar.addi v17 v8
  let v19 : BitVec 32 := Scalar.addi v18 v10
  let v20 : BitVec 32 := Scalar.addi v19 v12
  let v21 : BitVec 32 := Scalar.addi v20 v14
  let c1_i32_0 : BitVec 32 := 1#32
  let v22 : BitVec 1 := Scalar.cmpi .sge arg1 c1_i32_0
  let c1_i32_1 : BitVec 32 := 1#32
  let c0_i32_2 : BitVec 32 := 0#32
  let v23 : BitVec 32 := Scalar.select v22 c1_i32_1 c0_i32_2
  let c2_i32_3 : BitVec 32 := 2#32
  let v24 : BitVec 1 := Scalar.cmpi .sge arg1 c2_i32_3
  let c1_i32_4 : BitVec 32 := 1#32
  let c0_i32_5 : BitVec 32 := 0#32
  let v25 : BitVec 32 := Scalar.select v24 c1_i32_4 c0_i32_5
  let c4_i32_6 : BitVec 32 := 4#32
  let v26 : BitVec 1 := Scalar.cmpi .sge arg1 c4_i32_6
  let c2_i32_7 : BitVec 32 := 2#32
  let c0_i32_8 : BitVec 32 := 0#32
  let v27 : BitVec 32 := Scalar.select v26 c2_i32_7 c0_i32_8
  let c6_i32_9 : BitVec 32 := 6#32
  let v28 : BitVec 1 := Scalar.cmpi .sge arg1 c6_i32_9
  let c2_i32_10 : BitVec 32 := 2#32
  let c0_i32_11 : BitVec 32 := 0#32
  let v29 : BitVec 32 := Scalar.select v28 c2_i32_10 c0_i32_11
  let c9_i32_12 : BitVec 32 := 9#32
  let v30 : BitVec 1 := Scalar.cmpi .sge arg1 c9_i32_12
  let c3_i32 : BitVec 32 := 3#32
  let c0_i32_13 : BitVec 32 := 0#32
  let v31 : BitVec 32 := Scalar.select v30 c3_i32 c0_i32_13
  let c12_i32_14 : BitVec 32 := 12#32
  let v32 : BitVec 1 := Scalar.cmpi .sge arg1 c12_i32_14
  let c3_i32_15 : BitVec 32 := 3#32
  let c0_i32_16 : BitVec 32 := 0#32
  let v33 : BitVec 32 := Scalar.select v32 c3_i32_15 c0_i32_16
  let c16_i32_17 : BitVec 32 := 16#32
  let v34 : BitVec 1 := Scalar.cmpi .sge arg1 c16_i32_17
  let c4_i32_18 : BitVec 32 := 4#32
  let c0_i32_19 : BitVec 32 := 0#32
  let v35 : BitVec 32 := Scalar.select v34 c4_i32_18 c0_i32_19
  let c0_i32_20 : BitVec 32 := 0#32
  let v36 : BitVec 32 := Scalar.addi c0_i32_20 v23
  let v37 : BitVec 32 := Scalar.addi v36 v25
  let v38 : BitVec 32 := Scalar.addi v37 v27
  let v39 : BitVec 32 := Scalar.addi v38 v29
  let v40 : BitVec 32 := Scalar.addi v39 v31
  let v41 : BitVec 32 := Scalar.addi v40 v33
  let v42 : BitVec 32 := Scalar.addi v41 v35
  let v43 : BitVec 32 := Scalar.subi arg1 v42
  let c7_i32 : BitVec 32 := 7#32
  let v44 : BitVec 32 := Scalar.subi c7_i32 v21
  let c3_i32_21 : BitVec 32 := 3#32
  let v45 : BitVec 32 := Scalar.subi c3_i32_21 v43
  let v46 : BitVec 32 := Scalar.addi v0 v44
  let c0_i32_22 : BitVec 32 := 0#32
  let c0_i32_23 : BitVec 32 := 0#32
  ![v46.toNat, c0_i32_22.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S4096x3584 : Shape := ⟨2, ![4096, 3584]⟩
abbrev S4096x128 : Shape := ⟨2, ![4096, 128]⟩
abbrev S4096x512 : Shape := ⟨2, ![4096, 512]⟩
abbrev S2x2048x128 : Shape := ⟨3, ![2, 2048, 128]⟩
abbrev S2x2048x8 : Shape := ⟨3, ![2, 2048, 8]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x1 : Shape := ⟨4, ![2, 8, 2048, 1]⟩
abbrev S2x8x1x2048 : Shape := ⟨4, ![2, 8, 1, 2048]⟩
abbrev S2x8x64x2048 : Shape := ⟨4, ![2, 8, 64, 2048]⟩
abbrev S2x8x2048x64 : Shape := ⟨4, ![2, 8, 2048, 64]⟩

abbrev nBuf : Space → Nat
  | .hbm => 140
  | .vmem => 0
  | .smem => 0
  | _ => 0

abbrev hbmTy0_0 (i : Nat) : BufTy := match i % 128 with
  | 0 => ⟨S4096x3584, .f32⟩
  | 1 => ⟨S4096x128, .f32⟩
  | 2 => ⟨S4096x512, .f32⟩
  | 3 => ⟨S4096x512, .f32⟩
  | 4 => ⟨S4096x512, .f32⟩
  | 5 => ⟨S4096x512, .f32⟩
  | 6 => ⟨S2x2048x128, .f32⟩
  | 7 => ⟨S2x2048x8, .f32⟩
  | 8 => ⟨S2x8x2048, .f32⟩
  | 9 => ⟨S2x2048x8x64, .f32⟩
  | 10 => ⟨S2x2048x8x64, .f32⟩
  | 11 => ⟨S2x2048x8x64, .f32⟩
  | 12 => ⟨S2x2048x128, .f32⟩
  | 13 => ⟨S2x2048x8, .f32⟩
  | 14 => ⟨S2x8x2048, .f32⟩
  | 15 => ⟨S2x8x2048x2048, .f32⟩
  | 16 => ⟨S_, .f32⟩
  | 17 => ⟨S2x8x2048x2048, .f32⟩
  | 18 => ⟨S2x8x2048x2048, .f32⟩
  | 19 => ⟨S2048, .i32⟩
  | 20 => ⟨S2048x1, .i32⟩
  | 21 => ⟨S2048, .i32⟩
  | 22 => ⟨S1x2048, .i32⟩
  | 23 => ⟨S2048x2048, .i32⟩
  | 24 => ⟨S2048x2048, .i32⟩
  | 25 => ⟨S2048x2048, .i1⟩
  | 26 => ⟨S2x8x2048x1, .f32⟩
  | 27 => ⟨S2x8x1x2048, .f32⟩
  | 28 => ⟨S2x8x2048x2048, .f32⟩
  | 29 => ⟨S2x8x2048x2048, .f32⟩
  | 30 => ⟨S2x8x2048x2048, .f32⟩
  | 31 => ⟨S_, .f32⟩
  | 32 => ⟨S_, .f32⟩
  | 33 => ⟨S2x8x2048x2048, .i1⟩
  | 34 => ⟨S2x8x2048x2048, .f32⟩
  | 35 => ⟨S2x8x2048x2048, .f32⟩
  | 36 => ⟨S_, .f32⟩
  | 37 => ⟨S2x8x2048x2048, .f32⟩
  | 38 => ⟨S2x8x2048x2048, .f32⟩
  | 39 => ⟨S_, .f32⟩
  | 40 => ⟨S_, .f32⟩
  | 41 => ⟨S2x8x2048x2048, .i1⟩
  | 42 => ⟨S2x8x2048x2048, .f32⟩
  | 43 => ⟨S2x8x2048x2048, .f32⟩
  | 44 => ⟨S_, .f32⟩
  | 45 => ⟨S2x8x2048x2048, .f32⟩
  | 46 => ⟨S_, .f32⟩
  | 47 => ⟨S2x8x2048, .f32⟩
  | 48 => ⟨S2x8x2048x1, .f32⟩
  | 49 => ⟨S2x8x2048x2048, .f32⟩
  | 50 => ⟨S2x8x2048x2048, .i1⟩
  | 51 => ⟨S2x8x2048x2048, .f32⟩
  | 52 => ⟨S_, .f32⟩
  | 53 => ⟨S2x8x2048, .f32⟩
  | 54 => ⟨S_, .f32⟩
  | 55 => ⟨S2x8x2048, .f32⟩
  | 56 => ⟨S2x8x2048, .f32⟩
  | 57 => ⟨S_, .f32⟩
  | 58 => ⟨S2x8x2048, .f32⟩
  | 59 => ⟨S2x8x2048, .i1⟩
  | 60 => ⟨S_, .f32⟩
  | 61 => ⟨S2x8x2048, .f32⟩
  | 62 => ⟨S2x8x2048, .i1⟩
  | 63 => ⟨S_, .f32⟩
  | 64 => ⟨S2x8x2048, .f32⟩
  | 65 => ⟨S_, .f32⟩
  | 66 => ⟨S2x8x2048, .f32⟩
  | 67 => ⟨S_, .f32⟩
  | 68 => ⟨S2x8x2048, .f32⟩
  | 69 => ⟨S2x8x2048, .f32⟩
  | 70 => ⟨S2x8x2048, .f32⟩
  | 71 => ⟨S2x8x2048x1, .f32⟩
  | 72 => ⟨S2x8x2048x2048, .f32⟩
  | 73 => ⟨S2x8x2048x2048, .f32⟩
  | 74 => ⟨S2x8x2048x2048, .f32⟩
  | 75 => ⟨S_, .f32⟩
  | 76 => ⟨S2x8x2048, .f32⟩
  | 77 => ⟨S2x8x2048x1, .f32⟩
  | 78 => ⟨S2x8x2048x2048, .f32⟩
  | 79 => ⟨S2x8x2048x2048, .f32⟩
  | 80 => ⟨S2x8x2048x1, .f32⟩
  | 81 => ⟨S_, .f32⟩
  | 82 => ⟨S2x8x2048x1, .f32⟩
  | 83 => ⟨S2x8x2048x1, .f32⟩
  | 84 => ⟨S2x8x64x2048, .f32⟩
  | 85 => ⟨S2x2048x8x64, .f32⟩
  | 86 => ⟨S4096x512, .f32⟩
  | 87 => ⟨S2x2048x8x64, .f32⟩
  | 88 => ⟨S2x8x64x2048, .f32⟩
  | 89 => ⟨S2x8x2048x2048, .f32⟩
  | 90 => ⟨S2x8x64x2048, .f32⟩
  | 91 => ⟨S2x2048x8x64, .f32⟩
  | 92 => ⟨S2x8x2048x2048, .f32⟩
  | 93 => ⟨S2x8x2048x2048, .f32⟩
  | 94 => ⟨S2x8x2048x2048, .f32⟩
  | 95 => ⟨S_, .f32⟩
  | 96 => ⟨S2x8x2048, .f32⟩
  | 97 => ⟨S2x8x2048x1, .f32⟩
  | 98 => ⟨S2x8x2048x1, .f32⟩
  | 99 => ⟨S2x8x2048x2048, .f32⟩
  | 100 => ⟨S2x8x2048x2048, .f32⟩
  | 101 => ⟨S_, .f32⟩
  | 102 => ⟨S2x8x2048, .f32⟩
  | 103 => ⟨S2x8x2048x2048, .f32⟩
  | 104 => ⟨S2x8x2048x2048, .f32⟩
  | 105 => ⟨S2x8x2048x2048, .f32⟩
  | 106 => ⟨S_, .f32⟩
  | 107 => ⟨S2x8x2048x2048, .f32⟩
  | 108 => ⟨S2x8x2048x2048, .f32⟩
  | 109 => ⟨S_, .f32⟩
  | 110 => ⟨S2x8x2048x2048, .f32⟩
  | 111 => ⟨S2x8x2048x2048, .f32⟩
  | 112 => ⟨S_, .f32⟩
  | 113 => ⟨S2x8x2048, .f32⟩
  | 114 => ⟨S2x8x2048x1, .f32⟩
  | 115 => ⟨S2x8x2048x2048, .f32⟩
  | 116 => ⟨S_, .f32⟩
  | 117 => ⟨S2x8x2048, .f32⟩
  | 118 => ⟨S2x8x1x2048, .f32⟩
  | 119 => ⟨S_, .f32⟩
  | 120 => ⟨S2x8x2048, .f32⟩
  | 121 => ⟨S_, .f32⟩
  | 122 => ⟨S2x8x2048, .f32⟩
  | 123 => ⟨S_, .f32⟩
  | 124 => ⟨S2x8x2048x2048, .f32⟩
  | 125 => ⟨S2x8x2048x2048, .f32⟩
  | 126 => ⟨S2x8x2048x64, .f32⟩
  | 127 => ⟨S2x2048x8x64, .f32⟩
  | _ => ⟨S4096x3584, .f32⟩

abbrev hbmTy0_1 (i : Nat) : BufTy := match i % 128 with
  | 0 => ⟨S2x8x2048x64, .f32⟩
  | 1 => ⟨S2x2048x8x64, .f32⟩
  | 2 => ⟨S2x2048x8, .f32⟩
  | 3 => ⟨S_, .f32⟩
  | 4 => ⟨S2x2048x128, .f32⟩
  | 5 => ⟨S4096x128, .f32⟩
  | 6 => ⟨S4096x512, .f32⟩
  | 7 => ⟨S4096x512, .f32⟩
  | 8 => ⟨S4096x512, .f32⟩
  | 9 => ⟨S4096x512, .bf16⟩
  | 10 => ⟨S4096x512, .bf16⟩
  | 11 => ⟨S4096x512, .bf16⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_v28 : Ref sig .tc := ⟨.hbm, 38, rfl⟩
abbrev main_cst_1 : Ref sig .tc := ⟨.hbm, 39, rfl⟩
abbrev main_call1_v0 : Ref sig .tc := ⟨.hbm, 40, rfl⟩
abbrev main_v29_1 : Ref sig .tc := ⟨.hbm, 41, rfl⟩
abbrev main_call1_v2 : Ref sig .tc := ⟨.hbm, 42, rfl⟩
abbrev main_v29_0 : Ref sig .tc := ⟨.hbm, 43, rfl⟩
abbrev main_call1_cst : Ref sig .tc := ⟨.hbm, 44, rfl⟩
abbrev main_v29_2 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call2_cst : Ref sig .tc := ⟨.hbm, 106, rfl⟩
abbrev main_call2_v0 : Ref sig .tc := ⟨.hbm, 107, rfl⟩
abbrev main_v78 : Ref sig .tc := ⟨.hbm, 108, rfl⟩
abbrev main_call3_cst : Ref sig .tc := ⟨.hbm, 109, rfl⟩
abbrev main_call3_v0 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_15 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_cst_18 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x3592 : Shape := ⟨2, ![1024, 3592]⟩
abbrev S4096x3592 : Shape := ⟨2, ![4096, 3592]⟩
abbrev S4096x512 : Shape := ⟨2, ![4096, 512]⟩
abbrev S4096x8 : Shape := ⟨2, ![4096, 8]⟩
abbrev S_ : Shape := ⟨0, ![]⟩
abbrev S4096x128 : Shape := ⟨2, ![4096, 128]⟩
abbrev S1024x3584 : Shape := ⟨2, ![1024, 3584]⟩
abbrev S3584x1024 : Shape := ⟨2, ![3584, 1024]⟩
abbrev S1024x8 : Shape := ⟨2, ![1024, 8]⟩
abbrev S8x1024 : Shape := ⟨2, ![8, 1024]⟩
abbrev S128x1024 : Shape := ⟨2, ![128, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 33
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S4096x3592, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x512, .bf16⟩
  | .hbm, ⟨17, _⟩ => ⟨S4096x8, .f32⟩
  | .hbm, ⟨18, _⟩ => ⟨S_, .i32⟩
  | .hbm, ⟨19, _⟩ => ⟨S_, .f32⟩
  | .hbm, ⟨20, _⟩ => ⟨S4096x128, .f32⟩
  | .hbm, ⟨21, _⟩ => ⟨S4096x128, .bf16⟩
  | .hbm, ⟨22, _⟩ => ⟨S1024x3584, .f32⟩
  | .hbm, ⟨23, _⟩ => ⟨S3584x1024, .f32⟩
  | .hbm, ⟨24, _⟩ => ⟨S3584x1024, .bf16⟩
  | .hbm, ⟨25, _⟩ => ⟨S1024x8, .f32⟩
  | .hbm, ⟨26, _⟩ => ⟨S8x1024, .f32⟩
  | .hbm, ⟨27, _⟩ => ⟨S_, .i32⟩
  | .hbm, ⟨28, _⟩ => ⟨S_, .f32⟩
  | .hbm, ⟨29, _⟩ => ⟨S128x1024, .f32⟩
  | .hbm, ⟨30, _⟩ => ⟨S128x1024, .bf16⟩
  | .hbm, ⟨31, _⟩ => ⟨S4096x1024, .f32⟩
  | .hbm, ⟨32, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S3584x1024, .bf16⟩
  | .local _ .vmem, ⟨15, _⟩ => ⟨S128x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_call1_v0 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3584x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S4096x1024 : Shape := ⟨2, ![4096, 1024]⟩
abbrev S1x1024 : Shape := ⟨2, ![1, 1024]⟩
abbrev S1024x3592 : Shape := ⟨2, ![1024, 3592]⟩
abbrev S4096x3592 : Shape := ⟨2, ![4096, 3592]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S4096x3592, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3592, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x3592 : Shape := ⟨2, ![1024, 3592]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S4096x3584 : Shape := ⟨2, ![4096, 3584]⟩
abbrev S4096x128 : Shape := ⟨2, ![4096, 128]⟩
abbrev S1024x4096 : Shape := ⟨2, ![1024, 4096]⟩
abbrev S512x4096 : Shape := ⟨2, ![512, 4096]⟩
abbrev S512x1024 : Shape := ⟨2, ![512, 1024]⟩
abbrev S512x3584 : Shape := ⟨2, ![512, 3584]⟩
abbrev S512x128 : Shape := ⟨2, ![512, 128]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S1024x3584, .f32⟩
  | .hbm, ⟨4, _⟩ => ⟨S1024x3584, .bf16⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S4096x3584, .f32⟩
  | .hbm, ⟨11, _⟩ => ⟨S4096x128, .f32⟩
  | .hbm, ⟨12, _⟩ => ⟨S1024x4096, .bf16⟩
  | .hbm, ⟨13, _⟩ => ⟨S512x4096, .bf16⟩
  | .hbm, ⟨14, _⟩ => ⟨S512x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S512x3584, .f32⟩
  | .local _ .vmem, ⟨6, _⟩ => ⟨S512x3584, .f32⟩
  | .local _ .vmem, ⟨7, _⟩ => ⟨S512x128, .f32⟩
  | .local _ .vmem, ⟨8, _⟩ => ⟨S512x128, .f32⟩
  | .local _ .vmem, ⟨9, _⟩ => ⟨S1024x512, .bf16⟩
  | .local _ .vmem, ⟨10, _⟩ => ⟨S1024x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4096x1024 : Shape := ⟨2, ![4096, 1024]⟩
abbrev S1x1024 : Shape := ⟨2, ![1, 1024]⟩
abbrev S1024x3592 : Shape := ⟨2, ![1024, 3592]⟩
abbrev S_ : Shape := ⟨0, ![]⟩
abbrev S4096 : Shape := ⟨1, ![4096]⟩
abbrev S4096x1 : Shape := ⟨2, ![4096, 1]⟩
abbrev S4096x3592 : Shape := ⟨2, ![4096, 3592]⟩
abbrev S4096x8 : Shape := ⟨2, ![4096, 8]⟩
abbrev S4096x128 : Shape := ⟨2, ![4096, 128]⟩
abbrev S4096x512 : Shape := ⟨2, ![4096, 512]⟩
abbrev S4096x3584 : Shape := ⟨2, ![4096, 3584]⟩
abbrev S1024x4096 : Shape := ⟨2, ![1024, 4096]⟩
abbrev S512x4096 : Shape := ⟨2, ![512, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3592, .f32⟩
  | .hbm, ⟨19, _⟩ => ⟨S4096x8, .f32⟩
  | .hbm, ⟨20, _⟩ => ⟨S_, .i32⟩
  | .hbm, ⟨21, _⟩ => ⟨S_, .f32⟩
  | .hbm, ⟨22, _⟩ => ⟨S4096x128, .f32⟩
  | .hbm, ⟨23, _⟩ => ⟨S4096x512, .f32⟩
  | .hbm, ⟨24, _⟩ => ⟨S4096x512, .f32⟩
  | .hbm, ⟨25, _⟩ => ⟨S4096x3584, .f32⟩
  | .hbm, ⟨26, _⟩ => ⟨S1024x4096, .f32⟩
  | .hbm, ⟨27, _⟩ => ⟨S1024x4096, .bf16⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S512x4096, .f32⟩
  | .hbm, ⟨32, _⟩ => ⟨S512x4096, .bf16⟩
  | .hbm, ⟨33, _⟩ => ⟨S512x4096, .f32⟩
  | .hbm, ⟨34, _⟩ => ⟨S512x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S4096x3584 : Shape := ⟨2, ![4096, 3584]⟩
abbrev S1x1024 : Shape := ⟨2, ![1, 1024]⟩
abbrev S1024x1024 : Shape := ⟨2, ![1024, 1024]⟩
abbrev S_ : Shape := ⟨0, ![]⟩
abbrev S1024x4096 : Shape := ⟨2, ![1024, 4096]⟩
abbrev S2x4x128x1024 : Shape := ⟨4, ![2, 4, 128, 1024]⟩
abbrev S512x4096 : Shape := ⟨2, ![512, 4096]⟩
abbrev S2x8x2048 : Shape := ⟨3, ![2, 8, 2048]⟩
abbrev S512x1024 : Shape := ⟨2, ![512, 1024]⟩
abbrev S512x512 : Shape := ⟨2, ![512, 512]⟩
abbrev S1024x512 : Shape := ⟨2, ![1024, 512]⟩
abbrev S1x8x512 : Shape := ⟨3, ![1, 8, 512]⟩
abbrev S512 : Shape := ⟨1, ![512]⟩
abbrev S512x1 : Shape := ⟨2, ![512, 1]⟩
abbrev S1024 : Shape := ⟨1, ![1024]⟩
abbrev S128x1024 : Shape := ⟨2, ![128, 1024]⟩
abbrev S1x1x128x1024 : Shape := ⟨4, ![1, 1, 128, 1024]⟩
abbrev S512x128 : Shape := ⟨2, ![512, 128]⟩
abbrev S128x512 : Shape := ⟨2, ![128, 512]⟩
abbrev S8x512 : Shape := ⟨2, ![8, 512]⟩

abbrev nBuf : Space → Nat
  | .hbm => 30
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3584, .f32⟩
  | .hbm, ⟨4, _⟩ => ⟨S1x1024, .f32⟩
  | .hbm, ⟨5, _⟩ => ⟨S1024x1024, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1024, .bf16⟩
  | .hbm, ⟨21, _⟩ => ⟨S1024x4096, .f32⟩
  | .hbm, ⟨22, _⟩ => ⟨S1024x4096, .bf16⟩
  | .hbm, ⟨23, _⟩ => ⟨S2x4x128x1024, .bf16⟩
  | .hbm, ⟨24, _⟩ => ⟨S4096x512, .f32⟩
  | .hbm, ⟨25, _⟩ => ⟨S1x1024, .f32⟩
  | .hbm, ⟨26, _⟩ => ⟨S4096x512, .bf16⟩
  | .hbm, ⟨27, _⟩ => ⟨S512x4096, .bf16⟩
  | .hbm, ⟨28, _⟩ => ⟨S4096x512, .bf16⟩
  | .hbm, ⟨29, _⟩ => ⟨S2x8x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1024x512, .bf16⟩
  | .local _ .vmem, ⟨11, _⟩ => ⟨S1024x512, .bf16⟩
  | .local _ .vmem, ⟨12, _⟩ => ⟨S2x4x128x1024, .bf16⟩
  | .local _ .vmem, ⟨13, _⟩ => ⟨S512x512, .f32⟩
  | .local _ .vmem, ⟨14, _⟩ => ⟨S512x512, .f32⟩
  | .local _ .vmem, ⟨15, _⟩ => ⟨S1x1024, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x8x512, .f32⟩
  | .local _ .vmem, ⟨23, _⟩ => ⟨S1x8x512, .f32⟩
  | .local _ .vmem, ⟨24, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev main_v9_5 : Ref sig .tc := ⟨.hbm, 28, rfl⟩
abbrev main_v9_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x4x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S4096x1024 : Shape := ⟨2, ![4096, 1024]⟩
abbrev S4096x512 : Shape := ⟨2, ![4096, 512]⟩
abbrev S4096x3584 : Shape := ⟨2, ![4096, 3584]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2x2048x8x64 : Shape := ⟨4, ![2, 2048, 8, 64]⟩
abbrev S2x2048x8 : Shape := ⟨3, ![2, 2048, 8]⟩
abbrev S2x8x2048 : Shape := ⟨3, ![2, 8, 2048]⟩
abbrev S4x2x128x1024 : Shape := ⟨4, ![4, 2, 128, 1024]⟩
abbrev S2x4x128x1024 : Shape := ⟨4, ![2, 4, 128, 1024]⟩
abbrev S512x4096 : Shape := ⟨2, ![512, 4096]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3584, .f32⟩
  | .hbm, ⟨4, _⟩ => ⟨S1x1024, .f32⟩
  | .hbm, ⟨5, _⟩ => ⟨S1024x1024, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S1024x1024, .f32⟩
  | .hbm, ⟨66, _⟩ => ⟨S1024x1024, .f32⟩
  | .hbm, ⟨67, _⟩ => ⟨S4096x1024, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S2x2048x8x64, .f32⟩
  | .hbm, ⟨78, _⟩ => ⟨S_, .f32⟩
  | .hbm, ⟨79, _⟩ => ⟨S2x2048x8, .f32⟩
  | .hbm, ⟨80, _⟩ => ⟨S2x8x2048, .f32⟩
  | .hbm, ⟨81, _⟩ => ⟨S4x2x128x1024, .f32⟩
  | .hbm, ⟨82, _⟩ => ⟨S2x4x128x1024, .f32⟩
  | .hbm, ⟨83, _⟩ => ⟨S2x4x128x1024, .bf16⟩
  | .hbm, ⟨84, _⟩ => ⟨S4096x512, .bf16⟩
  | .hbm, ⟨85, _⟩ => ⟨S512x4096, .f32⟩
  | .hbm, ⟨86, _⟩ => ⟨S512x4096, .bf16⟩
  | .hbm, ⟨87, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Proof.Code.lean ====
/- Straight-line code over a fixed family of buffers: programs of loads and stores whose meaning is a function of the
   buffers' contents. `Code.toProg` is the machine's program, `Code.run` the function, and `Code.triple` says that the
   program, run from the buffers held at some contents, ends with them held at what the function gives. -/
module

public import proofs.«01_k».proof.Proof.Gen.KernelIdeal.Frame
public import Idealize.ShloMosaic.Lib.VecWindow
public import Idealize.ShloMosaic.Lib.Pipeline.TableIdle

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers the body works on: eleven inputs, five outputs (`…O`) and five scratch buffers (`…S`). -/
inductive Bank
  | q | k | v | da | qt | kt | dat | cc | cr | lse | dl
  | dqO | dkO | dvO | dckO | dcqO
  | dqS | dkS | dvS | dckS | dcqS
  deriving DecidableEq

/-- All the buffers, in order. -/
def Bank.all : List Bank :=
  [.q, .k, .v, .da, .qt, .kt, .dat, .cc, .cr, .lse, .dl, .dqO, .dkO, .dvO, .dckO, .dcqO, .dqS, .dkS, .dvS, .dckS, .dcqS]

instance : Fintype Bank where
  elems := ⟨Bank.all, by decide⟩
  complete b := by cases b <;> decide

/-- Each buffer's shape. -/
abbrev Bank.shape : Bank → Shape
  | .q => S512x512 | .k => S256x512 | .v => S256x512 | .da => S512x512 | .qt => S512x512 | .kt => S512x256
  | .dat => S512x512 | .cc => S256x128 | .cr => S1x8x512 | .lse => S1x8x512 | .dl => S1x8x512
  | .dqO => S2048x512 | .dkO => S256x512 | .dvO => S256x512 | .dckO => S256x128 | .dcqO => S1x8x2048
  | .dqS => S8x512x256 | .dkS => S256x512 | .dvS => S256x512 | .dckS => S256x128 | .dcqS => S8x8x256

/-- Each buffer's element type. -/
abbrev Bank.elt : Bank → EltTy
  | .q => .f32 | .k => .f32 | .v => .f32 | .da => .bf16 | .qt => .bf16 | .kt => .bf16
  | .dat => .bf16 | .cc => .f32 | .cr => .f32 | .lse => .f32 | .dl => .f32
  | .dqO => .bf16 | .dkO => .bf16 | .dvO => .bf16 | .dckO => .f32 | .dcqO => .f32
  | .dqS => .f32 | .dkS => .f32 | .dvS => .f32 | .dckS => .f32 | .dcqS => .f32

/-- The contents of all the buffers. -/
abbrev Bank.St (F : FTy → Type) : Type := (b : Bank) → b.shape.Idx → Elt F b.elt

/-- The memrefs the buffers are reached through. -/
abbrev Bank.Mems : Type := (b : Bank) → Memref sig .tc .vmem b.shape b.elt

/-- Code that loads and stores unit-stride windows of the buffers. -/
inductive Code (F : FTy → Type) : Type → Type 1
  | ret {α : Type} (a : α) : Code F α
  | load {α : Type} (b : Bank) (off size : Fin b.shape.rank → ℕ) (inb : ∀ a, off a + size a ≤ b.shape.size a)
      (h : 0 < (Rect.unit off size inb).shape.numel)
      (k : ((Rect.unit off size inb).shape.Idx → Elt F b.elt) → Code F α) : Code F α
  | store {α : Type} (b : Bank) (off size : Fin b.shape.rank → ℕ) (inb : ∀ a, off a + size a ≤ b.shape.size a)
      (h : ∀ M : Memref sig .tc .vmem b.shape b.elt, M.IsWhole → (M.access (Rect.unit off size inb)).Stores Finset.univ)
      (w : (Rect.unit off size inb).shape.Idx → Elt F b.elt) (k : Code F α) : Code F α
  | cond {α : Type} (p : Prop) (d : Decidable p) (x : p → Code F PUnit) (k : Code F α) : Code F α

namespace Code

/-- One code after another. -/
protected def bind {α β : Type} : Code F α → (α → Code F β) → Code F β
  | .ret a, f => f a
  | .load b off size inb h k, f => .load b off size inb h fun x => (k x).bind f
  | .store b off size inb h w k, f => .store b off size inb h w (k.bind f)
  | .cond p d x k, f => .cond p d x (k.bind f)

instance : Monad (Code F) where
  pure := Code.ret
  bind := Code.bind

/-- A load of one window. -/
abbrev ld (b : Bank) (off size : Fin b.shape.rank → ℕ) (inb : ∀ a, off a + size a ≤ b.shape.size a)
    (h : 0 < (Rect.unit off size inb).shape.numel) : Code F ((Rect.unit off size inb).shape.Idx → Elt F b.elt) :=
  .load b off size inb h .ret

/-- A store of one window. -/
abbrev st (b : Bank) (off size : Fin b.shape.rank → ℕ) (inb : ∀ a, off a + size a ≤ b.shape.size a)
    (h : ∀ M : Memref sig .tc .vmem b.shape b.elt, M.IsWhole → (M.access (Rect.unit off size inb)).Stores Finset.univ)
    (w : (Rect.unit off size inb).shape.Idx → Elt F b.elt) : Code F PUnit :=
  .store b off size inb h w (.ret ⟨⟩)

/-- Code that runs where `p` holds. -/
abbrev when (p : Prop) [d : Decidable p] (x : p → Code F PUnit) : Code F PUnit :=
  .cond p d x (.ret ⟨⟩)

/-- The machine's program. -/
def toProg (M : Bank.Mems) (hM : ∀ b, (M b).IsWhole) {α : Type} : Code F α → Prog (TpuEff nD τ sig (Elt F) Λ₀ .tc) α
  | .ret a => .ret a
  | .load b off size inb h k => .op (.load (M b) (Rect.unit off size inb).toLoadRect (View.loadsAt_vmem h)) fun x => toProg M hM (k x)
  | .store b off size inb h w k => .op (.store (M b) (Rect.unit off size inb) w Finset.univ (h (M b) (hM b)) (.inl rfl)) fun _ => toProg M hM k
  | .cond p d x k => @dite _ p d (fun h => (toProg M hM (x h)).bind fun _ => toProg M hM k) fun _ => toProg M hM k

/-- The function of the buffers' contents. -/
def run {α : Type} : Code F α → Bank.St F → α × Bank.St F
  | .ret a, X => (a, X)
  | .load b off size inb _ k, X => (k (VecWindow.window (X b) off size inb)).run X
  | .store b off size _ _ w k, X => k.run (Function.update X b (VecWindow.put (X b) off size w))
  | .cond p d x k, X => k.run (@dite _ p d (fun h => ((x h).run X).2) fun _ => X)

theorem run_bind {α β : Type} (p : Code F α) (f : α → Code F β) (X : Bank.St F) :
    (p.bind f).run X = (f (p.run X).1).run (p.run X).2 := by
  induction p generalizing X with
  | ret a => rfl
  | load b off size inb h k ih => exact ih _ f X
  | store b off size inb h w k ih => exact ih f _
  | cond p d x k _ ih => exact ih f _

/-- All the buffers, each held whole at its contents. -/
def holds (c : Dev nD) (M : Bank.Mems) (X : Bank.St F) : sProp 𝕄 :=
  bigSep Finset.univ fun b : Bank => owns c (M b) fullShare (X b)

/-- One buffer taken out, and given back at any contents. -/
theorem holds_take (c : Dev nD) (M : Bank.Mems) (X : Bank.St F) (b : Bank) :
    (holds c M X : sProp 𝕄) ⊢ iprop(owns c (M b) fullShare (X b)
      ∗ (∀ Y, owns c (M b) fullShare Y -∗ holds c M (Function.update X b Y))) := by
  have e : ∀ Y, (bigSep (Finset.univ.erase b) fun b' : Bank => (owns c (M b') fullShare (X b') : sProp 𝕄))
      = bigSep (Finset.univ.erase b) fun b' : Bank => owns c (M b') fullShare (Function.update X b Y b') := fun Y =>
    bigSep_congr fun b' hb' => by rw [Function.update_of_ne (Finset.ne_of_mem_erase hb')]
  have h : ∀ X : Bank.St F, (holds c M X : sProp 𝕄)
      = iprop(owns c (M b) fullShare (X b) ∗ bigSep (Finset.univ.erase b) fun b' : Bank => owns c (M b') fullShare (X b')) :=
    fun X => bigSep_univ_split b
  rw [h X]
  iintro ⟨H, R⟩
  isplitl [H]; · iexact H
  iintro %Y HY
  rw [h (Function.update X b Y), Function.update_self, ← e Y]
  isplitl [HY]; · iexact HY
  iexact R

/-- A load of a window of a buffer held at `X`. -/
theorem loads (c : Dev nD) {defs : Defs nD τ sig (Elt F) Λ₀} (𝒱 : Variants) {sp : CoreSpace} {s : Shape} {e : EltTy} {α : Type}
    (M : Memref sig .tc sp s e) (off size : Fin s.rank → ℕ) (inb : ∀ a, off a + size a ≤ s.size a)
    (hl : M.view.LoadsAt (Rect.unit off size inb).toLoadRect) (X : s.Idx → Elt F e)
    (k : ((Rect.unit off size inb).shape.Idx → Elt F e) → Prog (TpuEff nD τ sig (Elt F) Λ₀ .tc) α) (Q : α → sProp 𝕄) :
    (owns c M fullShare X : sProp 𝕄)
      ⊢ iprop((owns c M fullShare X -∗ wp frame (wpE defs 𝒱 c none) Set.univ (k (VecWindow.window X off size inb)) Q)
        -∗ wp frame (wpE defs 𝒱 c none) Set.univ (.op (.load M (Rect.unit off size inb).toLoadRect hl) k) Q) := by
  rw [owns_eq_rep]
  have h := wp_load (defs := defs) 𝒱 (c : Thread nD τ) none Set.univ (Γ := ∅) (m := M) (r := (Rect.unit off size inb).toLoadRect) (hl := hl) (k := k) (Q := Q)
    (S := M.view.set) (q := fullShare) (f := M.view.rep X) (View.setOn_subset_set _ _)
  rw [View.readAt_rep_unit M.view X inb rfl inb] at h
  exact h

/-- A store of a window of a buffer held at `X`. -/
theorem stores (c : Dev nD) {defs : Defs nD τ sig (Elt F) Λ₀} (𝒱 : Variants) {sp : CoreSpace} {s : Shape} {e : EltTy} {α : Type}
    (M : Memref sig .tc sp s e) (off size : Fin s.rank → ℕ) (inb : ∀ a, off a + size a ≤ s.size a)
    (hx : (M.access (Rect.unit off size inb)).Stores Finset.univ) (hm) (X : s.Idx → Elt F e)
    (w : (Rect.unit off size inb).shape.Idx → Elt F e)
    (k : PUnit → Prog (TpuEff nD τ sig (Elt F) Λ₀ .tc) α) (Q : α → sProp 𝕄) :
    (owns c M fullShare X : sProp 𝕄)
      ⊢ iprop((owns c M fullShare (VecWindow.put X off size w) -∗ wp frame (wpE defs 𝒱 c none) Set.univ (k ⟨⟩) Q)
        -∗ wp frame (wpE defs 𝒱 c none) Set.univ (.op (.store M (Rect.unit off size inb) w Finset.univ hx hm) k) Q) := by
  rw [owns_eq_rep]
  have h := wp_store_writes₀ (defs := defs) 𝒱 (c : Thread nD τ) none Set.univ (m := M) (r := Rect.unit off size inb) (w := w) (hx := hx) (hm := hm)
    (k := k) (Q := Q) (S := M.view.set) (f := M.view.rep X) (M.view.set_slice_subset _)
  refine h.trans ?_
  iintro H K
  iapply H
  iintro B
  iapply K
  rw [owns_eq_rep]
  iapply pointsTo_rep_of_read c M _ fullShare _ (View.read_writes_rep_unit M.view X inb w rfl)
  iexact B

/-- The machine's program takes the buffers from `X` to what `run` gives. -/
theorem triple (c : Dev nD) {defs : Defs nD τ sig (Elt F) Λ₀} (𝒱 : Variants) (M : Bank.Mems) (hM : ∀ b, (M b).IsWhole)
    {α : Type} (p : Code F α) (X : Bank.St F) (Q : α → sProp 𝕄) :
    iprop(holds c M X ∗ (holds c M (p.run X).2 -∗ Q (p.run X).1))
      ⊢ wp frame (wpE defs 𝒱 c none) Set.univ (p.toProg M hM) Q := by
  induction p generalizing X with
  | ret a =>
    show iprop(holds c M X ∗ (holds c M X -∗ Q a)) ⊢ _
    refine BIBase.Entails.trans ?_ (le_wp_ret _ _ _ _ Q)
    iintro ⟨H, K⟩
    iapply K
    iexact H
  | load b off size inb h k ih =>
    iintro ⟨H, K⟩
    ihave ⟨B, R⟩ := (holds_take c M X b) $$ H
    iapply (loads c 𝒱 (M b) off size inb (View.loadsAt_vmem h) (X b) (fun x => (k x).toProg M hM) Q) $$ B
    iintro B
    iapply (ih _ X Q)
    isplitr [K]
    · ispecialize R $$ %(X b) B
      rw [Function.update_eq_self]
      iexact R
    · iexact K
  | store b off size inb h w k ih =>
    iintro ⟨H, K⟩
    ihave ⟨B, R⟩ := (holds_take c M X b) $$ H
    iapply (stores c 𝒱 (M b) off size inb (h (M b) (hM b)) (.inl rfl) (X b) w (fun _ => k.toProg M hM) Q) $$ B
    iintro B
    iapply (ih _ Q)
    isplitr [K]
    · iapply R $$ B
    · iexact K
  | cond p d x k ihx ih =>
    show _ ⊢ wp frame (wpE defs 𝒱 c none) Set.univ (@dite _ p d (fun h => (x h).toProg M hM >>= fun _ => k.toProg M hM) fun _ => k.toProg M hM) Q
    by_cases hp : p
    · rw [dif_pos hp, wp_bind]
      refine BIBase.Entails.trans ?_ (ihx hp X _)
      have e : (run (.cond p d x k) X) = k.run ((x hp).run X).2 := by
        show k.run (@dite _ p d _ _) = _
        rw [dif_pos hp]
      rw [e]
      iintro ⟨H, K⟩
      isplitl [H]; · iexact H
      iintro H
      iapply (ih _ Q)
      isplitl [H]; · iexact H
      iexact K
    · rw [dif_neg hp]
      have e : (run (.cond p d x k) X) = k.run X := by
        show k.run (@dite _ p d _ _) = _
        rw [dif_neg hp]
      rw [e]
      exact ih X Q

end Code

end Cert.KernelIdeal.Fox

end
-- ==== Proof.Block.lean ====
/- The body of the backward kernel as code over its buffers: one head of a tile, a pair of heads, a tile, a grid point. -/
module

public import proofs.«01_k».proof.Proof.Code

@[expose] public section

set_option maxRecDepth 16384

noncomputable section

namespace Cert.KernelIdeal.Fox

open Idealize.ShloMosaic Idealize.ShloMosaic.Tactic Idealize.SL.Sem
open Facts₀ Facts

variable {F : FTy → Type} [FloatOps F]

/-! ## Pure values of one head of a tile -/

/-- The lanes of a pair's first (`par = false`) or second head. -/
def lanes (par : Bool) : IVec S1x128 1 :=
  match par with
  | false => cmpi .slt (iota .tc S1x128 32 [1] iota_S1x128_d1_w32) (broadcast S1x128 64#32)
  | true => xori (cmpi .slt (iota .tc S1x128 32 [1] iota_S1x128_d1_w32) (broadcast S1x128 64#32)) (constantI S1x128 1 1#1)

/-- The lanes' mask over a tile. -/
def lanesT (par : Bool) : IVec S256x128 1 :=
  broadcastTo S256x128 (shapeCast S1x128 (lanes par) shapeCasts_S1x128_S1x128) broadcasts_S1x128_S256x128

/-- The entries of a diagonal tile the causal mask keeps: the key's row number at most the query's column number. -/
def causal : IVec S256x256 1 :=
  cmpi .sge (iota .tc S256x256 32 [1] iota_S256x256_d1_w32) (iota .tc S256x256 32 [0] iota_S256x256_d0_w32)

/-- A head's rows set among the pair's, zeros in the other head's place. -/
def padRows (par : Bool) (x : Vec F S64x256 .bf16) : FVec F S128x256 .bf16 :=
  match par with
  | false => concatenate S128x256 0 [⟨S64x256, shapeCast S64x256 x shapeCasts_S64x256_S64x256⟩, ⟨S64x256, broadcast S64x256 (Scalar.ofBits .bf16 0x0000#16)⟩] concatenates_S64x256_S64x256_S128x256_d0
  | true => concatenate S128x256 0 [⟨S64x256, broadcast S64x256 (Scalar.ofBits .bf16 0x0000#16)⟩, ⟨S64x256, shapeCast S64x256 x shapeCasts_S64x256_S64x256⟩] concatenates_S64x256_S64x256_S128x256_d0

/-- The tile's scores' exponentials, transposed (key rows, query columns). -/
def probs (mask : Bool) (kp : FVec F S256x128 .bf16) (qtm : FVec F S128x256 .bf16) (cr : Vec F S1x1x256 .f32) (cc : Vec F S256x1 .f32)
    (lse : Vec F S1x1x256 .f32) : FVec F S256x256 .f32 :=
  let e := exp (subf (addf (matmul dot_S256x128_S128x256_S256x256_1_0_0_1_n_n none kp qtm (constant S256x256 .f32 0x00000000#32))
      (subf (broadcastTo S256x256 (shapeCast S1x256 cr shapeCasts_S1x1x256_S1x256) broadcasts_S1x256_S256x256)
        (broadcastTo S256x256 cc broadcasts_S256x1_S256x256)))
    (broadcastTo S256x256 (shapeCast S1x256 lse shapeCasts_S1x1x256_S1x256) broadcasts_S1x256_S256x256))
  match mask with
  | false => e
  | true => select causal e (broadcast S256x256 (Scalar.ofBits .f32 0x00000000#32))

/-- The gradient of the tile's scores, from their probabilities. -/
def dscores (pe : FVec F S256x256 .f32) (vp : FVec F S256x128 .bf16) (datm : FVec F S128x256 .bf16) (dl : Vec F S1x1x256 .f32) : FVec F S256x256 .f32 :=
  mulf pe (subf (matmul dot_S256x128_S128x256_S256x256_1_0_0_1_n_n none vp datm (constant S256x256 .f32 0x00000000#32))
    (broadcastTo S256x256 (shapeCast S1x256 dl shapeCasts_S1x1x256_S1x256) broadcasts_S1x256_S256x256))

/-- A tile times a masked operand, added to an accumulator. -/
def accum (acc : FVec F S256x128 .f32) (p : FVec F S256x256 .f32) (x : FVec F S256x128 .bf16) : FVec F S256x128 .f32 :=
  addf acc (matmul dot_S256x256_S256x128_S256x128_1_0_0_1_n_n none (truncf .bf16 p bitsLt_bf16_f32) x (constant S256x128 .f32 0x00000000#32))

/-- The pair's scaled queries, the head's lanes kept. -/
def maskQ (par : Bool) (qp : FVec F S256x128 .f32) : FVec F S256x128 .bf16 :=
  truncf .bf16 (select (lanesT par) qp (broadcast S256x128 (Scalar.ofBits .f32 0x00000000#32))) bitsLt_bf16_f32

/-- The pair's output gradients, the head's lanes kept. -/
def maskA (par : Bool) (ap : FVec F S256x128 .bf16) : FVec F S256x128 .bf16 :=
  select (lanesT par) ap (broadcast S256x128 (Scalar.ofBits .bf16 0x0000#16))

/-- The head's tile of the query gradient (transposed), the tile's part added. -/
def accQ (old : Vec F S1x64x256 .f32) (kt : Vec F S64x256 .bf16) (ds : FVec F S256x256 .f32) : FVec F S1x64x256 .f32 :=
  shapeCast S1x64x256 (addf (shapeCast S64x256 old shapeCasts_S1x64x256_S64x256)
    (matmul dot_S64x256_S256x256_S64x256_1_0_0_1_n_n none (shapeCast S64x256 kt shapeCasts_S64x256_S64x256) (truncf .bf16 ds bitsLt_bf16_f32)
      (constant S64x256 .f32 0x00000000#32))) shapeCasts_S64x256_S1x64x256

/-- The gradient of the keys' decays: the head's column loses the tile's row sums. -/
def accC (h : BitVec 32) (dck : FVec F S256x128 .f32) (ds : FVec F S256x256 .f32) : FVec F S256x128 .f32 :=
  subf dck (select (cmpi .eq (iota .tc S256x128 32 [1] iota_S256x128_d1_w32) (broadcast S256x128 h))
    (broadcastTo S256x128 (shapeCast S256x1 (shapeCast S256x1 (multiReduction .add [1] S256 ds 0x00000000#32 reduces_S256x256_S256 (.inl rfl) rfl)
      shapeCasts_S256_S256x1) shapeCasts_S256x1_S256x1) broadcasts_S256x1_S256x128)
    (broadcast S256x128 (Scalar.ofBits .f32 0x00000000#32)))

/-- The tile's column sums: halved five times, then summed. -/
def colSums (ds : FVec F S256x256 .f32) : FVec F S256 .f32 :=
  let a := addf (extractStridedSlice S128x256 ![0, 0] ds slices_S256x256_o0_0_S128x256) (extractStridedSlice S128x256 ![128, 0] ds slices_S256x256_o128_0_S128x256)
  let b := addf (extractStridedSlice S64x256 ![0, 0] a slices_S128x256_o0_0_S64x256) (extractStridedSlice S64x256 ![64, 0] a slices_S128x256_o64_0_S64x256)
  let c := addf (extractStridedSlice S32x256 ![0, 0] b slices_S64x256_o0_0_S32x256) (extractStridedSlice S32x256 ![32, 0] b slices_S64x256_o32_0_S32x256)
  let d := addf (extractStridedSlice S16x256 ![0, 0] c slices_S32x256_o0_0_S16x256) (extractStridedSlice S16x256 ![16, 0] c slices_S32x256_o16_0_S16x256)
  let e := addf (extractStridedSlice S8x256 ![0, 0] d slices_S16x256_o0_0_S8x256) (extractStridedSlice S8x256 ![8, 0] d slices_S16x256_o8_0_S8x256)
  multiReduction .add [0] S256 e 0x00000000#32 reduces_S8x256_S256 (.inl rfl) rfl

/-- The gradient of the queries' decays, the tile's column sums added. -/
def accR (old : Vec F S1x1x256 .f32) (ds : FVec F S256x256 .f32) : FVec F S1x1x256 .f32 :=
  shapeCast S1x1x256 (addf (shapeCast S1x256 old shapeCasts_S1x1x256_S1x256) (shapeCast S1x256 (colSums ds) shapeCasts_S256_S1x256)) shapeCasts_S1x256_S1x1x256

/-! ## Where a head's windows lie -/

/-- The head's number. -/
abbrev headOf (p : Fin 4) (par : Bool) : Nat := 2 * p.val + (bif par then 1 else 0)

/-- The query sub-tile's first row. -/
abbrev subOff (sub : Bool) : Nat := bif sub then 256 else 0

theorem headOf_le (p : Fin 4) (par : Bool) : headOf p par ≤ 7 := by
  cases par <;> simp only [headOf, cond_true, cond_false] <;> omega
theorem subOff_le (sub : Bool) : subOff sub ≤ 256 := by cases sub <;> simp

theorem in_q (p : Fin 4) (sub : Bool) : ∀ a, (![subOff sub, 128 * p.val] : Fin 2 → ℕ) a + S256x128.size a ≤ S512x512.size a :=
  Fin.forall_fin_two.mpr ⟨show subOff sub + 256 ≤ 512 by have := subOff_le sub; omega, show 128 * p.val + 128 ≤ 512 by omega⟩
theorem in_k (p : Fin 4) : ∀ a, (![0, 128 * p.val] : Fin 2 → ℕ) a + S256x128.size a ≤ S256x512.size a :=
  Fin.forall_fin_two.mpr ⟨show 0 + 256 ≤ 256 by omega, show 128 * p.val + 128 ≤ 512 by omega⟩
theorem in_t (p : Fin 4) (par sub : Bool) : ∀ a, (![64 * headOf p par, subOff sub] : Fin 2 → ℕ) a + S64x256.size a ≤ S512x512.size a :=
  Fin.forall_fin_two.mpr ⟨show 64 * headOf p par + 64 ≤ 512 by have := headOf_le p par; omega, show subOff sub + 256 ≤ 512 by have := subOff_le sub; omega⟩
theorem in_kt (p : Fin 4) (par : Bool) : ∀ a, (![64 * headOf p par, 0] : Fin 2 → ℕ) a + S64x256.size a ≤ S512x256.size a :=
  Fin.forall_fin_two.mpr ⟨show 64 * headOf p par + 64 ≤ 512 by have := headOf_le p par; omega, show 0 + 256 ≤ 256 by omega⟩
theorem in_row (p : Fin 4) (par sub : Bool) : ∀ a, (![0, headOf p par, subOff sub] : Fin 3 → ℕ) a + S1x1x256.size a ≤ S1x8x512.size a :=
  Fin.forall_fin_succ.mpr ⟨show 0 + 1 ≤ 1 by omega, Fin.forall_fin_two.mpr ⟨show headOf p par + 1 ≤ 8 by have := headOf_le p par; omega,
    show subOff sub + 256 ≤ 512 by have := subOff_le sub; omega⟩⟩
theorem in_cc (p : Fin 4) (par : Bool) : ∀ a, (![0, headOf p par] : Fin 2 → ℕ) a + S256x1.size a ≤ S256x128.size a :=
  Fin.forall_fin_two.mpr ⟨show 0 + 256 ≤ 256 by omega, show headOf p par + 1 ≤ 128 by have := headOf_le p par; omega⟩
theorem in_dq (p : Fin 4) (par : Bool) (qi : Nat) (hq : qi + 1 ≤ 8) : ∀ a, (![qi, 64 * headOf p par, 0] : Fin 3 → ℕ) a + S1x64x256.size a ≤ S8x512x256.size a :=
  Fin.forall_fin_succ.mpr ⟨hq, Fin.forall_fin_two.mpr ⟨show 64 * headOf p par + 64 ≤ 512 by have := headOf_le p par; omega, show 0 + 256 ≤ 256 by omega⟩⟩
theorem in_dcq (p : Fin 4) (par : Bool) (qi : Nat) (hq : qi + 1 ≤ 8) : ∀ a, (![qi, headOf p par, 0] : Fin 3 → ℕ) a + S1x1x256.size a ≤ S8x8x256.size a :=
  Fin.forall_fin_succ.mpr ⟨hq, Fin.forall_fin_two.mpr ⟨show headOf p par + 1 ≤ 8 by have := headOf_le p par; omega, show 0 + 256 ≤ 256 by omega⟩⟩

/-! ## The code -/

/-- One head of a tile: from the pair's operands and accumulators to the accumulators after it. -/
def headCode (mask sub : Bool) (qi : Nat) (hq : qi + 1 ≤ 8) (p : Fin 4) (par : Bool)
    (qp : FVec F S256x128 .f32) (kp vp ap : FVec F S256x128 .bf16) (dk dv dck : FVec F S256x128 .f32) :
    Code F (FVec F S256x128 .f32 × FVec F S256x128 .f32 × FVec F S256x128 .f32) :=
  .load .qt ![64 * headOf p par, subOff sub] S64x256.size (in_t p par sub) h_S64x256 fun qt =>
  .load .dat ![64 * headOf p par, subOff sub] S64x256.size (in_t p par sub) h_S64x256 fun dat =>
  .load .cr ![0, headOf p par, subOff sub] S1x1x256.size (in_row p par sub) h_S1x1x256 fun cr =>
  .load .cc ![0, headOf p par] S256x1.size (in_cc p par) h_S256x1 fun cc =>
  .load .lse ![0, headOf p par, subOff sub] S1x1x256.size (in_row p par sub) h_S1x1x256 fun lse =>
  .load .dl ![0, headOf p par, subOff sub] S1x1x256.size (in_row p par sub) h_S1x1x256 fun dl =>
  let pe := probs mask kp (padRows par qt) cr cc lse
  let ds := dscores pe vp (padRows par dat) dl
  .load .dqS ![qi, 64 * headOf p par, 0] S1x64x256.size (in_dq p par qi hq) h_S1x64x256 fun old =>
  .load .kt ![64 * headOf p par, 0] S64x256.size (in_kt p par) h_S64x256 fun kt =>
  .load .dqS ![qi, 64 * headOf p par, 0] S1x64x256.size (in_dq p par qi hq) h_S1x64x256 fun _ =>
  .store .dqS ![qi, 64 * headOf p par, 0] S1x64x256.size (in_dq p par qi hq) (fun _ _ => View.stores_vmem_bits_univ h_S1x64x256 rfl) (accQ old kt ds) <|
  .load .dcqS ![qi, headOf p par, 0] S1x1x256.size (in_dcq p par qi hq) h_S1x1x256 fun oldR =>
  .load .dcqS ![qi, headOf p par, 0] S1x1x256.size (in_dcq p par qi hq) h_S1x1x256 fun _ =>
  .store .dcqS ![qi, headOf p par, 0] S1x1x256.size (in_dcq p par qi hq) (fun _ _ => View.stores_vmem_bits_univ h_S1x1x256 rfl) (accR oldR ds) <|
  .ret (accum dk ds (maskQ par qp), accum dv pe (maskA par ap), accC (BitVec.ofNat 32 (headOf p par)) dck ds)

/-- A pair of heads: both heads' accumulators loaded, run and stored. -/
def pairCode (mask sub : Bool) (qi : Nat) (hq : qi + 1 ≤ 8) (p : Fin 4) (dck : FVec F S256x128 .f32) : Code F (FVec F S256x128 .f32) :=
  .load .q ![subOff sub, 128 * p.val] S256x128.size (in_q p sub) h_S256x128 fun q =>
  .load .k ![0, 128 * p.val] S256x128.size (in_k p) h_S256x128 fun k =>
  .load .v ![0, 128 * p.val] S256x128.size (in_k p) h_S256x128 fun v =>
  .load .da ![subOff sub, 128 * p.val] S256x128.size (in_q p sub) h_S256x128 fun a =>
  .load .dkS ![0, 128 * p.val] S256x128.size (in_k p) h_S256x128 fun dk =>
  .load .dvS ![0, 128 * p.val] S256x128.size (in_k p) h_S256x128 fun dv =>
  let qp : FVec F S256x128 .f32 := mulf q (broadcast S256x128 (Scalar.ofBits .f32 0x3E000000#32))
  let kp : FVec F S256x128 .bf16 := truncf .bf16 k bitsLt_bf16_f32
  let vp : FVec F S256x128 .bf16 := truncf .bf16 v bitsLt_bf16_f32
  let ap : FVec F S256x128 .bf16 := shapeCast S256x128 a shapeCasts_S256x128_S256x128
  (headCode mask sub qi hq p false qp kp vp ap dk dv dck).bind fun r =>
  (headCode mask sub qi hq p true qp kp vp ap r.1 r.2.1 r.2.2).bind fun r =>
  .load .dkS ![0, 128 * p.val] S256x128.size (in_k p) h_S256x128 fun _ =>
  .store .dkS ![0, 128 * p.val] S256x128.size (in_k p) (fun _ _ => View.stores_vmem_bits_univ h_S256x128 rfl) (shapeCast S256x128 r.1 shapeCasts_S256x128_S256x128) <|
  .load .dvS ![0, 128 * p.val] S256x128.size (in_k p) h_S256x128 fun _ =>
  .store .dvS ![0, 128 * p.val] S256x128.size (in_k p) (fun _ _ => View.stores_vmem_bits_univ h_S256x128 rfl) (shapeCast S256x128 r.2.1 shapeCasts_S256x128_S256x128) <|
  .ret r.2.2

/-- A tile: the four pairs. -/
def tileCode (mask sub : Bool) (qi : Nat) (hq : qi + 1 ≤ 8) : Code F PUnit :=
  .load .dckS ![0, 0] S256x128.size inb_S256x128_S256x128_0_0 h_S256x128 fun dck =>
  (pairCode mask sub qi hq 0 dck).bind fun dck =>
  (pairCode mask sub qi hq 1 dck).bind fun dck =>
  (pairCode mask sub qi hq 2 dck).bind fun dck =>
  (pairCode mask sub qi hq 3 dck).bind fun dck =>
  .load .dckS ![0, 0] S256x128.size inb_S256x128_S256x128_0_0 h_S256x128 fun _ =>
  .store .dckS ![0, 0] S256x128.size inb_S256x128_S256x128_0_0 (fun _ _ => View.stores_vmem_bits_univ h_S256x128 rfl) (shapeCast S256x128 dck shapeCasts_S256x128_S256x128) <|
  .ret ⟨⟩

/-- The row number of the tile's query block among the grid's point's blocks, as the body computes it. -/
def rowWord (i : grid0.Coords) : BitVec 32 :=
  let x : BitVec 32 := BitVec.ofNat 32 (i 1).val
  Scalar.subi 3#32 (Scalar.subi x (Scalar.addi (Scalar.addi (Scalar.addi (Scalar.addi (Scalar.addi (Scalar.addi (Scalar.addi 0#32
    (Scalar.select (Scalar.cmpi .sge x 1#32) 1#32 0#32)) (Scalar.select (Scalar.cmpi .sge x 2#32) 1#32 0#32))
    (Scalar.select (Scalar.cmpi .sge x 4#32) 2#32 0#32)) (Scalar.select (Scalar.cmpi .sge x 6#32) 2#32 0#32))
    (Scalar.select (Scalar.cmpi .sge x 9#32) 3#32 0#32)) (Scalar.select (Scalar.cmpi .sge x 12#32) 3#32 0#32))
    (Scalar.select (Scalar.cmpi .sge x 16#32) 4#32 0#32)))

/-- The key block's number, as the body computes it. -/
def keyWord (i : grid0.Coords) : BitVec 32 :=
  let x : BitVec 32 := BitVec.ofNat 32 (i 1).val
  Scalar.subi 7#32 (Scalar.addi (Scalar.addi (Scalar.addi (Scalar.addi (Scalar.addi (Scalar.addi (Scalar.addi 0#32
    (Scalar.extui (Scalar.cmpi .sge x 1#32))) (Scalar.extui (Scalar.cmpi .sge x 2#32)))
    (Scalar.extui (Scalar.cmpi .sge x 4#32))) (Scalar.extui (Scalar.cmpi .sge x 6#32)))
    (Scalar.extui (Scalar.cmpi .sge x 9#32))) (Scalar.extui (Scalar.cmpi .sge x 12#32)))
    (Scalar.extui (Scalar.cmpi .sge x 16#32)))

/-- A condition's word: one where `a = b`. -/
abbrev eqWord (a b : BitVec 32) : BitVec 1 := Scalar.cmpi .ne (Scalar.extui (Scalar.cmpi .eq a b) : BitVec 32) 0#32

/-- The query accumulators cleared. -/
def clearQ : Code F PUnit :=
  .load .dqS ![0, 0, 0] S8x512x256.size inb_S8x512x256_S8x512x256_0_0_0 h_S8x512x256 fun _ =>
  .store .dqS ![0, 0, 0] S8x512x256.size inb_S8x512x256_S8x512x256_0_0_0 (fun _ _ => View.stores_vmem_bits_univ h_S8x512x256 rfl)
    (shapeCast S8x512x256 (broadcast S8x512x256 (Scalar.ofBits (F := F) .f32 0x00000000#32) : FVec F S8x512x256 .f32) shapeCasts_S8x512x256_S8x512x256) <|
  .load .dcqS ![0, 0, 0] S8x8x256.size inb_S8x8x256_S8x8x256_0_0_0 h_S8x8x256 fun _ =>
  .store .dcqS ![0, 0, 0] S8x8x256.size inb_S8x8x256_S8x8x256_0_0_0 (fun _ _ => View.stores_vmem_bits_univ h_S8x8x256 rfl)
    (shapeCast S8x8x256 (broadcast S8x8x256 (Scalar.ofBits (F := F) .f32 0x00000000#32) : FVec F S8x8x256 .f32) shapeCasts_S8x8x256_S8x8x256) <|
  .ret ⟨⟩

/-- The key accumulators cleared. -/
def clearK : Code F PUnit :=
  .load .dkS ![0, 0] S256x512.size inb_S256x512_S256x512_0_0 h_S256x512 fun _ =>
  .store .dkS ![0, 0] S256x512.size inb_S256x512_S256x512_0_0 (fun _ _ => View.stores_vmem_bits_univ h_S256x512 rfl)
    (shapeCast S256x512 (broadcast S256x512 (Scalar.ofBits (F := F) .f32 0x00000000#32) : FVec F S256x512 .f32) shapeCasts_S256x512_S256x512) <|
  .load .dvS ![0, 0] S256x512.size inb_S256x512_S256x512_0_0 h_S256x512 fun _ =>
  .store .dvS ![0, 0] S256x512.size inb_S256x512_S256x512_0_0 (fun _ _ => View.stores_vmem_bits_univ h_S256x512 rfl)
    (shapeCast S256x512 (broadcast S256x512 (Scalar.ofBits (F := F) .f32 0x00000000#32) : FVec F S256x512 .f32) shapeCasts_S256x512_S256x512) <|
  .load .dckS ![0, 0] S256x128.size inb_S256x128_S256x128_0_0 h_S256x128 fun _ =>
  .store .dckS ![0, 0] S256x128.size inb_S256x128_S256x128_0_0 (fun _ _ => View.stores_vmem_bits_univ h_S256x128 rfl)
    (shapeCast S256x128 (broadcast S256x128 (Scalar.ofBits (F := F) .f32 0x00000000#32) : FVec F S256x128 .f32) shapeCasts_S256x128_S256x128) <|
  .ret ⟨⟩

/-- The key block's results written out. -/
def outK : Code F PUnit :=
  .load .dkS ![0, 0] S256x512.size inb_S256x512_S256x512_0_0 h_S256x512 fun dk =>
  .load .dkO ![0, 0] S256x512.size inb_S256x512_S256x512_0_0 h_S256x512 fun _ =>
  .store .dkO ![0, 0] S256x512.size inb_S256x512_S256x512_0_0
    (fun _ hM => View.stores_vmem h_S256x512 (hM.storeExact_slice rfl _ packedbf16_S256x512_S256x512_0_0) (fun _ => rfl)) (truncf .bf16 (dk : FVec F S256x512 .f32) bitsLt_bf16_f32) <|
  .load .dvS ![0, 0] S256x512.size inb_S256x512_S256x512_0_0 h_S256x512 fun dv =>
  .load .dvO ![0, 0] S256x512.size inb_S256x512_S256x512_0_0 h_S256x512 fun _ =>
  .store .dvO ![0, 0] S256x512.size inb_S256x512_S256x512_0_0
    (fun _ hM => View.stores_vmem h_S256x512 (hM.storeExact_slice rfl _ packedbf16_S256x512_S256x512_0_0) (fun _ => rfl)) (truncf .bf16 (dv : FVec F S256x512 .f32) bitsLt_bf16_f32) <|
  .load .dckS ![0, 0] S256x128.size inb_S256x128_S256x128_0_0 h_S256x128 fun dck =>
  .load .dckO ![0, 0] S256x128.size inb_S256x128_S256x128_0_0 h_S256x128 fun _ =>
  .store .dckO ![0, 0] S256x128.size inb_S256x128_S256x128_0_0 (fun _ _ => View.stores_vmem_bits_univ h_S256x128 rfl) dck <|
  .ret ⟨⟩

theorem in_dqS (j : Fin 8) : ∀ a, (![j.val, 0, 0] : Fin 3 → ℕ) a + S1x512x256.size a ≤ S8x512x256.size a :=
  Fin.forall_fin_succ.mpr ⟨show j.val + 1 ≤ 8 by omega, Fin.forall_fin_two.mpr ⟨show 0 + 512 ≤ 512 by omega, show 0 + 256 ≤ 256 by omega⟩⟩
theorem in_dqO (j : Fin 8) : ∀ a, (![256 * j.val, 0] : Fin 2 → ℕ) a + S256x512.size a ≤ S2048x512.size a :=
  Fin.forall_fin_two.mpr ⟨show 256 * j.val + 256 ≤ 2048 by omega, show 0 + 512 ≤ 512 by omega⟩
theorem in_dcqS (j : Fin 8) : ∀ a, (![j.val, 0, 0] : Fin 3 → ℕ) a + S1x8x256.size a ≤ S8x8x256.size a :=
  Fin.forall_fin_succ.mpr ⟨show j.val + 1 ≤ 8 by omega, Fin.forall_fin_two.mpr ⟨show 0 + 8 ≤ 8 by omega, show 0 + 256 ≤ 256 by omega⟩⟩
theorem in_dcqO (j : Fin 8) : ∀ a, (![0, 0, 256 * j.val] : Fin 3 → ℕ) a + S1x8x256.size a ≤ S1x8x2048.size a :=
  Fin.forall_fin_succ.mpr ⟨show 0 + 1 ≤ 1 by omega, Fin.forall_fin_two.mpr ⟨show 0 + 8 ≤ 8 by omega, show 256 * j.val + 256 ≤ 2048 by omega⟩⟩

theorem store_dqO (j : Fin 8) (M : Memref sig .tc .vmem S2048x512 .bf16) (hM : M.IsWhole) :
    (M.access (Rect.unit (s := S2048x512) ![256 * j.val, 0] S256x512.size (in_dqO j))).Stores Finset.univ :=
  View.stores_vmem h_S256x512 (hM.storeExact_slice rfl _ (by revert j; decide)) (fun _ => rfl)

/-- A block's query gradient, from the accumulator's transposed block. -/
def outTile (x : Vec F S1x512x256 .f32) : FVec F S256x512 .bf16 :=
  truncf .bf16 (mulf (transpose S256x512 [1, 0] (shapeCast S512x256 x shapeCasts_S1x512x256_S512x256) transposes_S512x256_p1_0_S256x512)
    (broadcast S256x512 (Scalar.ofBits .f32 0x3E000000#32))) bitsLt_bf16_f32

/-- A query block's results written out. -/
def outQ (j : Fin 8) : Code F PUnit :=
  .load .dqS ![j.val, 0, 0] S1x512x256.size (in_dqS j) h_S1x512x256 fun x =>
  .load .dqO ![256 * j.val, 0] S256x512.size (in_dqO j) h_S256x512 fun _ =>
  .store .dqO ![256 * j.val, 0] S256x512.size (in_dqO j) (store_dqO j) (outTile x) <|
  .load .dcqS ![j.val, 0, 0] S1x8x256.size (in_dcqS j) h_S1x8x256 fun y =>
  .load .dcqO ![0, 0, 256 * j.val] S1x8x256.size (in_dcqO j) h_S1x8x256 fun _ =>
  .store .dcqO ![0, 0, 256 * j.val] S1x8x256.size (in_dcqO j) (fun _ _ => View.stores_vmem_bits_univ h_S1x8x256 rfl)
    (shapeCast S1x8x256 (shapeCast S8x256 (y : Vec F S1x8x256 .f32) shapeCasts_S1x8x256_S8x256) shapeCasts_S8x256_S1x8x256) <|
  .ret ⟨⟩

/-- One grid point of the body, up to its last tile; it hands on three of the words it has computed. -/
def stepA (i : grid0.Coords) : Code F (Σ' (_ : BitVec 32) (_ : BitVec 32), BitVec 32) :=
  .cond (eqWord (BitVec.ofNat 32 (i 1).val) 0#32 = 1#1) inferInstance (fun _ => clearQ) <|
  .cond (eqWord (rowWord i) 3#32 = 1#1) inferInstance (fun _ => clearK) <|
  .cond (k0_cond3 i = 1#1) inferInstance (fun h => tileCode false true (k0_off1 i 0) (k0_off1_inb i h 0)) <|
  .cond (k0_cond4 i = 1#1) inferInstance (fun h => tileCode true true (k0_off17 i 0) (k0_off17_inb i h 0)) <|
  .cond (k0_cond5 i = 1#1) inferInstance (fun h => tileCode false false (k0_off33 i 0) (k0_off33_inb i h 0)) <|
  .ret ⟨keyWord i, rowWord i, Scalar.muli (rowWord i) 2#32⟩

/-- The rest of the grid point: its last tile, and the results written out. -/
def stepB (i : grid0.Coords) : Code F PUnit :=
  .cond (k0_cond6 i = 1#1) inferInstance (fun h => tileCode true false (k0_off49 i 0) (k0_off49_inb i h 0)) <|
  .cond (k0_cond7 i = 1#1) inferInstance (fun _ => outK) <|
  .cond (k0_cond8 i = 1#1) inferInstance (fun _ =>
    (outQ 0).bind fun _ => (outQ 1).bind fun _ => (outQ 2).bind fun _ => (outQ 3).bind fun _ =>
    (outQ 4).bind fun _ => (outQ 5).bind fun _ => (outQ 6).bind fun _ => outQ 7) <|
  .ret ⟨⟩

/-- The body's operands as a family over the buffers. -/
def mems (a2 : Memref sig .tc .vmem S512x512 .f32) (a3 : Memref sig .tc .vmem S256x512 .f32) (a4 : Memref sig .tc .vmem S256x512 .f32) (a5 : Memref sig .tc .vmem S512x512 .bf16) (a6 : Memref sig .tc .vmem S512x512 .bf16) (a7 : Memref sig .tc .vmem S512x256 .bf16) (a8 : Memref sig .tc .vmem S512x512 .bf16) (a9 : Memref sig .tc .vmem S256x128 .f32) (a10 : Memref sig .tc .vmem S1x8x512 .f32) (a11 : Memref sig .tc .vmem S1x8x512 .f32) (a12 : Memref sig .tc .vmem S1x8x512 .f32) (a13 : Memref sig .tc .vmem S2048x512 .bf16) (a14 : Memref sig .tc .vmem S256x512 .bf16) (a15 : Memref sig .tc .vmem S256x512 .bf16) (a16 : Memref sig .tc .vmem S256x128 .f32) (a17 : Memref sig .tc .vmem S1x8x2048 .f32) (a18 : Memref sig .tc .vmem S8x512x256 .f32) (a19 : Memref sig .tc .vmem S256x512 .f32) (a20 : Memref sig .tc .vmem S256x512 .f32) (a21 : Memref sig .tc .vmem S256x128 .f32) (a22 : Memref sig .tc .vmem S8x8x256 .f32) : Bank.Mems
  | .q => a2
  | .k => a3
  | .v => a4
  | .da => a5
  | .qt => a6
  | .kt => a7
  | .dat => a8
  | .cc => a9
  | .cr => a10
  | .lse => a11
  | .dl => a12
  | .dqO => a13
  | .dkO => a14
  | .dvO => a15
  | .dckO => a16
  | .dcqO => a17
  | .dqS => a18
  | .dkS => a19
  | .dvS => a20
  | .dckS => a21
  | .dcqS => a22

theorem mems_whole (a2 : Memref sig .tc .vmem S512x512 .f32) (h2 : a2.IsWhole) (a3 : Memref sig .tc .vmem S256x512 .f32) (h3 : a3.IsWhole) (a4 : Memref sig .tc .vmem S256x512 .f32) (h4 : a4.IsWhole) (a5 : Memref sig .tc .vmem S512x512 .bf16) (h5 : a5.IsWhole) (a6 : Memref sig .tc .vmem S512x512 .bf16) (h6 : a6.IsWhole) (a7 : Memref sig .tc .vmem S512x256 .bf16) (h7 : a7.IsWhole) (a8 : Memref sig .tc .vmem S512x512 .bf16) (h8 : a8.IsWhole) (a9 : Memref sig .tc .vmem S256x128 .f32) (h9 : a9.IsWhole) (a10 : Memref sig .tc .vmem S1x8x512 .f32) (h10 : a10.IsWhole) (a11 : Memref sig .tc .vmem S1x8x512 .f32) (h11 : a11.IsWhole) (a12 : Memref sig .tc .vmem S1x8x512 .f32) (h12 : a12.IsWhole) (a13 : Memref sig .tc .vmem S2048x512 .bf16) (h13 : a13.IsWhole) (a14 : Memref sig .tc .vmem S256x512 .bf16) (h14 : a14.IsWhole) (a15 : Memref sig .tc .vmem S256x512 .bf16) (h15 : a15.IsWhole) (a16 : Memref sig .tc .vmem S256x128 .f32) (h16 : a16.IsWhole) (a17 : Memref sig .tc .vmem S1x8x2048 .f32) (h17 : a17.IsWhole) (a18 : Memref sig .tc .vmem S8x512x256 .f32) (h18 : a18.IsWhole) (a19 : Memref sig .tc .vmem S256x512 .f32) (h19 : a19.IsWhole) (a20 : Memref sig .tc .vmem S256x512 .f32) (h20 : a20.IsWhole) (a21 : Memref sig .tc .vmem S256x128 .f32) (h21 : a21.IsWhole) (a22 : Memref sig .tc .vmem S8x8x256 .f32) (h22 : a22.IsWhole) :
    ∀ b, (mems a2 a3 a4 a5 a6 a7 a8 a9 a10 a11 a12 a13 a14 a15 a16 a17 a18 a19 a20 a21 a22 b).IsWhole
  | .q => h2
  | .k => h3
  | .v => h4
  | .da => h5
  | .qt => h6
  | .kt => h7
  | .dat => h8
  | .cc => h9
  | .cr => h10
  | .lse => h11
  | .dl => h12
  | .dqO => h13
  | .dkO => h14
  | .dvO => h15
  | .dckO => h16
  | .dcqO => h17
  | .dqS => h18
  | .dkS => h19
  | .dvS => h20
  | .dckS => h21
  | .dcqS => h22

end Cert.KernelIdeal.Fox

end
-- ==== Proof.BodyEq.lean ====
/- The body of the backward kernel as printed is the code's program. -/
module

public import proofs.«01_k».proof.Proof.Block

@[expose] public section

set_option maxRecDepth 16384

noncomputable section

namespace Cert.KernelIdeal.Fox

open Idealize.ShloMosaic Idealize.ShloMosaic.Tactic Idealize.SL.Sem
open Facts₀ Facts

variable {F : FTy → Type} [FloatOps F]

/-- The printed body's first part is the code's program. -/
theorem partA_eq (i : grid0.Coords) (a2 : Memref sig .tc .vmem S512x512 .f32) (h2 : a2.IsWhole) (a3 : Memref sig .tc .vmem S256x512 .f32) (h3 : a3.IsWhole) (a4 : Memref sig .tc .vmem S256x512 .f32) (h4 : a4.IsWhole) (a5 : Memref sig .tc .vmem S512x512 .bf16) (h5 : a5.IsWhole) (a6 : Memref sig .tc .vmem S512x512 .bf16) (h6 : a6.IsWhole) (a7 : Memref sig .tc .vmem S512x256 .bf16) (h7 : a7.IsWhole) (a8 : Memref sig .tc .vmem S512x512 .bf16) (h8 : a8.IsWhole) (a9 : Memref sig .tc .vmem S256x128 .f32) (h9 : a9.IsWhole) (a10 : Memref sig .tc .vmem S1x8x512 .f32) (h10 : a10.IsWhole) (a11 : Memref sig .tc .vmem S1x8x512 .f32) (h11 : a11.IsWhole) (a12 : Memref sig .tc .vmem S1x8x512 .f32) (h12 : a12.IsWhole) (a13 : Memref sig .tc .vmem S2048x512 .bf16) (h13 : a13.IsWhole) (a14 : Memref sig .tc .vmem S256x512 .bf16) (h14 : a14.IsWhole) (a15 : Memref sig .tc .vmem S256x512 .bf16) (h15 : a15.IsWhole) (a16 : Memref sig .tc .vmem S256x128 .f32) (h16 : a16.IsWhole) (a17 : Memref sig .tc .vmem S1x8x2048 .f32) (h17 : a17.IsWhole) (a18 : Memref sig .tc .vmem S8x512x256 .f32) (h18 : a18.IsWhole) (a19 : Memref sig .tc .vmem S256x512 .f32) (h19 : a19.IsWhole) (a20 : Memref sig .tc .vmem S256x512 .f32) (h20 : a20.IsWhole) (a21 : Memref sig .tc .vmem S256x128 .f32) (h21 : a21.IsWhole) (a22 : Memref sig .tc .vmem S8x8x256 .f32) (h22 : a22.IsWhole) :
    (k0_part82 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 >>= fun x => k0_part83 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x.1 x.2.1 x.2.2.1 x.2.2.2.1 x.2.2.2.2.1 x.2.2.2.2.2.1 x.2.2.2.2.2.2.1 x.2.2.2.2.2.2.2.1 x.2.2.2.2.2.2.2.2.1 x.2.2.2.2.2.2.2.2.2)
      = (stepA i).toProg (mems a2 a3 a4 a5 a6 a7 a8 a9 a10 a11 a12 a13 a14 a15 a16 a17 a18 a19 a20 a21 a22) (mems_whole a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) := by
  sl_kernel_rfl

/-- The printed body is the first part's program, then the second's. -/
theorem body_eq (i : grid0.Coords) (a2 : Memref sig .tc .vmem S512x512 .f32) (h2 : a2.IsWhole) (a3 : Memref sig .tc .vmem S256x512 .f32) (h3 : a3.IsWhole) (a4 : Memref sig .tc .vmem S256x512 .f32) (h4 : a4.IsWhole) (a5 : Memref sig .tc .vmem S512x512 .bf16) (h5 : a5.IsWhole) (a6 : Memref sig .tc .vmem S512x512 .bf16) (h6 : a6.IsWhole) (a7 : Memref sig .tc .vmem S512x256 .bf16) (h7 : a7.IsWhole) (a8 : Memref sig .tc .vmem S512x512 .bf16) (h8 : a8.IsWhole) (a9 : Memref sig .tc .vmem S256x128 .f32) (h9 : a9.IsWhole) (a10 : Memref sig .tc .vmem S1x8x512 .f32) (h10 : a10.IsWhole) (a11 : Memref sig .tc .vmem S1x8x512 .f32) (h11 : a11.IsWhole) (a12 : Memref sig .tc .vmem S1x8x512 .f32) (h12 : a12.IsWhole) (a13 : Memref sig .tc .vmem S2048x512 .bf16) (h13 : a13.IsWhole) (a14 : Memref sig .tc .vmem S256x512 .bf16) (h14 : a14.IsWhole) (a15 : Memref sig .tc .vmem S256x512 .bf16) (h15 : a15.IsWhole) (a16 : Memref sig .tc .vmem S256x128 .f32) (h16 : a16.IsWhole) (a17 : Memref sig .tc .vmem S1x8x2048 .f32) (h17 : a17.IsWhole) (a18 : Memref sig .tc .vmem S8x512x256 .f32) (h18 : a18.IsWhole) (a19 : Memref sig .tc .vmem S256x512 .f32) (h19 : a19.IsWhole) (a20 : Memref sig .tc .vmem S256x512 .f32) (h20 : a20.IsWhole) (a21 : Memref sig .tc .vmem S256x128 .f32) (h21 : a21.IsWhole) (a22 : Memref sig .tc .vmem S8x8x256 .f32) (h22 : a22.IsWhole) :
    cc0_fox_bwd (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22
      = ((stepA i).toProg (mems a2 a3 a4 a5 a6 a7 a8 a9 a10 a11 a12 a13 a14 a15 a16 a17 a18 a19 a20 a21 a22) (mems_whole a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) >>= fun _ =>
        (stepB i).toProg (mems a2 a3 a4 a5 a6 a7 a8 a9 a10 a11 a12 a13 a14 a15 a16 a17 a18 a19 a20 a21 a22) (mems_whole a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22)) := by
  rw [← partA_eq i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22]
  sl_kernel_rfl

end Cert.KernelIdeal.Fox

end
-- ==== Proof.Step.lean ====
/- What one grid point does to the buffers: it reads no output buffer, and the outputs it writes are written whole. -/
module

public import proofs.«01_k».proof.Proof.Block
public import Idealize.ShloMosaic.Lib.Pointwise

@[expose] public section

set_option maxRecDepth 16384

noncomputable section

namespace Cert.KernelIdeal.Fox

open Idealize.ShloMosaic Idealize.ShloMosaic.Tactic Idealize.SL.Sem
open Facts₀ Facts

variable {F : FTy → Type} [FloatOps F]

/-- The output buffers. -/
def Bank.out : Bank → Bool
  | .dqO | .dkO | .dvO | .dckO | .dcqO => true
  | _ => false

/-- The scratch buffers. -/
def Bank.scr : Bank → Bool
  | .dqS | .dkS | .dvS | .dckS | .dcqS => true
  | _ => false

theorem out_of_scr {b : Bank} (h : b.scr = true) : b.out = false := by cases b <;> first | rfl | exact Bool.noConfusion h
theorem scr_of_out {b : Bank} (h : b.out = true) : b.scr = false := by cases b <;> first | rfl | exact Bool.noConfusion h

/-- Two contents that differ in output buffers at most. -/
def Agree (X Y : Bank.St F) : Prop := ∀ b : Bank, b.out = false → X b = Y b

/-- Code that reads no output buffer and writes scratch buffers only. -/
structure Keeps {α : Type} (p : Code F α) : Prop where
  runs : ∀ X Y, Agree X Y → (p.run X).1 = (p.run Y).1 ∧ Agree (p.run X).2 (p.run Y).2 ∧ ∀ b : Bank, b.scr = false → (p.run X).2 b = X b

theorem Agree.rfl {X : Bank.St F} : Agree X X := fun _ _ => Eq.refl _
theorem Agree.trans {X Y Z : Bank.St F} (h : Agree X Y) (h' : Agree Y Z) : Agree X Z := fun b hb => (h b hb).trans (h' b hb)
theorem Agree.symm {X Y : Bank.St F} (h : Agree X Y) : Agree Y X := fun b hb => (h b hb).symm

/-- Contents that agree still agree with the same value put in one buffer. -/
theorem Agree.update {X Y : Bank.St F} (h : Agree X Y) (b : Bank) (x : b.shape.Idx → Elt F b.elt) :
    Agree (Function.update X b x) (Function.update Y b x) := fun b' hb' => by
  by_cases e : b' = b
  · subst e; rw [Function.update_self, Function.update_self]
  · rw [Function.update_of_ne e, Function.update_of_ne e, h b' hb']

/-- Contents agree with themselves after a write of an output buffer. -/
theorem Agree.write {X Y : Bank.St F} (h : Agree X Y) (b : Bank) (hb : b.out = true) (x : b.shape.Idx → Elt F b.elt) :
    Agree (Function.update X b x) Y := fun b' hb' => by
  have e : b' ≠ b := by rintro rfl; rw [hb] at hb'; exact Bool.noConfusion hb'
  rw [Function.update_of_ne e, h b' hb']

theorem keeps_ret {α : Type} (a : α) : Keeps (F := F) (.ret a) := ⟨fun _ _ h => ⟨rfl, h, fun _ _ => rfl⟩⟩

theorem keeps_load {α : Type} {b : Bank} {off size inb h} {k : _ → Code F α} (hb : b.out = false) (hk : ∀ x, Keeps (k x)) :
    Keeps (.load b off size inb h k) := by
  refine ⟨fun X Y hXY => ?_⟩
  have e : X b = Y b := hXY b hb
  have := (hk (VecWindow.window (X b) off size inb)).runs X Y hXY
  show ((k (VecWindow.window (X b) off size inb)).run X).1 = ((k (VecWindow.window (Y b) off size inb)).run Y).1 ∧ Agree ((k (VecWindow.window (X b) off size inb)).run X).2 ((k (VecWindow.window (Y b) off size inb)).run Y).2 ∧ _
  rw [← e]
  exact this

theorem keeps_store {α : Type} {b : Bank} {off size inb h w} {k : Code F α} (hb : b.scr = true) (hk : Keeps k) :
    Keeps (.store b off size inb h w k) := by
  refine ⟨fun X Y hXY => ?_⟩
  have e : X b = Y b := hXY b (out_of_scr hb)
  have := hk.runs (Function.update X b (VecWindow.put (X b) off size w)) (Function.update Y b (VecWindow.put (Y b) off size w)) (by
    rw [e]; exact hXY.update b _)
  refine ⟨this.1, this.2.1, fun b' hb' => ?_⟩
  have hne : b' ≠ b := by rintro rfl; rw [hb] at hb'; exact Bool.noConfusion hb'
  exact (this.2.2 b' hb').trans (Function.update_of_ne hne _ _)

theorem keeps_bind {α β : Type} {p : Code F α} {f : α → Code F β} (hp : Keeps p) (hf : ∀ a, Keeps (f a)) : Keeps (p.bind f) := by
  refine ⟨fun X Y hXY => ?_⟩
  rw [Code.run_bind, Code.run_bind]
  have h := hp.runs X Y hXY
  have h' := (hf (p.run X).1).runs _ _ h.2.1
  rw [← h.1]
  exact ⟨h'.1, h'.2.1, fun b hb => (h'.2.2 b hb).trans (h.2.2 b hb)⟩

theorem keeps_cond {α : Type} {p : Prop} {d : Decidable p} {x : p → Code F PUnit} {k : Code F α} (hx : ∀ h, Keeps (x h)) (hk : Keeps k) :
    Keeps (.cond p d x k) := by
  refine ⟨fun X Y hXY => ?_⟩
  show (k.run (@dite _ p d (fun h => ((x h).run X).2) fun _ => X)).1 = (k.run (@dite _ p d (fun h => ((x h).run Y).2) fun _ => Y)).1
    ∧ Agree (k.run (@dite _ p d (fun h => ((x h).run X).2) fun _ => X)).2 (k.run (@dite _ p d (fun h => ((x h).run Y).2) fun _ => Y)).2
    ∧ ∀ b : Bank, b.scr = false → (k.run (@dite _ p d (fun h => ((x h).run X).2) fun _ => X)).2 b = X b
  by_cases hp : p
  · rw [dif_pos hp, dif_pos hp]
    have h := (hx hp).runs X Y hXY
    have h' := hk.runs _ _ h.2.1
    exact ⟨h'.1, h'.2.1, fun b hb => (h'.2.2 b hb).trans (h.2.2 b hb)⟩
  · rw [dif_neg hp, dif_neg hp]
    exact hk.runs X Y hXY

theorem keeps_head (mask sub qi hq p par) (qp : FVec F S256x128 .f32) (kp vp ap dk dv dck) : Keeps (headCode mask sub qi hq p par qp kp vp ap dk dv dck) :=
  keeps_load rfl fun _ => keeps_load rfl fun _ => keeps_load rfl fun _ => keeps_load rfl fun _ => keeps_load rfl fun _ => keeps_load rfl fun _ =>
  keeps_load rfl fun _ => keeps_load rfl fun _ => keeps_load rfl fun _ => keeps_store rfl <| keeps_load rfl fun _ => keeps_load rfl fun _ => keeps_store rfl <|
  keeps_ret _

theorem keeps_pair (mask sub qi hq p) (dck : FVec F S256x128 .f32) : Keeps (pairCode mask sub qi hq p dck) :=
  keeps_load rfl fun _ => keeps_load rfl fun _ => keeps_load rfl fun _ => keeps_load rfl fun _ => keeps_load rfl fun _ => keeps_load rfl fun _ =>
  keeps_bind (keeps_head ..) fun _ => keeps_bind (keeps_head ..) fun _ => keeps_load rfl fun _ => keeps_store rfl <| keeps_load rfl fun _ => keeps_store rfl <|
  keeps_ret _

theorem keeps_tile (mask sub qi hq) : Keeps (F := F) (tileCode mask sub qi hq) :=
  keeps_load rfl fun _ => keeps_bind (keeps_pair ..) fun _ => keeps_bind (keeps_pair ..) fun _ => keeps_bind (keeps_pair ..) fun _ =>
  keeps_bind (keeps_pair ..) fun _ => keeps_load rfl fun _ => keeps_store rfl <| keeps_ret _

theorem keeps_clearQ : Keeps (F := F) clearQ :=
  keeps_load rfl fun _ => keeps_store rfl <| keeps_load rfl fun _ => keeps_store rfl <| keeps_ret _

theorem keeps_clearK : Keeps (F := F) clearK :=
  keeps_load rfl fun _ => keeps_store rfl <| keeps_load rfl fun _ => keeps_store rfl <| keeps_load rfl fun _ => keeps_store rfl <| keeps_ret _

theorem keeps_stepA (i : grid0.Coords) : Keeps (F := F) (stepA i) :=
  keeps_cond (fun _ => keeps_clearQ) <| keeps_cond (fun _ => keeps_clearK) <| keeps_cond (fun _ => keeps_tile ..) <|
  keeps_cond (fun _ => keeps_tile ..) <| keeps_cond (fun _ => keeps_tile ..) <| keeps_ret _

/-! ## Whole windows -/

theorem put_full {s : Shape} {α : Type} (x : s.Idx → α) (off : Fin s.rank → ℕ) (h0 : ∀ a, off a = 0) (w : ((a : Fin s.rank) → Fin (s.size a)) → α) :
    VecWindow.put x off s.size w = w := by
  funext y
  have h : ∀ a, off a ≤ (y a).val ∧ (y a).val < off a + s.size a := fun a => by rw [h0]; have := (y a).isLt; omega
  unfold VecWindow.put
  rw [dif_pos h]
  exact congrArg w (funext fun a => Fin.ext (by show (y a).val - off a = (y a).val; rw [h0]; omega))

theorem window_full {s : Shape} {α : Type} (x : s.Idx → α) (off : Fin s.rank → ℕ) (h0 : ∀ a, off a = 0) (inb : ∀ a, off a + s.size a ≤ s.size a) :
    VecWindow.window x off s.size inb = x :=
  funext fun y => congrArg x (Rect.emb_unit_full inb y)

theorem zero2 : ∀ a, (![0, 0] : Fin 2 → ℕ) a = 0 := by decide
theorem zero3 : ∀ a, (![0, 0, 0] : Fin 3 → ℕ) a = 0 := by decide

/-! ## The cleared accumulators -/

/-- Zeros over a shape. -/
def zeros (s : Shape) : FVec F s .f32 := fun _ => Scalar.ofBits (F := F) .f32 0x00000000#32

theorem clearQ_run (X : Bank.St F) : (clearQ.run X).2 = Function.update (Function.update X .dqS (zeros S8x512x256)) .dcqS (zeros S8x8x256) := by
  have e1 : ∀ x : Bank.shape .dqS |>.Idx → Elt F (Bank.elt .dqS), VecWindow.put x ![0, 0, 0] S8x512x256.size
      (shapeCast S8x512x256 (broadcast S8x512x256 (Scalar.ofBits (F := F) .f32 0x00000000#32) : FVec F S8x512x256 .f32) shapeCasts_S8x512x256_S8x512x256) = zeros S8x512x256 :=
    fun x => put_full (s := S8x512x256) x _ zero3 _
  have e2 : ∀ x : Bank.shape .dcqS |>.Idx → Elt F (Bank.elt .dcqS), VecWindow.put x ![0, 0, 0] S8x8x256.size
      (shapeCast S8x8x256 (broadcast S8x8x256 (Scalar.ofBits (F := F) .f32 0x00000000#32) : FVec F S8x8x256 .f32) shapeCasts_S8x8x256_S8x8x256) = zeros S8x8x256 :=
    fun x => put_full (s := S8x8x256) x _ zero3 _
  show Function.update (Function.update X .dqS (VecWindow.put _ _ _ _)) .dcqS (VecWindow.put _ _ _ _) = _
  rw [e1, e2]

theorem clearK_run (X : Bank.St F) : (clearK.run X).2
    = Function.update (Function.update (Function.update X .dkS (zeros S256x512)) .dvS (zeros S256x512)) .dckS (zeros S256x128) := by
  have e1 : ∀ x : S256x512.Idx → Elt F .f32, VecWindow.put x ![0, 0] S256x512.size
      (shapeCast S256x512 (broadcast S256x512 (Scalar.ofBits (F := F) .f32 0x00000000#32) : FVec F S256x512 .f32) shapeCasts_S256x512_S256x512) = zeros S256x512 :=
    fun x => put_full (s := S256x512) x _ zero2 _
  have e2 : ∀ x : S256x128.Idx → Elt F .f32, VecWindow.put x ![0, 0] S256x128.size
      (shapeCast S256x128 (broadcast S256x128 (Scalar.ofBits (F := F) .f32 0x00000000#32) : FVec F S256x128 .f32) shapeCasts_S256x128_S256x128) = zeros S256x128 :=
    fun x => put_full (s := S256x128) x _ zero2 _
  show Function.update (Function.update (Function.update X .dkS (VecWindow.put _ _ _ _)) .dvS (VecWindow.put _ _ _ _)) .dckS (VecWindow.put _ _ _ _) = _
  exact congr (congrArg (fun Z W => Function.update Z Bank.dckS W) (congr (congrArg (fun Z W => Function.update Z Bank.dvS W) (congrArg (fun W => Function.update X Bank.dkS W) (e1 _))) (e1 _))) (e2 _)

/-! ## The results written out -/

theorem outK_run (X : Bank.St F) : (outK.run X).2
    = Function.update (Function.update (Function.update X .dkO (truncf .bf16 (X .dkS : FVec F S256x512 .f32) bitsLt_bf16_f32))
        .dvO (truncf .bf16 (X .dvS : FVec F S256x512 .f32) bitsLt_bf16_f32)) .dckO (X .dckS) := by
  show Function.update (Function.update (Function.update X .dkO (VecWindow.put _ _ _ _)) .dvO (VecWindow.put _ _ _ _)) .dckO (VecWindow.put _ _ _ _) = _
  refine congr (congrArg (fun Z W => Function.update Z Bank.dckO W) (congr (congrArg (fun Z W => Function.update Z Bank.dvO W) (congrArg (fun W => Function.update X Bank.dkO W) ?_)) ?_)) ?_
  · exact (put_full (s := S256x512) _ _ zero2 _).trans (congrArg (fun z => truncf .bf16 (z : FVec F S256x512 .f32) bitsLt_bf16_f32) (window_full (s := S256x512) (X .dkS) _ zero2 _))
  · exact (put_full (s := S256x512) _ _ zero2 _).trans (congrArg (fun z => truncf .bf16 (z : FVec F S256x512 .f32) bitsLt_bf16_f32) (window_full (s := S256x512) (X .dvS) _ zero2 _))
  · exact (put_full (s := S256x128) _ _ zero2 _).trans (window_full (s := S256x128) (X .dckS) _ zero2 _)

/-- The query gradient's block in the batch, from all the accumulators. -/
def fullDq (x : S8x512x256.Idx → Elt F .f32) : S2048x512.Idx → Elt F .bf16 := fun y =>
  outTile (VecWindow.window x ![(y 0).val / 256, 0, 0] S1x512x256.size (in_dqS ⟨(y 0).val / 256, by have : (y 0).val < 2048 := (y 0).isLt; omega⟩))
    (ix2 ⟨(y 0).val % 256, by omega⟩ ⟨(y 1).val, (y 1).isLt⟩)

/-- The gradient of the queries' decays in the batch, from all the accumulators. -/
def fullDcq (x : S8x8x256.Idx → Elt F .f32) : S1x8x2048.Idx → Elt F .f32 := fun y =>
  x (ix3 ⟨(y 2).val / 256, by have : (y 2).val < 2048 := (y 2).isLt; omega⟩ ⟨(y 1).val, (y 1).isLt⟩ ⟨(y 2).val % 256, by omega⟩)

/-- Query blocks written out one after another. -/
def outs : List (Fin 8) → Code F PUnit
  | [] => .ret ⟨⟩
  | j :: l => (outQ j).bind fun _ => outs l

theorem outs_run (l : List (Fin 8)) (X : Bank.St F) :
    (∀ b : Bank, b ≠ .dqO → b ≠ .dcqO → ((outs l).run X).2 b = X b)
    ∧ (∀ y : S2048x512.Idx, ((outs l).run X).2 .dqO y = if ∃ j ∈ l, (y 0).val / 256 = j.val then fullDq (X .dqS) y else X .dqO y)
    ∧ (∀ y : S1x8x2048.Idx, ((outs l).run X).2 .dcqO y = if ∃ j ∈ l, (y 2).val / 256 = j.val then fullDcq (X .dcqS) y else X .dcqO y) := by
  induction l generalizing X with
  | nil => exact ⟨fun _ _ _ => rfl, fun y => by rw [if_neg (by simp)]; rfl, fun y => by rw [if_neg (by simp)]; rfl⟩
  | cons j l ih =>
    have e : ((outs (j :: l)).run X).2 = ((outs l).run ((outQ j).run X).2).2 := by
      show (((outQ j).bind fun _ => outs l).run X).2 = _
      rw [Code.run_bind]
    have hX : ((outQ j).run X).2 = Function.update (Function.update X .dqO (VecWindow.put (X .dqO) ![256 * j.val, 0] S256x512.size (outTile (VecWindow.window (X .dqS) ![j.val, 0, 0] S1x512x256.size (in_dqS j))))) .dcqO
        (VecWindow.put (X .dcqO) ![0, 0, 256 * j.val] S1x8x256.size (shapeCast S1x8x256 (shapeCast S8x256 (VecWindow.window (X .dcqS) ![j.val, 0, 0] S1x8x256.size (in_dcqS j) : Vec F S1x8x256 .f32) shapeCasts_S1x8x256_S8x256) shapeCasts_S8x256_S1x8x256)) := rfl
    obtain ⟨h1, h2, h3⟩ := ih ((outQ j).run X).2
    rw [e]
    refine ⟨fun b hb hb' => ?_, fun y => ?_, fun y => ?_⟩
    · rw [h1 b hb hb', hX, Function.update_of_ne hb', Function.update_of_ne hb]
    · rw [h2 y, hX, Function.update_of_ne (by decide), Function.update_of_ne (by decide), Function.update_of_ne (by decide), Function.update_self]
      by_cases hl : ∃ k ∈ l, (y 0).val / 256 = k.val
      · rw [if_pos hl, if_pos (hl.imp fun k hk => ⟨List.mem_cons_of_mem _ hk.1, hk.2⟩)]
      · rw [if_neg hl]
        have h0 : (y 0).val < 2048 := (y 0).isLt
        have h1 : (y 1).val < 512 := (y 1).isLt
        by_cases hj : (y 0).val / 256 = j.val
        · rw [if_pos ⟨j, List.mem_cons_self, hj⟩]
          have hin : ∀ a, (![256 * j.val, 0] : Fin 2 → ℕ) a ≤ (y a).val ∧ (y a).val < (![256 * j.val, 0] : Fin 2 → ℕ) a + S256x512.size a :=
            Fin.forall_fin_two.mpr ⟨show 256 * j.val ≤ (y 0).val ∧ (y 0).val < 256 * j.val + 256 by omega, show 0 ≤ (y 1).val ∧ (y 1).val < 0 + 512 by omega⟩
          unfold VecWindow.put
          rw [dif_pos hin]
          unfold fullDq
          have hout : ∀ (n : ℕ) (hn : n < 8), n = j.val → ∀ z, outTile (VecWindow.window (X .dqS) ![n, 0, 0] S1x512x256.size (in_dqS ⟨n, hn⟩)) z
              = outTile (VecWindow.window (X .dqS) ![j.val, 0, 0] S1x512x256.size (in_dqS j)) z := by
            rintro _ _ rfl z; rfl
          rw [hout _ (by omega) hj]
          refine congrArg _ (funext (Fin.forall_fin_two.mpr ⟨Fin.ext ?_, Fin.ext ?_⟩))
          · show (y 0).val - 256 * j.val = (y 0).val % 256; omega
          · show (y 1).val - 0 = (y 1).val; omega
        · rw [if_neg (by rintro ⟨k, hk, hk'⟩; rcases List.mem_cons.mp hk with rfl | hk; exacts [hj hk', hl ⟨k, hk, hk'⟩])]
          unfold VecWindow.put
          rw [dif_neg fun hall => ?_]
          have : 256 * j.val ≤ (y 0).val ∧ (y 0).val < 256 * j.val + 256 := hall 0
          omega
    · rw [h3 y, hX, Function.update_self, Function.update_of_ne (by decide), Function.update_of_ne (by decide)]
      by_cases hl : ∃ k ∈ l, (y 2).val / 256 = k.val
      · rw [if_pos hl, if_pos (hl.imp fun k hk => ⟨List.mem_cons_of_mem _ hk.1, hk.2⟩)]
      · rw [if_neg hl]
        have h0 : (y 2).val < 2048 := (y 2).isLt
        have h1 : (y 1).val < 8 := (y 1).isLt
        have h00 : (y 0).val < 1 := (y 0).isLt
        by_cases hj : (y 2).val / 256 = j.val
        · rw [if_pos ⟨j, List.mem_cons_self, hj⟩]
          have hin : ∀ a, (![0, 0, 256 * j.val] : Fin 3 → ℕ) a ≤ (y a).val ∧ (y a).val < (![0, 0, 256 * j.val] : Fin 3 → ℕ) a + S1x8x256.size a :=
            Fin.forall_fin_succ.mpr ⟨show 0 ≤ (y 0).val ∧ (y 0).val < 0 + 1 by omega, Fin.forall_fin_two.mpr ⟨show 0 ≤ (y 1).val ∧ (y 1).val < 0 + 8 by omega,
              show 256 * j.val ≤ (y 2).val ∧ (y 2).val < 256 * j.val + 256 by omega⟩⟩
          unfold VecWindow.put
          rw [dif_pos hin]
          unfold fullDcq
          have eS : ∀ (w : Vec F S1x8x256 .f32), shapeCast S1x8x256 (shapeCast S8x256 w shapeCasts_S1x8x256_S8x256) shapeCasts_S8x256_S1x8x256 = w := fun w => by
            funext z
            idx_vars z
            pointwise
          rw [eS]
          show X .dcqS _ = X .dcqS _
          refine congrArg _ (funext (Fin.forall_fin_succ.mpr ⟨Fin.ext ?_, Fin.forall_fin_two.mpr ⟨Fin.ext ?_, Fin.ext ?_⟩⟩))
          · show j.val + 1 * ((y 0).val - 0) = (y 2).val / 256; omega
          · show 0 + 1 * ((y 1).val - 0) = (y 1).val; omega
          · show 0 + 1 * ((y 2).val - 256 * j.val) = (y 2).val % 256; omega
        · rw [if_neg (by rintro ⟨k, hk, hk'⟩; rcases List.mem_cons.mp hk with rfl | hk; exacts [hj hk', hl ⟨k, hk, hk'⟩])]
          unfold VecWindow.put
          rw [dif_neg fun hall => ?_]
          have : 256 * j.val ≤ (y 2).val ∧ (y 2).val < 256 * j.val + 256 := hall 2
          omega

/-- All the query blocks. -/
abbrev allQ : List (Fin 8) := [0, 1, 2, 3, 4, 5, 6, 7]

theorem mem_allQ (n : ℕ) (h : n < 8) : ∃ j ∈ allQ, n = j.val := ⟨⟨n, h⟩, by revert n; decide, rfl⟩

/-! ## A grid point -/

theorem run_cond {α : Type} (p : Prop) (d : Decidable p) (x : p → Code F PUnit) (k : Code F α) (X : Bank.St F) :
    (Code.cond p d x k).run X = k.run (@dite _ p d (fun h => ((x h).run X).2) fun _ => X) := rfl

theorem run_ret {α : Type} (a : α) (X : Bank.St F) : (Code.ret a).run X = (a, X) := rfl

theorem outs_chain (X : Bank.St F) : (((outQ 0).bind fun _ => (outQ 1).bind fun _ => (outQ 2).bind fun _ => (outQ 3).bind fun _ =>
    (outQ 4).bind fun _ => (outQ 5).bind fun _ => (outQ 6).bind fun _ => outQ 7).run X).2 = ((outs allQ).run X).2 := by
  simp only [outs, Code.run_bind, run_ret]

/-- The last tile of a point, where its condition holds. -/
def lastTile (i : grid0.Coords) : Code F PUnit :=
  .cond (k0_cond6 i = 1#1) inferInstance (fun h => tileCode true false (k0_off49 i 0) (k0_off49_inb i h 0)) (.ret ⟨⟩)

theorem keeps_lastTile (i : grid0.Coords) : Keeps (F := F) (lastTile i) := keeps_cond (fun _ => keeps_tile ..) (keeps_ret _)

/-- The contents after the point's tiles. -/
def tiles (i : grid0.Coords) (X : Bank.St F) : Bank.St F := ((lastTile i).run ((stepA i).run X).2).2

/-- The contents after the key results are written, where they are. -/
def tilesK (i : grid0.Coords) (X : Bank.St F) : Bank.St F := if k0_cond7 i = 1#1 then (outK.run (tiles i X)).2 else tiles i X

/-- The contents after the point. -/
def point (i : grid0.Coords) (X : Bank.St F) : Bank.St F := ((stepB i).run ((stepA i).run X).2).2

theorem point_eq (i : grid0.Coords) (X : Bank.St F) : point i X
    = if k0_cond8 i = 1#1 then ((outs allQ).run (tilesK i X)).2 else tilesK i X := by
  unfold point stepB
  rw [run_cond, run_cond, run_cond]
  have e : (@dite _ (k0_cond6 i = 1#1) inferInstance (fun h => ((tileCode true false (k0_off49 i 0) (k0_off49_inb i h 0)).run ((stepA i).run X).2).2) fun _ => ((stepA i).run X).2) = tiles i X := by
    unfold tiles lastTile
    rw [run_cond, run_ret]
  rw [e]
  rw [run_ret]
  simp only [outs_chain]
  by_cases h8 : k0_cond8 i = 1#1
  · rw [dif_pos h8, if_pos h8]
    unfold tilesK
    by_cases h7 : k0_cond7 i = 1#1
    · rw [dif_pos h7, if_pos h7]
    · rw [dif_neg h7, if_neg h7]
  · rw [dif_neg h8, if_neg h8]
    unfold tilesK
    by_cases h7 : k0_cond7 i = 1#1
    · rw [dif_pos h7, if_pos h7]
    · rw [dif_neg h7, if_neg h7]

/-- The tiles read no output buffer and write none. -/
theorem tiles_keeps (i : grid0.Coords) {X Y : Bank.St F} (h : Agree X Y) :
    Agree (tiles i X) (tiles i Y) ∧ ∀ b : Bank, b.scr = false → tiles i X b = X b := by
  have hA := (keeps_stepA i).runs X Y h
  have hT := (keeps_lastTile i).runs _ _ hA.2.1
  exact ⟨hT.2.1, fun b hb => (hT.2.2 b hb).trans (hA.2.2 b hb)⟩

theorem outK_agree (X : Bank.St F) : Agree (outK.run X).2 X := by
  rw [outK_run]
  exact ((Agree.rfl.write .dkO rfl _).write .dvO rfl _).write .dckO rfl _

theorem outs_agree (l : List (Fin 8)) (X : Bank.St F) : Agree ((outs l).run X).2 X := fun b hb =>
  (outs_run l X).1 b (by rintro rfl; exact Bool.noConfusion hb) (by rintro rfl; exact Bool.noConfusion hb)

/-- The point leaves every buffer but the outputs as the tiles do. -/
theorem point_agree (i : grid0.Coords) (X : Bank.St F) : Agree (point i X) (tiles i X) := by
  rw [point_eq]
  unfold tilesK
  by_cases h8 : k0_cond8 i = 1#1 <;> by_cases h7 : k0_cond7 i = 1#1
  · rw [if_pos h8, if_pos h7]; exact (outs_agree _ _).trans (outK_agree _)
  · rw [if_pos h8, if_neg h7]; exact outs_agree _ _
  · rw [if_neg h8, if_pos h7]; exact outK_agree _
  · rw [if_neg h8, if_neg h7]; exact Agree.rfl

/-- The point changes no input buffer. -/
theorem point_in (i : grid0.Coords) (X : Bank.St F) (b : Bank) (ho : b.out = false) (hs : b.scr = false) : point i X b = X b :=
  (point_agree i X b ho).trans ((tiles_keeps i (Agree.rfl (X := X))).2 b hs)

/-- A key output is written whole where the point writes it, and kept elsewhere. -/
theorem point_outK (i : grid0.Coords) (X : Bank.St F) :
    point i X .dkO = (if k0_cond7 i = 1#1 then truncf .bf16 (tiles i X .dkS : FVec F S256x512 .f32) bitsLt_bf16_f32 else X .dkO)
    ∧ point i X .dvO = (if k0_cond7 i = 1#1 then truncf .bf16 (tiles i X .dvS : FVec F S256x512 .f32) bitsLt_bf16_f32 else X .dvO)
    ∧ point i X .dckO = (if k0_cond7 i = 1#1 then tiles i X .dckS else X .dckO) := by
  have hT := (tiles_keeps i (Agree.rfl (X := X))).2
  have h : ∀ b : Bank, b ≠ .dqO → b ≠ .dcqO → point i X b = tilesK i X b := fun b hb hb' => by
    rw [point_eq]
    by_cases h8 : k0_cond8 i = 1#1
    · rw [if_pos h8]; exact (outs_run _ _).1 b hb hb'
    · rw [if_neg h8]
  rw [h _ (by decide) (by decide), h _ (by decide) (by decide), h _ (by decide) (by decide)]
  unfold tilesK
  by_cases h7 : k0_cond7 i = 1#1
  · rw [if_pos h7, if_pos h7, if_pos h7, if_pos h7, outK_run]
    exact ⟨rfl, rfl, rfl⟩
  · rw [if_neg h7, if_neg h7, if_neg h7, if_neg h7]
    exact ⟨hT _ rfl, hT _ rfl, hT _ rfl⟩

/-- A query output is written whole where the point writes it, and kept elsewhere. -/
theorem point_outQ (i : grid0.Coords) (X : Bank.St F) :
    point i X .dqO = (if k0_cond8 i = 1#1 then fullDq (tiles i X .dqS) else X .dqO)
    ∧ point i X .dcqO = (if k0_cond8 i = 1#1 then fullDcq (tiles i X .dcqS) else X .dcqO) := by
  have hT := (tiles_keeps i (Agree.rfl (X := X))).2
  have hK : ∀ b : Bank, b ≠ .dkO → b ≠ .dvO → b ≠ .dckO → tilesK i X b = tiles i X b := fun b h1 h2 h3 => by
    unfold tilesK
    by_cases h7 : k0_cond7 i = 1#1
    · rw [if_pos h7, outK_run, Function.update_of_ne h3, Function.update_of_ne h2, Function.update_of_ne h1]
    · rw [if_neg h7]
  rw [point_eq]
  by_cases h8 : k0_cond8 i = 1#1
  · rw [if_pos h8, if_pos h8, if_pos h8]
    refine ⟨funext fun y => ?_, funext fun y => ?_⟩
    · have h0 : (y 0).val < 2048 := (y 0).isLt
      rw [(outs_run _ _).2.1 y, if_pos (mem_allQ _ (by omega)), hK _ (by decide) (by decide) (by decide)]
    · have h0 : (y 2).val < 2048 := (y 2).isLt
      rw [(outs_run _ _).2.2 y, if_pos (mem_allQ _ (by omega)), hK _ (by decide) (by decide) (by decide)]
  · rw [if_neg h8, if_neg h8, if_neg h8, hK _ (by decide) (by decide) (by decide), hK _ (by decide) (by decide) (by decide)]
    exact ⟨hT _ rfl, hT _ rfl⟩

end Cert.KernelIdeal.Fox

end
-- ==== Proof.Launch.lean ====
/- The launch: every grid point takes the buffers from their contents before it to those after it. -/
module

public import proofs.«01_k».proof.Proof.BodyEq
public import proofs.«01_k».proof.Proof.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of point `t` over contents `X`. -/
def ins (c : Dev nD) (t : Fin cfg0.N) (X : Bank.St F) : Bank.St F
  | .q => Gen.iblk m c 0 t
  | .k => Gen.iblk m c 1 t
  | .v => Gen.iblk m c 2 t
  | .da => Gen.iblk m c 3 t
  | .qt => Gen.iblk m c 4 t
  | .kt => Gen.iblk m c 5 t
  | .dat => Gen.iblk m c 6 t
  | .cc => Gen.iblk m c 7 t
  | .cr => Gen.iblk m c 8 t
  | .lse => Gen.iblk m c 9 t
  | .dl => Gen.iblk m c 10 t
  | .dqO => X .dqO
  | .dkO => X .dkO
  | .dvO => X .dvO
  | .dckO => X .dckO
  | .dcqO => X .dcqO
  | .dqS => X .dqS
  | .dkS => X .dkS
  | .dvS => X .dvS
  | .dckS => X .dckS
  | .dcqS => X .dcqS

/-- Contents nothing depends on. -/
def blank : Bank.St F := fun _ _ => Classical.arbitrary _

/-- The buffers' contents before each point: the outputs and the scratch as the points before left them. -/
def traj (c : Dev nD) : ℕ → Bank.St F
  | 0 => blank
  | n + 1 => if h : n < cfg0.N then point (grid0.coords ⟨n, h⟩) (ins m c ⟨n, h⟩ (traj c n)) else traj c n

/-- The contents after a point. -/
def next (c : Dev nD) (t : Fin cfg0.N) : Bank.St F := point (grid0.coords t) (ins m c t (traj m c t.val))

theorem traj_succ (c : Dev nD) (t : Fin cfg0.N) : traj m c (t.val + 1) = next m c t := by
  rw [traj, dif_pos t.isLt]; rfl

/-- The scratch buffers, held at contents `X`. -/
def scratch (c : Dev nD) (X : Bank.St F) : sProp 𝕄 :=
  iprop(owns c (Memref.whole cc0_scratch0) fullShare (X .dqS) ∗ owns c (Memref.whole cc0_scratch1) fullShare (X .dkS) ∗ owns c (Memref.whole cc0_scratch2) fullShare (X .dvS) ∗ owns c (Memref.whole cc0_scratch3) fullShare (X .dckS) ∗ owns c (Memref.whole cc0_scratch4) fullShare (X .dcqS))

/-- Before the first point the scratch holds anything, before a later one what the points before left. -/
def inv (c : Dev nD) (n : ℕ) : sProp 𝕄 :=
  iprop((∃ X : Bank.St F, ⌜n ≠ 0 → ∀ b : Bank, b ∈ [Bank.dqS, Bank.dkS, Bank.dvS, Bank.dckS, Bank.dcqS] → X b = traj m c n b⌝ ∗ scratch c X) ∗ ∃ r, prngReg c r)

/-- The launch's proof data. -/
def dats (p : Fin 1) (c : Dev nD) : Dat τ (Elt F) Unit ℕ (UR sig nD τ) ℕ (cfgs p) c where
  A w := Gen.V m c (Pipeline.arrRef spec0 w)
  after
    | 0 => fun t => Gen.iblk m c 0 t
    | 1 => fun t => Gen.iblk m c 1 t
    | 2 => fun t => Gen.iblk m c 2 t
    | 3 => fun t => Gen.iblk m c 3 t
    | 4 => fun t => Gen.iblk m c 4 t
    | 5 => fun t => Gen.iblk m c 5 t
    | 6 => fun t => Gen.iblk m c 6 t
    | 7 => fun t => Gen.iblk m c 7 t
    | 8 => fun t => Gen.iblk m c 8 t
    | 9 => fun t => Gen.iblk m c 9 t
    | 10 => fun t => Gen.iblk m c 10 t
    | 11 => fun t => next m c t .dqO
    | 12 => fun t => next m c t .dkO
    | 13 => fun t => next m c t .dvO
    | 14 => fun t => next m c t .dckO
    | 15 => fun t => next m c t .dcqO
    | ⟨_ + 16, h⟩ => absurd h (Nat.not_lt.2 (Nat.le_add_left _ _))
  Φ t := inv m c t.val
  q := Pipeline.shareOf spec0
  owed _ := 0

/-- All the buffers held, one by one. -/
theorem holds_eq (c : Dev nD) (M : Bank.Mems) (X : Bank.St F) : (Code.holds c M X : sProp 𝕄)
    = iprop(owns c (M .q) fullShare (X .q) ∗ owns c (M .k) fullShare (X .k) ∗ owns c (M .v) fullShare (X .v) ∗ owns c (M .da) fullShare (X .da) ∗ owns c (M .qt) fullShare (X .qt) ∗ owns c (M .kt) fullShare (X .kt) ∗ owns c (M .dat) fullShare (X .dat) ∗ owns c (M .cc) fullShare (X .cc) ∗ owns c (M .cr) fullShare (X .cr) ∗ owns c (M .lse) fullShare (X .lse) ∗ owns c (M .dl) fullShare (X .dl) ∗ owns c (M .dqO) fullShare (X .dqO) ∗ owns c (M .dkO) fullShare (X .dkO) ∗ owns c (M .dvO) fullShare (X .dvO) ∗ owns c (M .dckO) fullShare (X .dckO) ∗ owns c (M .dcqO) fullShare (X .dcqO) ∗ owns c (M .dqS) fullShare (X .dqS) ∗ owns c (M .dkS) fullShare (X .dkS) ∗ owns c (M .dvS) fullShare (X .dvS) ∗ owns c (M .dckS) fullShare (X .dckS) ∗ owns c (M .dcqS) fullShare (X .dcqS)) :=
  bigSep_univ_eq_bigSepL Bank.all (by decide) (by decide) _

/-- The body takes the buffers from `X` to the point's contents after it. -/
theorem body_wp (c : Dev nD) {defs : Defs nD τ sig (Elt F) Λ₀} (𝒱 : Variants) (t : Fin cfg0.N) (X : Bank.St F) (Q : PUnit → sProp 𝕄) :
    iprop(Code.holds c (mems (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (Memref.whole cc0_scratch0) (Memref.whole cc0_scratch1) (Memref.whole cc0_scratch2) (Memref.whole cc0_scratch3) (Memref.whole cc0_scratch4)) X
        ∗ (Code.holds c (mems (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (Memref.whole cc0_scratch0) (Memref.whole cc0_scratch1) (Memref.whole cc0_scratch2) (Memref.whole cc0_scratch3) (Memref.whole cc0_scratch4)) (point (grid0.coords t) X) -∗ Q ⟨⟩))
      ⊢ wp frame (wpE defs 𝒱 c none) Set.univ (Gen.bodyAt0 t) Q := by
  rw [show Gen.bodyAt0 t = _ from body_eq (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _), wp_bind]
  refine BIBase.Entails.trans ?_ (Code.triple c 𝒱 _ _ (stepA (grid0.coords t)) X _)
  iintro ⟨H, K⟩
  isplitl [H]; · iexact H
  iintro H
  iapply (Code.triple c 𝒱 _ _ (stepB (grid0.coords t)) _ Q)
  isplitl [H]; · iexact H
  iexact K

/-- What the first point's clearing leaves: contents that agree on the inputs then agree on everything but the outputs. -/
theorem tiles_first (i : grid0.Coords) (h1 : eqWord (BitVec.ofNat 32 (i 1).val) 0#32 = 1#1) (h2 : eqWord (rowWord i) 3#32 = 1#1)
    {X Y : Bank.St F} (h : ∀ b : Bank, b ∈ [Bank.q, Bank.k, Bank.v, Bank.da, Bank.qt, Bank.kt, Bank.dat, Bank.cc, Bank.cr, Bank.lse, Bank.dl] → X b = Y b) : Agree (tiles i X) (tiles i Y) := by
  have hc : Agree (clearK.run (clearQ.run X).2).2 (clearK.run (clearQ.run Y).2).2 := fun b hb => by
    rw [clearK_run, clearK_run, clearQ_run, clearQ_run]
    cases b
    case dqO | dkO | dvO | dckO | dcqO => exact Bool.noConfusion hb
    case dqS | dkS | dvS | dckS | dcqS => rfl
    all_goals exact h _ (by decide)
  have hA : ∀ Z : Bank.St F, ((stepA i).run Z).2 = ((Code.cond (k0_cond3 i = 1#1) inferInstance (fun h => tileCode false true (k0_off1 i 0) (k0_off1_inb i h 0)) <|
      .cond (k0_cond4 i = 1#1) inferInstance (fun h => tileCode true true (k0_off17 i 0) (k0_off17_inb i h 0)) <|
      .cond (k0_cond5 i = 1#1) inferInstance (fun h => tileCode false false (k0_off33 i 0) (k0_off33_inb i h 0)) <|
      .ret (⟨keyWord i, rowWord i, Scalar.muli (rowWord i) 2#32⟩ : Σ' (_ : BitVec 32) (_ : BitVec 32), BitVec 32)).run (clearK.run (clearQ.run Z).2).2).2 := fun Z => by
    unfold stepA
    rw [run_cond, run_cond, dif_pos h1, dif_pos h2]
  unfold tiles
  rw [hA X, hA Y]
  refine ((keeps_lastTile i).runs _ _ ?_).2.1
  exact ((keeps_cond (fun _ => keeps_tile ..) <| keeps_cond (fun _ => keeps_tile ..) <| keeps_cond (fun _ => keeps_tile ..) <| keeps_ret _).runs _ _ hc).2.1

theorem first_conds : ∀ t : Fin cfg0.N, t.val = 0 → eqWord (BitVec.ofNat 32 ((grid0.coords t) 1).val) 0#32 = 1#1 ∧ eqWord (rowWord (grid0.coords t)) 3#32 = 1#1 :=
  (by decide +kernel : ∀ t : Fin grid0.N, t.val = 0 → eqWord (BitVec.ofNat 32 ((grid0.coords t) 1).val) 0#32 = 1#1 ∧ eqWord (rowWord (grid0.coords t)) 3#32 = 1#1)

theorem idle_q : ∀ t : Fin cfg0.N, k0_cond8 (grid0.coords t) ≠ 1#1 → win0_11.flush t = false ∧ win0_15.flush t = false :=
  (by decide +kernel : ∀ t : Fin grid0.N, k0_cond8 (grid0.coords t) ≠ 1#1 → win0_11.flush t = false ∧ win0_15.flush t = false)

theorem idle_k : ∀ t : Fin cfg0.N, k0_cond7 (grid0.coords t) ≠ 1#1 → win0_12.flush t = false ∧ win0_13.flush t = false ∧ win0_14.flush t = false :=
  (by decide +kernel : ∀ t : Fin grid0.N, k0_cond7 (grid0.coords t) ≠ 1#1 → win0_12.flush t = false ∧ win0_13.flush t = false ∧ win0_14.flush t = false)

/-- A window not idle at a point leaves what the data says. -/
theorem leave_live {c : Dev nD} (dat : Dat τ (Elt F) Unit ℕ (UR sig nD τ) ℕ cfg0 c) (w : Fin cfg0.W) (t : Fin cfg0.N) (h : cfg0.idle w (cfg0.grid.coords t) = false) :
    (owns c ((cfg0.win w).stage (cfg0.slots t w)) fullShare (dat.after w t) : sProp 𝕄) ⊢ dat.leavesExact w t := by
  unfold Dat.leavesExact; rw [h]

/-- A window idle at a point that writes nothing back leaves what it held. -/
theorem leave_idle {c : Dev nD} (dat : Dat τ (Elt F) Unit ℕ (UR sig nD τ) ℕ cfg0 c) (w : Fin cfg0.W) (t : Fin cfg0.N) (d) (h : cfg0.idle w (cfg0.grid.coords t) = true)
    (hf : (cfg0.win w).flush t = false) :
    (owns c ((cfg0.win w).stage (cfg0.slots t w)) fullShare (dat.before w t d) : sProp 𝕄) ⊢ dat.leavesExact w t := by
  rw [dat.leavesExact_idle w t h hf]; iintro H; iexists d; iexact H

/-- The contents handed to the body: the inputs' blocks, the outputs `O` and the scratch `Z`. -/
def entry (c : Dev nD) (t : Fin cfg0.N) (O Z : Bank.St F) : Bank.St F := ins m c t fun b => bif b.out then O b else Z b

/-- Outside the outputs the point leaves what the data says. -/
theorem next_agree (c : Dev nD) (t : Fin cfg0.N) (O Z : Bank.St F) (hZ : t.val ≠ 0 → ∀ b : Bank, b ∈ [Bank.dqS, Bank.dkS, Bank.dvS, Bank.dckS, Bank.dcqS] → Z b = traj m c t.val b) :
    Agree (tiles (grid0.coords t) (entry m c t O Z)) (tiles (grid0.coords t) (ins m c t (traj m c t.val))) := by
  by_cases h0 : t.val = 0
  · exact tiles_first _ (first_conds t h0).1 (first_conds t h0).2 fun b hb => by
      simp only [List.mem_cons, List.not_mem_nil, or_false] at hb
      rcases hb with rfl | rfl | rfl | rfl | rfl | rfl | rfl | rfl | rfl | rfl | rfl <;> rfl
  · refine (tiles_keeps _ fun b hb => ?_).1
    cases b
    case dqO | dkO | dvO | dckO | dcqO => exact Bool.noConfusion hb
    case dqS | dkS | dvS | dckS | dcqS => exact hZ h0 _ (by decide)
    all_goals rfl

theorem leave_k0 (c : Dev nD) (t : Fin cfg0.N) (O Z : Bank.St F) (hZ : t.val ≠ 0 → ∀ b : Bank, b ∈ [Bank.dqS, Bank.dkS, Bank.dvS, Bank.dckS, Bank.dcqS] → Z b = traj m c t.val b)
    (h : k0_cond7 (grid0.coords t) = 1#1) :
    point (grid0.coords t) (entry m c t O Z) .dkO = next m c t .dkO ∧ point (grid0.coords t) (entry m c t O Z) .dvO = next m c t .dvO
    ∧ point (grid0.coords t) (entry m c t O Z) .dckO = next m c t .dckO := by
  have hA := next_agree m c t O Z hZ
  have h1 := point_outK (grid0.coords t) (entry m c t O Z)
  have h2 := point_outK (grid0.coords t) (ins m c t (traj m c t.val))
  unfold next
  rw [h1.1, h1.2.1, h1.2.2, h2.1, h2.2.1, h2.2.2]
  simp only [if_pos h]
  rw [hA _ rfl, hA _ rfl, hA _ rfl]
  exact ⟨rfl, rfl, rfl⟩

theorem leave_q0 (c : Dev nD) (t : Fin cfg0.N) (O Z : Bank.St F) (hZ : t.val ≠ 0 → ∀ b : Bank, b ∈ [Bank.dqS, Bank.dkS, Bank.dvS, Bank.dckS, Bank.dcqS] → Z b = traj m c t.val b)
    (h : k0_cond8 (grid0.coords t) = 1#1) :
    point (grid0.coords t) (entry m c t O Z) .dqO = next m c t .dqO ∧ point (grid0.coords t) (entry m c t O Z) .dcqO = next m c t .dcqO := by
  have hA := next_agree m c t O Z hZ
  have h1 := point_outQ (grid0.coords t) (entry m c t O Z)
  have h2 := point_outQ (grid0.coords t) (ins m c t (traj m c t.val))
  unfold next
  rw [h1.1, h1.2, h2.1, h2.2]
  simp only [if_pos h]
  rw [hA _ rfl, hA _ rfl]
  exact ⟨rfl, rfl⟩

theorem keep_out (c : Dev nD) (t : Fin cfg0.N) (O Z : Bank.St F) :
    (k0_cond7 (grid0.coords t) ≠ 1#1 → point (grid0.coords t) (entry m c t O Z) .dkO = O .dkO ∧ point (grid0.coords t) (entry m c t O Z) .dvO = O .dvO
      ∧ point (grid0.coords t) (entry m c t O Z) .dckO = O .dckO)
    ∧ (k0_cond8 (grid0.coords t) ≠ 1#1 → point (grid0.coords t) (entry m c t O Z) .dqO = O .dqO ∧ point (grid0.coords t) (entry m c t O Z) .dcqO = O .dcqO) := by
  have h1 := point_outK (grid0.coords t) (entry m c t O Z)
  have h2 := point_outQ (grid0.coords t) (entry m c t O Z)
  refine ⟨fun h => ?_, fun h => ?_⟩
  · rw [h1.1, h1.2.1, h1.2.2]; simp only [if_neg h]; exact ⟨rfl, rfl, rfl⟩
  · rw [h2.1, h2.2]; simp only [if_neg h]; exact ⟨rfl, rfl⟩

theorem A_eq (c : Dev nD) (w) : (dats m 0 c).A w = Gen.V m c (Pipeline.arrRef spec0 w) := by dsimp only [dats]
theorem after0 (c : Dev nD) (t) : (dats m 0 c).after 0 t = Gen.iblk m c 0 t := by dsimp only [dats]
theorem after1 (c : Dev nD) (t) : (dats m 0 c).after 1 t = Gen.iblk m c 1 t := by dsimp only [dats]
theorem after2 (c : Dev nD) (t) : (dats m 0 c).after 2 t = Gen.iblk m c 2 t := by dsimp only [dats]
theorem after3 (c : Dev nD) (t) : (dats m 0 c).after 3 t = Gen.iblk m c 3 t := by dsimp only [dats]
theorem after4 (c : Dev nD) (t) : (dats m 0 c).after 4 t = Gen.iblk m c 4 t := by dsimp only [dats]
theorem after5 (c : Dev nD) (t) : (dats m 0 c).after 5 t = Gen.iblk m c 5 t := by dsimp only [dats]
theorem after6 (c : Dev nD) (t) : (dats m 0 c).after 6 t = Gen.iblk m c 6 t := by dsimp only [dats]
theorem after7 (c : Dev nD) (t) : (dats m 0 c).after 7 t = Gen.iblk m c 7 t := by dsimp only [dats]
theorem after8 (c : Dev nD) (t) : (dats m 0 c).after 8 t = Gen.iblk m c 8 t := by dsimp only [dats]
theorem after9 (c : Dev nD) (t) : (dats m 0 c).after 9 t = Gen.iblk m c 9 t := by dsimp only [dats]
theorem after10 (c : Dev nD) (t) : (dats m 0 c).after 10 t = Gen.iblk m c 10 t := by dsimp only [dats]
theorem after11 (c : Dev nD) (t) : (dats m 0 c).after 11 t = next m c t .dqO := by dsimp only [dats]
theorem after12 (c : Dev nD) (t) : (dats m 0 c).after 12 t = next m c t .dkO := by dsimp only [dats]
theorem after13 (c : Dev nD) (t) : (dats m 0 c).after 13 t = next m c t .dvO := by dsimp only [dats]
theorem after14 (c : Dev nD) (t) : (dats m 0 c).after 14 t = next m c t .dckO := by dsimp only [dats]
theorem after15 (c : Dev nD) (t) : (dats m 0 c).after 15 t = next m c t .dcqO := by dsimp only [dats]
theorem before0 (c : Dev nD) (t d) : (dats m 0 c).before 0 t d = Gen.iblk m c 0 t := Gen.before0_0_of m (dats m 0 c) (A_eq m c 0) (after0 m c) t d
theorem before1 (c : Dev nD) (t d) : (dats m 0 c).before 1 t d = Gen.iblk m c 1 t := Gen.before0_1_of m (dats m 0 c) (A_eq m c 1) (after1 m c) t d
theorem before2 (c : Dev nD) (t d) : (dats m 0 c).before 2 t d = Gen.iblk m c 2 t := Gen.before0_2_of m (dats m 0 c) (A_eq m c 2) (after2 m c) t d
theorem before3 (c : Dev nD) (t d) : (dats m 0 c).before 3 t d = Gen.iblk m c 3 t := Gen.before0_3_of m (dats m 0 c) (A_eq m c 3) (after3 m c) t d
theorem before4 (c : Dev nD) (t d) : (dats m 0 c).before 4 t d = Gen.iblk m c 4 t := Gen.before0_4_of m (dats m 0 c) (A_eq m c 4) (after4 m c) t d
theorem before5 (c : Dev nD) (t d) : (dats m 0 c).before 5 t d = Gen.iblk m c 5 t := Gen.before0_5_of m (dats m 0 c) (A_eq m c 5) (after5 m c) t d
theorem before6 (c : Dev nD) (t d) : (dats m 0 c).before 6 t d = Gen.iblk m c 6 t := Gen.before0_6_of m (dats m 0 c) (A_eq m c 6) (after6 m c) t d
theorem before7 (c : Dev nD) (t d) : (dats m 0 c).before 7 t d = Gen.iblk m c 7 t := Gen.before0_7_of m (dats m 0 c) (A_eq m c 7) (after7 m c) t d
theorem before8 (c : Dev nD) (t d) : (dats m 0 c).before 8 t d = Gen.iblk m c 8 t := Gen.before0_8_of m (dats m 0 c) (A_eq m c 8) (after8 m c) t d
theorem before9 (c : Dev nD) (t d) : (dats m 0 c).before 9 t d = Gen.iblk m c 9 t := Gen.before0_9_of m (dats m 0 c) (A_eq m c 9) (after9 m c) t d
theorem before10 (c : Dev nD) (t d) : (dats m 0 c).before 10 t d = Gen.iblk m c 10 t := Gen.before0_10_of m (dats m 0 c) (A_eq m c 10) (after10 m c) t d

theorem row (t : Fin cfg0.N) : (defs₀ (F := F)) .tc cfg0.body (cfg0.bodyArgs t (cfg0.slots t)) = Gen.bodyAt0 t := by
  unfold defs₀; rw [Defs.onTc_tc]

/-- The scratch a point leaves is what the next point finds. -/
theorem inv_next (c : Dev nD) (t : Fin cfg0.N) (O Z : Bank.St F) (hZ : t.val ≠ 0 → ∀ b : Bank, b ∈ [Bank.dqS, Bank.dkS, Bank.dvS, Bank.dckS, Bank.dcqS] → Z b = traj m c t.val b) :
    ∀ b : Bank, b ∈ [Bank.dqS, Bank.dkS, Bank.dvS, Bank.dckS, Bank.dcqS] → point (grid0.coords t) (entry m c t O Z) b = traj m c (t.val + 1) b := fun b hb => by
  have ho : b.out = false := by
    simp only [List.mem_cons, List.not_mem_nil, or_false] at hb
    rcases hb with rfl | rfl | rfl | rfl | rfl <;> rfl
  rw [traj_succ, point_agree _ _ b ho, next_agree m c t O Z hZ b ho]
  unfold next
  rw [point_agree _ _ b ho]

/-- An input's buffer as the point leaves it. -/
theorem leave_in (c : Dev nD) (t : Fin cfg0.N) (w : Fin cfg0.W) (h : cfg0.idle w (cfg0.grid.coords t) = false)
    (x : (cfg0.win w).block.Idx → Elt F (cfg0.win w).elt) (hx : x = (dats m 0 c).after w t) :
    (owns c ((cfg0.win w).stage (cfg0.slots t w)) fullShare x : sProp 𝕄) ⊢ (dats m 0 c).leavesExact w t := by
  rw [hx]; exact leave_live _ w t h

/-- An output's buffer as the point leaves it. -/
theorem leave_of (c : Dev nD) (t : Fin cfg0.N) (w : Fin cfg0.W) (d) (P : Prop) [Decidable P] (hi : cfg0.idle w (cfg0.grid.coords t) = !decide P)
    (hf : ¬ P → (cfg0.win w).flush t = false) (x y : (cfg0.win w).block.Idx → Elt F (cfg0.win w).elt)
    (hy : (dats m 0 c).after w t = y) (hp : P → x = y) (hn : ¬ P → x = (dats m 0 c).before w t d) :
    (owns c ((cfg0.win w).stage (cfg0.slots t w)) fullShare x : sProp 𝕄) ⊢ (dats m 0 c).leavesExact w t := by
  by_cases h : P
  · rw [hp h, ← hy]; exact leave_live _ w t (by rw [hi]; simp [h])
  · rw [hn h]; exact leave_idle _ w t d (by rw [hi]; simp [h]) (hf h)

set_option maxHeartbeats 4000000 in
/-- Every point's body runs from the contents before it to those after it. -/
theorem body (𝒱₀ : Variants) (c : Dev nD) : BodyObligation (dats m 0 c) (defs₀ (F := F)) 𝒱₀ () Set.univ := fun t => by
  show iprop(inv m c t.val ∗ (dats m 0 c).owesAt () t.castSucc ∗ bigSep Finset.univ fun w : Fin 16 => iprop(∃ d, owns c ((cfg0.win w).stage (cfg0.slots t w)) fullShare ((dats m 0 c).before w t d)))
    ⊢ wp frame (wpE defs₀ 𝒱₀ c none) Set.univ (defs₀ .tc cfg0.body (cfg0.bodyArgs t (cfg0.slots t))) fun _ =>
      iprop(inv m c (t.val + 1) ∗ (dats m 0 c).owesAt () t.castSucc ∗ bigSep Finset.univ fun w : Fin 16 => (dats m 0 c).leavesExact w t)
  rw [Gen.bigSep_W0, Gen.bigSep_W0, row]
  iintro ⟨I, W, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  unfold inv
  icases I with ⟨⟨%Z, %hZ, S⟩, R⟩
  rw [before0, before1, before2, before3, before4, before5, before6, before7, before8, before9, before10]
  let O : Bank.St F := fun b => match b with
    | .dqO => (dats m 0 c).before 11 t d11
    | .dkO => (dats m 0 c).before 12 t d12
    | .dvO => (dats m 0 c).before 13 t d13
    | .dckO => (dats m 0 c).before 14 t d14
    | .dcqO => (dats m 0 c).before 15 t d15
    | b => Z b
  iapply (body_wp c 𝒱₀ t (entry m c t O Z) _)
  rw [holds_eq, holds_eq]
  isplitl [H0 H1 H2 H3 H4 H5 H6 H7 H8 H9 H10 H11 H12 H13 H14 H15 S]
  · unfold scratch
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact S
  iintro ⟨H0, H1, H2, H3, H4, H5, H6, H7, H8, H9, H10, H11, H12, H13, H14, H15, S⟩
  isplitl [S R]
  · isplitl [S]
    · iexists (point (grid0.coords t) (entry m c t O Z))
      isplitr
      · ipureintro
        exact fun _ => inv_next m c t O Z hZ
      · unfold scratch
        iexact S
    · iexact R
  isplitl [W]; · iexact W
  isplitl [H0]
  · rw [point_in (grid0.coords t) (entry m c t O Z) .q rfl rfl]
    iapply (leave_in m c t 0 rfl _ (after0 m c t).symm)
    iexact H0
  isplitl [H1]
  · rw [point_in (grid0.coords t) (entry m c t O Z) .k rfl rfl]
    iapply (leave_in m c t 1 rfl _ (after1 m c t).symm)
    iexact H1
  isplitl [H2]
  · rw [point_in (grid0.coords t) (entry m c t O Z) .v rfl rfl]
    iapply (leave_in m c t 2 rfl _ (after2 m c t).symm)
    iexact H2
  isplitl [H3]
  · rw [point_in (grid0.coords t) (entry m c t O Z) .da rfl rfl]
    iapply (leave_in m c t 3 rfl _ (after3 m c t).symm)
    iexact H3
  isplitl [H4]
  · rw [point_in (grid0.coords t) (entry m c t O Z) .qt rfl rfl]
    iapply (leave_in m c t 4 rfl _ (after4 m c t).symm)
    iexact H4
  isplitl [H5]
  · rw [point_in (grid0.coords t) (entry m c t O Z) .kt rfl rfl]
    iapply (leave_in m c t 5 rfl _ (after5 m c t).symm)
    iexact H5
  isplitl [H6]
  · rw [point_in (grid0.coords t) (entry m c t O Z) .dat rfl rfl]
    iapply (leave_in m c t 6 rfl _ (after6 m c t).symm)
    iexact H6
  isplitl [H7]
  · rw [point_in (grid0.coords t) (entry m c t O Z) .cc rfl rfl]
    iapply (leave_in m c t 7 rfl _ (after7 m c t).symm)
    iexact H7
  isplitl [H8]
  · rw [point_in (grid0.coords t) (entry m c t O Z) .cr rfl rfl]
    iapply (leave_in m c t 8 rfl _ (after8 m c t).symm)
    iexact H8
  isplitl [H9]
  · rw [point_in (grid0.coords t) (entry m c t O Z) .lse rfl rfl]
    iapply (leave_in m c t 9 rfl _ (after9 m c t).symm)
    iexact H9
  isplitl [H10]
  · rw [point_in (grid0.coords t) (entry m c t O Z) .dl rfl rfl]
    iapply (leave_in m c t 10 rfl _ (after10 m c t).symm)
    iexact H10
  isplitl [H11]
  · iapply (leave_of m c t 11 d11 (k0_cond8 (grid0.coords t) = 1#1) rfl (fun h => (idle_q t h).1) _ _ (after11 m c t) (fun h => (leave_q0 m c t O Z hZ h).1) (fun h => ((keep_out m c t O Z).2 h).1))
    iexact H11
  isplitl [H12]
  · iapply (leave_of m c t 12 d12 (k0_cond7 (grid0.coords t) = 1#1) rfl (fun h => (idle_k t h).1) _ _ (after12 m c t) (fun h => (leave_k0 m c t O Z hZ h).1) (fun h => ((keep_out m c t O Z).1 h).1))
    iexact H12
  isplitl [H13]
  · iapply (leave_of m c t 13 d13 (k0_cond7 (grid0.coords t) = 1#1) rfl (fun h => (idle_k t h).2.1) _ _ (after13 m c t) (fun h => (leave_k0 m c t O Z hZ h).2.1) (fun h => ((keep_out m c t O Z).1 h).2.1))
    iexact H13
  isplitl [H14]
  · iapply (leave_of m c t 14 d14 (k0_cond7 (grid0.coords t) = 1#1) rfl (fun h => (idle_k t h).2.2) _ _ (after14 m c t) (fun h => (leave_k0 m c t O Z hZ h).2.2) (fun h => ((keep_out m c t O Z).1 h).2.2))
    iexact H14
  iapply (leave_of m c t 15 d15 (k0_cond8 (grid0.coords t) = 1#1) rfl (fun h => (idle_q t h).2) _ _ (after15 m c t) (fun h => (leave_q0 m c t O Z hZ h).2) (fun h => ((keep_out m c t O Z).2 h).2))
  iexact H15

theorem enter (c : Dev nD) : Pipeline.ΦA spec0 c ⊢ (inv m c 0 : sProp 𝕄) := by
  unfold Pipeline.ΦA inv scratch
  rw [Gen.scopedRest0_eq]
  iintro ⟨⟨⟨%f0, H0⟩, ⟨%f1, H1⟩, ⟨%f2, H2⟩, ⟨%f3, H3⟩, ⟨%f4, H4⟩⟩, R⟩
  isplitr [R]
  · iexists (fun b => match b with | .dqS => f0 | .dkS => f1 | .dvS => f2 | .dckS => f3 | .dcqS => f4 | b => blank b)
    isplitr
    · ipureintro; exact fun h => absurd rfl h
    · rw [owns_whole, owns_whole, owns_whole, owns_whole, owns_whole]
      isplitl [H0]; · iexact H0
      isplitl [H1]; · iexact H1
      isplitl [H2]; · iexact H2
      isplitl [H3]; · iexact H3
      iexact H4
  · iexact R

theorem leave (c : Dev nD) (n : ℕ) : (inv m c n : sProp 𝕄) ⊢ Pipeline.ΦA spec0 c := by
  unfold Pipeline.ΦA inv scratch
  rw [Gen.scopedRest0_eq]
  iintro ⟨⟨%X, -, S⟩, R⟩
  rw [owns_whole, owns_whole, owns_whole, owns_whole, owns_whole]
  icases S with ⟨H0, H1, H2, H3, H4⟩
  isplitr [R]
  · isplitl [H0]; · iexists _; iexact H0
    isplitl [H1]; · iexists _; iexact H1
    isplitl [H2]; · iexists _; iexact H2
    isplitl [H3]; · iexists _; iexact H3
    iexists _; iexact H4
  · iexact R

/-- The launch's run, over any float values: every array ends at what the points write back, and every semaphore
counter at zero. -/
theorem run_main (𝒱₀ : Variants) : θ_run defs (onTc (τ := τ) (main (F := F))) (s₀ m ρ)
    (fun r => Pipeline.FramePost cfgs (dats m) 0 (Gen.V m) r ∧ r.2.sem = fun _ => 0) :=
  Pipeline.θ_run_frame_track_shared cfgs (dats m) 0 Gen.launch₀0 defs₀ 𝒱₀ m ρ main
    (hbody := fun c => (body m 𝒱₀ c).loose) (hq := fun _ _ _ => rfl) (howed := fun _ _ => rfl) (V := Gen.V m)
    (hmain := Gen.hmain m 𝒱₀) (hA := fun _ _ => rfl) (hin := fun c => enter m c) (hout := fun c => leave m c _)
    (Q' := fun r => Pipeline.FramePost cfgs (dats m) 0 (Gen.V m) r ∧ r.2.sem = fun _ => 0) (hQ' := fun _ h => h)

/-- The argument arrays end as they began. -/
theorem frame_post (r : PUnit × MemSt nD τ sig (Elt F)) (h : Pipeline.FramePost cfgs (dats m) 0 (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 2).trans (((dats m 0 c).arrAt_in 2 rfl _).trans (Gen.V_main_arg0 m c)),
    ((h c).1 7).trans (((dats m 0 c).arrAt_in 7 rfl _).trans (Gen.V_main_arg1 m c)),
    ((h c).2 main_arg2 (by decide)).trans (Gen.V_main_arg2 m c)⟩

/-- The run with the arguments unchanged and the counters at zero. -/
theorem run_frame (𝒱₀ : Variants) : θ_run defs (onTc (τ := τ) (main (F := F))) (s₀ m ρ)
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨frame_post m r h.1, h.2⟩) (run_main m ρ 𝒱₀)

end Cert.KernelIdeal.Fox

end
-- ==== Proof.Frames.lean ====
/- The frames of the three programs: they run, their arguments end unchanged, every counter ends at zero. -/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

set_option maxRecDepth 16384

noncomputable section

namespace Cert.Frames

open Idealize.ShloMosaic Idealize.SL.Sem Cert.Kernel

/-- The claim of the idealized text, read at the machine's own floats. -/
abbrev atBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two programs have one text. -/
theorem same_text : Cert.quiescent_Kernel (hKernel := Cert.Kernel.Gen.facts) = atBits := by
  sl_kernel_rfl

theorem kernel : Cert.quiescent_Kernel (hKernel := Cert.Kernel.Gen.facts) :=
  same_text.mpr fun m ρ _ => Cert.KernelIdeal.Fox.run_frame (F := Bits) m ρ Variants.none

theorem kernelIdeal : Cert.quiescent_KernelIdeal (hKernelIdeal := Cert.KernelIdeal.Gen.facts) := fun m ρ _ =>
  Cert.KernelIdeal.Fox.run_frame (F := Ideal) m ρ Variants.none

theorem referenceIdeal : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run m ρ)

end Cert.Frames

end
-- ==== Proof.Tile.lean ====
/- The values of one head of a tile, element by element over the extended reals. -/
module

public import proofs.«01_k».proof.Proof.Step
public import Idealize.ShloMosaic.PureOps.Ideal

@[expose] public section

set_option maxRecDepth 16384

noncomputable section

namespace Cert.KernelIdeal.Fox

open Idealize.ShloMosaic Idealize.ShloMosaic.Tactic Idealize.SL.Sem
open Facts₀ Facts

/-- The place of a head in its pair. -/
abbrev parN (par : Bool) : ℕ := bif par then 1 else 0

/-- A head's probability: its score's exponential, dropped where a diagonal tile's key follows the query. -/
def prob (mask : Bool) (s cr cc lse : EReal) (a b : Fin 256) : EReal :=
  if mask = true ∧ b.val < a.val then 0 else Ideal.exp (s + (cr - cc) - lse)

theorem parN_lt (par : Bool) (d : Fin 64) : 64 * parN par + d.val < 128 := by
  cases par <;> simp only [parN, cond_true, cond_false] <;> omega

/-- The words' comparisons, as comparisons of numbers. -/
theorem sge_word (a b : ℕ) (ha : a < 256) (hb : b < 256) : IntOp.cmpi CmpIPredicate.sge (BitVec.ofNat 32 b) (BitVec.ofNat 32 a) = if b < a then 0#1 else 1#1 := by
  have : ∀ (a b : Fin 256), IntOp.cmpi CmpIPredicate.sge (BitVec.ofNat 32 b.val) (BitVec.ofNat 32 a.val) = if b.val < a.val then 0#1 else 1#1 := by decide +kernel
  exact this ⟨a, ha⟩ ⟨b, hb⟩

theorem eq_word (l h : ℕ) (hl : l < 128) (hh : h < 8) : IntOp.cmpi CmpIPredicate.eq (BitVec.ofNat 32 l) (BitVec.ofNat 32 h) = if l = h then 1#1 else 0#1 := by
  have : ∀ (l : Fin 128) (h : Fin 8), IntOp.cmpi CmpIPredicate.eq (BitVec.ofNat 32 l.val) (BitVec.ofNat 32 h.val) = if l.val = h.val then 1#1 else 0#1 := by decide +kernel
  exact this ⟨l, hl⟩ ⟨h, hh⟩

theorem lane_word : ∀ j : Fin 128, IntOp.cmpi CmpIPredicate.slt (BitVec.ofNat 32 j.val) 64#32 = (if j.val / 64 = parN false then 1#1 else 0#1)
    ∧ IntOp.xori (IntOp.cmpi CmpIPredicate.slt (BitVec.ofNat 32 j.val) 64#32) 1#1 = (if j.val / 64 = parN true then 1#1 else 0#1) := by decide +kernel

theorem padded (par : Bool) (kp : FVec Ideal S256x128 .bf16) (qt : Vec Ideal S64x256 .bf16) (a b : Fin 256) :
    matmul dot_S256x128_S128x256_S256x256_1_0_0_1_n_n none kp (padRows par qt) (constant S256x256 .f32 0x00000000#32) (ix2 a b)
      = ∑ d : Fin 64, kp (ix2 a ⟨64 * parN par + d.val, parN_lt par d⟩) * qt (ix2 d b) := by
  cases par
  · pointwise [padRows]
    simp only [mul_zero, Finset.sum_const_zero, add_zero]
    exact Finset.sum_congr rfl fun d _ => congrArg (fun i => kp (ix2 a i) * qt (ix2 d b)) (Fin.ext (by simp))
  · pointwise [padRows]
    simp only [mul_zero, Finset.sum_const_zero, zero_add]
    exact Finset.sum_congr rfl fun d _ => congrArg (fun i => kp (ix2 a i) * qt (ix2 d b)) (Fin.ext (by simp))

theorem probs_at (mask par : Bool) (kp : FVec Ideal S256x128 .bf16) (qt : Vec Ideal S64x256 .bf16) (cr : Vec Ideal S1x1x256 .f32) (cc : Vec Ideal S256x1 .f32)
    (lse : Vec Ideal S1x1x256 .f32) (a b : Fin 256) :
    probs mask kp (padRows par qt) cr cc lse (ix2 a b)
      = prob mask (∑ d : Fin 64, kp (ix2 a ⟨64 * parN par + d.val, parN_lt par d⟩) * qt (ix2 d b)) (cr (ix3 0 0 b)) (cc (ix2 a 0)) (lse (ix3 0 0 b)) a b := by
  rw [← padded]
  generalize padRows par qt = qq
  unfold probs prob
  cases mask
  · pointwise
    rw [if_neg (by simp)]
  · pointwise [causal]
    by_cases h : b.val < a.val
    · rw [if_pos h, sge_word _ _ a.isLt b.isLt, if_pos h]; rfl
    · rw [if_neg h, sge_word _ _ a.isLt b.isLt, if_neg h]; rfl

theorem dscores_at (par : Bool) (pe : FVec Ideal S256x256 .f32) (vp : FVec Ideal S256x128 .bf16) (dat : Vec Ideal S64x256 .bf16) (dl : Vec Ideal S1x1x256 .f32) (a b : Fin 256) :
    dscores pe vp (padRows par dat) dl (ix2 a b)
      = pe (ix2 a b) * ((∑ d : Fin 64, vp (ix2 a ⟨64 * parN par + d.val, parN_lt par d⟩) * dat (ix2 d b)) - dl (ix3 0 0 b)) := by
  rw [← padded]
  generalize padRows par dat = qq
  pointwise [dscores]

theorem accQ_at (old : Vec Ideal S1x64x256 .f32) (kt : Vec Ideal S64x256 .bf16) (ds : FVec Ideal S256x256 .f32) (d : Fin 64) (b : Fin 256) :
    accQ old kt ds (ix3 0 d b) = old (ix3 0 d b) + ∑ a : Fin 256, kt (ix2 d a) * ds (ix2 a b) := by
  pointwise [accQ]

/-- A sum halved. -/
theorem halved (n N : ℕ) (h : n + n = N) (f : Fin N → EReal) :
    ∑ k : Fin N, f k = ∑ k : Fin n, (f ⟨k.val, by have := k.isLt; omega⟩ + f ⟨n + k.val, by have := k.isLt; omega⟩) :=
  (Fin.sum_univ_two_halves n n h f).trans Finset.sum_add_distrib.symm

theorem accR_at (old : Vec Ideal S1x1x256 .f32) (ds : FVec Ideal S256x256 .f32) (b : Fin 256) :
    accR old ds (ix3 0 0 b) = old (ix3 0 0 b) + ∑ a : Fin 256, ds (ix2 a b) := by
  pointwise [accR, colSums]
  refine congrArg (_ + ·) ?_
  exact ((halved 128 256 rfl fun a => ds (ix2 a b)).trans <| (halved 64 128 rfl _).trans <| (halved 32 64 rfl _).trans <|
    (halved 16 32 rfl _).trans (halved 8 16 rfl _)).symm

theorem accum_maskQ_at (par : Bool) (acc : FVec Ideal S256x128 .f32) (p : FVec Ideal S256x256 .f32) (qp : FVec Ideal S256x128 .f32) (a : Fin 256) (j : Fin 128) :
    accum acc p (maskQ par qp) (ix2 a j)
      = if j.val / 64 = parN par then acc (ix2 a j) + ∑ b : Fin 256, p (ix2 a b) * qp (ix2 b j) else acc (ix2 a j) := by
  cases par
  · pointwise [accum, maskQ, lanesT, lanes]
    by_cases h : j.val / 64 = parN false
    · rw [if_pos h, (lane_word j).1, if_pos h]; rfl
    · rw [if_neg h, (lane_word j).1, if_neg h]
      exact (congrArg (_ + ·) (Finset.sum_eq_zero fun _ _ => rfl)).trans (add_zero _)
  · pointwise [accum, maskQ, lanesT, lanes]
    by_cases h : j.val / 64 = parN true
    · rw [if_pos h, (lane_word j).2, if_pos h]; rfl
    · rw [if_neg h, (lane_word j).2, if_neg h]
      exact (congrArg (_ + ·) (Finset.sum_eq_zero fun _ _ => rfl)).trans (add_zero _)

theorem accum_maskA_at (par : Bool) (acc : FVec Ideal S256x128 .f32) (p : FVec Ideal S256x256 .f32) (ap : FVec Ideal S256x128 .bf16) (a : Fin 256) (j : Fin 128) :
    accum acc p (maskA par ap) (ix2 a j)
      = if j.val / 64 = parN par then acc (ix2 a j) + ∑ b : Fin 256, p (ix2 a b) * ap (ix2 b j) else acc (ix2 a j) := by
  cases par
  · pointwise [accum, maskA, lanesT, lanes]
    by_cases h : j.val / 64 = parN false
    · rw [if_pos h, (lane_word j).1, if_pos h]; rfl
    · rw [if_neg h, (lane_word j).1, if_neg h]
      exact (congrArg (_ + ·) (Finset.sum_eq_zero fun _ _ => rfl)).trans (add_zero _)
  · pointwise [accum, maskA, lanesT, lanes]
    by_cases h : j.val / 64 = parN true
    · rw [if_pos h, (lane_word j).2, if_pos h]; rfl
    · rw [if_neg h, (lane_word j).2, if_neg h]
      exact (congrArg (_ + ·) (Finset.sum_eq_zero fun _ _ => rfl)).trans (add_zero _)

theorem accC_at (h : ℕ) (hh : h < 8) (dck : FVec Ideal S256x128 .f32) (ds : FVec Ideal S256x256 .f32) (a : Fin 256) (l : Fin 128) :
    accC (BitVec.ofNat 32 h) dck ds (ix2 a l) = if l.val = h then dck (ix2 a l) - ∑ b : Fin 256, ds (ix2 a b) else dck (ix2 a l) := by
  pointwise [accC]
  by_cases e : l.val = h
  · rw [if_pos e, eq_word _ _ l.isLt hh, if_pos e]; rfl
  · rw [if_neg e, eq_word _ _ l.isLt hh, if_neg e]
    exact sub_zero _

end Cert.KernelIdeal.Fox

end
-- ==== Proof.TileRun.lean ====
/- A tile's run, element by element: what it adds to each accumulator. -/
module

public import proofs.«01_k».proof.Proof.Tile

@[expose] public section

set_option maxRecDepth 16384

noncomputable section

namespace Cert.KernelIdeal.Fox

open Idealize.ShloMosaic Idealize.ShloMosaic.Tactic Idealize.SL.Sem
open Facts₀ Facts

/-! ## Windows at an index -/

theorem at2 {m n : ℕ} {a a' : Fin m} {b b' : Fin n} (ha : a = a') (hb : b = b') : ix2 a b = ix2 a' b' := by rw [ha, hb]

theorem at3 {m n u : ℕ} {a a' : Fin m} {b b' : Fin n} {c c' : Fin u} (ha : a = a') (hb : b = b') (hc : c = c') : ix3 a b c = ix3 a' b' c' := by rw [ha, hb, hc]

section Windows

variable {α : Type}

theorem window2 {m n k l : ℕ} (x : (⟨2, ![m, n]⟩ : Shape).Idx → α) (o p : ℕ) (inb : ∀ a, (![o, p] : Fin 2 → ℕ) a + (⟨2, ![k, l]⟩ : Shape).size a ≤ (⟨2, ![m, n]⟩ : Shape).size a)
    (a : Fin k) (b : Fin l) : VecWindow.window (s := ⟨2, ![m, n]⟩) x ![o, p] (⟨2, ![k, l]⟩ : Shape).size inb (ix2 a b)
      = x (ix2 ⟨o + a.val, by have h : o + k ≤ m := inb 0; omega⟩ ⟨p + b.val, by have h : p + l ≤ n := inb 1; omega⟩) :=
  congrArg x (funext (Fin.forall_fin_two.mpr ⟨Fin.ext (show o + 1 * a.val = o + a.val by omega), Fin.ext (show p + 1 * b.val = p + b.val by omega)⟩))

theorem window3 {m n u k l v : ℕ} (x : (⟨3, ![m, n, u]⟩ : Shape).Idx → α) (o p q : ℕ)
    (inb : ∀ a, (![o, p, q] : Fin 3 → ℕ) a + (⟨3, ![k, l, v]⟩ : Shape).size a ≤ (⟨3, ![m, n, u]⟩ : Shape).size a)
    (a : Fin k) (b : Fin l) (c : Fin v) : VecWindow.window (s := ⟨3, ![m, n, u]⟩) x ![o, p, q] (⟨3, ![k, l, v]⟩ : Shape).size inb (ix3 a b c)
      = x (ix3 ⟨o + a.val, by have h : o + k ≤ m := inb 0; omega⟩ ⟨p + b.val, by have h : p + l ≤ n := inb 1; omega⟩ ⟨q + c.val, by have h : q + v ≤ u := inb 2; omega⟩) :=
  congrArg x (funext (Fin.forall_fin_succ.mpr ⟨Fin.ext (show o + 1 * a.val = o + a.val by omega), Fin.forall_fin_two.mpr
    ⟨Fin.ext (show p + 1 * b.val = p + b.val by omega), Fin.ext (show q + 1 * c.val = q + c.val by omega)⟩⟩))

theorem put2 {m n k l : ℕ} (x : (⟨2, ![m, n]⟩ : Shape).Idx → α) (o p : ℕ) (w : (⟨2, ![k, l]⟩ : Shape).Idx → α) (i : Fin m) (j : Fin n) :
    VecWindow.put (s := ⟨2, ![m, n]⟩) x ![o, p] (⟨2, ![k, l]⟩ : Shape).size w (ix2 i j)
      = if h : (o ≤ i.val ∧ i.val < o + k) ∧ p ≤ j.val ∧ j.val < p + l then w (ix2 ⟨i.val - o, by omega⟩ ⟨j.val - p, by omega⟩) else x (ix2 i j) := by
  unfold VecWindow.put
  by_cases h : (o ≤ i.val ∧ i.val < o + k) ∧ p ≤ j.val ∧ j.val < p + l
  · rw [dif_pos h, dif_pos (Fin.forall_fin_two.mpr ⟨h.1, h.2⟩)]
    exact congrArg w (funext (Fin.forall_fin_two.mpr ⟨rfl, rfl⟩))
  · rw [dif_neg h, dif_neg fun hall => h ⟨hall 0, hall 1⟩]

theorem put3 {m n u k l v : ℕ} (x : (⟨3, ![m, n, u]⟩ : Shape).Idx → α) (o p q : ℕ) (w : (⟨3, ![k, l, v]⟩ : Shape).Idx → α) (i : Fin m) (j : Fin n) (r : Fin u) :
    VecWindow.put (s := ⟨3, ![m, n, u]⟩) x ![o, p, q] (⟨3, ![k, l, v]⟩ : Shape).size w (ix3 i j r)
      = if h : (o ≤ i.val ∧ i.val < o + k) ∧ (p ≤ j.val ∧ j.val < p + l) ∧ q ≤ r.val ∧ r.val < q + v
        then w (ix3 ⟨i.val - o, by omega⟩ ⟨j.val - p, by omega⟩ ⟨r.val - q, by omega⟩) else x (ix3 i j r) := by
  unfold VecWindow.put
  by_cases h : (o ≤ i.val ∧ i.val < o + k) ∧ (p ≤ j.val ∧ j.val < p + l) ∧ q ≤ r.val ∧ r.val < q + v
  · rw [dif_pos h, dif_pos (Fin.forall_fin_succ.mpr ⟨h.1, Fin.forall_fin_two.mpr ⟨h.2.1, h.2.2⟩⟩)]
    exact congrArg w (funext (Fin.forall_fin_succ.mpr ⟨rfl, Fin.forall_fin_two.mpr ⟨rfl, rfl⟩⟩))
  · rw [dif_neg h, dif_neg fun hall => h ⟨hall 0, hall 1, hall 2⟩]

end Windows

/-! ## A head's probabilities and scores' gradients, from the buffers -/

/-- A number as a head's. -/
abbrev hd (n : ℕ) : Fin 8 := ⟨n % 8, Nat.mod_lt _ (by decide)⟩

/-- A head's lane among all heads'. -/
abbrev ln (h : Fin 8) (d : Fin 64) : Fin 512 := ⟨64 * h.val + d.val, by omega⟩

/-- A column of a query sub-tile. -/
abbrev col (sub : Bool) (b : Fin 256) : Fin 512 := ⟨subOff sub + b.val, by have := subOff_le sub; omega⟩

/-- The tile's probabilities. -/
def pe (mask sub : Bool) (X : Bank.St Ideal) (h : Fin 8) (a b : Fin 256) : EReal :=
  prob mask (∑ d : Fin 64, X .k (ix2 a (ln h d)) * X .qt (ix2 (ln h d) (col sub b))) (X .cr (ix3 0 h (col sub b)))
    (X .cc (ix2 a ⟨h.val, by omega⟩)) (X .lse (ix3 0 h (col sub b))) a b

/-- The gradient of the tile's scores. -/
def dsc (mask sub : Bool) (X : Bank.St Ideal) (h : Fin 8) (a b : Fin 256) : EReal :=
  pe mask sub X h a b * ((∑ d : Fin 64, X .v (ix2 a (ln h d)) * X .dat (ix2 (ln h d) (col sub b))) - X .dl (ix3 0 h (col sub b)))

/-- Contents with the same inputs. -/
def Same (X Y : Bank.St Ideal) : Prop := ∀ b : Bank, b.scr = false → X b = Y b

theorem pe_same (mask sub : Bool) {X Y : Bank.St Ideal} (e : Same X Y) (h a b) : pe mask sub X h a b = pe mask sub Y h a b := by
  unfold pe; rw [e .k rfl, e .qt rfl, e .cr rfl, e .cc rfl, e .lse rfl]

theorem dsc_same (mask sub : Bool) {X Y : Bank.St Ideal} (e : Same X Y) (h a b) : dsc mask sub X h a b = dsc mask sub Y h a b := by
  unfold dsc; rw [pe_same mask sub e, e .v rfl, e .dat rfl, e .dl rfl]

/-- A number below 8 as a head. -/
abbrev hh (p : Fin 4) (par : Bool) : Fin 8 := ⟨headOf p par, by have := headOf_le p par; omega⟩

theorem headOf_eq (p : Fin 4) (par : Bool) : headOf p par = 2 * p.val + parN par := rfl

variable (mask sub : Bool) (qi : ℕ) (hq : qi + 1 ≤ 8)

/-- What a head leaves, element by element. -/
structure HeadOut (p : Fin 4) (par : Bool) (qp : FVec Ideal S256x128 .f32) (ap : FVec Ideal S256x128 .bf16) (dk dv dck : FVec Ideal S256x128 .f32)
    (X : Bank.St Ideal) (r : (FVec Ideal S256x128 .f32 × FVec Ideal S256x128 .f32 × FVec Ideal S256x128 .f32) × Bank.St Ideal) : Prop where
  rest : ∀ b : Bank, b ≠ .dqS → b ≠ .dcqS → r.2 b = X b
  dq : ∀ (i : Fin 8) (j : Fin 512) (b : Fin 256), r.2 .dqS (ix3 i j b)
    = if i.val = qi ∧ j.val / 64 = headOf p par then X .dqS (ix3 i j b) + ∑ a : Fin 256, X .kt (ix2 j a) * dsc mask sub X (hh p par) a b else X .dqS (ix3 i j b)
  dcq : ∀ (i : Fin 8) (h : Fin 8) (b : Fin 256), r.2 .dcqS (ix3 i h b)
    = if i.val = qi ∧ h.val = headOf p par then X .dcqS (ix3 i h b) + ∑ a : Fin 256, dsc mask sub X (hh p par) a b else X .dcqS (ix3 i h b)
  dk : ∀ (a : Fin 256) (j : Fin 128), r.1.1 (ix2 a j)
    = if j.val / 64 = parN par then dk (ix2 a j) + ∑ b : Fin 256, dsc mask sub X (hh p par) a b * qp (ix2 b j) else dk (ix2 a j)
  dv : ∀ (a : Fin 256) (j : Fin 128), r.1.2.1 (ix2 a j)
    = if j.val / 64 = parN par then dv (ix2 a j) + ∑ b : Fin 256, pe mask sub X (hh p par) a b * ap (ix2 b j) else dv (ix2 a j)
  dck : ∀ (a : Fin 256) (l : Fin 128), r.1.2.2 (ix2 a l)
    = if l.val = headOf p par then dck (ix2 a l) - ∑ b : Fin 256, dsc mask sub X (hh p par) a b else dck (ix2 a l)

theorem written_dq (X : Bank.St Ideal) (x y) : Function.update (Function.update X .dqS x) .dcqS y .dqS = x :=
  (Function.update_of_ne (by decide : Bank.dqS ≠ .dcqS) _ _).trans (Function.update_self _ _ _)

theorem written_dcq (X : Bank.St Ideal) (x y) : Function.update (Function.update X .dqS x) .dcqS y .dcqS = y := Function.update_self _ _ _

theorem parN_le (par : Bool) : parN par ≤ 1 := by cases par <;> decide

theorem head_out (p : Fin 4) (par : Bool) (qp : FVec Ideal S256x128 .f32) (kp vp ap : FVec Ideal S256x128 .bf16) (dk dv dck : FVec Ideal S256x128 .f32) (X : Bank.St Ideal)
    (hk : ∀ a (j : Fin 128), kp (ix2 a j) = X .k (ix2 a ⟨128 * p.val + j.val, by omega⟩)) (hv : ∀ a (j : Fin 128), vp (ix2 a j) = X .v (ix2 a ⟨128 * p.val + j.val, by omega⟩)) :
    HeadOut mask sub qi p par qp ap dk dv dck X ((headCode mask sub qi hq p par qp kp vp ap dk dv dck).run X) := by
  -- the windows the head reads
  let qt : Vec Ideal S64x256 .bf16 := VecWindow.window (X .qt) ![64 * headOf p par, subOff sub] S64x256.size (in_t p par sub)
  let dat : Vec Ideal S64x256 .bf16 := VecWindow.window (X .dat) ![64 * headOf p par, subOff sub] S64x256.size (in_t p par sub)
  let cr : Vec Ideal S1x1x256 .f32 := VecWindow.window (X .cr) ![0, headOf p par, subOff sub] S1x1x256.size (in_row p par sub)
  let cc : Vec Ideal S256x1 .f32 := VecWindow.window (X .cc) ![0, headOf p par] S256x1.size (in_cc p par)
  let lse : Vec Ideal S1x1x256 .f32 := VecWindow.window (X .lse) ![0, headOf p par, subOff sub] S1x1x256.size (in_row p par sub)
  let dl : Vec Ideal S1x1x256 .f32 := VecWindow.window (X .dl) ![0, headOf p par, subOff sub] S1x1x256.size (in_row p par sub)
  let old : Vec Ideal S1x64x256 .f32 := VecWindow.window (X .dqS) ![qi, 64 * headOf p par, 0] S1x64x256.size (in_dq p par qi hq)
  let kt : Vec Ideal S64x256 .bf16 := VecWindow.window (X .kt) ![64 * headOf p par, 0] S64x256.size (in_kt p par)
  let oldR : Vec Ideal S1x1x256 .f32 := VecWindow.window (X .dcqS) ![qi, headOf p par, 0] S1x1x256.size (in_dcq p par qi hq)
  let P : FVec Ideal S256x256 .f32 := probs mask kp (padRows par qt) cr cc lse
  let D : FVec Ideal S256x256 .f32 := dscores P vp (padRows par dat) dl
  let xq : S8x512x256.Idx → EReal := VecWindow.put (s := S8x512x256) (X .dqS) ![qi, 64 * headOf p par, 0] S1x64x256.size (accQ old kt D)
  let xr : S8x8x256.Idx → EReal := VecWindow.put (s := S8x8x256) (X .dcqS) ![qi, headOf p par, 0] S1x1x256.size (accR oldR D)
  have hrun : (headCode mask sub qi hq p par qp kp vp ap dk dv dck).run X
      = ((accum dk D (maskQ par qp), accum dv P (maskA par ap), accC (BitVec.ofNat 32 (headOf p par)) dck D),
        Function.update (Function.update X .dqS xq) .dcqS xr) := rfl
  rw [hrun]
  have hb := headOf_le p par
  have hs := subOff_le sub
  have hpar := parN_le par
  have he := headOf_eq p par
  have row : ∀ (Z : S1x8x512.Idx → EReal) (b : Fin 256), VecWindow.window (s := S1x8x512) Z ![0, headOf p par, subOff sub] S1x1x256.size (in_row p par sub) (ix3 0 0 b)
      = Z (ix3 0 (hh p par) (col sub b)) := fun Z b =>
    (window3 (m := 1) (n := 8) (u := 512) (k := 1) (l := 1) (v := 256) Z 0 (headOf p par) (subOff sub) (in_row p par sub) 0 0 b).trans
      (congrArg Z (at3 (Fin.ext rfl) (Fin.ext rfl) (Fin.ext rfl)))
  have blk : ∀ (Z : S512x512.Idx → EReal) (d : Fin 64) (b : Fin 256), VecWindow.window (s := S512x512) Z ![64 * headOf p par, subOff sub] S64x256.size (in_t p par sub) (ix2 d b)
      = Z (ix2 (ln (hh p par) d) (col sub b)) := fun Z d b =>
    window2 (m := 512) (n := 512) (k := 64) (l := 256) Z (64 * headOf p par) (subOff sub) (in_t p par sub) d b
  have hP : ∀ a b, P (ix2 a b) = pe mask sub X (hh p par) a b := fun a b => by
    refine (probs_at mask par kp qt cr cc lse a b).trans ?_
    unfold pe
    have e1 : cr (ix3 0 0 b) = X .cr (ix3 0 (hh p par) (col sub b)) := row _ b
    have e2 : lse (ix3 0 0 b) = X .lse (ix3 0 (hh p par) (col sub b)) := row _ b
    have e3 : cc (ix2 a 0) = X .cc (ix2 a ⟨headOf p par, by omega⟩) :=
      (window2 (m := 256) (n := 128) (k := 256) (l := 1) (X .cc) 0 (headOf p par) (in_cc p par) a 0).trans
        (congrArg (X .cc) (at2 (Fin.ext (Nat.zero_add _)) (Fin.ext rfl)))
    rw [e1, e2, e3]
    refine congrArg (fun z => prob mask z _ _ _ a b) (Finset.sum_congr rfl fun d _ => ?_)
    exact congr (congrArg _ ((hk a _).trans (congrArg (X .k) (at2 rfl (Fin.ext (by show 128 * p.val + (64 * parN par + d.val) = 64 * headOf p par + d.val; omega)))))) (blk (X .qt) d b)
  have hD : ∀ a b, D (ix2 a b) = dsc mask sub X (hh p par) a b := fun a b => by
    refine (dscores_at par P vp dat dl a b).trans ?_
    unfold dsc
    rw [hP]
    refine congrArg (_ * ·) (congr (congrArg _ (Finset.sum_congr rfl fun d _ => ?_)) (row (X .dl) b))
    exact congr (congrArg _ ((hv a _).trans (congrArg (X .v) (at2 rfl (Fin.ext (by show 128 * p.val + (64 * parN par + d.val) = 64 * headOf p par + d.val; omega)))))) (blk (X .dat) d b)
  refine ⟨fun b h1 h2 => ?_, fun i j b => ?_, fun i h b => ?_, fun a j => ?_, fun a j => ?_, fun a l => ?_⟩
  · exact (Function.update_of_ne h2 _ _).trans (Function.update_of_ne h1 _ _)
  · refine (congrFun (written_dq X xq xr) (ix3 i j b)).trans ?_
    refine (put3 (m := 8) (n := 512) (u := 256) (k := 1) (l := 64) (v := 256) (X .dqS) qi (64 * headOf p par) 0 (accQ old kt D) i j b).trans ?_
    by_cases h : i.val = qi ∧ j.val / 64 = headOf p par
    · rw [if_pos h, dif_pos (by omega)]
      have e : (ix3 (⟨i.val - qi, by omega⟩ : Fin 1) (⟨j.val - 64 * headOf p par, by omega⟩ : Fin 64) (⟨b.val - 0, by omega⟩ : Fin 256))
          = ix3 0 (⟨j.val - 64 * headOf p par, by omega⟩ : Fin 64) b := at3 (Fin.ext (by show i.val - qi = 0; omega)) rfl rfl
      refine (congrArg (accQ old kt D) e).trans ((accQ_at old kt D _ b).trans (congr (congrArg _ ?_) (Finset.sum_congr rfl fun a _ => ?_)))
      · exact (window3 (m := 8) (n := 512) (u := 256) (k := 1) (l := 64) (v := 256) (X .dqS) qi (64 * headOf p par) 0 (in_dq p par qi hq) 0 _ b).trans
          (congrArg (X .dqS) (at3 (Fin.ext (by show qi + 0 = i.val; omega)) (Fin.ext (by show 64 * headOf p par + (j.val - 64 * headOf p par) = j.val; omega)) (Fin.ext (Nat.zero_add _))))
      · refine congr (congrArg _ ?_) (hD a b)
        exact (window2 (m := 512) (n := 256) (k := 64) (l := 256) (X .kt) (64 * headOf p par) 0 (in_kt p par) _ a).trans
          (congrArg (X .kt) (at2 (Fin.ext (by show 64 * headOf p par + (j.val - 64 * headOf p par) = j.val; omega)) (Fin.ext (Nat.zero_add _))))
    · rw [if_neg h, dif_neg (by omega)]
  · refine (congrFun (written_dcq X xq xr) (ix3 i h b)).trans ?_
    refine (put3 (m := 8) (n := 8) (u := 256) (k := 1) (l := 1) (v := 256) (X .dcqS) qi (headOf p par) 0 (accR oldR D) i h b).trans ?_
    by_cases hc : i.val = qi ∧ h.val = headOf p par
    · rw [if_pos hc, dif_pos (by omega)]
      have e : (ix3 (⟨i.val - qi, by omega⟩ : Fin 1) (⟨h.val - headOf p par, by omega⟩ : Fin 1) (⟨b.val - 0, by omega⟩ : Fin 256))
          = ix3 0 0 b := at3 (Fin.ext (by show i.val - qi = 0; omega)) (Fin.ext (by show h.val - headOf p par = 0; omega)) rfl
      refine (congrArg (accR oldR D) e).trans ((accR_at oldR D b).trans (congr (congrArg _ ?_) (Finset.sum_congr rfl fun a _ => hD a b)))
      exact (window3 (m := 8) (n := 8) (u := 256) (k := 1) (l := 1) (v := 256) (X .dcqS) qi (headOf p par) 0 (in_dcq p par qi hq) 0 0 b).trans
          (congrArg (X .dcqS) (at3 (Fin.ext (by show qi + 0 = i.val; omega)) (Fin.ext (by show headOf p par + 0 = h.val; omega)) (Fin.ext (Nat.zero_add _))))
    · rw [if_neg hc, dif_neg (by omega)]
  · refine (accum_maskQ_at par dk D qp a j).trans ?_
    simp only [hD]
  · refine (accum_maskA_at par dv P ap a j).trans ?_
    simp only [hP]
  · refine (accC_at (headOf p par) (by omega) dck D a l).trans ?_
    simp only [hD]

/-! ## A pair of heads -/

/-- The scores' scale. -/
def c8 : EReal := Scalar.ofBits (F := Ideal) .f32 0x3E000000#32

/-- What pairs of heads leave, element by element: the pairs `S` holds of are done. -/
structure PairOut (S : ℕ → Prop) [DecidablePred S] (dck : FVec Ideal S256x128 .f32) (X : Bank.St Ideal) (r : FVec Ideal S256x128 .f32 × Bank.St Ideal) : Prop where
  rest : ∀ b : Bank, b ≠ .dqS → b ≠ .dcqS → b ≠ .dkS → b ≠ .dvS → r.2 b = X b
  dq : ∀ (i : Fin 8) (j : Fin 512) (b : Fin 256), r.2 .dqS (ix3 i j b)
    = if i.val = qi ∧ S (j.val / 128) then X .dqS (ix3 i j b) + ∑ a : Fin 256, X .kt (ix2 j a) * dsc mask sub X (hd (j.val / 64)) a b else X .dqS (ix3 i j b)
  dcq : ∀ (i : Fin 8) (h : Fin 8) (b : Fin 256), r.2 .dcqS (ix3 i h b)
    = if i.val = qi ∧ S (h.val / 2) then X .dcqS (ix3 i h b) + ∑ a : Fin 256, dsc mask sub X h a b else X .dcqS (ix3 i h b)
  dk : ∀ (a : Fin 256) (j : Fin 512), r.2 .dkS (ix2 a j)
    = if S (j.val / 128) then X .dkS (ix2 a j) + ∑ b : Fin 256, dsc mask sub X (hd (j.val / 64)) a b * (X .q (ix2 (col sub b) j) * c8) else X .dkS (ix2 a j)
  dv : ∀ (a : Fin 256) (j : Fin 512), r.2 .dvS (ix2 a j)
    = if S (j.val / 128) then X .dvS (ix2 a j) + ∑ b : Fin 256, pe mask sub X (hd (j.val / 64)) a b * X .da (ix2 (col sub b) j) else X .dvS (ix2 a j)
  dck : ∀ (a : Fin 256) (l : Fin 128), r.1 (ix2 a l)
    = if S (l.val / 2) then dck (ix2 a l) - ∑ b : Fin 256, dsc mask sub X (hd l.val) a b else dck (ix2 a l)

theorem written_dk (X : Bank.St Ideal) (x y) : Function.update (Function.update X .dkS x) .dvS y .dkS = x :=
  (Function.update_of_ne (by decide : Bank.dkS ≠ .dvS) _ _).trans (Function.update_self _ _ _)

theorem written_dv (X : Bank.St Ideal) (x y) : Function.update (Function.update X .dkS x) .dvS y .dvS = y := Function.update_self _ _ _

theorem hd_eq {n m : ℕ} (h : n = m) : hd n = hd m := by rw [h]

theorem hh_eq (p : Fin 4) (par : Bool) {n : ℕ} (h : n = headOf p par) : hh p par = hd n :=
  Fin.ext (by have := headOf_le p par; show headOf p par = n % 8; omega)

theorem pair_out (p : Fin 4) (dck : FVec Ideal S256x128 .f32) (X : Bank.St Ideal) :
    PairOut mask sub qi (· = p.val) dck X ((pairCode mask sub qi hq p dck).run X) := by
  let q : Vec Ideal S256x128 .f32 := VecWindow.window (X .q) ![subOff sub, 128 * p.val] S256x128.size (in_q p sub)
  let k : Vec Ideal S256x128 .f32 := VecWindow.window (X .k) ![0, 128 * p.val] S256x128.size (in_k p)
  let v : Vec Ideal S256x128 .f32 := VecWindow.window (X .v) ![0, 128 * p.val] S256x128.size (in_k p)
  let a0 : Vec Ideal S256x128 .bf16 := VecWindow.window (X .da) ![subOff sub, 128 * p.val] S256x128.size (in_q p sub)
  let dk : Vec Ideal S256x128 .f32 := VecWindow.window (X .dkS) ![0, 128 * p.val] S256x128.size (in_k p)
  let dv : Vec Ideal S256x128 .f32 := VecWindow.window (X .dvS) ![0, 128 * p.val] S256x128.size (in_k p)
  let qp : FVec Ideal S256x128 .f32 := mulf q (broadcast S256x128 (Scalar.ofBits .f32 0x3E000000#32))
  let kp : FVec Ideal S256x128 .bf16 := truncf .bf16 k bitsLt_bf16_f32
  let vp : FVec Ideal S256x128 .bf16 := truncf .bf16 v bitsLt_bf16_f32
  let ap : FVec Ideal S256x128 .bf16 := shapeCast S256x128 a0 shapeCasts_S256x128_S256x128
  let r := (headCode mask sub qi hq p false qp kp vp ap dk dv dck).run X
  let s := (headCode mask sub qi hq p true qp kp vp ap r.1.1 r.1.2.1 r.1.2.2).run r.2
  let xk : S256x512.Idx → EReal := VecWindow.put (s := S256x512) (s.2 .dkS) ![0, 128 * p.val] S256x128.size (shapeCast S256x128 s.1.1 shapeCasts_S256x128_S256x128)
  let xv : S256x512.Idx → EReal := VecWindow.put (s := S256x512) (s.2 .dvS) ![0, 128 * p.val] S256x128.size (shapeCast S256x128 s.1.2.1 shapeCasts_S256x128_S256x128)
  have hrun : (pairCode mask sub qi hq p dck).run X = (s.1.2.2, Function.update (Function.update s.2 .dkS xk) .dvS xv) := by
    show (((headCode mask sub qi hq p false qp kp vp ap dk dv dck).bind _).run X) = _
    rw [Code.run_bind, Code.run_bind]
    rfl
  rw [hrun]
  have wk : ∀ (Z : S256x512.Idx → EReal) (a : Fin 256) (j : Fin 128), VecWindow.window (s := S256x512) Z ![0, 128 * p.val] S256x128.size (in_k p) (ix2 a j)
      = Z (ix2 a ⟨128 * p.val + j.val, by omega⟩) := fun Z a j =>
    (window2 (m := 256) (n := 512) (k := 256) (l := 128) Z 0 (128 * p.val) (in_k p) a j).trans (congrArg Z (at2 (Fin.ext (Nat.zero_add _)) rfl))
  have wq : ∀ (Z : S512x512.Idx → EReal) (b : Fin 256) (j : Fin 128), VecWindow.window (s := S512x512) Z ![subOff sub, 128 * p.val] S256x128.size (in_q p sub) (ix2 b j)
      = Z (ix2 (col sub b) ⟨128 * p.val + j.val, by omega⟩) := fun Z b j =>
    window2 (m := 512) (n := 512) (k := 256) (l := 128) Z (subOff sub) (128 * p.val) (in_q p sub) b j
  have hkp : ∀ a (j : Fin 128), kp (ix2 a j) = X .k (ix2 a ⟨128 * p.val + j.val, by omega⟩) := fun a j => wk (X .k) a j
  have hvp : ∀ a (j : Fin 128), vp (ix2 a j) = X .v (ix2 a ⟨128 * p.val + j.val, by omega⟩) := fun a j => wk (X .v) a j
  have hap : ∀ b (j : Fin 128), ap (ix2 b j) = X .da (ix2 (col sub b) ⟨128 * p.val + j.val, by omega⟩) := fun b j =>
    (by pointwise : shapeCast S256x128 a0 shapeCasts_S256x128_S256x128 (ix2 b j) = a0 (ix2 b j)).trans (wq (X .da) b j)
  have hqp : ∀ b (j : Fin 128), qp (ix2 b j) = X .q (ix2 (col sub b) ⟨128 * p.val + j.val, by omega⟩) * c8 := fun b j =>
    congrArg (· * c8) (wq (X .q) b j)
  have H := head_out mask sub qi hq p false qp kp vp ap dk dv dck X hkp hvp
  have same : Same r.2 X := fun b hb => H.rest b (by rintro rfl; exact Bool.noConfusion hb) (by rintro rfl; exact Bool.noConfusion hb)
  have H' := head_out mask sub qi hq p true qp kp vp ap r.1.1 r.1.2.1 r.1.2.2 r.2 (fun a j => (hkp a j).trans (by rw [same .k rfl])) (fun a j => (hvp a j).trans (by rw [same .v rfl]))
  have eds : ∀ h a b, dsc mask sub r.2 h a b = dsc mask sub X h a b := dsc_same mask sub same
  have epe : ∀ h a b, pe mask sub r.2 h a b = pe mask sub X h a b := pe_same mask sub same
  have ekt : r.2 .kt = X .kt := same .kt rfl
  have hf : headOf p false = 2 * p.val := rfl
  have ht : headOf p true = 2 * p.val + 1 := rfl
  have pf : parN false = 0 := rfl
  have pt : parN true = 1 := rfl
  refine ⟨fun b h1 h2 h3 h4 => ?_, fun i j b => ?_, fun i h b => ?_, fun a j => ?_, fun a j => ?_, fun a l => ?_⟩
  · exact (Function.update_of_ne h4 _ _).trans ((Function.update_of_ne h3 _ _).trans ((H'.rest b h1 h2).trans (H.rest b h1 h2)))
  · refine (H'.dq i j b).trans ?_
    rw [H.dq i j b]
    simp only [eds, ekt]
    by_cases hi : i.val = qi ∧ j.val / 128 = p.val
    · rw [if_pos hi]
      by_cases h1 : j.val / 64 = headOf p true
      · rw [if_pos ⟨hi.1, h1⟩, if_neg (by omega), hh_eq p true h1]
      · have h0 : j.val / 64 = headOf p false := by omega
        rw [if_neg (by omega), if_pos ⟨hi.1, h0⟩, hh_eq p false h0]
    · rw [if_neg hi, if_neg (by omega), if_neg (by omega)]
  · refine (H'.dcq i h b).trans ?_
    rw [H.dcq i h b]
    simp only [eds]
    by_cases hi : i.val = qi ∧ h.val / 2 = p.val
    · rw [if_pos hi]
      by_cases h1 : h.val = headOf p true
      · rw [if_pos ⟨hi.1, h1⟩, if_neg (by omega), show hh p true = h from Fin.ext h1.symm]
      · have h0 : h.val = headOf p false := by omega
        rw [if_neg (by omega), if_pos ⟨hi.1, h0⟩, show hh p false = h from Fin.ext h0.symm]
    · rw [if_neg hi, if_neg (by omega), if_neg (by omega)]
  · refine (congrFun (written_dk s.2 xk xv) (ix2 a j)).trans ?_
    refine (put2 (m := 256) (n := 512) (k := 256) (l := 128) (s.2 .dkS) 0 (128 * p.val) (shapeCast S256x128 s.1.1 shapeCasts_S256x128_S256x128) a j).trans ?_
    by_cases hj : j.val / 128 = p.val
    · rw [if_pos hj, dif_pos (by omega)]
      have hl : j.val - 128 * p.val < 128 := by omega
      have e : (⟨128 * p.val + (⟨j.val - 128 * p.val, hl⟩ : Fin 128).val, by omega⟩ : Fin 512) = j := Fin.ext (by show 128 * p.val + (j.val - 128 * p.val) = j.val; omega)
      refine (by pointwise : shapeCast S256x128 s.1.1 shapeCasts_S256x128_S256x128 (ix2 a (⟨j.val - 128 * p.val, hl⟩ : Fin 128)) = s.1.1 (ix2 a (⟨j.val - 128 * p.val, hl⟩ : Fin 128))).trans ?_
      refine (H'.dk a ⟨j.val - 128 * p.val, hl⟩).trans ?_
      have h0 := H.dk a ⟨j.val - 128 * p.val, hl⟩
      simp only [hqp, e, eds] at h0 ⊢
      rw [h0, show dk (ix2 a ⟨j.val - 128 * p.val, hl⟩) = X .dkS (ix2 a j) from (wk (X .dkS) a _).trans (congrArg _ (at2 rfl e))]
      by_cases h1 : j.val / 64 = headOf p true
      · rw [if_pos (show (j.val - 128 * p.val) / 64 = parN true by omega), if_neg (show ¬ (j.val - 128 * p.val) / 64 = parN false by omega), hh_eq p true h1]
      · have h0 : j.val / 64 = headOf p false := by omega
        rw [if_neg (show ¬ (j.val - 128 * p.val) / 64 = parN true by omega), if_pos (show (j.val - 128 * p.val) / 64 = parN false by omega), hh_eq p false h0]
    · rw [if_neg hj, dif_neg (by omega)]
      exact congrFun ((H'.rest .dkS (by decide) (by decide)).trans (H.rest .dkS (by decide) (by decide))) _
  · refine (congrFun (written_dv s.2 xk xv) (ix2 a j)).trans ?_
    refine (put2 (m := 256) (n := 512) (k := 256) (l := 128) (s.2 .dvS) 0 (128 * p.val) (shapeCast S256x128 s.1.2.1 shapeCasts_S256x128_S256x128) a j).trans ?_
    by_cases hj : j.val / 128 = p.val
    · rw [if_pos hj, dif_pos (by omega)]
      have hl : j.val - 128 * p.val < 128 := by omega
      have e : (⟨128 * p.val + (⟨j.val - 128 * p.val, hl⟩ : Fin 128).val, by omega⟩ : Fin 512) = j := Fin.ext (by show 128 * p.val + (j.val - 128 * p.val) = j.val; omega)
      refine (by pointwise : shapeCast S256x128 s.1.2.1 shapeCasts_S256x128_S256x128 (ix2 a (⟨j.val - 128 * p.val, hl⟩ : Fin 128)) = s.1.2.1 (ix2 a (⟨j.val - 128 * p.val, hl⟩ : Fin 128))).trans ?_
      refine (H'.dv a ⟨j.val - 128 * p.val, hl⟩).trans ?_
      have h0 := H.dv a ⟨j.val - 128 * p.val, hl⟩
      simp only [hap, e, epe] at h0 ⊢
      rw [h0, show dv (ix2 a ⟨j.val - 128 * p.val, hl⟩) = X .dvS (ix2 a j) from (wk (X .dvS) a _).trans (congrArg _ (at2 rfl e))]
      by_cases h1 : j.val / 64 = headOf p true
      · rw [if_pos (show (j.val - 128 * p.val) / 64 = parN true by omega), if_neg (show ¬ (j.val - 128 * p.val) / 64 = parN false by omega), hh_eq p true h1]
      · have h0 : j.val / 64 = headOf p false := by omega
        rw [if_neg (show ¬ (j.val - 128 * p.val) / 64 = parN true by omega), if_pos (show (j.val - 128 * p.val) / 64 = parN false by omega), hh_eq p false h0]
    · rw [if_neg hj, dif_neg (by omega)]
      exact congrFun ((H'.rest .dvS (by decide) (by decide)).trans (H.rest .dvS (by decide) (by decide))) _
  · refine (H'.dck a l).trans ?_
    rw [H.dck a l]
    simp only [eds]
    by_cases hl : l.val / 2 = p.val
    · rw [if_pos hl]
      by_cases h1 : l.val = headOf p true
      · rw [if_pos h1, if_neg (by omega), hh_eq p true h1]
      · have h0 : l.val = headOf p false := by omega
        rw [if_neg h1, if_pos h0, hh_eq p false h0]
    · rw [if_neg hl, if_neg (by omega), if_neg (by omega)]

/-! ## A tile -/

theorem run_load {α : Type} (b : Bank) (off size inb h) (k : _ → Code Ideal α) (X : Bank.St Ideal) :
    (Code.load b off size inb h k).run X = (k (VecWindow.window (X b) off size inb)).run X := rfl

theorem pair_next {n : ℕ} {dck : FVec Ideal S256x128 .f32} {X : Bank.St Ideal} {r s : FVec Ideal S256x128 .f32 × Bank.St Ideal}
    (H : PairOut mask sub qi (· < n) dck X r) (H' : PairOut mask sub qi (· = n) r.1 r.2 s) : PairOut mask sub qi (· < n + 1) dck X s := by
  have same : Same r.2 X := fun b hb => H.rest b (by rintro rfl; exact Bool.noConfusion hb) (by rintro rfl; exact Bool.noConfusion hb)
    (by rintro rfl; exact Bool.noConfusion hb) (by rintro rfl; exact Bool.noConfusion hb)
  have eds : ∀ h a b, dsc mask sub r.2 h a b = dsc mask sub X h a b := dsc_same mask sub same
  have epe : ∀ h a b, pe mask sub r.2 h a b = pe mask sub X h a b := pe_same mask sub same
  refine ⟨fun b h1 h2 h3 h4 => (H'.rest b h1 h2 h3 h4).trans (H.rest b h1 h2 h3 h4), fun i j b => ?_, fun i h b => ?_, fun a j => ?_, fun a j => ?_, fun a l => ?_⟩
  · rw [H'.dq i j b, H.dq i j b, same .kt rfl]
    simp only [eds]
    by_cases h1 : i.val = qi ∧ j.val / 128 = n
    · rw [if_pos h1, if_neg (by omega), if_pos (by omega)]
    · by_cases h2 : i.val = qi ∧ j.val / 128 < n
      · rw [if_neg h1, if_pos h2, if_pos (by omega)]
      · rw [if_neg h1, if_neg h2, if_neg (by omega)]
  · rw [H'.dcq i h b, H.dcq i h b]
    simp only [eds]
    by_cases h1 : i.val = qi ∧ h.val / 2 = n
    · rw [if_pos h1, if_neg (by omega), if_pos (by omega)]
    · by_cases h2 : i.val = qi ∧ h.val / 2 < n
      · rw [if_neg h1, if_pos h2, if_pos (by omega)]
      · rw [if_neg h1, if_neg h2, if_neg (by omega)]
  · rw [H'.dk a j, H.dk a j, same .q rfl]
    simp only [eds]
    by_cases h1 : j.val / 128 = n
    · rw [if_pos h1, if_neg (by omega), if_pos (by omega)]
    · by_cases h2 : j.val / 128 < n
      · rw [if_neg h1, if_pos h2, if_pos (by omega)]
      · rw [if_neg h1, if_neg h2, if_neg (by omega)]
  · rw [H'.dv a j, H.dv a j, same .da rfl]
    simp only [epe]
    by_cases h1 : j.val / 128 = n
    · rw [if_pos h1, if_neg (by omega), if_pos (by omega)]
    · by_cases h2 : j.val / 128 < n
      · rw [if_neg h1, if_pos h2, if_pos (by omega)]
      · rw [if_neg h1, if_neg h2, if_neg (by omega)]
  · rw [H'.dck a l, H.dck a l]
    simp only [eds]
    by_cases h1 : l.val / 2 = n
    · rw [if_pos h1, if_neg (by omega), if_pos (by omega)]
    · by_cases h2 : l.val / 2 < n
      · rw [if_neg h1, if_pos h2, if_pos (by omega)]
      · rw [if_neg h1, if_neg h2, if_neg (by omega)]

theorem pair_none (dck : FVec Ideal S256x128 .f32) (X : Bank.St Ideal) : PairOut mask sub qi (· < 0) dck X (dck, X) :=
  ⟨fun _ _ _ _ _ => rfl, fun _ _ _ => (if_neg fun h => Nat.not_lt_zero _ h.2).symm, fun _ _ _ => (if_neg fun h => Nat.not_lt_zero _ h.2).symm,
    fun _ _ => (if_neg (Nat.not_lt_zero _)).symm, fun _ _ => (if_neg (Nat.not_lt_zero _)).symm, fun _ _ => (if_neg (Nat.not_lt_zero _)).symm⟩

/-- What a tile leaves, element by element. -/
structure TileOut (X Y : Bank.St Ideal) : Prop where
  rest : ∀ b : Bank, b.scr = false → Y b = X b
  dq : ∀ (i : Fin 8) (j : Fin 512) (b : Fin 256), Y .dqS (ix3 i j b)
    = if i.val = qi then X .dqS (ix3 i j b) + ∑ a : Fin 256, X .kt (ix2 j a) * dsc mask sub X (hd (j.val / 64)) a b else X .dqS (ix3 i j b)
  dcq : ∀ (i : Fin 8) (h : Fin 8) (b : Fin 256), Y .dcqS (ix3 i h b)
    = if i.val = qi then X .dcqS (ix3 i h b) + ∑ a : Fin 256, dsc mask sub X h a b else X .dcqS (ix3 i h b)
  dk : ∀ (a : Fin 256) (j : Fin 512), Y .dkS (ix2 a j)
    = X .dkS (ix2 a j) + ∑ b : Fin 256, dsc mask sub X (hd (j.val / 64)) a b * (X .q (ix2 (col sub b) j) * c8)
  dv : ∀ (a : Fin 256) (j : Fin 512), Y .dvS (ix2 a j)
    = X .dvS (ix2 a j) + ∑ b : Fin 256, pe mask sub X (hd (j.val / 64)) a b * X .da (ix2 (col sub b) j)
  dck : ∀ (a : Fin 256) (l : Fin 128), Y .dckS (ix2 a l)
    = if l.val < 8 then X .dckS (ix2 a l) - ∑ b : Fin 256, dsc mask sub X (hd l.val) a b else X .dckS (ix2 a l)

/-- A tile's run: its pairs one after another, then the keys' decays' gradient stored. -/
theorem tile_run (X : Bank.St Ideal) (c : Fin 4 → FVec Ideal S256x128 .f32) (Y : Fin 4 → Bank.St Ideal)
    (h0 : (pairCode mask sub qi hq 0 (X .dckS)).run X = (c 0, Y 0)) (h1 : (pairCode mask sub qi hq 1 (c 0)).run (Y 0) = (c 1, Y 1))
    (h2 : (pairCode mask sub qi hq 2 (c 1)).run (Y 1) = (c 2, Y 2)) (h3 : (pairCode mask sub qi hq 3 (c 2)).run (Y 2) = (c 3, Y 3)) :
    ((tileCode mask sub qi hq).run X).2 = Function.update (Y 3) .dckS (c 3) := by
  have e : ∀ (x : S256x128.Idx → EReal) (w : FVec Ideal S256x128 .f32), VecWindow.put (s := S256x128) x ![0, 0] S256x128.size (shapeCast S256x128 w shapeCasts_S256x128_S256x128) = w := fun x w =>
    (put_full (s := S256x128) x _ zero2 _).trans (funext fun z => by idx_vars z; pointwise)
  have hdck : VecWindow.window (X .dckS) ![0, 0] S256x128.size inb_S256x128_S256x128_0_0 = X .dckS := window_full (s := S256x128) (X .dckS) _ zero2 _
  unfold tileCode
  rw [run_load, hdck, Code.run_bind, h0, Code.run_bind, h1, Code.run_bind, h2, Code.run_bind, h3]
  exact congrArg (fun w => Function.update (Y 3) Bank.dckS w) (e (Y 3 .dckS) (c 3))

theorem tile_out (X : Bank.St Ideal) : TileOut mask sub qi X ((tileCode mask sub qi hq).run X).2 := by
  obtain ⟨r0, e0⟩ : ∃ r, r = (pairCode mask sub qi hq 0 (X .dckS)).run X := ⟨_, rfl⟩
  obtain ⟨r1, e1⟩ : ∃ r, r = (pairCode mask sub qi hq 1 r0.1).run r0.2 := ⟨_, rfl⟩
  obtain ⟨r2, e2⟩ : ∃ r, r = (pairCode mask sub qi hq 2 r1.1).run r1.2 := ⟨_, rfl⟩
  obtain ⟨r3, e3⟩ : ∃ r, r = (pairCode mask sub qi hq 3 r2.1).run r2.2 := ⟨_, rfl⟩
  have hrun : ((tileCode mask sub qi hq).run X).2 = Function.update r3.2 .dckS r3.1 :=
    tile_run mask sub qi hq X ![r0.1, r1.1, r2.1, r3.1] ![r0.2, r1.2, r2.2, r3.2] e0.symm e1.symm e2.symm e3.symm
  have H := pair_next mask sub qi (pair_next mask sub qi (pair_next mask sub qi (pair_next mask sub qi (pair_none mask sub qi (X .dckS) X)
    (e0 ▸ pair_out mask sub qi hq 0 (X .dckS) X)) (e1 ▸ pair_out mask sub qi hq 1 r0.1 r0.2)) (e2 ▸ pair_out mask sub qi hq 2 r1.1 r1.2)) (e3 ▸ pair_out mask sub qi hq 3 r2.1 r2.2)
  have hne : ∀ b : Bank, b ≠ .dckS → ((tileCode mask sub qi hq).run X).2 b = r3.2 b := fun b hb => by rw [hrun]; exact Function.update_of_ne hb _ _
  refine ⟨fun b hb => ?_, fun i j b => ?_, fun i h b => ?_, fun a j => ?_, fun a j => ?_, fun a l => ?_⟩
  · rw [hne b (by rintro rfl; exact Bool.noConfusion hb)]
    exact H.rest b (by rintro rfl; exact Bool.noConfusion hb) (by rintro rfl; exact Bool.noConfusion hb)
      (by rintro rfl; exact Bool.noConfusion hb) (by rintro rfl; exact Bool.noConfusion hb)
  · refine (congrFun (hne .dqS (by decide)) _).trans ((H.dq i j b).trans ?_)
    by_cases h : i.val = qi
    · rw [if_pos h, if_pos (by omega)]
    · rw [if_neg h, if_neg fun h' => h h'.1]
  · refine (congrFun (hne .dcqS (by decide)) _).trans ((H.dcq i h b).trans ?_)
    by_cases h : i.val = qi
    · rw [if_pos h, if_pos (by omega)]
    · rw [if_neg h, if_neg fun h' => h h'.1]
  · exact (congrFun (hne .dkS (by decide)) _).trans ((H.dk a j).trans (if_pos (by omega)))
  · exact (congrFun (hne .dvS (by decide)) _).trans ((H.dv a j).trans (if_pos (by omega)))
  · rw [hrun, Function.update_self]
    refine (H.dck a l).trans ?_
    by_cases h : l.val < 8
    · rw [if_pos h, if_pos (by omega)]
    · rw [if_neg h, if_neg (by omega)]

end Cert.KernelIdeal.Fox

end
-- ==== Proof.Sched.lean ====
/- The grid's schedule: which key block and which pair of query blocks each point takes, and what its windows read. -/
module

public import proofs.«01_k».proof.Proof.TileRun
public import proofs.«01_k».proof.Proof.Launch
public import Idealize.ShloMosaic.Lib.Pipeline.ValueKit

@[expose] public section

set_option maxRecDepth 16384

noncomputable section

namespace Cert.KernelIdeal.Fox

open Idealize.ShloMosaic Idealize.ShloMosaic.Tactic Idealize.SL.Sem
open Facts₀ Facts

/-! ## The schedule -/

/-- The key block of a batch's point. -/
def kjN (n : ℕ) : ℕ := [7, 6, 5, 5, 4, 4, 3, 3, 3, 2, 2, 2, 1, 1, 1, 1, 0, 0, 0, 0].getD (n % 20) 0

/-- The pair of query blocks of a batch's point. -/
def qqN (n : ℕ) : ℕ := [3, 3, 3, 2, 3, 2, 3, 2, 1, 3, 2, 1, 3, 2, 1, 0, 3, 2, 1, 0].getD (n % 20) 0

theorem kjN_lt (n : ℕ) : kjN n < 8 := by
  have : ∀ r : Fin 20, [7, 6, 5, 5, 4, 4, 3, 3, 3, 2, 2, 2, 1, 1, 1, 1, 0, 0, 0, 0].getD r.val 0 < 8 := by decide
  exact this ⟨n % 20, Nat.mod_lt _ (by decide)⟩

theorem qqN_lt (n : ℕ) : qqN n < 4 := by
  have : ∀ r : Fin 20, [3, 3, 3, 2, 3, 2, 3, 2, 1, 3, 2, 1, 3, 2, 1, 0, 3, 2, 1, 0].getD r.val 0 < 4 := by decide
  exact this ⟨n % 20, Nat.mod_lt _ (by decide)⟩

theorem conds : ∀ t : Fin cfg0.N,
    (eqWord (BitVec.ofNat 32 ((grid0.coords t) 1).val) 0#32 = 1#1 ↔ t.val % 20 = 0)
    ∧ (eqWord (rowWord (grid0.coords t)) 3#32 = 1#1 ↔ qqN t.val = 3)
    ∧ (k0_cond3 (grid0.coords t) = 1#1 ↔ kjN t.val < 2 * qqN t.val + 1)
    ∧ (k0_cond4 (grid0.coords t) = 1#1 ↔ kjN t.val = 2 * qqN t.val + 1)
    ∧ (k0_cond5 (grid0.coords t) = 1#1 ↔ kjN t.val < 2 * qqN t.val)
    ∧ (k0_cond6 (grid0.coords t) = 1#1 ↔ kjN t.val = 2 * qqN t.val)
    ∧ (k0_cond7 (grid0.coords t) = 1#1 ↔ qqN t.val = kjN t.val / 2)
    ∧ (k0_cond8 (grid0.coords t) = 1#1 ↔ t.val % 20 = 19) :=
  (by decide +kernel : ∀ t : Fin grid0.N,
    (eqWord (BitVec.ofNat 32 ((grid0.coords t) 1).val) 0#32 = 1#1 ↔ t.val % 20 = 0)
    ∧ (eqWord (rowWord (grid0.coords t)) 3#32 = 1#1 ↔ qqN t.val = 3)
    ∧ (k0_cond3 (grid0.coords t) = 1#1 ↔ kjN t.val < 2 * qqN t.val + 1)
    ∧ (k0_cond4 (grid0.coords t) = 1#1 ↔ kjN t.val = 2 * qqN t.val + 1)
    ∧ (k0_cond5 (grid0.coords t) = 1#1 ↔ kjN t.val < 2 * qqN t.val)
    ∧ (k0_cond6 (grid0.coords t) = 1#1 ↔ kjN t.val = 2 * qqN t.val)
    ∧ (k0_cond7 (grid0.coords t) = 1#1 ↔ qqN t.val = kjN t.val / 2)
    ∧ (k0_cond8 (grid0.coords t) = 1#1 ↔ t.val % 20 = 19))

theorem offs : ∀ t : Fin cfg0.N,
    k0_off1 (grid0.coords t) 0 = 2 * qqN t.val + 1 ∧ k0_off17 (grid0.coords t) 0 = 2 * qqN t.val + 1
    ∧ k0_off33 (grid0.coords t) 0 = 2 * qqN t.val ∧ k0_off49 (grid0.coords t) 0 = 2 * qqN t.val :=
  (by decide +kernel : ∀ t : Fin grid0.N,
    k0_off1 (grid0.coords t) 0 = 2 * qqN t.val + 1 ∧ k0_off17 (grid0.coords t) 0 = 2 * qqN t.val + 1
    ∧ k0_off33 (grid0.coords t) 0 = 2 * qqN t.val ∧ k0_off49 (grid0.coords t) 0 = 2 * qqN t.val)

theorem idxs : ∀ t : Fin cfg0.N,
    ((cfg0.win 0).index t 0 = 4 * (t.val / 20) + qqN t.val ∧ (cfg0.win 0).index t 1 = 3)
    ∧ ((cfg0.win 1).index t 0 = 8 * (t.val / 20) + kjN t.val ∧ (cfg0.win 1).index t 1 = 4)
    ∧ ((cfg0.win 2).index t 0 = 8 * (t.val / 20) + kjN t.val ∧ (cfg0.win 2).index t 1 = 5)
    ∧ ((cfg0.win 3).index t 0 = 4 * (t.val / 20) + qqN t.val ∧ (cfg0.win 3).index t 1 = 0)
    ∧ ((cfg0.win 4).index t 0 = 0 ∧ (cfg0.win 4).index t 1 = 4 * (t.val / 20) + qqN t.val)
    ∧ ((cfg0.win 5).index t 0 = 0 ∧ (cfg0.win 5).index t 1 = 8 * (t.val / 20) + kjN t.val)
    ∧ ((cfg0.win 6).index t 0 = 0 ∧ (cfg0.win 6).index t 1 = 4 * (t.val / 20) + qqN t.val)
    ∧ ((cfg0.win 7).index t 0 = 8 * (t.val / 20) + kjN t.val ∧ (cfg0.win 7).index t 1 = 0)
    ∧ ((cfg0.win 8).index t 0 = t.val / 20 ∧ (cfg0.win 8).index t 1 = 0 ∧ (cfg0.win 8).index t 2 = qqN t.val)
    ∧ ((cfg0.win 9).index t 0 = t.val / 20 ∧ (cfg0.win 9).index t 1 = 0 ∧ (cfg0.win 9).index t 2 = qqN t.val)
    ∧ ((cfg0.win 10).index t 0 = t.val / 20 ∧ (cfg0.win 10).index t 1 = 0 ∧ (cfg0.win 10).index t 2 = qqN t.val) :=
  (by decide +kernel : ∀ t : Fin grid0.N,
    (win0_0.index t 0 = 4 * (t.val / 20) + qqN t.val ∧ win0_0.index t 1 = 3)
    ∧ (win0_1.index t 0 = 8 * (t.val / 20) + kjN t.val ∧ win0_1.index t 1 = 4)
    ∧ (win0_2.index t 0 = 8 * (t.val / 20) + kjN t.val ∧ win0_2.index t 1 = 5)
    ∧ (win0_3.index t 0 = 4 * (t.val / 20) + qqN t.val ∧ win0_3.index t 1 = 0)
    ∧ (win0_4.index t 0 = 0 ∧ win0_4.index t 1 = 4 * (t.val / 20) + qqN t.val)
    ∧ (win0_5.index t 0 = 0 ∧ win0_5.index t 1 = 8 * (t.val / 20) + kjN t.val)
    ∧ (win0_6.index t 0 = 0 ∧ win0_6.index t 1 = 4 * (t.val / 20) + qqN t.val)
    ∧ (win0_7.index t 0 = 8 * (t.val / 20) + kjN t.val ∧ win0_7.index t 1 = 0)
    ∧ (win0_8.index t 0 = t.val / 20 ∧ win0_8.index t 1 = 0 ∧ win0_8.index t 2 = qqN t.val)
    ∧ (win0_9.index t 0 = t.val / 20 ∧ win0_9.index t 1 = 0 ∧ win0_9.index t 2 = qqN t.val)
    ∧ (win0_10.index t 0 = t.val / 20 ∧ win0_10.index t 1 = 0 ∧ win0_10.index t 2 = qqN t.val))

theorem idxsO : ∀ t : Fin cfg0.N,
    ((cfg0.win 11).index t 0 = t.val / 20 ∧ (cfg0.win 11).index t 1 = 0)
    ∧ ((cfg0.win 12).index t 0 = 8 * (t.val / 20) + kjN t.val ∧ (cfg0.win 12).index t 1 = 0)
    ∧ ((cfg0.win 13).index t 0 = 8 * (t.val / 20) + kjN t.val ∧ (cfg0.win 13).index t 1 = 0)
    ∧ ((cfg0.win 14).index t 0 = 8 * (t.val / 20) + kjN t.val ∧ (cfg0.win 14).index t 1 = 0)
    ∧ ((cfg0.win 15).index t 0 = t.val / 20 ∧ (cfg0.win 15).index t 1 = 0 ∧ (cfg0.win 15).index t 2 = 0) :=
  (by decide +kernel : ∀ t : Fin grid0.N,
    (win0_11.index t 0 = t.val / 20 ∧ win0_11.index t 1 = 0)
    ∧ (win0_12.index t 0 = 8 * (t.val / 20) + kjN t.val ∧ win0_12.index t 1 = 0)
    ∧ (win0_13.index t 0 = 8 * (t.val / 20) + kjN t.val ∧ win0_13.index t 1 = 0)
    ∧ (win0_14.index t 0 = 8 * (t.val / 20) + kjN t.val ∧ win0_14.index t 1 = 0)
    ∧ (win0_15.index t 0 = t.val / 20 ∧ win0_15.index t 1 = 0 ∧ win0_15.index t 2 = 0))

theorem flushK : ∀ t : Fin cfg0.N, ((cfg0.win 12).flush t = true ↔ qqN t.val = kjN t.val / 2) ∧ ((cfg0.win 13).flush t = true ↔ qqN t.val = kjN t.val / 2)
    ∧ ((cfg0.win 14).flush t = true ↔ qqN t.val = kjN t.val / 2) :=
  (by decide +kernel : ∀ t : Fin grid0.N, (win0_12.flush t = true ↔ qqN t.val = kjN t.val / 2) ∧ (win0_13.flush t = true ↔ qqN t.val = kjN t.val / 2)
    ∧ (win0_14.flush t = true ↔ qqN t.val = kjN t.val / 2))

/-! ## The arrays the windows read -/

/-- A batch's arrays: queries, keys, values and output gradients by rows; scaled queries, keys and output gradients transposed;
the decays as keys' and as queries'; the scores' normalisers and the row sums of the output gradients with the outputs. -/
structure Arr where
  q : Fin 2048 → Fin 512 → EReal
  k : Fin 2048 → Fin 512 → EReal
  v : Fin 2048 → Fin 512 → EReal
  da : Fin 2048 → Fin 512 → EReal
  qt : Fin 512 → Fin 2048 → EReal
  kt : Fin 512 → Fin 2048 → EReal
  dat : Fin 512 → Fin 2048 → EReal
  cc : Fin 2048 → Fin 8 → EReal
  cr : Fin 8 → Fin 2048 → EReal
  lse : Fin 8 → Fin 2048 → EReal
  dl : Fin 8 → Fin 2048 → EReal

/-- A batch's row among all rows. -/
abbrev rowOf (B : Fin 2) (t : Fin 2048) : Fin 4096 := ⟨2048 * B.val + t.val, by omega⟩

/-- A row of a key block. -/
abbrev krow (K : Fin 8) (a : Fin 256) : Fin 2048 := ⟨256 * K.val + a.val, by omega⟩

/-- A row of a pair of query blocks. -/
abbrev qrow (Q : Fin 4) (a : Fin 512) : Fin 2048 := ⟨512 * Q.val + a.val, by omega⟩

/-- A batch's arrays, from the arrays of all batches. -/
def arrOf (x : S4096x3584.Idx → EReal) (da : S4096x512.Idx → EReal) (qt : S512x4096.Idx → EReal) (kt : S512x4096.Idx → EReal) (dat : S512x4096.Idx → EReal) (cc : S4096x128.Idx → EReal) (cr : S2x8x2048.Idx → EReal) (lse : S2x8x2048.Idx → EReal) (dl : S2x8x2048.Idx → EReal) (B : Fin 2) : Arr where
  q t j := x (ix2 (rowOf B t) ⟨1536 + j.val, by omega⟩)
  k t j := x (ix2 (rowOf B t) ⟨2048 + j.val, by omega⟩)
  v t j := x (ix2 (rowOf B t) ⟨2560 + j.val, by omega⟩)
  da t j := da (ix2 (rowOf B t) j)
  qt j t := qt (ix2 j (rowOf B t))
  kt j t := kt (ix2 j (rowOf B t))
  dat j t := dat (ix2 j (rowOf B t))
  cc t h := cc (ix2 (rowOf B t) ⟨h.val, by omega⟩)
  cr h t := cr (ix3 B h t)
  lse h t := lse (ix3 B h t)
  dl h t := dl (ix3 B h t)

/-- Buffers that hold a batch's blocks: key block `K`, pair of query blocks `Q`. -/
structure Reads (A : Arr) (K : Fin 8) (Q : Fin 4) (X : Bank.St Ideal) : Prop where
  q : ∀ a j, X .q (ix2 a j) = A.q (qrow Q a) j
  k : ∀ a j, X .k (ix2 a j) = A.k (krow K a) j
  v : ∀ a j, X .v (ix2 a j) = A.v (krow K a) j
  da : ∀ a j, X .da (ix2 a j) = A.da (qrow Q a) j
  qt : ∀ j a, X .qt (ix2 j a) = A.qt j (qrow Q a)
  kt : ∀ j a, X .kt (ix2 j a) = A.kt j (krow K a)
  dat : ∀ j a, X .dat (ix2 j a) = A.dat j (qrow Q a)
  cc : ∀ a (h : Fin 8), X .cc (ix2 a ⟨h.val, by omega⟩) = A.cc (krow K a) h
  cr : ∀ h a, X .cr (ix3 0 h a) = A.cr h (qrow Q a)
  lse : ∀ h a, X .lse (ix3 0 h a) = A.lse h (qrow Q a)
  dl : ∀ h a, X .dl (ix3 0 h a) = A.dl h (qrow Q a)

/-- A point's batch, key block and pair of query blocks. -/
abbrev bat (n : ℕ) : Fin 2 := ⟨n / 20 % 2, Nat.mod_lt _ (by decide)⟩
abbrev kj (n : ℕ) : Fin 8 := ⟨kjN n, kjN_lt n⟩
abbrev qq (n : ℕ) : Fin 4 := ⟨qqN n, qqN_lt n⟩

theorem bat_val (t : Fin cfg0.N) : (bat t.val).val = t.val / 20 := by
  have : t.val < 40 := t.isLt
  show t.val / 20 % 2 = t.val / 20
  omega

theorem block0 (t : Fin cfg0.N) (Z : S4096x3584.Idx → Elt Ideal .f32) (a : Fin 512) (j : Fin 512) :
    ((cfg0.win 0).blk t).view.read (Elt Ideal) Z (ix2 a j) = Z (ix2 (rowOf (bat t.val) (qrow (qq t.val) a)) ⟨1536 + j.val, by omega⟩) := by
  refine congrArg Z (funext (Fin.forall_fin_two.mpr ⟨Fin.ext ?_, Fin.ext ?_⟩))
  · refine (Pipeline.Window.rect_emb_val (cfg0.win 0) t (ix2 a j) 0).trans ?_
    have h : (cfg0.win 0).index t 0 = _ := (idxs t).1.1
    have hb := bat_val t
    show (cfg0.win 0).index t 0 * 512 + a.val = 2048 * (bat t.val).val + (512 * qqN t.val + a.val)
    omega
  · refine (Pipeline.Window.rect_emb_val (cfg0.win 0) t (ix2 a j) 1).trans ?_
    have h : (cfg0.win 0).index t 1 = _ := (idxs t).1.2
    have hb := bat_val t
    show (cfg0.win 0).index t 1 * 512 + j.val = 1536 + j.val
    omega

theorem block1 (t : Fin cfg0.N) (Z : S4096x3584.Idx → Elt Ideal .f32) (a : Fin 256) (j : Fin 512) :
    ((cfg0.win 1).blk t).view.read (Elt Ideal) Z (ix2 a j) = Z (ix2 (rowOf (bat t.val) (krow (kj t.val) a)) ⟨2048 + j.val, by omega⟩) := by
  refine congrArg Z (funext (Fin.forall_fin_two.mpr ⟨Fin.ext ?_, Fin.ext ?_⟩))
  · refine (Pipeline.Window.rect_emb_val (cfg0.win 1) t (ix2 a j) 0).trans ?_
    have h : (cfg0.win 1).index t 0 = _ := (idxs t).2.1.1
    have hb := bat_val t
    show (cfg0.win 1).index t 0 * 256 + a.val = 2048 * (bat t.val).val + (256 * kjN t.val + a.val)
    omega
  · refine (Pipeline.Window.rect_emb_val (cfg0.win 1) t (ix2 a j) 1).trans ?_
    have h : (cfg0.win 1).index t 1 = _ := (idxs t).2.1.2
    have hb := bat_val t
    show (cfg0.win 1).index t 1 * 512 + j.val = 2048 + j.val
    omega

theorem block2 (t : Fin cfg0.N) (Z : S4096x3584.Idx → Elt Ideal .f32) (a : Fin 256) (j : Fin 512) :
    ((cfg0.win 2).blk t).view.read (Elt Ideal) Z (ix2 a j) = Z (ix2 (rowOf (bat t.val) (krow (kj t.val) a)) ⟨2560 + j.val, by omega⟩) := by
  refine congrArg Z (funext (Fin.forall_fin_two.mpr ⟨Fin.ext ?_, Fin.ext ?_⟩))
  · refine (Pipeline.Window.rect_emb_val (cfg0.win 2) t (ix2 a j) 0).trans ?_
    have h : (cfg0.win 2).index t 0 = _ := (idxs t).2.2.1.1
    have hb := bat_val t
    show (cfg0.win 2).index t 0 * 256 + a.val = 2048 * (bat t.val).val + (256 * kjN t.val + a.val)
    omega
  · refine (Pipeline.Window.rect_emb_val (cfg0.win 2) t (ix2 a j) 1).trans ?_
    have h : (cfg0.win 2).index t 1 = _ := (idxs t).2.2.1.2
    have hb := bat_val t
    show (cfg0.win 2).index t 1 * 512 + j.val = 2560 + j.val
    omega

theorem block3 (t : Fin cfg0.N) (Z : S4096x512.Idx → Elt Ideal .bf16) (a : Fin 512) (j : Fin 512) :
    ((cfg0.win 3).blk t).view.read (Elt Ideal) Z (ix2 a j) = Z (ix2 (rowOf (bat t.val) (qrow (qq t.val) a)) j) := by
  refine congrArg Z (funext (Fin.forall_fin_two.mpr ⟨Fin.ext ?_, Fin.ext ?_⟩))
  · refine (Pipeline.Window.rect_emb_val (cfg0.win 3) t (ix2 a j) 0).trans ?_
    have h : (cfg0.win 3).index t 0 = _ := (idxs t).2.2.2.1.1
    have hb := bat_val t
    show (cfg0.win 3).index t 0 * 512 + a.val = 2048 * (bat t.val).val + (512 * qqN t.val + a.val)
    omega
  · refine (Pipeline.Window.rect_emb_val (cfg0.win 3) t (ix2 a j) 1).trans ?_
    have h : (cfg0.win 3).index t 1 = _ := (idxs t).2.2.2.1.2
    have hb := bat_val t
    show (cfg0.win 3).index t 1 * 512 + j.val = j.val
    omega

theorem block4 (t : Fin cfg0.N) (Z : S512x4096.Idx → Elt Ideal .bf16) (a : Fin 512) (j : Fin 512) :
    ((cfg0.win 4).blk t).view.read (Elt Ideal) Z (ix2 a j) = Z (ix2 a (rowOf (bat t.val) (qrow (qq t.val) j))) := by
  refine congrArg Z (funext (Fin.forall_fin_two.mpr ⟨Fin.ext ?_, Fin.ext ?_⟩))
  · refine (Pipeline.Window.rect_emb_val (cfg0.win 4) t (ix2 a j) 0).trans ?_
    have h : (cfg0.win 4).index t 0 = _ := (idxs t).2.2.2.2.1.1
    have hb := bat_val t
    show (cfg0.win 4).index t 0 * 512 + a.val = a.val
    omega
  · refine (Pipeline.Window.rect_emb_val (cfg0.win 4) t (ix2 a j) 1).trans ?_
    have h : (cfg0.win 4).index t 1 = _ := (idxs t).2.2.2.2.1.2
    have hb := bat_val t
    show (cfg0.win 4).index t 1 * 512 + j.val = 2048 * (bat t.val).val + (512 * qqN t.val + j.val)
    omega

theorem block5 (t : Fin cfg0.N) (Z : S512x4096.Idx → Elt Ideal .bf16) (a : Fin 512) (j : Fin 256) :
    ((cfg0.win 5).blk t).view.read (Elt Ideal) Z (ix2 a j) = Z (ix2 a (rowOf (bat t.val) (krow (kj t.val) j))) := by
  refine congrArg Z (funext (Fin.forall_fin_two.mpr ⟨Fin.ext ?_, Fin.ext ?_⟩))
  · refine (Pipeline.Window.rect_emb_val (cfg0.win 5) t (ix2 a j) 0).trans ?_
    have h : (cfg0.win 5).index t 0 = _ := (idxs t).2.2.2.2.2.1.1
    have hb := bat_val t
    show (cfg0.win 5).index t 0 * 512 + a.val = a.val
    omega
  · refine (Pipeline.Window.rect_emb_val (cfg0.win 5) t (ix2 a j) 1).trans ?_
    have h : (cfg0.win 5).index t 1 = _ := (idxs t).2.2.2.2.2.1.2
    have hb := bat_val t
    show (cfg0.win 5).index t 1 * 256 + j.val = 2048 * (bat t.val).val + (256 * kjN t.val + j.val)
    omega

theorem block6 (t : Fin cfg0.N) (Z : S512x4096.Idx → Elt Ideal .bf16) (a : Fin 512) (j : Fin 512) :
    ((cfg0.win 6).blk t).view.read (Elt Ideal) Z (ix2 a j) = Z (ix2 a (rowOf (bat t.val) (qrow (qq t.val) j))) := by
  refine congrArg Z (funext (Fin.forall_fin_two.mpr ⟨Fin.ext ?_, Fin.ext ?_⟩))
  · refine (Pipeline.Window.rect_emb_val (cfg0.win 6) t (ix2 a j) 0).trans ?_
    have h : (cfg0.win 6).index t 0 = _ := (idxs t).2.2.2.2.2.2.1.1
    have hb := bat_val t
    show (cfg0.win 6).index t 0 * 512 + a.val = a.val
    omega
  · refine (Pipeline.Window.rect_emb_val (cfg0.win 6) t (ix2 a j) 1).trans ?_
    have h : (cfg0.win 6).index t 1 = _ := (idxs t).2.2.2.2.2.2.1.2
    have hb := bat_val t
    show (cfg0.win 6).index t 1 * 512 + j.val = 2048 * (bat t.val).val + (512 * qqN t.val + j.val)
    omega

theorem block7 (t : Fin cfg0.N) (Z : S4096x128.Idx → Elt Ideal .f32) (a : Fin 256) (j : Fin 128) :
    ((cfg0.win 7).blk t).view.read (Elt Ideal) Z (ix2 a j) = Z (ix2 (rowOf (bat t.val) (krow (kj t.val) a)) j) := by
  refine congrArg Z (funext (Fin.forall_fin_two.mpr ⟨Fin.ext ?_, Fin.ext ?_⟩))
  · refine (Pipeline.Window.rect_emb_val (cfg0.win 7) t (ix2 a j) 0).trans ?_
    have h : (cfg0.win 7).index t 0 = _ := (idxs t).2.2.2.2.2.2.2.1.1
    have hb := bat_val t
    show (cfg0.win 7).index t 0 * 256 + a.val = 2048 * (bat t.val).val + (256 * kjN t.val + a.val)
    omega
  · refine (Pipeline.Window.rect_emb_val (cfg0.win 7) t (ix2 a j) 1).trans ?_
    have h : (cfg0.win 7).index t 1 = _ := (idxs t).2.2.2.2.2.2.2.1.2
    have hb := bat_val t
    show (cfg0.win 7).index t 1 * 128 + j.val = j.val
    omega

theorem block8 (t : Fin cfg0.N) (Z : S2x8x2048.Idx → Elt Ideal .f32) (h : Fin 8) (a : Fin 512) :
    ((cfg0.win 8).blk t).view.read (Elt Ideal) Z (ix3 0 h a) = Z (ix3 (bat t.val) h (qrow (qq t.val) a)) := by
  refine congrArg Z (funext (Fin.forall_fin_succ.mpr ⟨Fin.ext ?_, Fin.forall_fin_two.mpr ⟨Fin.ext ?_, Fin.ext ?_⟩⟩))
  · refine (Pipeline.Window.rect_emb_val (cfg0.win 8) t (ix3 0 h a) 0).trans ?_
    have h : (cfg0.win 8).index t 0 = _ := (idxs t).2.2.2.2.2.2.2.2.1.1
    have hb := bat_val t
    show (cfg0.win 8).index t 0 * 1 + 0 = (bat t.val).val
    omega
  · refine (Pipeline.Window.rect_emb_val (cfg0.win 8) t (ix3 0 h a) 1).trans ?_
    have h' : (cfg0.win 8).index t 1 = _ := (idxs t).2.2.2.2.2.2.2.2.1.2.1
    show (cfg0.win 8).index t 1 * 8 + h.val = h.val
    omega
  · refine (Pipeline.Window.rect_emb_val (cfg0.win 8) t (ix3 0 h a) 2).trans ?_
    have h : (cfg0.win 8).index t 2 = _ := (idxs t).2.2.2.2.2.2.2.2.1.2.2
    show (cfg0.win 8).index t 2 * 512 + a.val = 512 * qqN t.val + a.val
    omega

theorem block9 (t : Fin cfg0.N) (Z : S2x8x2048.Idx → Elt Ideal .f32) (h : Fin 8) (a : Fin 512) :
    ((cfg0.win 9).blk t).view.read (Elt Ideal) Z (ix3 0 h a) = Z (ix3 (bat t.val) h (qrow (qq t.val) a)) := by
  refine congrArg Z (funext (Fin.forall_fin_succ.mpr ⟨Fin.ext ?_, Fin.forall_fin_two.mpr ⟨Fin.ext ?_, Fin.ext ?_⟩⟩))
  · refine (Pipeline.Window.rect_emb_val (cfg0.win 9) t (ix3 0 h a) 0).trans ?_
    have h : (cfg0.win 9).index t 0 = _ := (idxs t).2.2.2.2.2.2.2.2.2.1.1
    have hb := bat_val t
    show (cfg0.win 9).index t 0 * 1 + 0 = (bat t.val).val
    omega
  · refine (Pipeline.Window.rect_emb_val (cfg0.win 9) t (ix3 0 h a) 1).trans ?_
    have h' : (cfg0.win 9).index t 1 = _ := (idxs t).2.2.2.2.2.2.2.2.2.1.2.1
    show (cfg0.win 9).index t 1 * 8 + h.val = h.val
    omega
  · refine (Pipeline.Window.rect_emb_val (cfg0.win 9) t (ix3 0 h a) 2).trans ?_
    have h : (cfg0.win 9).index t 2 = _ := (idxs t).2.2.2.2.2.2.2.2.2.1.2.2
    show (cfg0.win 9).index t 2 * 512 + a.val = 512 * qqN t.val + a.val
    omega

theorem block10 (t : Fin cfg0.N) (Z : S2x8x2048.Idx → Elt Ideal .f32) (h : Fin 8) (a : Fin 512) :
    ((cfg0.win 10).blk t).view.read (Elt Ideal) Z (ix3 0 h a) = Z (ix3 (bat t.val) h (qrow (qq t.val) a)) := by
  refine congrArg Z (funext (Fin.forall_fin_succ.mpr ⟨Fin.ext ?_, Fin.forall_fin_two.mpr ⟨Fin.ext ?_, Fin.ext ?_⟩⟩))
  · refine (Pipeline.Window.rect_emb_val (cfg0.win 10) t (ix3 0 h a) 0).trans ?_
    have h : (cfg0.win 10).index t 0 = _ := (idxs t).2.2.2.2.2.2.2.2.2.2.1
    have hb := bat_val t
    show (cfg0.win 10).index t 0 * 1 + 0 = (bat t.val).val
    omega
  · refine (Pipeline.Window.rect_emb_val (cfg0.win 10) t (ix3 0 h a) 1).trans ?_
    have h' : (cfg0.win 10).index t 1 = _ := (idxs t).2.2.2.2.2.2.2.2.2.2.2.1
    show (cfg0.win 10).index t 1 * 8 + h.val = h.val
    omega
  · refine (Pipeline.Window.rect_emb_val (cfg0.win 10) t (ix3 0 h a) 2).trans ?_
    have h : (cfg0.win 10).index t 2 = _ := (idxs t).2.2.2.2.2.2.2.2.2.2.2.2
    show (cfg0.win 10).index t 2 * 512 + a.val = 512 * qqN t.val + a.val
    omega

theorem reads_of (t : Fin cfg0.N) (x : S4096x3584.Idx → EReal) (da : S4096x512.Idx → EReal) (qt : S512x4096.Idx → EReal) (kt : S512x4096.Idx → EReal) (dat : S512x4096.Idx → EReal) (cc : S4096x128.Idx → EReal) (cr : S2x8x2048.Idx → EReal) (lse : S2x8x2048.Idx → EReal) (dl : S2x8x2048.Idx → EReal) (X : Bank.St Ideal)
    (hq : X .q = ((cfg0.win 0).blk t).view.read (Elt Ideal) x)
    (hk : X .k = ((cfg0.win 1).blk t).view.read (Elt Ideal) x)
    (hv : X .v = ((cfg0.win 2).blk t).view.read (Elt Ideal) x)
    (hda : X .da = ((cfg0.win 3).blk t).view.read (Elt Ideal) da)
    (hqt : X .qt = ((cfg0.win 4).blk t).view.read (Elt Ideal) qt)
    (hkt : X .kt = ((cfg0.win 5).blk t).view.read (Elt Ideal) kt)
    (hdat : X .dat = ((cfg0.win 6).blk t).view.read (Elt Ideal) dat)
    (hcc : X .cc = ((cfg0.win 7).blk t).view.read (Elt Ideal) cc)
    (hcr : X .cr = ((cfg0.win 8).blk t).view.read (Elt Ideal) cr)
    (hlse : X .lse = ((cfg0.win 9).blk t).view.read (Elt Ideal) lse)
    (hdl : X .dl = ((cfg0.win 10).blk t).view.read (Elt Ideal) dl)
    : Reads (arrOf x da qt kt dat cc cr lse dl (bat t.val)) (kj t.val) (qq t.val) X where
  q a j := (congrFun hq (ix2 a j)).trans (block0 t x a j)
  k a j := (congrFun hk (ix2 a j)).trans (block1 t x a j)
  v a j := (congrFun hv (ix2 a j)).trans (block2 t x a j)
  da a j := (congrFun hda (ix2 a j)).trans (block3 t da a j)
  qt a j := (congrFun hqt (ix2 a j)).trans (block4 t qt a j)
  kt a j := (congrFun hkt (ix2 a j)).trans (block5 t kt a j)
  dat a j := (congrFun hdat (ix2 a j)).trans (block6 t dat a j)
  cc a h := (congrFun hcc (ix2 a _)).trans (block7 t cc a _)
  cr h a := (congrFun hcr (ix3 0 h a)).trans (block8 t cr h a)
  lse h a := (congrFun hlse (ix3 0 h a)).trans (block9 t lse h a)
  dl h a := (congrFun hdl (ix3 0 h a)).trans (block10 t dl h a)

variable (m : (ℓ : Loc nD τ sig) → Buf (Elt Ideal) ℓ)

/-! The arrays as the launch finds them. -/

def hostX (c : Dev nD) : S4096x3584.Idx → EReal := Gen.V m c main_arg0
def hostDa (c : Dev nD) : S4096x512.Idx → EReal := Gen.V m c main_v50
def hostQt (c : Dev nD) : S512x4096.Idx → EReal := Gen.V m c main_v47
def hostKt (c : Dev nD) : S512x4096.Idx → EReal := Gen.V m c main_v49
def hostDat (c : Dev nD) : S512x4096.Idx → EReal := Gen.V m c main_v52
def hostC (c : Dev nD) : S4096x128.Idx → EReal := Gen.V m c main_arg1
def hostCr (c : Dev nD) : S2x8x2048.Idx → EReal := Gen.V m c main_v5
def hostLse (c : Dev nD) : S2x8x2048.Idx → EReal := Gen.V m c main_v34
def hostDl (c : Dev nD) : S2x8x2048.Idx → EReal := Gen.V m c main_v43

/-- A batch's arrays as the launch finds them. -/
def arr (c : Dev nD) (B : Fin 2) : Arr := arrOf (hostX m c) (hostDa m c) (hostQt m c) (hostKt m c) (hostDat m c) (hostC m c) (hostCr m c) (hostLse m c) (hostDl m c) B

theorem ins_q (c : Dev nD) (t : Fin cfg0.N) (X : Bank.St Ideal) : ins m c t X .q = ((cfg0.win 0).blk t).view.read (Elt Ideal) (hostX m c) := rfl
theorem ins_k (c : Dev nD) (t : Fin cfg0.N) (X : Bank.St Ideal) : ins m c t X .k = ((cfg0.win 1).blk t).view.read (Elt Ideal) (hostX m c) := rfl
theorem ins_v (c : Dev nD) (t : Fin cfg0.N) (X : Bank.St Ideal) : ins m c t X .v = ((cfg0.win 2).blk t).view.read (Elt Ideal) (hostX m c) := rfl
theorem ins_da (c : Dev nD) (t : Fin cfg0.N) (X : Bank.St Ideal) : ins m c t X .da = ((cfg0.win 3).blk t).view.read (Elt Ideal) (hostDa m c) := rfl
theorem ins_qt (c : Dev nD) (t : Fin cfg0.N) (X : Bank.St Ideal) : ins m c t X .qt = ((cfg0.win 4).blk t).view.read (Elt Ideal) (hostQt m c) := rfl
theorem ins_kt (c : Dev nD) (t : Fin cfg0.N) (X : Bank.St Ideal) : ins m c t X .kt = ((cfg0.win 5).blk t).view.read (Elt Ideal) (hostKt m c) := rfl
theorem ins_dat (c : Dev nD) (t : Fin cfg0.N) (X : Bank.St Ideal) : ins m c t X .dat = ((cfg0.win 6).blk t).view.read (Elt Ideal) (hostDat m c) := rfl
theorem ins_cc (c : Dev nD) (t : Fin cfg0.N) (X : Bank.St Ideal) : ins m c t X .cc = ((cfg0.win 7).blk t).view.read (Elt Ideal) (hostC m c) := rfl
theorem ins_cr (c : Dev nD) (t : Fin cfg0.N) (X : Bank.St Ideal) : ins m c t X .cr = ((cfg0.win 8).blk t).view.read (Elt Ideal) (hostCr m c) := rfl
theorem ins_lse (c : Dev nD) (t : Fin cfg0.N) (X : Bank.St Ideal) : ins m c t X .lse = ((cfg0.win 9).blk t).view.read (Elt Ideal) (hostLse m c) := rfl
theorem ins_dl (c : Dev nD) (t : Fin cfg0.N) (X : Bank.St Ideal) : ins m c t X .dl = ((cfg0.win 10).blk t).view.read (Elt Ideal) (hostDl m c) := rfl

theorem ins_reads (c : Dev nD) (t : Fin cfg0.N) (X : Bank.St Ideal) : Reads (arr m c (bat t.val)) (kj t.val) (qq t.val) (ins m c t X) :=
  reads_of t (hostX m c) (hostDa m c) (hostQt m c) (hostKt m c) (hostDat m c) (hostC m c) (hostCr m c) (hostLse m c) (hostDl m c) _ (ins_q m c t X) (ins_k m c t X) (ins_v m c t X) (ins_da m c t X) (ins_qt m c t X) (ins_kt m c t X) (ins_dat m c t X) (ins_cc m c t X) (ins_cr m c t X) (ins_lse m c t X) (ins_dl m c t X)

end Cert.KernelIdeal.Fox

end
-- ==== Proof.Traj.lean ====
/- What the points leave in the accumulators: sums over the key blocks and over the query blocks. -/
module

public import proofs.«01_k».proof.Proof.Sched

@[expose] public section

set_option maxRecDepth 16384

noncomputable section

namespace Cert.KernelIdeal.Fox

open Idealize.ShloMosaic Idealize.ShloMosaic.Tactic Idealize.SL.Sem
open Facts₀ Facts

/-! ## Probabilities and scores' gradients over a batch -/

/-- The probability of key `s` for query `t`: zero where the key comes after the query. -/
def P (A : Arr) (h : Fin 8) (s t : Fin 2048) : EReal :=
  if t.val < s.val then 0 else Ideal.exp ((∑ d : Fin 64, A.k s (ln h d) * A.qt (ln h d) t) + (A.cr h t - A.cc s h) - A.lse h t)

/-- The gradient of the score of key `s` for query `t`. -/
def dS (A : Arr) (h : Fin 8) (s t : Fin 2048) : EReal :=
  P A h s t * ((∑ d : Fin 64, A.v s (ln h d) * A.dat (ln h d) t) - A.dl h t)

theorem P_zero (A : Arr) (h : Fin 8) {s t : Fin 2048} (e : t.val < s.val) : P A h s t = 0 := if_pos e

theorem dS_zero (A : Arr) (h : Fin 8) {s t : Fin 2048} (e : t.val < s.val) : dS A h s t = 0 := by
  unfold dS; rw [P_zero A h e, zero_mul]

/-- A half of a pair of query blocks as a block. -/
abbrev half (Q : Fin 4) (sub : Bool) : Fin 8 := ⟨2 * Q.val + (bif sub then 1 else 0), by cases sub <;> simp only [cond_true, cond_false] <;> omega⟩

theorem qrow_col (Q : Fin 4) (sub : Bool) (b : Fin 256) : qrow Q (col sub b) = krow (half Q sub) b :=
  Fin.ext (by cases sub <;> simp only [subOff, cond_true, cond_false] <;> omega)

theorem pe_reads {A : Arr} {K : Fin 8} {Q : Fin 4} {X : Bank.St Ideal} (R : Reads A K Q X) (mask sub : Bool)
    (hle : K.val ≤ (half Q sub).val) (hm : mask = true ↔ K.val = (half Q sub).val) (h : Fin 8) (a b : Fin 256) :
    pe mask sub X h a b = P A h (krow K a) (krow (half Q sub) b) := by
  unfold pe P prob
  simp only [R.k, R.qt, R.cr, R.lse, R.cc, qrow_col]
  by_cases hc : (krow (half Q sub) b).val < (krow K a).val
  · have : 256 * (half Q sub).val + b.val < 256 * K.val + a.val := hc
    rw [if_pos hc, if_pos ⟨hm.mpr (by omega), by omega⟩]
  · have : ¬ 256 * (half Q sub).val + b.val < 256 * K.val + a.val := hc
    rw [if_neg hc, if_neg fun hh => this (by have := hm.mp hh.1; have := hh.2; omega)]

theorem dsc_reads {A : Arr} {K : Fin 8} {Q : Fin 4} {X : Bank.St Ideal} (R : Reads A K Q X) (mask sub : Bool)
    (hle : K.val ≤ (half Q sub).val) (hm : mask = true ↔ K.val = (half Q sub).val) (h : Fin 8) (a b : Fin 256) :
    dsc mask sub X h a b = dS A h (krow K a) (krow (half Q sub) b) := by
  unfold dsc dS
  rw [pe_reads R mask sub hle hm]
  simp only [R.v, R.dat, R.dl, qrow_col]

/-! ## What a tile adds -/

/-- A key block's part of the query gradient (transposed, unscaled). -/
def gq (A : Arr) (K I : Fin 8) (j : Fin 512) (b : Fin 256) : EReal := ∑ a : Fin 256, A.kt j (krow K a) * dS A (hd (j.val / 64)) (krow K a) (krow I b)

/-- A key block's part of the gradient of the queries' decays. -/
def gr (A : Arr) (K I : Fin 8) (h : Fin 8) (b : Fin 256) : EReal := ∑ a : Fin 256, dS A h (krow K a) (krow I b)

/-- A query block's part of the key gradient. -/
def gk (A : Arr) (K I : Fin 8) (a : Fin 256) (j : Fin 512) : EReal := ∑ b : Fin 256, dS A (hd (j.val / 64)) (krow K a) (krow I b) * (A.q (krow I b) j * c8)

/-- A query block's part of the value gradient. -/
def gv (A : Arr) (K I : Fin 8) (a : Fin 256) (j : Fin 512) : EReal := ∑ b : Fin 256, P A (hd (j.val / 64)) (krow K a) (krow I b) * A.da (krow I b) j

/-- A query block's part of the gradient of the keys' decays. -/
def gc (A : Arr) (K I : Fin 8) (a : Fin 256) (l : Fin 128) : EReal := if l.val < 8 then -∑ b : Fin 256, dS A (hd l.val) (krow K a) (krow I b) else 0

theorem later {K I : Fin 8} (h : I.val < K.val) (a b : Fin 256) : (krow I b).val < (krow K a).val := by
  show 256 * I.val + b.val < 256 * K.val + a.val; omega

theorem gq_zero (A : Arr) {K I : Fin 8} (h : I.val < K.val) (j b) : gq A K I j b = 0 :=
  Finset.sum_eq_zero fun a _ => by rw [dS_zero A _ (later h a b), mul_zero]
theorem gr_zero (A : Arr) {K I : Fin 8} (h : I.val < K.val) (l b) : gr A K I l b = 0 :=
  Finset.sum_eq_zero fun a _ => dS_zero A _ (later h a b)
theorem gk_zero (A : Arr) {K I : Fin 8} (h : I.val < K.val) (a j) : gk A K I a j = 0 :=
  Finset.sum_eq_zero fun b _ => by rw [dS_zero A _ (later h a b), zero_mul]
theorem gv_zero (A : Arr) {K I : Fin 8} (h : I.val < K.val) (a j) : gv A K I a j = 0 :=
  Finset.sum_eq_zero fun b _ => by rw [P_zero A _ (later h a b), zero_mul]
theorem gc_zero (A : Arr) {K I : Fin 8} (h : I.val < K.val) (a l) : gc A K I a l = 0 := by
  unfold gc
  rw [Finset.sum_eq_zero fun b _ => dS_zero A _ (later h a b), neg_zero, ite_self]

/-- The accumulators after the tile of key block `K` and query block `I`. -/
structure Adds (A : Arr) (K I : Fin 8) (X Y : Bank.St Ideal) : Prop where
  rest : ∀ b : Bank, b.scr = false → Y b = X b
  dq : ∀ (i : Fin 8) (j : Fin 512) (b : Fin 256), Y .dqS (ix3 i j b) = X .dqS (ix3 i j b) + if i = I then gq A K I j b else 0
  dcq : ∀ (i : Fin 8) (h : Fin 8) (b : Fin 256), Y .dcqS (ix3 i h b) = X .dcqS (ix3 i h b) + if i = I then gr A K I h b else 0
  dk : ∀ (a : Fin 256) (j : Fin 512), Y .dkS (ix2 a j) = X .dkS (ix2 a j) + gk A K I a j
  dv : ∀ (a : Fin 256) (j : Fin 512), Y .dvS (ix2 a j) = X .dvS (ix2 a j) + gv A K I a j
  dck : ∀ (a : Fin 256) (l : Fin 128), Y .dckS (ix2 a l) = X .dckS (ix2 a l) + gc A K I a l

theorem adds_skip (A : Arr) {K I : Fin 8} (h : I.val < K.val) (X : Bank.St Ideal) : Adds A K I X X := by
  refine ⟨fun _ _ => rfl, fun i j b => ?_, fun i l b => ?_, fun a j => ?_, fun a j => ?_, fun a l => ?_⟩
  · rw [gq_zero A h, ite_self, add_zero]
  · rw [gr_zero A h, ite_self, add_zero]
  · rw [gk_zero A h, add_zero]
  · rw [gv_zero A h, add_zero]
  · rw [gc_zero A h, add_zero]

theorem adds_tile {A : Arr} {K : Fin 8} {Q : Fin 4} {X Y : Bank.St Ideal} (R : Reads A K Q X) (mask sub : Bool)
    (hle : K.val ≤ (half Q sub).val) (hm : mask = true ↔ K.val = (half Q sub).val) {qi : ℕ} (hq : qi = (half Q sub).val)
    (T : TileOut mask sub qi X Y) : Adds A K (half Q sub) X Y := by
  subst hq
  refine ⟨T.rest, fun i j b => ?_, fun i l b => ?_, fun a j => ?_, fun a j => ?_, fun a l => ?_⟩
  · rw [T.dq i j b]
    simp only [dsc_reads R mask sub hle hm, R.kt]
    by_cases h : i = half Q sub
    · rw [if_pos h, if_pos (congrArg Fin.val h)]; rfl
    · rw [if_neg h, if_neg fun h' => h (Fin.ext h'), add_zero]
  · rw [T.dcq i l b]
    simp only [dsc_reads R mask sub hle hm]
    by_cases h : i = half Q sub
    · rw [if_pos h, if_pos (congrArg Fin.val h)]; rfl
    · rw [if_neg h, if_neg fun h' => h (Fin.ext h'), add_zero]
  · rw [T.dk a j]
    simp only [dsc_reads R mask sub hle hm, R.q, qrow_col]; rfl
  · rw [T.dv a j]
    simp only [pe_reads R mask sub hle hm, R.da, qrow_col]; rfl
  · rw [T.dck a l]
    simp only [dsc_reads R mask sub hle hm]
    unfold gc
    by_cases h : l.val < 8
    · rw [if_pos h, if_pos h]; rfl
    · rw [if_neg h, if_neg h, add_zero]

theorem Reads.same {A : Arr} {K : Fin 8} {Q : Fin 4} {X Y : Bank.St Ideal} (R : Reads A K Q X) (h : ∀ b : Bank, b.scr = false → Y b = X b) : Reads A K Q Y where
  q a j := (congrFun (h .q rfl) _).trans (R.q a j)
  k a j := (congrFun (h .k rfl) _).trans (R.k a j)
  v a j := (congrFun (h .v rfl) _).trans (R.v a j)
  da a j := (congrFun (h .da rfl) _).trans (R.da a j)
  qt a j := (congrFun (h .qt rfl) _).trans (R.qt a j)
  kt a j := (congrFun (h .kt rfl) _).trans (R.kt a j)
  dat a j := (congrFun (h .dat rfl) _).trans (R.dat a j)
  cc a j := (congrFun (h .cc rfl) _).trans (R.cc a j)
  cr a j := (congrFun (h .cr rfl) _).trans (R.cr a j)
  lse a j := (congrFun (h .lse rfl) _).trans (R.lse a j)
  dl a j := (congrFun (h .dl rfl) _).trans (R.dl a j)

/-- Two tiles of one place, one unmasked and one masked, at most one of which is run. -/
theorem adds_pair {A : Arr} {K : Fin 8} {Q : Fin 4} {X : Bank.St Ideal} (R : Reads A K Q X) (sub : Bool) {p q : Prop} [dp : Decidable p] [dq : Decidable q]
    (hp : p ↔ K.val < (half Q sub).val) (hq : q ↔ K.val = (half Q sub).val) (f : p → Bank.St Ideal) (g : q → Bank.St Ideal → Bank.St Ideal)
    (hf : ∀ h, TileOut false sub (half Q sub).val X (f h)) (hg : ∀ h Y, TileOut true sub (half Q sub).val Y (g h Y)) :
    Adds A K (half Q sub) X (@dite _ q dq (fun h => g h (@dite _ p dp (fun h => f h) fun _ => X)) fun _ => @dite _ p dp (fun h => f h) fun _ => X) := by
  by_cases h1 : p
  · have h2 : ¬ q := fun h2 => by have := hp.mp h1; have := hq.mp h2; omega
    rw [dif_neg h2, dif_pos h1]
    exact adds_tile R false sub (le_of_lt (hp.mp h1)) ⟨fun h => Bool.noConfusion h, fun h => absurd (hq.mpr h) h2⟩ rfl (hf h1)
  · by_cases h2 : q
    · rw [dif_pos h2, dif_neg h1]
      exact adds_tile R true sub (le_of_eq (hq.mp h2)) ⟨fun _ => hq.mp h2, fun _ => rfl⟩ rfl (hg h2 X)
    · rw [dif_neg h2, dif_neg h1]
      exact adds_skip A (by
        have a : ¬ K.val < (half Q sub).val := fun h => h1 (hp.mpr h)
        have b : ¬ K.val = (half Q sub).val := fun h => h2 (hq.mpr h)
        omega) X

/-! ## A point -/

/-- The accumulators cleared where the point clears them. -/
def clears (t : Fin cfg0.N) (X : Bank.St Ideal) : Bank.St Ideal :=
  let Y := if t.val % 20 = 0 then (clearQ.run X).2 else X
  if qqN t.val = 3 then (clearK.run Y).2 else Y

theorem ite_of_iff {α : Type} {p q : Prop} [dp : Decidable p] [dq : Decidable q] (h : p ↔ q) (x : p → α) (z y : α) (hx : ∀ h, x h = z) : @dite α p dp x (fun _ => y) = @ite α q dq z y := by
  by_cases hp : p
  · rw [dif_pos hp, if_pos (h.mp hp), hx]
  · rw [dif_neg hp, if_neg fun hq => hp (h.mpr hq)]

/-- The point's first tiles, the unmasked and the masked one of the later query block. -/
def tilesT (i : grid0.Coords) (Y : Bank.St Ideal) : Bank.St Ideal :=
  @dite _ (k0_cond4 i = 1#1) inferInstance (fun h => ((tileCode true true (k0_off17 i 0) (k0_off17_inb i h 0)).run
    (@dite _ (k0_cond3 i = 1#1) inferInstance (fun h => ((tileCode false true (k0_off1 i 0) (k0_off1_inb i h 0)).run Y).2) fun _ => Y)).2)
    fun _ => @dite _ (k0_cond3 i = 1#1) inferInstance (fun h => ((tileCode false true (k0_off1 i 0) (k0_off1_inb i h 0)).run Y).2) fun _ => Y

/-- The point's last tiles, those of the earlier query block. -/
def tilesF (i : grid0.Coords) (Y : Bank.St Ideal) : Bank.St Ideal :=
  @dite _ (k0_cond6 i = 1#1) inferInstance (fun h => ((tileCode true false (k0_off49 i 0) (k0_off49_inb i h 0)).run
    (@dite _ (k0_cond5 i = 1#1) inferInstance (fun h => ((tileCode false false (k0_off33 i 0) (k0_off33_inb i h 0)).run Y).2) fun _ => Y)).2)
    fun _ => @dite _ (k0_cond5 i = 1#1) inferInstance (fun h => ((tileCode false false (k0_off33 i 0) (k0_off33_inb i h 0)).run Y).2) fun _ => Y

theorem clears_eq (t : Fin cfg0.N) (X : Bank.St Ideal) :
    (@dite _ (eqWord (rowWord (grid0.coords t)) 3#32 = 1#1) inferInstance (fun _ => (clearK.run
        (@dite _ (eqWord (BitVec.ofNat 32 ((grid0.coords t) 1).val) 0#32 = 1#1) inferInstance (fun _ => (clearQ.run X).2) fun _ => X)).2)
      fun _ => @dite _ (eqWord (BitVec.ofNat 32 ((grid0.coords t) 1).val) 0#32 = 1#1) inferInstance (fun _ => (clearQ.run X).2) fun _ => X) = clears t X := by
  rw [ite_of_iff (conds t).1 (fun _ => (clearQ.run X).2) (clearQ.run X).2 X fun _ => rfl]
  exact ite_of_iff (conds t).2.1 _ _ _ fun _ => rfl

theorem tiles_eq (t : Fin cfg0.N) (X : Bank.St Ideal) : tiles (grid0.coords t) X = tilesF (grid0.coords t) (tilesT (grid0.coords t) (clears t X)) := by
  rw [← clears_eq]
  rfl

theorem clears_rest (t : Fin cfg0.N) (X : Bank.St Ideal) (b : Bank) (hb : b.scr = false) : clears t X b = X b := by
  have hQ : ∀ Y : Bank.St Ideal, (clearQ.run Y).2 b = Y b := fun Y => (keeps_clearQ.runs Y Y Agree.rfl).2.2 b hb
  have hK : ∀ Y : Bank.St Ideal, (clearK.run Y).2 b = Y b := fun Y => (keeps_clearK.runs Y Y Agree.rfl).2.2 b hb
  unfold clears
  split
  · rw [hK]; split
    · rw [hQ]
    · rfl
  · split
    · rw [hQ]
    · rfl

theorem tile_at (mask sub : Bool) {qi n : ℕ} (hq : qi + 1 ≤ 8) (X : Bank.St Ideal) (e : qi = n) : TileOut mask sub n X ((tileCode mask sub qi hq).run X).2 := by
  subst e; exact tile_out mask sub _ hq X

theorem tiles_adds (A : Arr) (t : Fin cfg0.N) (X : Bank.St Ideal) (R : Reads A (kj t.val) (qq t.val) X) :
    ∃ Y, Adds A (kj t.val) (half (qq t.val) true) (clears t X) Y ∧ Adds A (kj t.val) (half (qq t.val) false) Y (tiles (grid0.coords t) X) := by
  obtain ⟨-, -, h3, h4, h5, h6, -, -⟩ := conds t
  obtain ⟨o1, o2, o3, o4⟩ := offs t
  have R' := R.same (clears_rest t X)
  have a : Adds A (kj t.val) (half (qq t.val) true) (clears t X) (tilesT (grid0.coords t) (clears t X)) := adds_pair R' true h3 h4 (fun h => ((tileCode false true (k0_off1 (grid0.coords t) 0) (k0_off1_inb (grid0.coords t) h 0)).run (clears t X)).2)
    (fun h Y => ((tileCode true true (k0_off17 (grid0.coords t) 0) (k0_off17_inb (grid0.coords t) h 0)).run Y).2)
    (fun h => tile_at false true (k0_off1_inb (grid0.coords t) h 0) (clears t X) o1)
    (fun h Y => tile_at true true (k0_off17_inb (grid0.coords t) h 0) Y o2)
  have R'' := R'.same a.rest
  have b := adds_pair R'' false h5 h6 (fun h => ((tileCode false false (k0_off33 (grid0.coords t) 0) (k0_off33_inb (grid0.coords t) h 0)).run (tilesT (grid0.coords t) (clears t X))).2)
    (fun h Y => ((tileCode true false (k0_off49 (grid0.coords t) 0) (k0_off49_inb (grid0.coords t) h 0)).run Y).2)
    (fun h => tile_at false false (k0_off33_inb (grid0.coords t) h 0) (tilesT (grid0.coords t) (clears t X)) o3)
    (fun h Y => tile_at true false (k0_off49_inb (grid0.coords t) h 0) Y o4)
  refine ⟨tilesT (grid0.coords t) (clears t X), a, ?_⟩
  rw [tiles_eq]
  exact b

end Cert.KernelIdeal.Fox

end
-- ==== Proof.Accum.lean ====
/- The accumulators where the points write them out: sums over all keys and over all queries. -/
module

public import proofs.«01_k».proof.Proof.Traj

@[expose] public section

set_option maxRecDepth 16384

noncomputable section

namespace Cert.KernelIdeal.Fox

open Idealize.ShloMosaic Idealize.ShloMosaic.Tactic Idealize.SL.Sem
open Facts₀ Facts

/-! ## Sums over the schedule -/

theorem sum_blocks (f : Fin 2048 → EReal) : ∑ s : Fin 2048, f s = ∑ K : Fin 8, ∑ a : Fin 256, f (krow K a) := by
  refine Eq.trans ?_ (Fin.sum_univ_mul_divNat_modNat 8 256 fun K a => f (krow K a))
  refine Finset.sum_congr rfl fun s _ => congrArg f (Fin.ext ?_)
  show s.val = 256 * (s.val / 256) + s.val % 256
  omega

/-- A pair of query blocks over the blocks. -/
theorem sum_halves (f : Fin 8 → EReal) : ∑ Q : Fin 4, (f (half Q true) + f (half Q false)) = ∑ I : Fin 8, f I := by
  have e : ∀ I : Fin 8, f I = f I := fun _ => rfl
  simp only [Fin.sum_univ_succ, Fin.sum_univ_zero, half]
  simp only [cond_true, cond_false]
  show (f 1 + f 0) + ((f 3 + f 2) + ((f 5 + f 4) + ((f 7 + f 6) + 0))) = f 0 + (f 1 + (f 2 + (f 3 + (f 4 + (f 5 + (f 6 + (f 7 + 0)))))))
  abel

/-- A recursion cleared at the start of each batch, as a sum over the batch's points. -/
theorem run_sum (f C : ℕ → EReal) (h : ∀ n, n < 40 → f (n + 1) = (if n % 20 = 0 then 0 else f n) + C n) (n : ℕ) (hn : n < 40) :
    f (n + 1) = ∑ p ∈ Finset.range (n % 20 + 1), C (20 * (n / 20) + p) := by
  induction n with
  | zero => rw [h 0 hn]; simp
  | succ n ih =>
    rw [h (n + 1) hn]
    by_cases e : (n + 1) % 20 = 0
    · rw [if_pos e, e, zero_add, zero_add, Finset.sum_range_one]
      exact congrArg C (by omega)
    · rw [if_neg e, ih (by omega), Finset.sum_range_succ _ ((n + 1) % 20)]
      have e1 : (n + 1) % 20 = n % 20 + 1 := by omega
      have e2 : (n + 1) / 20 = n / 20 := by omega
      rw [e1, e2]
      exact congrArg (_ + C ·) (by omega)

theorem kjN_add (B p : ℕ) : kjN (20 * B + p) = kjN p := by unfold kjN; rw [Nat.mul_add_mod]
theorem qqN_add (B p : ℕ) : qqN (20 * B + p) = qqN p := by unfold qqN; rw [Nat.mul_add_mod]

/-- The points of one pair of query blocks take each key block up to the pair once. -/
theorem sum_keys (Q : Fin 4) (g : Fin 8 → EReal) (hg : ∀ K : Fin 8, 2 * Q.val + 1 < K.val → g K = 0) :
    ∑ p ∈ Finset.range 20, (if Q.val = qqN p then g (kj p) else 0) = ∑ K : Fin 8, g K := by
  have e : ∀ p ∈ Finset.range 20, (if Q.val = qqN p then g (kj p) else 0)
      = ∑ K : Fin 8, if Q.val = qqN p ∧ kj p = K then g K else 0 := by
    intro p _
    by_cases h : Q.val = qqN p
    · simp [h]
    · simp [h]
  rw [Finset.sum_congr rfl e, Finset.sum_comm]
  refine Finset.sum_congr rfl fun K _ => ?_
  rw [← Finset.sum_filter, Finset.sum_const]
  have c : ∀ (Q : Fin 4) (K : Fin 8), (Finset.filter (fun p => Q.val = qqN p ∧ kj p = K) (Finset.range 20)).card
      = if 2 * Q.val + 1 < K.val then 0 else 1 := by decide +kernel
  rw [c Q K]
  by_cases h : 2 * Q.val + 1 < K.val
  · rw [if_pos h, zero_smul, hg K h]
  · rw [if_neg h, one_smul]

/-- The key run: cleared at the last pair, each earlier point the pair above, until the diagonal. -/
theorem run_keys (f : ℕ → EReal) (g : Fin 2 → Fin 8 → Fin 4 → EReal)
    (h : ∀ n, n < 40 → f (n + 1) = (if qqN n = 3 then 0 else f n) + g (bat n) (kj n) (qq n)) (n : ℕ) (hn : n < 40) :
    f (n + 1) = ∑ Q : Fin 4, if qqN n ≤ Q.val then g (bat n) (kj n) Q else 0 := by
  have last : ∀ n : Fin 40, (qqN n.val = 3 → qq n.val = 3) ∧ (qqN n.val ≠ 3 → 0 < n.val ∧ bat (n.val - 1) = bat n.val
      ∧ kj (n.val - 1) = kj n.val ∧ qqN (n.val - 1) = qqN n.val + 1) := by decide +kernel
  have q : ∀ n, (qq n).val = qqN n := fun _ => rfl
  induction n with
  | zero =>
    rw [h 0 hn, if_pos (by decide), zero_add, Finset.sum_eq_single (qq 0)]
    · rw [if_pos (q 0).ge]
    · intro b _ hb
      exact if_neg fun l => hb (Fin.ext (by rw [q]; have := b.isLt; have : qqN 0 = 3 := by decide
                                            omega))
    · exact fun a => absurd (Finset.mem_univ _) a
  | succ n ih =>
    rw [h (n + 1) hn]
    by_cases e : qqN (n + 1) = 3
    · rw [if_pos e, zero_add, Finset.sum_eq_single (qq (n + 1))]
      · rw [if_pos (q _).ge]
      · intro b _ hb
        exact if_neg fun l => hb (Fin.ext (by rw [q]; have := b.isLt; omega))
      · exact fun a => absurd (Finset.mem_univ _) a
    · obtain ⟨-, eb, ek, eq⟩ := (last ⟨n + 1, hn⟩).2 e
      simp only [Nat.add_sub_cancel] at eb ek eq
      rw [if_neg e, ih (by omega), eb, ek, eq]
      have s : ∀ Q : Fin 4, (if qqN (n + 1) ≤ Q.val then g (bat (n + 1)) (kj (n + 1)) Q else 0)
          = (if qqN (n + 1) + 1 ≤ Q.val then g (bat (n + 1)) (kj (n + 1)) Q else 0)
            + if Q = qq (n + 1) then g (bat (n + 1)) (kj (n + 1)) Q else 0 := by
        intro Q
        by_cases h1 : Q = qq (n + 1)
        · subst h1; rw [q]; simp
        · have h2 : Q.val ≠ qqN (n + 1) := fun l => h1 (Fin.ext l)
          rw [if_neg h1, add_zero]
          exact if_congr (by omega) rfl rfl
      rw [Finset.sum_congr rfl fun Q _ => s Q, Finset.sum_add_distrib, Finset.sum_ite_eq' Finset.univ (qq (n + 1)), if_pos (Finset.mem_univ _)]

/-! ## The accumulators from point to point -/

theorem zeros_at (s : Shape) (i : s.Idx) : (zeros s : FVec Ideal s .f32) i = 0 := Ideal.ofBits_zero_f32

theorem clears_q (t : Fin cfg0.N) (X : Bank.St Ideal) : (∀ i, clears t X .dqS i = if t.val % 20 = 0 then (0 : EReal) else X .dqS i)
    ∧ ∀ i, clears t X .dcqS i = if t.val % 20 = 0 then (0 : EReal) else X .dcqS i := by
  have k : ∀ Y : Bank.St Ideal, (clearK.run Y).2 .dqS = Y .dqS ∧ (clearK.run Y).2 .dcqS = Y .dcqS := fun Y => by
    rw [clearK_run]
    exact ⟨rfl, rfl⟩
  have q : ∀ Y : Bank.St Ideal, (∀ i, (clearQ.run Y).2 .dqS i = (0 : EReal)) ∧ ∀ i, (clearQ.run Y).2 .dcqS i = (0 : EReal) := fun Y => by
    rw [clearQ_run]
    exact ⟨zeros_at S8x512x256, zeros_at S8x8x256⟩
  unfold clears
  by_cases h : qqN t.val = 3 <;> by_cases h' : t.val % 20 = 0 <;> simp only [h, h', if_true, if_false, k, q, and_self, implies_true]

theorem clears_k (t : Fin cfg0.N) (X : Bank.St Ideal) : (∀ i, clears t X .dkS i = if qqN t.val = 3 then (0 : EReal) else X .dkS i)
    ∧ (∀ i, clears t X .dvS i = if qqN t.val = 3 then (0 : EReal) else X .dvS i) ∧ ∀ i, clears t X .dckS i = if qqN t.val = 3 then (0 : EReal) else X .dckS i := by
  have q : ∀ Y : Bank.St Ideal, (clearQ.run Y).2 .dkS = Y .dkS ∧ (clearQ.run Y).2 .dvS = Y .dvS ∧ (clearQ.run Y).2 .dckS = Y .dckS := fun Y => by
    rw [clearQ_run]
    exact ⟨rfl, rfl, rfl⟩
  have k : ∀ Y : Bank.St Ideal, (∀ i, (clearK.run Y).2 .dkS i = (0 : EReal)) ∧ (∀ i, (clearK.run Y).2 .dvS i = (0 : EReal)) ∧ ∀ i, (clearK.run Y).2 .dckS i = (0 : EReal) := fun Y => by
    rw [clearK_run]
    exact ⟨zeros_at S256x512, zeros_at S256x512, zeros_at S256x128⟩
  unfold clears
  by_cases h : qqN t.val = 3 <;> by_cases h' : t.val % 20 = 0 <;> simp only [h, h', if_true, if_false, k, q, and_self, implies_true]

variable (m : (ℓ : Loc nD τ sig) → Buf (Elt Ideal) ℓ) (c : Dev nD)

/-- A later point's accumulators from the earlier point's. -/
structure Moves (A : Arr) (n : ℕ) (X Y : Bank.St Ideal) : Prop where
  dq : ∀ (i : Fin 8) (j : Fin 512) (b : Fin 256), Y .dqS (ix3 i j b) = (if n % 20 = 0 then 0 else X .dqS (ix3 i j b))
    + ((if i = half (qq n) true then gq A (kj n) i j b else 0) + if i = half (qq n) false then gq A (kj n) i j b else 0)
  dcq : ∀ (i : Fin 8) (h : Fin 8) (b : Fin 256), Y .dcqS (ix3 i h b) = (if n % 20 = 0 then 0 else X .dcqS (ix3 i h b))
    + ((if i = half (qq n) true then gr A (kj n) i h b else 0) + if i = half (qq n) false then gr A (kj n) i h b else 0)
  dk : ∀ (a : Fin 256) (j : Fin 512), Y .dkS (ix2 a j) = (if qqN n = 3 then 0 else X .dkS (ix2 a j))
    + (gk A (kj n) (half (qq n) true) a j + gk A (kj n) (half (qq n) false) a j)
  dv : ∀ (a : Fin 256) (j : Fin 512), Y .dvS (ix2 a j) = (if qqN n = 3 then 0 else X .dvS (ix2 a j))
    + (gv A (kj n) (half (qq n) true) a j + gv A (kj n) (half (qq n) false) a j)
  dck : ∀ (a : Fin 256) (l : Fin 128), Y .dckS (ix2 a l) = (if qqN n = 3 then 0 else X .dckS (ix2 a l))
    + (gc A (kj n) (half (qq n) true) a l + gc A (kj n) (half (qq n) false) a l)

theorem ite_eq_at {A : Fin 8 → EReal} (i T : Fin 8) : (if i = T then A T else 0) = if i = T then A i else 0 := by
  by_cases h : i = T
  · rw [if_pos h, if_pos h, h]
  · rw [if_neg h, if_neg h]

theorem moves_tiles (A : Arr) (t : Fin cfg0.N) (X : Bank.St Ideal) (R : Reads A (kj t.val) (qq t.val) X) : Moves A t.val X (tiles (grid0.coords t) X) := by
  obtain ⟨Y, a, b⟩ := tiles_adds A t X R
  have cq := clears_q t X
  have ck := clears_k t X
  refine ⟨fun i j d => ?_, fun i l d => ?_, fun d j => ?_, fun d j => ?_, fun d l => ?_⟩
  · rw [b.dq, a.dq, cq.1, add_assoc, ite_eq_at (A := fun I => gq A (kj t.val) I j d), ite_eq_at (A := fun I => gq A (kj t.val) I j d)]
  · rw [b.dcq, a.dcq, cq.2, add_assoc, ite_eq_at (A := fun I => gr A (kj t.val) I l d), ite_eq_at (A := fun I => gr A (kj t.val) I l d)]
  · rw [b.dk, a.dk, ck.1, add_assoc]
  · rw [b.dv, a.dv, ck.2.1, add_assoc]
  · rw [b.dck, a.dck, ck.2.2, add_assoc]

theorem moves (n : ℕ) (hn : n < 40) : Moves (arr m c (bat n)) n (traj m c n) (traj m c (n + 1)) := by
  have t : ∃ t : Fin cfg0.N, t.val = n := ⟨⟨n, hn⟩, rfl⟩
  obtain ⟨t, rfl⟩ := t
  rw [traj_succ]
  have M := moves_tiles (arr m c (bat t.val)) t (ins m c t (traj m c t.val)) (ins_reads m c t _)
  have g := point_agree (grid0.coords t) (ins m c t (traj m c t.val))
  refine ⟨fun i j d => ?_, fun i l d => ?_, fun d j => ?_, fun d j => ?_, fun d l => ?_⟩
  · exact (congrFun (g .dqS rfl) _).trans (M.dq i j d)
  · exact (congrFun (g .dcqS rfl) _).trans (M.dcq i l d)
  · exact (congrFun (g .dkS rfl) _).trans (M.dk d j)
  · exact (congrFun (g .dvS rfl) _).trans (M.dv d j)
  · exact (congrFun (g .dckS rfl) _).trans (M.dck d l)

/-! ## The complete sums -/

theorem half_cases (i : Fin 8) : ∃ Q : Fin 4, ∃ sub : Bool, i = half Q sub := by
  revert i; decide +kernel

theorem half_inj (Q Q' : Fin 4) (sub sub' : Bool) : half Q sub = half Q' sub' ↔ Q = Q' ∧ sub = sub' := by
  revert Q Q' sub sub'; decide +kernel

theorem half_le (Q : Fin 4) (sub : Bool) : (half Q sub).val ≤ 2 * Q.val + 1 := by
  revert Q sub; decide +kernel

theorem half_one (i : Fin 8) (Q Q' : Fin 4) (sub : Bool) (e : i = half Q sub) (x : EReal) :
    (if i = half Q' true then x else 0) + (if i = half Q' false then x else 0) = if Q.val = Q'.val then x else 0 := by
  subst e
  simp only [half_inj]
  cases sub <;> by_cases h : Q = Q' <;> simp [h, Fin.ext_iff] <;> intro h' <;> exact absurd (Fin.ext h') h

/-- An accumulator of the query side at the batch's last point. -/
theorem q_end (f : ℕ → EReal) (g : Fin 2 → Fin 8 → EReal) (i : Fin 8) (hz : ∀ B K, i.val < K.val → g B K = 0)
    (h : ∀ n, n < 40 → f (n + 1) = (if n % 20 = 0 then 0 else f n) + ((if i = half (qq n) true then g (bat n) (kj n) else 0) + if i = half (qq n) false then g (bat n) (kj n) else 0))
    (B : Fin 2) : f (20 * B.val + 20) = ∑ K : Fin 8, g B K := by
  obtain ⟨Q, sub, e⟩ := half_cases i
  have hB := B.isLt
  rw [run_sum f _ h (20 * B.val + 19) (by omega)]
  have e1 : (20 * B.val + 19) % 20 + 1 = 20 := by omega
  have e2 : (20 * B.val + 19) / 20 = B.val := by omega
  rw [e1, e2]
  refine Eq.trans (Finset.sum_congr rfl fun p hp => ?_) (sum_keys Q (g B) fun K hK => hz B K ?_)
  · have hp' := Finset.mem_range.mp hp
    rw [half_one i Q _ sub e]
    have b : bat (20 * B.val + p) = B := Fin.ext (by show (20 * B.val + p) / 20 % 2 = B.val; omega)
    have k : kj (20 * B.val + p) = kj p := Fin.ext (kjN_add B.val p)
    have q : (qq (20 * B.val + p)).val = qqN p := qqN_add B.val p
    rw [b, k, q]
  · rw [e]; exact lt_of_le_of_lt (half_le Q sub) hK

theorem dq_end (B : Fin 2) (i : Fin 8) (j : Fin 512) (b : Fin 256) : traj m c (20 * B.val + 20) .dqS (ix3 i j b)
    = ∑ s : Fin 2048, (arr m c B).kt j s * dS (arr m c B) (hd (j.val / 64)) s (krow i b) := by
  rw [sum_blocks]
  exact q_end (fun n => traj m c n .dqS (ix3 i j b)) (fun B K => gq (arr m c B) K i j b) i (fun B K h => gq_zero _ h _ _)
    (fun n hn => (moves m c n hn).dq i j b) B

theorem dcq_end (B : Fin 2) (i : Fin 8) (h : Fin 8) (b : Fin 256) : traj m c (20 * B.val + 20) .dcqS (ix3 i h b)
    = ∑ s : Fin 2048, dS (arr m c B) h s (krow i b) := by
  rw [sum_blocks]
  exact q_end (fun n => traj m c n .dcqS (ix3 i h b)) (fun B K => gr (arr m c B) K i h b) i (fun B K h => gr_zero _ h _ _)
    (fun n hn => (moves m c n hn).dcq i h b) B

/-- An accumulator of the key side at the key block's last point. -/
theorem k_end (f : ℕ → EReal) (g : Fin 2 → Fin 8 → Fin 8 → EReal) (hz : ∀ B (K I : Fin 8), I.val < K.val → g B K I = 0)
    (h : ∀ n, n < 40 → f (n + 1) = (if qqN n = 3 then 0 else f n) + (g (bat n) (kj n) (half (qq n) true) + g (bat n) (kj n) (half (qq n) false)))
    (n : ℕ) (hn : n < 40) (e : qqN n = kjN n / 2) : f (n + 1) = ∑ I : Fin 8, g (bat n) (kj n) I := by
  rw [run_keys f (fun B K Q => g B K (half Q true) + g B K (half Q false)) h n hn, ← sum_halves]
  refine Finset.sum_congr rfl fun Q _ => ?_
  by_cases l : qqN n ≤ Q.val
  · rw [if_pos l]
  · have hh := half_le Q
    have hk : (kj n).val = kjN n := rfl
    rw [if_neg l, hz _ _ _ (by have := hh true; omega), hz _ _ _ (by have := hh false; omega), add_zero]

theorem dk_end (n : ℕ) (hn : n < 40) (e : qqN n = kjN n / 2) (a : Fin 256) (j : Fin 512) : traj m c (n + 1) .dkS (ix2 a j)
    = ∑ t : Fin 2048, dS (arr m c (bat n)) (hd (j.val / 64)) (krow (kj n) a) t * ((arr m c (bat n)).q t j * c8) := by
  rw [sum_blocks]
  exact k_end (fun n => traj m c n .dkS (ix2 a j)) (fun B K I => gk (arr m c B) K I a j) (fun B K I h => gk_zero _ h _ _)
    (fun n hn => (moves m c n hn).dk a j) n hn e

theorem dv_end (n : ℕ) (hn : n < 40) (e : qqN n = kjN n / 2) (a : Fin 256) (j : Fin 512) : traj m c (n + 1) .dvS (ix2 a j)
    = ∑ t : Fin 2048, P (arr m c (bat n)) (hd (j.val / 64)) (krow (kj n) a) t * (arr m c (bat n)).da t j := by
  rw [sum_blocks]
  exact k_end (fun n => traj m c n .dvS (ix2 a j)) (fun B K I => gv (arr m c B) K I a j) (fun B K I h => gv_zero _ h _ _)
    (fun n hn => (moves m c n hn).dv a j) n hn e

theorem dck_end (n : ℕ) (hn : n < 40) (e : qqN n = kjN n / 2) (a : Fin 256) (l : Fin 128) : traj m c (n + 1) .dckS (ix2 a l)
    = ∑ I : Fin 8, gc (arr m c (bat n)) (kj n) I a l :=
  k_end (fun n => traj m c n .dckS (ix2 a l)) (fun B K I => gc (arr m c B) K I a l) (fun B K I h => gc_zero _ h _ _)
    (fun n hn => (moves m c n hn).dck a l) n hn e

end Cert.KernelIdeal.Fox

end
-- ==== Proof.Out.lean ====
/- The launch's result arrays: each element as a sum over a batch's keys or queries. -/
module

public import proofs.«01_k».proof.Proof.Accum

@[expose] public section

set_option maxRecDepth 16384

noncomputable section

namespace Cert.KernelIdeal.Fox

open Idealize.ShloMosaic Idealize.ShloMosaic.Tactic Idealize.SL.Sem
open Facts₀ Facts

/-! ## The results of a batch -/

def resDq (A : Arr) (t : Fin 2048) (j : Fin 512) : EReal := (∑ s : Fin 2048, A.kt j s * dS A (hd (j.val / 64)) s t) * c8
def resDk (A : Arr) (s : Fin 2048) (j : Fin 512) : EReal := ∑ t : Fin 2048, dS A (hd (j.val / 64)) s t * (A.q t j * c8)
def resDv (A : Arr) (s : Fin 2048) (j : Fin 512) : EReal := ∑ t : Fin 2048, P A (hd (j.val / 64)) s t * A.da t j
def resDck (A : Arr) (s : Fin 2048) (l : Fin 128) : EReal := ∑ I : Fin 8, if l.val < 8 then -∑ b : Fin 256, dS A (hd l.val) s (krow I b) else 0
def resDcq (A : Arr) (h : Fin 8) (t : Fin 2048) : EReal := ∑ s : Fin 2048, dS A h s t

/-- A row's batch, and its place in the batch. -/
abbrev bt (r : Fin 4096) : Fin 2 := ⟨r.val / 2048, by omega⟩
abbrev ps (r : Fin 4096) : Fin 2048 := ⟨r.val % 2048, by omega⟩

variable (m : (ℓ : Loc nD τ sig) → Buf (Elt Ideal) ℓ) (c : Dev nD)

def outDq : S4096x512.Idx → EReal := fun y => resDq (arr m c (bt (y 0))) (ps (y 0)) (y 1)
def outDk : S4096x512.Idx → EReal := fun y => resDk (arr m c (bt (y 0))) (ps (y 0)) (y 1)
def outDv : S4096x512.Idx → EReal := fun y => resDv (arr m c (bt (y 0))) (ps (y 0)) (y 1)
def outDck : S4096x128.Idx → EReal := fun y => resDck (arr m c (bt (y 0))) (ps (y 0)) (y 1)
def outDcq : S2x8x2048.Idx → EReal := fun y => resDcq (arr m c (y 0)) (y 1) (y 2)

/-! ## The buffers written back -/

theorem krow_split (a : Fin 2048) (h : a.val / 256 < 8) (h' : a.val % 256 < 256) : krow ⟨a.val / 256, h⟩ ⟨a.val % 256, h'⟩ = a :=
  Fin.ext (by show 256 * (a.val / 256) + a.val % 256 = a.val; omega)

theorem fullDq_at (x : S8x512x256.Idx → EReal) (a : Fin 2048) (j : Fin 512) :
    fullDq (F := Ideal) x (ix2 a j) = x (ix3 ⟨a.val / 256, by omega⟩ j ⟨a.val % 256, by omega⟩) * c8 := by
  unfold fullDq outTile
  pointwise
  refine congrArg (· * c8) ?_
  refine (window3 (m := 8) (n := 512) (u := 256) (k := 1) (l := 512) (v := 256) x (a.val / 256) 0 0 _ 0 j _).trans (congrArg x ?_)
  exact at3 (Fin.ext (Nat.add_zero _)) (Fin.ext (Nat.zero_add _)) (Fin.ext (Nat.zero_add _))

theorem fullDcq_at (x : S8x8x256.Idx → EReal) (l : Fin 8) (a : Fin 2048) :
    fullDcq (F := Ideal) x (ix3 0 l a) = x (ix3 ⟨a.val / 256, by omega⟩ l ⟨a.val % 256, by omega⟩) := rfl

/-- The accumulators after a point, in the point's own terms. -/
theorem traj_tiles (t : Fin cfg0.N) (b : Bank) (hb : b.out = false) : tiles (grid0.coords t) (ins m c t (traj m c t.val)) b = traj m c (t.val + 1) b := by
  rw [traj_succ]
  exact (point_agree (grid0.coords t) (ins m c t (traj m c t.val)) b hb).symm

theorem next_dq (t : Fin cfg0.N) (h : t.val % 20 = 19) (a : Fin 2048) (j : Fin 512) : next m c t .dqO (ix2 a j) = resDq (arr m c (bat t.val)) a j := by
  have ht : t.val + 1 = 20 * (bat t.val).val + 20 := by rw [bat_val]; omega
  have e := (point_outQ (grid0.coords t) (ins m c t (traj m c t.val))).1
  rw [if_pos ((conds t).2.2.2.2.2.2.2.mpr h), traj_tiles m c t .dqS rfl, ht] at e
  refine (congrFun e _).trans ((fullDq_at _ a j).trans ?_)
  unfold resDq
  rw [dq_end, krow_split]

theorem next_dcq (t : Fin cfg0.N) (h : t.val % 20 = 19) (l : Fin 8) (a : Fin 2048) : next m c t .dcqO (ix3 0 l a) = resDcq (arr m c (bat t.val)) l a := by
  have ht : t.val + 1 = 20 * (bat t.val).val + 20 := by rw [bat_val]; omega
  have e := (point_outQ (grid0.coords t) (ins m c t (traj m c t.val))).2
  rw [if_pos ((conds t).2.2.2.2.2.2.2.mpr h), traj_tiles m c t .dcqS rfl, ht] at e
  refine (congrFun e _).trans ((fullDcq_at _ l a).trans ?_)
  unfold resDcq
  rw [dcq_end, krow_split]

theorem next_dk (t : Fin cfg0.N) (h : qqN t.val = kjN t.val / 2) (a : Fin 256) (j : Fin 512) : next m c t .dkO (ix2 a j) = resDk (arr m c (bat t.val)) (krow (kj t.val) a) j := by
  have e := (point_outK (grid0.coords t) (ins m c t (traj m c t.val))).1
  rw [if_pos ((conds t).2.2.2.2.2.2.1.mpr h), traj_tiles m c t .dkS rfl] at e
  exact (congrFun e _).trans (dk_end m c t.val t.isLt h a j)

theorem next_dv (t : Fin cfg0.N) (h : qqN t.val = kjN t.val / 2) (a : Fin 256) (j : Fin 512) : next m c t .dvO (ix2 a j) = resDv (arr m c (bat t.val)) (krow (kj t.val) a) j := by
  have e := (point_outK (grid0.coords t) (ins m c t (traj m c t.val))).2.1
  rw [if_pos ((conds t).2.2.2.2.2.2.1.mpr h), traj_tiles m c t .dvS rfl] at e
  exact (congrFun e _).trans (dv_end m c t.val t.isLt h a j)

theorem next_dck (t : Fin cfg0.N) (h : qqN t.val = kjN t.val / 2) (a : Fin 256) (l : Fin 128) : next m c t .dckO (ix2 a l) = resDck (arr m c (bat t.val)) (krow (kj t.val) a) l := by
  have e := (point_outK (grid0.coords t) (ins m c t (traj m c t.val))).2.2
  rw [if_pos ((conds t).2.2.2.2.2.2.1.mpr h), traj_tiles m c t .dckS rfl] at e
  exact (congrFun e _).trans (dck_end m c t.val t.isLt h a l)

/-! ## The arrays -/

theorem row_at {B : Fin 2} {a : Fin 2048} {r : Fin 4096} (h : r.val = 2048 * B.val + a.val) : bt r = B ∧ ps r = a :=
  ⟨Fin.ext (by show r.val / 2048 = B.val; omega), Fin.ext (by show r.val % 2048 = a.val; omega)⟩

theorem flushQ : ∀ t : Fin cfg0.N, ((cfg0.win 11).flush t = true ↔ t.val % 20 = 19) ∧ ((cfg0.win 15).flush t = true ↔ t.val % 20 = 19) :=
  (by decide +kernel : ∀ t : Fin grid0.N, (win0_11.flush t = true ↔ t.val % 20 = 19) ∧ (win0_15.flush t = true ↔ t.val % 20 = 19))

theorem out2 {n : ℕ} (f : Arr → Fin 2048 → Fin n → EReal) {B B' : Fin 2} {a a' : Fin 2048} {j j' : Fin n} (hB : B' = B) (ha : a' = a) (hj : j' = j) :
    f (arr m c B) a j = f (arr m c B') a' j' := by subst hB ha hj; rfl

theorem final_dq : (dats m 0 c).arrAt 11 cfg0.N = outDq m c := by
  refine (dats m 0 c).arrAt_eq_of_covers 11 _ (by decide +kernel) fun t hf y => ?_
  blk_simp
  rw [after11]
  have h := (flushQ t).1.mp hf
  idx_vars y
  refine (next_dq m c t h y0 y1).trans ?_
  have e0 := Pipeline.Window.rect_emb_val (cfg0.win 11) t (ix2 y0 y1) 0
  have e1 := Pipeline.Window.rect_emb_val (cfg0.win 11) t (ix2 y0 y1) 1
  rw [(idxsO t).1.1] at e0
  rw [(idxsO t).1.2] at e1
  have r := row_at (B := bat t.val) (a := y0) (e0.trans (by rw [bat_val]; show t.val / 20 * 2048 + y0.val = _; omega))
  exact out2 m c resDq r.1 r.2 (Fin.ext (e1.trans (by show 0 * 512 + y1.val = y1.val; omega)))

theorem final_dk : (dats m 0 c).arrAt 12 cfg0.N = outDk m c := by
  refine (dats m 0 c).arrAt_eq_of_covers 12 _ (by decide +kernel) fun t hf y => ?_
  blk_simp
  rw [after12]
  have h := (flushK t).1.mp hf
  idx_vars y
  refine (next_dk m c t h y0 y1).trans ?_
  have e0 := Pipeline.Window.rect_emb_val (cfg0.win 12) t (ix2 y0 y1) 0
  have e1 := Pipeline.Window.rect_emb_val (cfg0.win 12) t (ix2 y0 y1) 1
  rw [(idxsO t).2.1.1] at e0
  rw [(idxsO t).2.1.2] at e1
  have r := row_at (B := bat t.val) (a := krow (kj t.val) y0) (e0.trans (by rw [bat_val]; show (8 * (t.val / 20) + kjN t.val) * 256 + y0.val = 2048 * (t.val / 20) + (256 * kjN t.val + y0.val); omega))
  exact out2 m c resDk r.1 r.2 (Fin.ext (e1.trans (by show 0 * 512 + y1.val = y1.val; omega)))

theorem final_dv : (dats m 0 c).arrAt 13 cfg0.N = outDv m c := by
  refine (dats m 0 c).arrAt_eq_of_covers 13 _ (by decide +kernel) fun t hf y => ?_
  blk_simp
  rw [after13]
  have h := (flushK t).2.1.mp hf
  idx_vars y
  refine (next_dv m c t h y0 y1).trans ?_
  have e0 := Pipeline.Window.rect_emb_val (cfg0.win 13) t (ix2 y0 y1) 0
  have e1 := Pipeline.Window.rect_emb_val (cfg0.win 13) t (ix2 y0 y1) 1
  rw [(idxsO t).2.2.1.1] at e0
  rw [(idxsO t).2.2.1.2] at e1
  have r := row_at (B := bat t.val) (a := krow (kj t.val) y0) (e0.trans (by rw [bat_val]; show (8 * (t.val / 20) + kjN t.val) * 256 + y0.val = 2048 * (t.val / 20) + (256 * kjN t.val + y0.val); omega))
  exact out2 m c resDv r.1 r.2 (Fin.ext (e1.trans (by show 0 * 512 + y1.val = y1.val; omega)))

theorem final_dck : (dats m 0 c).arrAt 14 cfg0.N = outDck m c := by
  refine (dats m 0 c).arrAt_eq_of_covers 14 _ (by decide +kernel) fun t hf y => ?_
  blk_simp
  rw [after14]
  have h := (flushK t).2.2.mp hf
  idx_vars y
  refine (next_dck m c t h y0 y1).trans ?_
  have e0 := Pipeline.Window.rect_emb_val (cfg0.win 14) t (ix2 y0 y1) 0
  have e1 := Pipeline.Window.rect_emb_val (cfg0.win 14) t (ix2 y0 y1) 1
  rw [(idxsO t).2.2.2.1.1] at e0
  rw [(idxsO t).2.2.2.1.2] at e1
  have r := row_at (B := bat t.val) (a := krow (kj t.val) y0) (e0.trans (by rw [bat_val]; show (8 * (t.val / 20) + kjN t.val) * 256 + y0.val = 2048 * (t.val / 20) + (256 * kjN t.val + y0.val); omega))
  exact out2 m c resDck r.1 r.2 (Fin.ext (e1.trans (by show 0 * 128 + y1.val = y1.val; omega)))

theorem final_dcq : (dats m 0 c).arrAt 15 cfg0.N = outDcq m c := by
  refine (dats m 0 c).arrAt_eq_of_covers 15 _ (by decide +kernel) fun t hf y => ?_
  blk_simp
  rw [after15]
  have h := (flushQ t).2.mp hf
  idx_vars y
  obtain rfl : y0 = 0 := Subsingleton.elim _ _
  refine (next_dcq m c t h y1 y2).trans ?_
  have e0 := Pipeline.Window.rect_emb_val (cfg0.win 15) t (ix3 0 y1 y2) 0
  have e1 := Pipeline.Window.rect_emb_val (cfg0.win 15) t (ix3 0 y1 y2) 1
  have e2 := Pipeline.Window.rect_emb_val (cfg0.win 15) t (ix3 0 y1 y2) 2
  rw [(idxsO t).2.2.2.2.1] at e0
  rw [(idxsO t).2.2.2.2.2.1] at e1
  rw [(idxsO t).2.2.2.2.2.2] at e2
  exact out2 m c (fun A t h => resDcq A h t) (Fin.ext (e0.trans (by rw [bat_val]; show t.val / 20 * 1 + 0 = t.val / 20; omega)))
    (Fin.ext (e2.trans (by show 0 * 2048 + y2.val = y2.val; omega))) (Fin.ext (e1.trans (by show 0 * 8 + y1.val = y1.val; omega)))

end Cert.KernelIdeal.Fox

end
-- ==== Proof.Softmax.lean ====
/- The attention's gradient over real numbers: the kernel's sums are the reference's. -/
module

public import proofs.«01_k».proof.Proof.Out

@[expose] public section

set_option maxRecDepth 16384

noncomputable section

namespace Cert.KernelIdeal.Fox

open Idealize.ShloMosaic Idealize.ShloMosaic.Tactic Idealize.SL.Sem

/-- A batch's arguments. -/
structure In where
  q : Fin 2048 → Fin 512 → EReal
  k : Fin 2048 → Fin 512 → EReal
  v : Fin 2048 → Fin 512 → EReal
  da : Fin 2048 → Fin 512 → EReal
  cc : Fin 2048 → Fin 8 → EReal

/-! ## The forward pass -/

/-- The score of key `s` for query `t`. -/
def score (I : In) (h : Fin 8) (t s : Fin 2048) : EReal :=
  if s.val ≤ t.val then (∑ d : Fin 64, I.q t (ln h d) * I.k s (ln h d)) * c8 + (I.cc t h - I.cc s h) else ⊥

/-- A query's largest score. -/
def mx (I : In) (h : Fin 8) (t : Fin 2048) : EReal := Finset.univ.fold max ⊥ fun s => score I h t s

/-- A score's exponential, over the largest one's. -/
def ex (I : In) (h : Fin 8) (t s : Fin 2048) : EReal := Ideal.exp (score I h t s - mx I h t)

/-- A query's sum of exponentials. -/
def sm (I : In) (h : Fin 8) (t : Fin 2048) : EReal := ∑ s : Fin 2048, ex I h t s

/-- The softmax. -/
def pr (I : In) (h : Fin 8) (t s : Fin 2048) : EReal := Ideal.div (ex I h t s) (sm I h t)

/-- The batch's arrays as the launch is handed them. -/
def arrIn (I : In) : Arr where
  q := I.q
  k := I.k
  v := I.v
  da := I.da
  qt j t := I.q t j * c8
  kt j t := I.k t j
  dat j t := I.da t j
  cc := I.cc
  cr h t := I.cc t h
  lse h t := mx I h t + Ideal.log (sm I h t)
  dl h t := ∑ d : Fin 64, I.da t (ln h d) * ∑ s : Fin 2048, I.v s (ln h d) * pr I h t s

/-! ## The backward pass, as the reference takes it -/

/-- The gradient of the probability. -/
def dpr (I : In) (h : Fin 8) (t s : Fin 2048) : EReal := ∑ d : Fin 64, I.da t (ln h d) * I.v s (ln h d)

/-- The gradient of the score. -/
def dsc' (I : In) (h : Fin 8) (t s : Fin 2048) : EReal :=
  if s.val ≤ t.val then (Ideal.div (dpr I h t s) (sm I h t) + -∑ s' : Fin 2048, dpr I h t s' * Ideal.div 1 (sm I h t * sm I h t) * ex I h t s') * ex I h t s else 0

def refDq (I : In) (t : Fin 2048) (j : Fin 512) : EReal := ∑ s : Fin 2048, dsc' I (hd (j.val / 64)) t s * c8 * I.k s j
def refDk (I : In) (s : Fin 2048) (j : Fin 512) : EReal := ∑ t : Fin 2048, dsc' I (hd (j.val / 64)) t s * c8 * I.q t j
def refDv (I : In) (s : Fin 2048) (j : Fin 512) : EReal := ∑ t : Fin 2048, I.da t j * pr I (hd (j.val / 64)) t s
def refDck (I : In) (s : Fin 2048) (l : Fin 128) : EReal := if l.val < 8 then ∑ t : Fin 2048, -dsc' I (hd l.val) t s else 0
def refDcq (I : In) (h : Fin 8) (t : Fin 2048) : EReal := ∑ s : Fin 2048, dsc' I h t s

/-! ## Real numbers -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem c8_real : ∃ c : ℝ, c8 = (c : EReal) := by
  refine ⟨1 / 8, ?_⟩
  show Ideal.ofBits .f32 0x3E000000#32 = _
  simp [Ideal.ofBits, Ideal.ieee, -EReal.coe_mul]; norm_num

/-- A batch's arguments in real numbers. -/
structure Re where
  q : Fin 2048 → Fin 512 → ℝ
  k : Fin 2048 → Fin 512 → ℝ
  v : Fin 2048 → Fin 512 → ℝ
  da : Fin 2048 → Fin 512 → ℝ
  cc : Fin 2048 → Fin 8 → ℝ

def Re.up (R : Re) : In where
  q t j := R.q t j
  k t j := R.k t j
  v t j := R.v t j
  da t j := R.da t j
  cc t j := R.cc t j

/-- A largest element of real numbers and minus infinities, one of them real, is real. -/
theorem fold_real {ι : Type} [Fintype ι] (f : ι → EReal) (i : ι) (r : ℝ) (hi : f i = r) (h : ∀ j, f j = ⊥ ∨ ∃ x : ℝ, f j = x) :
    ∃ μ : ℝ, Finset.univ.fold max ⊥ f = μ := by
  have e : Finset.univ.fold max ⊥ f = Finset.univ.sup f := rfl
  rw [e]
  obtain ⟨j, -, hj⟩ := Finset.exists_mem_eq_sup Finset.univ ⟨i, Finset.mem_univ i⟩ f
  rcases h j with hb | ⟨x, hx⟩
  · have l : f i ≤ Finset.univ.sup f := Finset.le_sup (Finset.mem_univ i)
    rw [hj, hb, hi] at l
    exact absurd (le_bot_iff.mp l) (EReal.coe_ne_bot r)
  · exact ⟨x, hj.trans hx⟩

/-- What a query's softmax is over real numbers. -/
structure Soft (R : Re) (c : ℝ) (h : Fin 8) (t : Fin 2048) (r : Fin 2048 → ℝ) (μ L : ℝ) (e : Fin 2048 → ℝ) : Prop where
  r_eq : ∀ s, r s = (∑ d : Fin 64, R.q t (ln h d) * R.k s (ln h d)) * c + (R.cc t h - R.cc s h)
  e_eq : ∀ s, e s = if s.val ≤ t.val then Real.exp (r s - μ) else 0
  L_eq : L = ∑ s, e s
  L_pos : 0 < L
  mx_eq : mx R.up h t = μ
  ex_eq : ∀ s, ex R.up h t s = e s
  sm_eq : sm R.up h t = L

theorem soft (R : Re) (c : ℝ) (hc : c8 = (c : EReal)) (h : Fin 8) (t : Fin 2048) : ∃ r μ L e, Soft R c h t r μ L e := by
  let r : Fin 2048 → ℝ := fun s => (∑ d : Fin 64, R.q t (ln h d) * R.k s (ln h d)) * c + (R.cc t h - R.cc s h)
  have hs : ∀ s, score R.up h t s = if s.val ≤ t.val then (r s : EReal) else ⊥ := fun s => by
    unfold score Re.up
    simp only [hc, r, EReal.coe_add, EReal.coe_mul, coe_sum, EReal.coe_sub]
  obtain ⟨μ, hμ⟩ := fold_real (fun s => score R.up h t s) t (r t) (by rw [hs, if_pos le_rfl]) fun s => by
    rw [hs]; by_cases l : s.val ≤ t.val
    · rw [if_pos l]; exact Or.inr ⟨_, rfl⟩
    · rw [if_neg l]; exact Or.inl rfl
  have hμ' : mx R.up h t = μ := hμ
  let e : Fin 2048 → ℝ := fun s => if s.val ≤ t.val then Real.exp (r s - μ) else 0
  have he : ∀ s, ex R.up h t s = e s := fun s => by
    unfold ex
    rw [hs, hμ']
    show _ = ((if s.val ≤ t.val then Real.exp (r s - μ) else 0 : ℝ) : EReal)
    by_cases l : s.val ≤ t.val
    · rw [if_pos l, if_pos l, ← EReal.coe_sub, Ideal.exp_coe]
    · rw [if_neg l, if_neg l, EReal.bot_sub, Ideal.exp_bot, EReal.coe_zero]
  refine ⟨r, μ, ∑ s, e s, e, fun _ => rfl, fun _ => rfl, rfl, ?_, hμ', he, ?_⟩
  · refine lt_of_lt_of_le (b := e t) ?_ (Finset.single_le_sum (f := e) (fun s _ => ?_) (Finset.mem_univ t))
    · show 0 < if t.val ≤ t.val then Real.exp (r t - μ) else 0
      rw [if_pos le_rfl]; exact Real.exp_pos _
    · show 0 ≤ if s.val ≤ t.val then Real.exp (r s - μ) else 0
      split
      · exact (Real.exp_pos _).le
      · exact le_rfl
  · unfold sm
    rw [coe_sum]
    exact Finset.sum_congr rfl fun s _ => he s

/-- The gradients of a query's scores, in real numbers, on both sides. -/
structure Both (R : Re) (h : Fin 8) (t : Fin 2048) (p g : Fin 2048 → ℝ) : Prop where
  pK : ∀ s, P (arrIn R.up) h s t = p s
  pR : ∀ s, pr R.up h t s = p s
  gK : ∀ s, dS (arrIn R.up) h s t = g s
  gR : ∀ s, dsc' R.up h t s = g s

theorem both (R : Re) (h : Fin 8) (t : Fin 2048) : ∃ p g, Both R h t p g := by
  obtain ⟨c, hc⟩ := c8_real
  obtain ⟨r, μ, L, e, S⟩ := soft R c hc h t
  have hL := S.L_pos.ne'
  let p : Fin 2048 → ℝ := fun s => e s / L
  let dp : Fin 2048 → ℝ := fun s => ∑ d : Fin 64, R.da t (ln h d) * R.v s (ln h d)
  let D : ℝ := ∑ s, p s * dp s
  have hdp : ∀ s, dpr R.up h t s = dp s := fun s => by
    unfold dpr Re.up
    simp only [dp, coe_sum, EReal.coe_mul]
  have hp : ∀ s, pr R.up h t s = p s := fun s => by
    unfold pr
    rw [S.ex_eq, S.sm_eq, Ideal.div_coe hL, ← EReal.coe_mul]
    exact congrArg _ (by show e s * (1 / L) = e s / L; ring)
  have hP : ∀ s, P (arrIn R.up) h s t = p s := fun s => by
    unfold P
    by_cases l : t.val < s.val
    · rw [if_pos l]
      show (0 : EReal) = ((e s / L : ℝ) : EReal)
      rw [S.e_eq, if_neg (by omega), zero_div, EReal.coe_zero]
    · rw [if_neg l]
      show Ideal.exp ((∑ d : Fin 64, (R.k s (ln h d) : EReal) * ((R.q t (ln h d) : EReal) * c8)) + ((R.cc t h : EReal) - (R.cc s h : EReal)) - (mx R.up h t + Ideal.log (sm R.up h t))) = _
      rw [S.mx_eq, S.sm_eq, Ideal.log_coe, if_neg (not_le.mpr S.L_pos), hc]
      simp only [← EReal.coe_mul, ← coe_sum, ← EReal.coe_sub, ← EReal.coe_add, Ideal.exp_coe]
      refine congrArg _ ?_
      show _ = e s / L
      rw [S.e_eq, if_pos (by omega), S.r_eq]
      rw [show (∑ d : Fin 64, R.k s (ln h d) * (R.q t (ln h d) * c)) + (R.cc t h - R.cc s h) - (μ + Real.log L)
        = ((∑ d : Fin 64, R.q t (ln h d) * R.k s (ln h d)) * c + (R.cc t h - R.cc s h) - μ) - Real.log L by
          rw [Finset.sum_mul, Finset.sum_congr rfl fun d _ => show R.k s (ln h d) * (R.q t (ln h d) * c) = R.q t (ln h d) * R.k s (ln h d) * c by ring]
          ring, Real.exp_sub, Real.exp_log S.L_pos]
  have hD : (arrIn R.up).dl h t = D := by
    show ∑ d : Fin 64, (R.da t (ln h d) : EReal) * ∑ s : Fin 2048, (R.v s (ln h d) : EReal) * pr R.up h t s = _
    simp only [hp, ← EReal.coe_mul, ← coe_sum]
    refine congrArg _ ?_
    show _ = ∑ s, p s * ∑ d : Fin 64, R.da t (ln h d) * R.v s (ln h d)
    simp only [Finset.mul_sum]
    rw [Finset.sum_comm]
    exact Finset.sum_congr rfl fun s _ => Finset.sum_congr rfl fun d _ => by ring
  refine ⟨p, fun s => p s * (dp s - D), hP, hp, fun s => ?_, fun s => ?_⟩
  · unfold dS
    rw [hP, hD]
    show (p s : EReal) * ((∑ d : Fin 64, (R.v s (ln h d) : EReal) * (R.da t (ln h d) : EReal)) - (D : EReal)) = _
    simp only [← EReal.coe_mul, ← coe_sum, ← EReal.coe_sub]
    exact congrArg _ (congrArg (fun z => p s * (z - D)) (Finset.sum_congr rfl fun d _ => mul_comm _ _))
  · unfold dsc'
    have h2 : L * L ≠ 0 := mul_ne_zero hL hL
    simp only [hdp, S.ex_eq, S.sm_eq]
    by_cases l : s.val ≤ t.val
    · rw [if_pos l, ← EReal.coe_mul, Ideal.div_coe hL, ← EReal.coe_one, Ideal.div_coe h2]
      simp only [← EReal.coe_mul, ← coe_sum, ← EReal.coe_neg, ← EReal.coe_add]
      refine congrArg _ ?_
      show _ = e s / L * (dp s - ∑ s', e s' / L * dp s')
      have hsum : ∑ s', dp s' * (1 * (1 / (L * L))) * e s' = (∑ s', e s' / L * dp s') / L := by
        rw [Finset.sum_div]
        refine Finset.sum_congr rfl fun s' _ => ?_
        field_simp
      rw [hsum]
      field_simp
      ring
    · rw [if_neg l]
      show (0 : EReal) = ((e s / L * (dp s - D) : ℝ) : EReal)
      rw [S.e_eq, if_neg l, zero_div, zero_mul, EReal.coe_zero]

/-! ## The results -/

theorem dq_eq (R : Re) (t : Fin 2048) (j : Fin 512) : resDq (arrIn R.up) t j = refDq R.up t j := by
  obtain ⟨c, hc⟩ := c8_real
  obtain ⟨p, g, b⟩ := both R (hd (j.val / 64)) t
  unfold resDq refDq
  simp only [b.gK, b.gR, hc]
  show (∑ s : Fin 2048, (R.k s j : EReal) * (g s : EReal)) * (c : EReal) = ∑ s : Fin 2048, (g s : EReal) * (c : EReal) * (R.k s j : EReal)
  simp only [← EReal.coe_mul, ← coe_sum]
  rw [Finset.sum_mul]
  exact congrArg _ (Finset.sum_congr rfl fun s _ => by ring)

theorem dk_eq (R : Re) (s : Fin 2048) (j : Fin 512) : resDk (arrIn R.up) s j = refDk R.up s j := by
  refine Finset.sum_congr rfl fun t _ => ?_
  obtain ⟨p, g, b⟩ := both R (hd (j.val / 64)) t
  rw [b.gK, b.gR]
  show (g s : EReal) * (R.up.q t j * c8) = _
  rw [mul_comm (R.up.q t j), mul_assoc]

theorem dv_eq (R : Re) (s : Fin 2048) (j : Fin 512) : resDv (arrIn R.up) s j = refDv R.up s j := by
  refine Finset.sum_congr rfl fun t _ => ?_
  obtain ⟨p, g, b⟩ := both R (hd (j.val / 64)) t
  rw [b.pK, b.pR, mul_comm]
  rfl

theorem dcq_eq (R : Re) (h : Fin 8) (t : Fin 2048) : resDcq (arrIn R.up) h t = refDcq R.up h t := by
  refine Finset.sum_congr rfl fun s _ => ?_
  obtain ⟨p, g, b⟩ := both R h t
  rw [b.gK, b.gR]

theorem dck_eq (R : Re) (s : Fin 2048) (l : Fin 128) : resDck (arrIn R.up) s l = refDck R.up s l := by
  unfold resDck refDck
  by_cases hl : l.val < 8
  · simp only [if_pos hl]
    rw [sum_blocks]
    choose p g b using fun t => both R (hd l.val) t
    simp only [(b _).gK, (b _).gR, ← EReal.coe_neg, ← coe_sum]
    exact congrArg _ (Finset.sum_congr rfl fun I _ => (Finset.sum_neg_distrib _).symm)
  · simp only [if_neg hl, Finset.sum_const_zero]

/-- An array whose elements are real numbers. -/
def IsReal {s : Shape} (x : s.Idx → EReal) : Prop := ∀ i, ((x i).toReal : EReal) = x i

end Cert.KernelIdeal.Fox

end
-- ==== Proof.Host.lean ====
/- What the host lines hand the launch: the forward pass's arrays, element by element. -/
module

public import proofs.«01_k».proof.Proof.Softmax

@[expose] public section

set_option maxRecDepth 16384

noncomputable section

namespace Cert.KernelIdeal.Fox

open Idealize.ShloMosaic Idealize.ShloMosaic.Tactic Idealize.SL.Sem
open Facts₀ Facts

/-- A batch's arguments in the argument arrays. -/
def inOf (x : S4096x3584.Idx → EReal) (C : S4096x128.Idx → EReal) (T : S4096x512.Idx → EReal) (B : Fin 2) : In where
  q t j := x (ix2 (rowOf B t) ⟨1536 + j.val, by omega⟩)
  k t j := x (ix2 (rowOf B t) ⟨2048 + j.val, by omega⟩)
  v t j := x (ix2 (rowOf B t) ⟨2560 + j.val, by omega⟩)
  da t j := T (ix2 (rowOf B t) j)
  cc t h := C (ix2 (rowOf B t) ⟨h.val, by omega⟩)

/-! ## The forward pass as arrays -/

/-- Queries, keys and values by heads. -/
def qH (x : FVec Ideal S4096x3584 .f32) : FVec Ideal S2x2048x8x64 .f32 :=
  shapeCast _ (extractStridedSlice S4096x512 ![0, 1536] x slices_S4096x3584_S4096x512_0_1536) shapeCasts_S4096x512_S2x2048x8x64
def kH (x : FVec Ideal S4096x3584 .f32) : FVec Ideal S2x2048x8x64 .f32 :=
  shapeCast _ (extractStridedSlice S4096x512 ![0, 2048] x slices_S4096x3584_S4096x512_0_2048) shapeCasts_S4096x512_S2x2048x8x64
def vH (x : FVec Ideal S4096x3584 .f32) : FVec Ideal S2x2048x8x64 .f32 :=
  shapeCast _ (extractStridedSlice S4096x512 ![0, 2560] x slices_S4096x3584_S4096x512_0_2560) shapeCasts_S4096x512_S2x2048x8x64
/-- The output's gradient by heads. -/
def daH (T : FVec Ideal S4096x512 .f32) : FVec Ideal S2x2048x8x64 .f32 := shapeCast _ T shapeCasts_S4096x512_S2x2048x8x64
/-- The decays by heads. -/
def cH (C : FVec Ideal S4096x128 .f32) : FVec Ideal S2x8x2048 .f32 :=
  transpose S2x8x2048 [0, 2, 1] (extractStridedSlice S2x2048x8 ![0, 0, 0] (shapeCast _ C shapeCasts_S4096x128_S2x2048x128 : FVec Ideal S2x2048x128 .f32) slices_S2x2048x128_S2x2048x8_0_0_0) transposes_S2x2048x8_S2x8x2048_0_2_1

/-- Along the keys, a query's value. -/
def alongK (y : FVec Ideal S2x8x2048 .f32) : FVec Ideal S2x8x2048x2048 .f32 :=
  broadcastInDim S2x8x2048x2048 ![0, 1, 2, 3] bcast_S2x8x2048x1_S2x8x2048x2048_0_1_2_3 (broadcastInDim S2x8x2048x1 ![0, 1, 2] bcast_S2x8x2048_S2x8x2048x1_0_1_2 y)
/-- Along the queries, a key's value. -/
def alongQ (y : FVec Ideal S2x8x2048 .f32) : FVec Ideal S2x8x2048x2048 .f32 :=
  broadcastInDim S2x8x2048x2048 ![0, 1, 2, 3] bcast_S2x8x1x2048_S2x8x2048x2048_0_1_2_3 (broadcastInDim S2x8x1x2048 ![0, 1, 3] bcast_S2x8x2048_S2x8x1x2048_0_1_3 y)

/-- Where a key is not after the query. -/
def causalA : IVec S2x8x2048x2048 1 :=
  broadcastInDim S2x8x2048x2048 ![2, 3] bcast_S2048x2048_S2x8x2048x2048_2_3 (cmpi .sge
    (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))

def everywhere (b : BitVec 32) : FVec Ideal S2x8x2048x2048 .f32 := broadcastInDim S2x8x2048x2048 ![] bcast_S_S2x8x2048x2048 (constant S_ .f32 b)

def dotA (x : FVec Ideal S4096x3584 .f32) : FVec Ideal S2x8x2048x2048 .f32 :=
  mulf (Host.dotGeneral dot_S2x2048x8x64_S2x2048x8x64_S2x8x2048x2048_3_3_1_1_02_02 none (qH x) (kH x)) (everywhere 0x3E000000#32)

def biasA (C : FVec Ideal S4096x128 .f32) : FVec Ideal S2x8x2048x2048 .f32 := subf (alongK (cH C)) (alongQ (cH C))

def scoreA (x : FVec Ideal S4096x3584 .f32) (C : FVec Ideal S4096x128 .f32) : FVec Ideal S2x8x2048x2048 .f32 :=
  select causalA (addf (dotA x) (biasA C)) (everywhere 0xFF800000#32)

def maxA (S : FVec Ideal S2x8x2048x2048 .f32) : FVec Ideal S2x8x2048 .f32 :=
  Host.reduce FloatOps.maximumf S (constant S_ .f32 0xFF800000#32) reducesTo_S2x8x2048x2048_S2x8x2048_d3 h_S_
def sumA (S : FVec Ideal S2x8x2048x2048 .f32) : FVec Ideal S2x8x2048 .f32 :=
  Host.reduceAdd S (constant S_ .f32 0x00000000#32) reducesTo_S2x8x2048x2048_S2x8x2048_d3 h_S_
def expA (S : FVec Ideal S2x8x2048x2048 .f32) : FVec Ideal S2x8x2048x2048 .f32 := Host.exp (subf S (alongK (maxA S)))
def prA (E : FVec Ideal S2x8x2048x2048 .f32) : FVec Ideal S2x8x2048x2048 .f32 := Host.divf E (alongK (sumA E))

def col1 (y : FVec Ideal S2x8x2048 .f32) : FVec Ideal S2x8x2048x1 .f32 := broadcastInDim S2x8x2048x1 ![0, 1, 2] bcast_S2x8x2048_S2x8x2048x1_0_1_2 y

def lseA (S : FVec Ideal S2x8x2048x2048 .f32) : FVec Ideal S2x8x2048 .f32 :=
  shapeCast _ (addf (col1 (maxA S)) (Host.log (col1 (sumA (expA S))))) shapeCasts_S2x8x2048x1_S2x8x2048

def deltaA (x : FVec Ideal S4096x3584 .f32) (T : FVec Ideal S4096x512 .f32) (p : FVec Ideal S2x8x2048x2048 .f32) : FVec Ideal S2x8x2048 .f32 :=
  transpose S2x8x2048 [0, 2, 1] (Host.reduceAdd (mulf (daH T)
    (transpose S2x2048x8x64 [0, 3, 1, 2] (Host.dotGeneral dot_S2x2048x8x64_S2x8x2048x2048_S2x8x64x2048_1_3_3_2_02_01 none (vH x) p) transposes_S2x8x64x2048_S2x2048x8x64_0_3_1_2))
    (constant S_ .f32 0x00000000#32) reducesTo_S2x2048x8x64_S2x2048x8_d3 h_S_) transposes_S2x2048x8_S2x8x2048_0_2_1

variable (m : (ℓ : Loc nD τ sig) → Buf (Elt Ideal) ℓ) (c : Dev nD)

def ax : S4096x3584.Idx → EReal := m ((c.tc : Thread nD τ).loc main_arg0)
def aC : S4096x128.Idx → EReal := m ((c.tc : Thread nD τ).loc main_arg1)
def aT : S4096x512.Idx → EReal := m ((c.tc : Thread nD τ).loc main_arg2)

theorem hostX_eq : hostX m c = ax m c := Gen.V_main_arg0 m c
theorem hostC_eq : hostC m c = aC m c := Gen.V_main_arg1 m c

def hostB (b : BitVec 32) : FVec Ideal S4096x512 .f32 := broadcastInDim S4096x512 ![] bcast_S_S4096x512 (constant S_ .f32 b)

theorem host_eqs : hostLse m c = lseA (scoreA (ax m c) (aC m c)) ∧ hostDl m c = deltaA (ax m c) (aT m c) (prA (expA (scoreA (ax m c) (aC m c))))
    ∧ hostCr m c = cH (aC m c) ∧ hostDa m c = aT m c ∧ hostDat m c = transpose S512x4096 [1, 0] (aT m c) transposes_S4096x512_S512x4096_1_0
    ∧ hostKt m c = transpose S512x4096 [1, 0] (extractStridedSlice S4096x512 ![0, 2048] (ax m c) slices_S4096x3584_S4096x512_0_2048) transposes_S4096x512_S512x4096_1_0
    ∧ hostQt m c = transpose S512x4096 [1, 0] (mulf (extractStridedSlice S4096x512 ![0, 1536] (ax m c) slices_S4096x3584_S4096x512_0_1536 : FVec Ideal S4096x512 .f32) (hostB 0x3E000000#32)) transposes_S4096x512_S512x4096_1_0 := by
  unfold hostLse hostDl hostCr hostDa hostDat hostKt hostQt ax aC aT Gen.V
  simp only [Gen.hostOps0, Gen.hostOps0_1, Gen.hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  exact ⟨rfl, rfl, rfl, rfl, rfl, rfl, rfl⟩

/-! ## The arrays at an index -/

section Elements

variable (x : FVec Ideal S4096x3584 .f32) (C : FVec Ideal S4096x128 .f32) (T : FVec Ideal S4096x512 .f32)

theorem atRow {n : ℕ} (y : (⟨2, ![4096, n]⟩ : Shape).Idx → EReal) {r r' : Fin 4096} {j j' : Fin n} (hr : r.val = r'.val) (hj : j.val = j'.val) : y (ix2 r j) = y (ix2 r' j') :=
  congrArg y (at2 (Fin.ext hr) (Fin.ext hj))

theorem qH_at (B : Fin 2) (t : Fin 2048) (h : Fin 8) (d : Fin 64) : qH x (ix4 B t h d) = (inOf x C T B).q t (ln h d) := by
  unfold qH inOf
  pointwise
  exact atRow x (by show B.val * 2048 + t.val = 2048 * B.val + t.val; omega) (by show 1536 + (h.val * 64 + d.val) = 1536 + (64 * h.val + d.val); omega)
theorem kH_at (B : Fin 2) (t : Fin 2048) (h : Fin 8) (d : Fin 64) : kH x (ix4 B t h d) = (inOf x C T B).k t (ln h d) := by
  unfold kH inOf
  pointwise
  exact atRow x (by show B.val * 2048 + t.val = 2048 * B.val + t.val; omega) (by show 2048 + (h.val * 64 + d.val) = 2048 + (64 * h.val + d.val); omega)
theorem vH_at (B : Fin 2) (t : Fin 2048) (h : Fin 8) (d : Fin 64) : vH x (ix4 B t h d) = (inOf x C T B).v t (ln h d) := by
  unfold vH inOf
  pointwise
  exact atRow x (by show B.val * 2048 + t.val = 2048 * B.val + t.val; omega) (by show 2560 + (h.val * 64 + d.val) = 2560 + (64 * h.val + d.val); omega)
theorem daH_at (B : Fin 2) (t : Fin 2048) (h : Fin 8) (d : Fin 64) : daH T (ix4 B t h d) = (inOf x C T B).da t (ln h d) := by
  unfold daH inOf
  pointwise
  exact atRow T (by show B.val * 2048 + t.val = 2048 * B.val + t.val; omega) (by show h.val * 64 + d.val = 64 * h.val + d.val; omega)
theorem cH_at (B : Fin 2) (h : Fin 8) (t : Fin 2048) : cH C (ix3 B h t) = (inOf x C T B).cc t h := by
  unfold cH inOf
  pointwise
  exact atRow C (by show B.val * 2048 + t.val = 2048 * B.val + t.val; omega) rfl

theorem sge_at (t s : Fin 2048) : IntOp.cmpi .sge (BitVec.ofNat 32 t.val) (BitVec.ofNat 32 s.val) = if s.val ≤ t.val then 1#1 else 0#1 := by
  have e : ∀ r : Fin 2048, (BitVec.ofNat 32 r.val).toInt = r.val := fun r => by
    rw [BitVec.toInt_eq_toNat_of_lt (by rw [BitVec.toNat_ofNat]; omega), BitVec.toNat_ofNat]
    omega
  show BitVec.ofBool (BitVec.sle _ _) = _
  rw [BitVec.sle, e, e]
  by_cases l : s.val ≤ t.val
  · rw [if_pos l, decide_eq_true (by omega)]; rfl
  · rw [if_neg l, decide_eq_false (by omega)]; rfl

theorem causalA_at (B : Fin 2) (h : Fin 8) (t s : Fin 2048) : causalA (ix4 B h t s) = if s.val ≤ t.val then 1#1 else 0#1 := by
  unfold causalA
  pointwise
  exact sge_at t s

theorem least : Ideal.ofBits .f32 0xFF800000#32 = ⊥ := by
  simp [Ideal.ofBits, Ideal.ieee]

theorem everywhere_at (b : BitVec 32) (B : Fin 2) (h : Fin 8) (t s : Fin 2048) : everywhere b (ix4 B h t s) = Ideal.ofBits .f32 b := by
  unfold everywhere
  pointwise

theorem dotA_at (B : Fin 2) (h : Fin 8) (t s : Fin 2048) : dotA x (ix4 B h t s) = (∑ d : Fin 64, qH x (ix4 B t h d) * kH x (ix4 B s h d)) * c8 := by
  unfold dotA everywhere
  pointwise
  rfl

theorem alongK_at (y : FVec Ideal S2x8x2048 .f32) (B : Fin 2) (h : Fin 8) (t s : Fin 2048) : alongK y (ix4 B h t s) = y (ix3 B h t) := by
  unfold alongK
  pointwise
theorem alongQ_at (y : FVec Ideal S2x8x2048 .f32) (B : Fin 2) (h : Fin 8) (t s : Fin 2048) : alongQ y (ix4 B h t s) = y (ix3 B h s) := by
  unfold alongQ
  pointwise

theorem biasA_at (B : Fin 2) (h : Fin 8) (t s : Fin 2048) : biasA C (ix4 B h t s) = cH C (ix3 B h t) - cH C (ix3 B h s) := by
  show alongK (cH C) (ix4 B h t s) - alongQ (cH C) (ix4 B h t s) = _
  rw [alongK_at, alongQ_at]

theorem select_causal (y z : FVec Ideal S2x8x2048x2048 .f32) (B : Fin 2) (h : Fin 8) (t s : Fin 2048) :
    select causalA y z (ix4 B h t s) = if s.val ≤ t.val then y (ix4 B h t s) else z (ix4 B h t s) := by
  show Scalar.select (causalA (ix4 B h t s)) _ _ = _
  rw [causalA_at]
  by_cases l : s.val ≤ t.val
  · rw [if_pos l, if_pos l]; rfl
  · rw [if_neg l, if_neg l]; rfl

theorem scoreA_at (B : Fin 2) (h : Fin 8) (t s : Fin 2048) : scoreA x C (ix4 B h t s) = score (inOf x C T B) h t s := by
  unfold scoreA score
  rw [select_causal, everywhere_at, least]
  show (if s.val ≤ t.val then dotA x (ix4 B h t s) + biasA C (ix4 B h t s) else ⊥) = _
  rw [dotA_at, biasA_at]
  simp only [qH_at x C T, kH_at x C T, cH_at x C T]

theorem maxA_at (S : FVec Ideal S2x8x2048x2048 .f32) (B : Fin 2) (h : Fin 8) (t : Fin 2048) : maxA S (ix3 B h t) = Finset.univ.fold max ⊥ fun s : Fin 2048 => S (ix4 B h t s) := by
  unfold maxA
  pointwise
  rw [least]

theorem sumA_at (S : FVec Ideal S2x8x2048x2048 .f32) (B : Fin 2) (h : Fin 8) (t : Fin 2048) : sumA S (ix3 B h t) = ∑ s : Fin 2048, S (ix4 B h t s) := by
  unfold sumA
  pointwise

theorem expA_at (S : FVec Ideal S2x8x2048x2048 .f32) (I : In) (B : Fin 2) (hS : ∀ h t s, S (ix4 B h t s) = score I h t s) (h : Fin 8) (t s : Fin 2048) :
    expA S (ix4 B h t s) = ex I h t s := by
  show Ideal.exp (S (ix4 B h t s) - alongK (maxA S) (ix4 B h t s)) = _
  rw [alongK_at, maxA_at]
  simp only [hS]
  rfl

theorem prA_at (E : FVec Ideal S2x8x2048x2048 .f32) (I : In) (B : Fin 2) (hE : ∀ h t s, E (ix4 B h t s) = ex I h t s) (h : Fin 8) (t s : Fin 2048) :
    prA E (ix4 B h t s) = pr I h t s := by
  show Ideal.div (E (ix4 B h t s)) (alongK (sumA E) (ix4 B h t s)) = _
  rw [alongK_at, sumA_at]
  simp only [hE]
  rfl

theorem log_at (y z : FVec Ideal S2x8x2048 .f32) (B : Fin 2) (h : Fin 8) (t : Fin 2048) :
    (shapeCast S2x8x2048 (addf (col1 y) (Host.log (col1 z))) shapeCasts_S2x8x2048x1_S2x8x2048 : FVec Ideal S2x8x2048 .f32) (ix3 B h t) = y (ix3 B h t) + Ideal.log (z (ix3 B h t)) := by
  unfold col1
  pointwise

theorem lseA_at (B : Fin 2) (h : Fin 8) (t : Fin 2048) :
    lseA (scoreA x C) (ix3 B h t) = mx (inOf x C T B) h t + Ideal.log (sm (inOf x C T B) h t) := by
  unfold lseA
  rw [log_at, maxA_at, sumA_at]
  simp only [expA_at (scoreA x C) (inOf x C T B) B (scoreA_at x C T B), scoreA_at x C T]
  rfl

theorem deltaA_at (p : FVec Ideal S2x8x2048x2048 .f32) (B : Fin 2) (h : Fin 8) (t : Fin 2048) :
    deltaA x T p (ix3 B h t) = ∑ d : Fin 64, daH T (ix4 B t h d) * ∑ s : Fin 2048, vH x (ix4 B s h d) * p (ix4 B h t s) := by
  unfold deltaA
  pointwise

theorem qt_at (B : Fin 2) (j : Fin 512) (t : Fin 2048) :
    transpose S512x4096 [1, 0] (mulf (extractStridedSlice S4096x512 ![0, 1536] x slices_S4096x3584_S4096x512_0_1536 : FVec Ideal S4096x512 .f32) (hostB 0x3E000000#32)) transposes_S4096x512_S512x4096_1_0 (ix2 j (rowOf B t))
      = (inOf x C T B).q t j * c8 := by
  unfold hostB inOf
  pointwise
  rfl

theorem kt_at (B : Fin 2) (j : Fin 512) (t : Fin 2048) :
    transpose S512x4096 [1, 0] (extractStridedSlice S4096x512 ![0, 2048] x slices_S4096x3584_S4096x512_0_2048) transposes_S4096x512_S512x4096_1_0 (ix2 j (rowOf B t))
      = (inOf x C T B).k t j := by
  unfold inOf
  pointwise

theorem dat_at (B : Fin 2) (j : Fin 512) (t : Fin 2048) : transpose S512x4096 [1, 0] T transposes_S4096x512_S512x4096_1_0 (ix2 j (rowOf B t)) = (inOf x C T B).da t j := by
  unfold inOf
  pointwise

theorem arrOf_eq (B : Fin 2) (da : S4096x512.Idx → EReal) (qt kt dat : S512x4096.Idx → EReal) (cr lse dl : S2x8x2048.Idx → EReal)
    (h1 : da = T) (h2 : ∀ j t, qt (ix2 j (rowOf B t)) = (inOf x C T B).q t j * c8) (h3 : ∀ j t, kt (ix2 j (rowOf B t)) = (inOf x C T B).k t j)
    (h4 : ∀ j t, dat (ix2 j (rowOf B t)) = (inOf x C T B).da t j) (h5 : ∀ h t, cr (ix3 B h t) = (inOf x C T B).cc t h)
    (h6 : ∀ h t, lse (ix3 B h t) = (arrIn (inOf x C T B)).lse h t) (h7 : ∀ h t, dl (ix3 B h t) = (arrIn (inOf x C T B)).dl h t) :
    arrOf x da qt kt dat C cr lse dl B = arrIn (inOf x C T B) := by
  subst h1
  unfold arrOf
  simp only [h2, h3, h4, h5, h6, h7]
  rfl

end Elements

/-- The launch is handed the arguments and what the forward pass made of them. -/
theorem arr_eq (B : Fin 2) : arr m c B = arrIn (inOf (ax m c) (aC m c) (aT m c) B) := by
  obtain ⟨e1, e2, e3, e4, e5, e6, e7⟩ := host_eqs m c
  unfold arr
  rw [hostX_eq, hostC_eq, e1, e2, e3, e4, e5, e6, e7]
  refine arrOf_eq _ _ _ B _ _ _ _ _ _ _ rfl (qt_at _ _ _ B) (kt_at _ _ _ B) (dat_at _ _ _ B) (cH_at _ _ _ B) (lseA_at _ _ _ B) fun h t => ?_
  rw [deltaA_at]
  have hp := prA_at (expA (scoreA (ax m c) (aC m c))) _ B (expA_at (scoreA (ax m c) (aC m c)) (inOf (ax m c) (aC m c) (aT m c)  B) B (scoreA_at _ _ _ B))
  simp only [hp, daH_at (ax m c) (aC m c) (aT m c), vH_at (ax m c) (aC m c) (aT m c)]
  rfl

end Cert.KernelIdeal.Fox

end
-- ==== Proof.Ref.lean ====
/- The reference's results, element by element: they are the attention's gradient as `Softmax.lean` writes it. -/
module

public import proofs.«01_k».proof.Proof.Host
public import proofs.«01_k».proof.Proof.Gen.ReferenceIdeal.Run

@[expose] public section

set_option maxRecDepth 16384

noncomputable section

namespace Cert.ReferenceIdeal.Fox

open Idealize.ShloMosaic Idealize.ShloMosaic.Tactic Idealize.SL.Sem Idealize.ShloMosaic.TcCoe
open Cert.ReferenceIdeal
open Facts₀ Facts
open Cert.KernelIdeal.Fox (In inOf qH kH vH daH cH alongK causalA everywhere scoreA maxA sumA col1 score mx ex sm pr dpr dsc' refDq refDk refDv refDck refDcq ln hd bt ps least
  qH_at kH_at vH_at daH_at cH_at alongK_at select_causal everywhere_at scoreA_at maxA_at sumA_at)

/-! ## The reference's arrays -/

/-- The largest scores: those of an empty row would be the least number. -/
def maxR (M : FVec Ideal S2x8x2048 .f32) : FVec Ideal S2x8x2048 .f32 :=
  maximumf (broadcastInDim S2x8x2048 ![] bcast_S_S2x8x2048 (constant S_ .f32 0xFF800000#32)) M

def scoreR (x : FVec Ideal S4096x3584 .f32) (C : FVec Ideal S4096x128 .f32) : FVec Ideal S2x8x2048x2048 .f32 :=
  select causalA (addf (Cert.KernelIdeal.Fox.dotA x) (select causalA (Cert.KernelIdeal.Fox.biasA C) (everywhere 0x00000000#32))) (everywhere 0xFF800000#32)

def expR (S : FVec Ideal S2x8x2048x2048 .f32) : FVec Ideal S2x8x2048x2048 .f32 := Host.exp (subf S (alongK (maxR (maxA S))))

def row1 (y : FVec Ideal S2x8x2048x1 .f32) : FVec Ideal S2x8x2048x2048 .f32 :=
  broadcastInDim S2x8x2048x2048 ![0, 1, 2, 3] bcast_S2x8x2048x1_S2x8x2048x2048_0_1_2_3 y

def prR (E : FVec Ideal S2x8x2048x2048 .f32) : FVec Ideal S2x8x2048x2048 .f32 := Host.divf E (alongK (sumA E))

def daTR (T : FVec Ideal S4096x512 .f32) : FVec Ideal S2x8x64x2048 .f32 := transpose S2x8x64x2048 [0, 2, 3, 1] (daH T) transposes_S2x2048x8x64_S2x8x64x2048_0_2_3_1

def dprR (x : FVec Ideal S4096x3584 .f32) (T : FVec Ideal S4096x512 .f32) : FVec Ideal S2x8x2048x2048 .f32 :=
  Host.dotGeneral dot_S2x8x64x2048_S2x2048x8x64_S2x8x2048x2048_2_3_3_1_01_02 none (daTR T) (vH x)

/-- One over the square of the sum of the exponentials. -/
def invR (L : FVec Ideal S2x8x2048x1 .f32) : FVec Ideal S2x8x2048x1 .f32 :=
  Host.divf (broadcastInDim S2x8x2048x1 ![] bcast_S_S2x8x2048x1 (constant S_ .f32 0x3F800000#32)) (mulf L L)

/-- The sum a query's gradients have in common. -/
def meanR (E D : FVec Ideal S2x8x2048x2048 .f32) : FVec Ideal S2x8x2048 .f32 :=
  Host.reduceAdd (Host.negf (shapeCast _ (sumA (mulf (mulf D (row1 (invR (col1 (sumA E))))) E)) shapeCasts_S2x8x2048_S2x8x2048x1 : FVec Ideal S2x8x2048x1 .f32))
    (constant S_ .f32 0x00000000#32) reducesTo_S2x8x2048x1_S2x8x2048_d3 h_S_

def alongKR (y : FVec Ideal S2x8x2048 .f32) : FVec Ideal S2x8x2048x2048 .f32 := broadcastInDim S2x8x2048x2048 ![0, 1, 2] bcast_S2x8x2048_S2x8x2048x2048_0_1_2 y

/-- The scores' gradient. -/
def dscR (E D : FVec Ideal S2x8x2048x2048 .f32) : FVec Ideal S2x8x2048x2048 .f32 :=
  select causalA (mulf (addf (Host.divf D (alongK (sumA E))) (alongKR (meanR E D))) E) (everywhere 0x00000000#32)

def dqR (x : FVec Ideal S4096x3584 .f32) (G : FVec Ideal S2x8x2048x2048 .f32) : FVec Ideal S4096x512 .bf16 :=
  truncf .bf16 (shapeCast _ (transpose S2x2048x8x64 [0, 2, 1, 3] (Host.dotGeneral dot_S2x8x2048x2048_S2x2048x8x64_S2x8x2048x64_3_1_2_3_01_02 none
    (mulf G (everywhere 0x3E000000#32)) (kH x)) transposes_S2x8x2048x64_S2x2048x8x64_0_2_1_3) shapeCasts_S2x2048x8x64_S4096x512 : FVec Ideal S4096x512 .f32) bitsLt_bf16_f32
def dkR (x : FVec Ideal S4096x3584 .f32) (G : FVec Ideal S2x8x2048x2048 .f32) : FVec Ideal S4096x512 .bf16 :=
  truncf .bf16 (shapeCast _ (transpose S2x2048x8x64 [0, 2, 1, 3] (Host.dotGeneral dot_S2x8x2048x2048_S2x2048x8x64_S2x8x2048x64_2_1_3_3_01_02 none
    (mulf G (everywhere 0x3E000000#32)) (qH x)) transposes_S2x8x2048x64_S2x2048x8x64_0_2_1_3) shapeCasts_S2x2048x8x64_S4096x512 : FVec Ideal S4096x512 .f32) bitsLt_bf16_f32
def dvR (T : FVec Ideal S4096x512 .f32) (p : FVec Ideal S2x8x2048x2048 .f32) : FVec Ideal S4096x512 .bf16 :=
  truncf .bf16 (shapeCast _ (transpose S2x2048x8x64 [0, 3, 1, 2] (Host.dotGeneral dot_S2x8x64x2048_S2x8x2048x2048_S2x8x64x2048_3_2_2_3_01_01 none
    (daTR T) p) transposes_S2x8x64x2048_S2x2048x8x64_0_3_1_2) shapeCasts_S2x2048x8x64_S4096x512 : FVec Ideal S4096x512 .f32) bitsLt_bf16_f32
def dcqR (G : FVec Ideal S2x8x2048x2048 .f32) : FVec Ideal S2x8x2048 .f32 :=
  Host.reduceAdd (shapeCast _ (sumA (select causalA G (everywhere 0x00000000#32))) shapeCasts_S2x8x2048_S2x8x2048x1 : FVec Ideal S2x8x2048x1 .f32)
    (constant S_ .f32 0x00000000#32) reducesTo_S2x8x2048x1_S2x8x2048_d3 h_S_
def dckR (G : FVec Ideal S2x8x2048x2048 .f32) : FVec Ideal S4096x128 .f32 :=
  shapeCast _ (pad S2x2048x128 ![0, 0, 0] ![0, 0, 120] ![0, 0, 0] (transpose S2x2048x8 [0, 2, 1] (Host.reduceAdd (shapeCast _ (Host.reduceAdd
      (Host.negf (select causalA G (everywhere 0x00000000#32))) (constant S_ .f32 0x00000000#32) reducesTo_S2x8x2048x2048_S2x8x2048_d2 h_S_) shapeCasts_S2x8x2048_S2x8x1x2048 : FVec Ideal S2x8x1x2048 .f32)
    (constant S_ .f32 0x00000000#32) reducesTo_S2x8x1x2048_S2x8x2048_d2 h_S_) transposes_S2x8x2048_S2x2048x8_0_2_1) (constant S_ .f32 0x00000000#32) pads_S2x2048x8_S2x2048x128_000_000_01200 h_S_ : FVec Ideal S2x2048x128 .f32)
    shapeCasts_S2x2048x128_S4096x128

variable (m : (ℓ : Loc nD τ sig) → Buf (Elt Ideal) ℓ) (c : Dev nD)

def ax : FVec Ideal S4096x3584 .f32 := m ((c.tc : Thread nD τ).loc main_arg0)
def aC : FVec Ideal S4096x128 .f32 := m ((c.tc : Thread nD τ).loc main_arg1)
def aT : FVec Ideal S4096x512 .f32 := m ((c.tc : Thread nD τ).loc main_arg2)

def expA : FVec Ideal S2x8x2048x2048 .f32 := expR (scoreR (ax m c) (aC m c))
def gradA : FVec Ideal S2x8x2048x2048 .f32 := dscR (expA m c) (dprR (ax m c) (aT m c))

theorem v99_eq : Value.res_main_v99 m c = dqR (ax m c) (gradA m c) := by unfold Value.res_main_v99; rfl
theorem v100_eq : Value.res_main_v100 m c = dkR (ax m c) (gradA m c) := by unfold Value.res_main_v100; rfl
theorem v101_eq : Value.res_main_v101 m c = dvR (aT m c) (prR (expA m c)) := by unfold Value.res_main_v101; rfl
theorem v95_eq : Value.res_main_v95 m c = dckR (gradA m c) := by unfold Value.res_main_v95; rfl
theorem v86_eq : Value.res_main_v86 m c = dcqR (gradA m c) := by unfold Value.res_main_v86; rfl

/-! ## The arrays at an index -/

section Elements

variable (x : FVec Ideal S4096x3584 .f32) (C : FVec Ideal S4096x128 .f32) (T : FVec Ideal S4096x512 .f32)

theorem scoreR_at (B : Fin 2) (h : Fin 8) (t s : Fin 2048) : scoreR x C (ix4 B h t s) = score (inOf x C T B) h t s := by
  rw [← scoreA_at x C T]
  unfold scoreR scoreA
  rw [select_causal, select_causal]
  by_cases l : s.val ≤ t.val
  · rw [if_pos l, if_pos l]
    show _ + select causalA _ _ (ix4 B h t s) = _ + _
    rw [select_causal, if_pos l]
  · rw [if_neg l, if_neg l]

theorem maxR_at (M : FVec Ideal S2x8x2048 .f32) (B : Fin 2) (h : Fin 8) (t : Fin 2048) : maxR M (ix3 B h t) = M (ix3 B h t) := by
  unfold maxR
  pointwise
  rw [least]
  exact max_eq_right bot_le

theorem expR_at (S : FVec Ideal S2x8x2048x2048 .f32) (I : In) (B : Fin 2) (hS : ∀ h t s, S (ix4 B h t s) = score I h t s) (h : Fin 8) (t s : Fin 2048) :
    expR S (ix4 B h t s) = ex I h t s := by
  show Ideal.exp (S (ix4 B h t s) - alongK (maxR (maxA S)) (ix4 B h t s)) = _
  rw [alongK_at, maxR_at, maxA_at]
  simp only [hS]
  rfl

theorem sum_at (E : FVec Ideal S2x8x2048x2048 .f32) (I : In) (B : Fin 2) (hE : ∀ h t s, E (ix4 B h t s) = ex I h t s) (h : Fin 8) (t : Fin 2048) : sumA E (ix3 B h t) = sm I h t := by
  rw [sumA_at]
  simp only [hE]
  rfl

theorem prR_at (E : FVec Ideal S2x8x2048x2048 .f32) (I : In) (B : Fin 2) (hE : ∀ h t s, E (ix4 B h t s) = ex I h t s) (h : Fin 8) (t s : Fin 2048) :
    prR E (ix4 B h t s) = pr I h t s := by
  show Ideal.div (E (ix4 B h t s)) (alongK (sumA E) (ix4 B h t s)) = _
  rw [alongK_at, sum_at E I B hE, hE]
  rfl

theorem daTR_at (B : Fin 2) (h : Fin 8) (d : Fin 64) (t : Fin 2048) : daTR T (ix4 B h d t) = daH T (ix4 B t h d) := by
  unfold daTR
  pointwise

theorem dprR_at (B : Fin 2) (h : Fin 8) (t s : Fin 2048) : dprR x T (ix4 B h t s) = dpr (inOf x C T B) h t s := by
  have e : dprR x T (ix4 B h t s) = ∑ d : Fin 64, daTR T (ix4 B h d t) * vH x (ix4 B s h d) := by
    unfold dprR
    pointwise
  rw [e]
  simp only [daTR_at, daH_at x C T, vH_at x C T]
  rfl

theorem row1_at (y : FVec Ideal S2x8x2048x1 .f32) (B : Fin 2) (h : Fin 8) (t s : Fin 2048) : row1 y (ix4 B h t s) = y (ix4 B h t (0 : Fin 1)) := by
  unfold row1
  pointwise

theorem invR_at (y : FVec Ideal S2x8x2048 .f32) (B : Fin 2) (h : Fin 8) (t : Fin 2048) : invR (col1 y) (ix4 B h t (0 : Fin 1)) = Ideal.div 1 (y (ix3 B h t) * y (ix3 B h t)) := by
  unfold invR col1
  pointwise

theorem alongKR_at (y : FVec Ideal S2x8x2048 .f32) (B : Fin 2) (h : Fin 8) (t s : Fin 2048) : alongKR y (ix4 B h t s) = y (ix3 B h t) := by
  unfold alongKR
  pointwise

theorem unit_at (y : FVec Ideal S2x8x2048 .f32) (B : Fin 2) (h : Fin 8) (t : Fin 2048) :
    (Host.reduceAdd (shapeCast _ y shapeCasts_S2x8x2048_S2x8x2048x1 : FVec Ideal S2x8x2048x1 .f32) (constant S_ .f32 0x00000000#32) reducesTo_S2x8x2048x1_S2x8x2048_d3 h_S_ : FVec Ideal S2x8x2048 .f32) (ix3 B h t)
      = y (ix3 B h t) := by
  pointwise
  simp

theorem neg_unit_at (y : FVec Ideal S2x8x2048 .f32) (B : Fin 2) (h : Fin 8) (t : Fin 2048) :
    (Host.reduceAdd (Host.negf (shapeCast _ y shapeCasts_S2x8x2048_S2x8x2048x1 : FVec Ideal S2x8x2048x1 .f32)) (constant S_ .f32 0x00000000#32) reducesTo_S2x8x2048x1_S2x8x2048_d3 h_S_ : FVec Ideal S2x8x2048 .f32) (ix3 B h t)
      = -y (ix3 B h t) := by
  pointwise
  simp

theorem meanR_at (E D : FVec Ideal S2x8x2048x2048 .f32) (I : In) (B : Fin 2) (hE : ∀ h t s, E (ix4 B h t s) = ex I h t s) (hD : ∀ h t s, D (ix4 B h t s) = dpr I h t s) (h : Fin 8) (t : Fin 2048) :
    meanR E D (ix3 B h t) = -∑ s : Fin 2048, dpr I h t s * Ideal.div 1 (sm I h t * sm I h t) * ex I h t s := by
  unfold meanR
  rw [neg_unit_at, sumA_at]
  refine congrArg (fun z : EReal => -z) (Finset.sum_congr rfl fun s _ => ?_)
  show D (ix4 B h t s) * row1 (invR (col1 (sumA E))) (ix4 B h t s) * E (ix4 B h t s) = _
  rw [row1_at, invR_at, sum_at E I B hE, hE, hD]

theorem dscR_at (E D : FVec Ideal S2x8x2048x2048 .f32) (I : In) (B : Fin 2) (hE : ∀ h t s, E (ix4 B h t s) = ex I h t s) (hD : ∀ h t s, D (ix4 B h t s) = dpr I h t s) (h : Fin 8) (t s : Fin 2048) :
    dscR E D (ix4 B h t s) = dsc' I h t s := by
  unfold dscR dsc'
  rw [select_causal, everywhere_at, Ideal.ofBits_zero_f32]
  show (if s.val ≤ t.val then (Ideal.div (D (ix4 B h t s)) (alongK (sumA E) (ix4 B h t s)) + alongKR (meanR E D) (ix4 B h t s)) * E (ix4 B h t s) else 0) = _
  rw [alongK_at, alongKR_at, meanR_at E D I B hE hD, sum_at E I B hE, hE, hD]

theorem dscR_late (E D : FVec Ideal S2x8x2048x2048 .f32) (B : Fin 2) (h : Fin 8) (t s : Fin 2048) :
    select causalA (dscR E D) (everywhere 0x00000000#32) (ix4 B h t s) = dscR E D (ix4 B h t s) := by
  rw [select_causal]
  by_cases l : s.val ≤ t.val
  · rw [if_pos l]
  · rw [if_neg l]
    unfold dscR
    rw [select_causal, if_neg l]

/-! ## The results at an index -/

variable (G p : FVec Ideal S2x8x2048x2048 .f32)

theorem lane (j : Fin 512) (h : Fin 8) (d : Fin 64) (hh : h.val = j.val / 64) (hd : d.val = j.val % 64) : ln h d = j :=
  Fin.ext (by show 64 * h.val + d.val = j.val; omega)

theorem headOf (j : Fin 512) (h : Fin 8) (hh : h.val = j.val / 64) : hd (j.val / 64) = h := Fin.ext (by show j.val / 64 % 8 = h.val; omega)

theorem dqR_at (I : Fin 2 → In) (hG : ∀ B h t s, G (ix4 B h t s) = dsc' (I B) h t s) (hk : ∀ B s h d, kH x (ix4 B s h d) = (I B).k s (ln h d)) (r : Fin 4096) (j : Fin 512) :
    dqR x G (ix2 r j) = refDq (I (bt r)) (ps r) j := by
  have e : dqR x G (ix2 r j) = ∑ s : Fin 2048, G (ix4 (bt r) (⟨j.val / 64, by omega⟩ : Fin 8) (ps r) s) * Ideal.ofBits .f32 0x3E000000#32 * kH x (ix4 (bt r) s (⟨j.val / 64, by omega⟩ : Fin 8) (⟨j.val % 64, by omega⟩ : Fin 64)) := by
    unfold dqR everywhere
    pointwise
  rw [e]
  refine Finset.sum_congr rfl fun s _ => ?_
  rw [hG, hk, lane j _ _ rfl rfl, headOf j ⟨j.val / 64, by omega⟩ rfl]
  rfl

theorem dkR_at (I : Fin 2 → In) (hG : ∀ B h t s, G (ix4 B h t s) = dsc' (I B) h t s) (hq : ∀ B s h d, qH x (ix4 B s h d) = (I B).q s (ln h d)) (r : Fin 4096) (j : Fin 512) :
    dkR x G (ix2 r j) = refDk (I (bt r)) (ps r) j := by
  have e : dkR x G (ix2 r j) = ∑ t : Fin 2048, G (ix4 (bt r) (⟨j.val / 64, by omega⟩ : Fin 8) t (ps r)) * Ideal.ofBits .f32 0x3E000000#32 * qH x (ix4 (bt r) t (⟨j.val / 64, by omega⟩ : Fin 8) (⟨j.val % 64, by omega⟩ : Fin 64)) := by
    unfold dkR everywhere
    pointwise
  rw [e]
  refine Finset.sum_congr rfl fun s _ => ?_
  rw [hG, hq, lane j _ _ rfl rfl, headOf j ⟨j.val / 64, by omega⟩ rfl]
  rfl

theorem dvR_at (I : Fin 2 → In) (hp : ∀ B h t s, p (ix4 B h t s) = pr (I B) h t s) (hd : ∀ B s h d, daH T (ix4 B s h d) = (I B).da s (ln h d)) (r : Fin 4096) (j : Fin 512) :
    dvR T p (ix2 r j) = refDv (I (bt r)) (ps r) j := by
  have e : dvR T p (ix2 r j) = ∑ t : Fin 2048, daTR T (ix4 (bt r) (⟨j.val / 64, by omega⟩ : Fin 8) (⟨j.val % 64, by omega⟩ : Fin 64) t) * p (ix4 (bt r) (⟨j.val / 64, by omega⟩ : Fin 8) t (ps r)) := by
    unfold dvR
    pointwise
  rw [e]
  refine Finset.sum_congr rfl fun s _ => ?_
  rw [daTR_at, hd, hp, lane j _ _ rfl rfl, headOf j ⟨j.val / 64, by omega⟩ rfl]

theorem dcqR_at (I : Fin 2 → In) (hG : ∀ B h t s, select causalA G (everywhere 0x00000000#32) (ix4 B h t s) = dsc' (I B) h t s) (B : Fin 2) (h : Fin 8) (t : Fin 2048) :
    dcqR G (ix3 B h t) = refDcq (I B) h t := by
  unfold dcqR
  rw [unit_at, sumA_at]
  exact Finset.sum_congr rfl fun s _ => hG B h t s

/-- The sum over the queries. -/
def sumQ (y : FVec Ideal S2x8x2048x2048 .f32) : FVec Ideal S2x8x2048 .f32 :=
  Host.reduceAdd (Host.negf y) (constant S_ .f32 0x00000000#32) reducesTo_S2x8x2048x2048_S2x8x2048_d2 h_S_
def unitQ (y : FVec Ideal S2x8x2048 .f32) : FVec Ideal S2x8x2048 .f32 :=
  Host.reduceAdd (shapeCast _ y shapeCasts_S2x8x2048_S2x8x1x2048 : FVec Ideal S2x8x1x2048 .f32) (constant S_ .f32 0x00000000#32) reducesTo_S2x8x1x2048_S2x8x2048_d2 h_S_
def padH (y : FVec Ideal S2x8x2048 .f32) : FVec Ideal S4096x128 .f32 :=
  shapeCast _ (pad S2x2048x128 ![0, 0, 0] ![0, 0, 120] ![0, 0, 0] (transpose S2x2048x8 [0, 2, 1] y transposes_S2x8x2048_S2x2048x8_0_2_1) (constant S_ .f32 0x00000000#32) pads_S2x2048x8_S2x2048x128_000_000_01200 h_S_ : FVec Ideal S2x2048x128 .f32)
    shapeCasts_S2x2048x128_S4096x128

theorem sumQ_at (y : FVec Ideal S2x8x2048x2048 .f32) (B : Fin 2) (h : Fin 8) (s : Fin 2048) : sumQ y (ix3 B h s) = ∑ t : Fin 2048, -y (ix4 B h t s) := by
  unfold sumQ
  pointwise

theorem unitQ_at (y : FVec Ideal S2x8x2048 .f32) (B : Fin 2) (h : Fin 8) (s : Fin 2048) : unitQ y (ix3 B h s) = y (ix3 B h s) := by
  unfold unitQ
  pointwise
  simp

theorem pick {P Q : Prop} [Decidable P] [Decidable Q] (f : P → EReal) (a : EReal) (h : P ↔ Q) (e : ∀ p, f p = a) : (if h : P then f h else 0) = if Q then a else 0 := by
  by_cases q : Q
  · rw [if_pos q, dif_pos (h.2 q), e]
  · rw [if_neg q, dif_neg fun p => q (h.1 p)]

theorem padH_at (y : FVec Ideal S2x8x2048 .f32) (r : Fin 4096) (l : Fin 128) : padH y (ix2 r l) = if l.val < 8 then y (ix3 (bt r) (hd l.val) (ps r)) else 0 := by
  unfold padH
  pointwise
  refine pick _ _ ⟨fun h => h.2.2, fun h => ⟨by omega, by omega, h⟩⟩ fun p => ?_
  have e : (⟨l.val, p.2.2⟩ : Fin 8) = hd l.val := Fin.ext (by show l.val = l.val % 8; have := p.2.2; omega)
  exact congrArg (fun h => y (ix3 (bt r) h (ps r))) e

theorem dckR_at (I : Fin 2 → In) (hG : ∀ B h t s, select causalA G (everywhere 0x00000000#32) (ix4 B h t s) = dsc' (I B) h t s) (r : Fin 4096) (l : Fin 128) :
    dckR G (ix2 r l) = refDck (I (bt r)) (ps r) l := by
  show padH (unitQ (sumQ (select causalA G (everywhere 0x00000000#32)))) (ix2 r l) = _
  rw [padH_at, unitQ_at, sumQ_at]
  simp only [hG]
  rfl

end Elements

end Cert.ReferenceIdeal.Fox
-- ==== Proof.Value.lean ====
/- The value claim: over real arguments the launch's results are the reference's gradients. -/
module

public import proofs.«01_k».proof.Proof.Ref
public import proofs.«01_k».proof.Pre_finite
public import proofs.«01_k».proof.Defs
public import Idealize.ShloMosaic.Lib.ReduceAll

@[expose] public section

set_option maxRecDepth 16384

noncomputable section

namespace Cert.Value

open Idealize.ShloMosaic Idealize.ShloMosaic.Tactic Idealize.SL.Sem
open Cert.KernelIdeal.Fox

/-! ## The precondition -/

instance preFacts : Cert.Pre_finite.Facts where
  bcast_S_S4096x3584 := by decide
  reducesTo_S4096x3584_S_d0_1 := by decide
  h_S_ := by decide
  bcast_S_S4096x128 := by decide
  reducesTo_S4096x128_S_d0_1 := by decide
  bcast_S_S4096x512 := by decide
  reducesTo_S4096x512_S_d0_1 := by decide
  shapeCasts_S_S1 := by decide

/-- A number whose absolute value is less than infinity is real. -/
theorem real_of_lt (a : Ideal .f32) (h : FloatOps.cmpf .olt (FloatOps.hostAbsf a) (FloatOps.ofBits (F := Ideal) .f32 0x7F800000#32) = 1#1) : (EReal.toReal a : EReal) = a := by
  have e : Ideal.ofBits .f32 0x7F800000#32 = ⊤ := by simp [Ideal.ofBits, Ideal.ieee]
  have l : max (a : EReal) (-a) < ⊤ := by
    have h' : BitVec.ofBool (decide (max (a : EReal) (-a) < Ideal.ofBits .f32 0x7F800000#32)) = 1#1 := h
    rw [e] at h'
    by_contra n
    rw [decide_eq_false n] at h'
    exact absurd h' (by decide)
  refine EReal.coe_toReal (fun t => ?_) fun b => ?_
  · rw [t] at l; exact absurd l (by simp)
  · rw [b] at l; exact absurd l (by simp)

theorem isReal_of_all {s t u : Shape} [Subsingleton t.Idx] {axes : List (Fin s.rank)} (x : FVec Ideal s .f32) (w : FVec Ideal s .f32) (hw : ∀ i, w i = FloatOps.ofBits (F := Ideal) .f32 0x7F800000#32)
    (init : IVec u 1) (h : s.ReducesTo axes t) (hu : 0 < u.numel) (j : t.Idx) (e : Host.reduce IntOp.andi (cmpf .olt (Host.absf x) w) init h hu j = 1#1) : IsReal x := fun i => by
  refine real_of_lt (x i) ?_
  have := Host.reduce_andi_all _ init h hu j e i
  rw [← hw i]
  exact this

theorem real_args (x : FVec Ideal Cert.Pre_finite.S4096x3584 .f32) (C : FVec Ideal Cert.Pre_finite.S4096x128 .f32) (T : FVec Ideal Cert.Pre_finite.S4096x512 .f32)
    (h : Cert.Pre_finite.fn x C T = fun _ => 1#1) : IsReal x ∧ IsReal C ∧ IsReal T := by
  haveI : Subsingleton Cert.Pre_finite.S_.Idx := ⟨fun a b => funext fun i => i.elim0⟩
  have h0 := congrFun h (ix1 (0 : Fin 1))
  dsimp only [Cert.Pre_finite.fn] at h0
  obtain ⟨h1, h2⟩ := IntOp.andi_eq_one.1 h0
  obtain ⟨h3, h4⟩ := IntOp.andi_eq_one.1 h1
  exact ⟨isReal_of_all x _ (fun _ => rfl) _ _ _ _ h3, isReal_of_all C _ (fun _ => rfl) _ _ _ _ h4, isReal_of_all T _ (fun _ => rfl) _ _ _ _ h2⟩

/-! ## The results -/

/-- The real numbers of a batch. -/
def realOf (x : Cert.KernelIdeal.S4096x3584.Idx → EReal) (C : Cert.KernelIdeal.S4096x128.Idx → EReal) (T : Cert.KernelIdeal.S4096x512.Idx → EReal) (B : Fin 2) : Re where
  q t j := EReal.toReal ((inOf x C T B).q t j)
  k t j := EReal.toReal ((inOf x C T B).k t j)
  v t j := EReal.toReal ((inOf x C T B).v t j)
  da t j := EReal.toReal ((inOf x C T B).da t j)
  cc t h := EReal.toReal ((inOf x C T B).cc t h)

theorem inOf_up (x : Cert.KernelIdeal.S4096x3584.Idx → EReal) (C : Cert.KernelIdeal.S4096x128.Idx → EReal) (T : Cert.KernelIdeal.S4096x512.Idx → EReal) (hx : IsReal x) (hC : IsReal C) (hT : IsReal T) (B : Fin 2) :
    inOf x C T B = (realOf x C T B).up := by
  have h1 : (inOf x C T B).q = fun t j => ((EReal.toReal ((inOf x C T B).q t j) : ℝ) : EReal) := funext fun t => funext fun j => (hx _).symm
  have h2 : (inOf x C T B).k = fun t j => ((EReal.toReal ((inOf x C T B).k t j) : ℝ) : EReal) := funext fun t => funext fun j => (hx _).symm
  have h3 : (inOf x C T B).v = fun t j => ((EReal.toReal ((inOf x C T B).v t j) : ℝ) : EReal) := funext fun t => funext fun j => (hx _).symm
  have h4 : (inOf x C T B).da = fun t j => ((EReal.toReal ((inOf x C T B).da t j) : ℝ) : EReal) := funext fun t => funext fun j => (hT _).symm
  have h5 : (inOf x C T B).cc = fun t j => ((EReal.toReal ((inOf x C T B).cc t j) : ℝ) : EReal) := funext fun t => funext fun j => (hC _).symm
  exact (In.mk.injEq ..).mpr ⟨h1, h2, h3, h4, h5⟩

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments agree and are real. -/
structure Agree : Prop where
  x : Cert.ReferenceIdeal.Fox.ax m' c = ax m c
  C : Cert.ReferenceIdeal.Fox.aC m' c = aC m c
  T : Cert.ReferenceIdeal.Fox.aT m' c = aT m c
  rx : IsReal (ax m c)
  rC : IsReal (aC m c)
  rT : IsReal (aT m c)

abbrev inAt (B : Fin 2) : In := inOf (ax m c) (aC m c) (aT m c) B

variable {m m' c} (A : Agree m m' c)
include A

theorem exp_is (B : Fin 2) (h : Fin 8) (t s : Fin 2048) : Cert.ReferenceIdeal.Fox.expA m' c (ix4 B h t s) = ex (inAt m c B) h t s := by
  unfold Cert.ReferenceIdeal.Fox.expA
  rw [A.x, A.C]
  exact Cert.ReferenceIdeal.Fox.expR_at _ _ B (Cert.ReferenceIdeal.Fox.scoreR_at (ax m c) (aC m c) (aT m c) B) h t s

theorem grad_is (B : Fin 2) (h : Fin 8) (t s : Fin 2048) : Cert.ReferenceIdeal.Fox.gradA m' c (ix4 B h t s) = dsc' (inAt m c B) h t s := by
  unfold Cert.ReferenceIdeal.Fox.gradA
  rw [A.x, A.T]
  exact Cert.ReferenceIdeal.Fox.dscR_at _ _ _ B (exp_is A B) (Cert.ReferenceIdeal.Fox.dprR_at (ax m c) (aC m c) (aT m c) B) h t s

theorem grad_late (B : Fin 2) (h : Fin 8) (t s : Fin 2048) :
    select causalA (Cert.ReferenceIdeal.Fox.gradA m' c) (everywhere 0x00000000#32) (ix4 B h t s) = dsc' (inAt m c B) h t s := by
  refine Eq.trans ?_ (grad_is A B h t s)
  unfold Cert.ReferenceIdeal.Fox.gradA
  exact Cert.ReferenceIdeal.Fox.dscR_late _ _ B h t s

theorem arr_real (B : Fin 2) : arr m c B = arrIn (realOf (ax m c) (aC m c) (aT m c) B).up := by
  rw [arr_eq, inOf_up _ _ _ A.rx A.rC A.rT]

theorem in_real (B : Fin 2) : inAt m c B = (realOf (ax m c) (aC m c) (aT m c) B).up := inOf_up _ _ _ A.rx A.rC A.rT B

theorem dq_is : Cert.ReferenceIdeal.Value.res_main_v99 m' c = outDq m c := by
  rw [Cert.ReferenceIdeal.Fox.v99_eq, A.x]
  funext y
  idx_vars y
  refine (Cert.ReferenceIdeal.Fox.dqR_at (ax m c) _ (inAt m c) (grad_is A) (kH_at (ax m c) (aC m c) (aT m c)) _ _).trans ?_
  unfold outDq
  rw [arr_real A, in_real A]
  exact (dq_eq _ _ _).symm

theorem dk_is : Cert.ReferenceIdeal.Value.res_main_v100 m' c = outDk m c := by
  rw [Cert.ReferenceIdeal.Fox.v100_eq, A.x]
  funext y
  idx_vars y
  refine (Cert.ReferenceIdeal.Fox.dkR_at (ax m c) _ (inAt m c) (grad_is A) (qH_at (ax m c) (aC m c) (aT m c)) _ _).trans ?_
  unfold outDk
  rw [arr_real A, in_real A]
  exact (dk_eq _ _ _).symm

theorem dv_is : Cert.ReferenceIdeal.Value.res_main_v101 m' c = outDv m c := by
  rw [Cert.ReferenceIdeal.Fox.v101_eq, A.T]
  funext y
  idx_vars y
  refine (Cert.ReferenceIdeal.Fox.dvR_at (aT m c) _ (inAt m c) (fun B => Cert.ReferenceIdeal.Fox.prR_at _ _ B (exp_is A B)) (daH_at (ax m c) (aC m c) (aT m c)) _ _).trans ?_
  unfold outDv
  rw [arr_real A, in_real A]
  exact (dv_eq _ _ _).symm

theorem dck_is : Cert.ReferenceIdeal.Value.res_main_v95 m' c = outDck m c := by
  rw [Cert.ReferenceIdeal.Fox.v95_eq]
  funext y
  idx_vars y
  refine (Cert.ReferenceIdeal.Fox.dckR_at _ (inAt m c) (grad_late A) _ _).trans ?_
  unfold outDck
  rw [arr_real A, in_real A]
  exact (dck_eq _ _ _).symm

theorem dcq_is : Cert.ReferenceIdeal.Value.res_main_v86 m' c = outDcq m c := by
  rw [Cert.ReferenceIdeal.Fox.v86_eq]
  funext y
  idx_vars y
  refine (Cert.ReferenceIdeal.Fox.dcqR_at _ (inAt m c) (grad_late A) _ _ _).trans ?_
  show _ = resDcq (arr m c y0) y1 y2
  rw [arr_real A, in_real A]
  exact (dcq_eq _ _ _).symm

end

/-! ## The claim -/

theorem algebraic : Cert.algebraic_KernelIdeal_ReferenceIdeal_pre_finite (hKernelIdeal := Cert.KernelIdeal.Gen.facts) (hReferenceIdeal := Cert.ReferenceIdeal.Gen.facts) (hPre_finite := preFacts) := by
  intro m g m' g' hp ha
  have A : ∀ c, Agree m m' c := fun c => by
    obtain ⟨r1, r2, r3⟩ := real_args _ _ _ (hp c)
    exact ⟨(ha c).1, (ha c).2.1, (ha c).2.2, r1, r2, r3⟩
  refine ⟨fun c => outDq m c, fun c => outDk m c, fun c => outDv m c, fun c => outDck m c, fun c => outDcq m c, ?_, ?_⟩
  · refine (θ_run Cert.KernelIdeal.defs _ _).mono (fun r h c => ?_) (run_main m g Variants.none)
    exact ⟨(h.1.out_eq c 11).trans (final_dq m c), (h.1.out_eq c 12).trans (final_dk m c), (h.1.out_eq c 13).trans (final_dv m c), (h.1.out_eq c 14).trans (final_dck m c),
      (h.1.out_eq c 15).trans (final_dcq m c), frame_post m r h.1 c⟩
  · refine (θ_run Cert.ReferenceIdeal.defs _ _).mono (fun r h c => ?_) (Cert.ReferenceIdeal.Value.run m' g')
    exact ⟨(h c).1.trans (dq_is (A c)), (h c).2.1.trans (dk_is (A c)), (h c).2.2.1.trans (dv_is (A c)), (h c).2.2.2.1.trans (dck_is (A c)), (h c).2.2.2.2.1.trans (dcq_is (A c)), (h c).2.2.2.2.2⟩

end Cert.Value
-- ==== Proof.InFrames.lean ====
/- The frames of the projection's three programs: they run, their arguments end unchanged, every counter ends at zero. -/
module

public import proofs.«01_k».proof.Defs
public import proofs.«01_k».proof.Proof.Gen.Kernel2
public import proofs.«01_k».proof.Proof.Gen.Reference2Ideal.Run
public import proofs.«01_k».proof.Proof.Gen.Kernel2Ideal.Frame
public import Idealize.ShloMosaic.Lib.Quiescent

@[expose] public section

set_option maxRecDepth 16384

noncomputable section

namespace Cert.InFrames

open Idealize.ShloMosaic Idealize.SL.Sem Cert.Kernel2

/-- The claim of the idealized text, read at the machine's own floats. -/
abbrev atBits : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

/-- The two programs have one text. -/
theorem same_text : Cert.quiescent_Kernel2 (hKernel2 := Cert.Kernel2.Gen.facts) = atBits := by
  sl_kernel_rfl

theorem kernel : Cert.quiescent_Kernel2 (hKernel2 := Cert.Kernel2.Gen.facts) :=
  same_text.mpr fun m ρ _ => Cert.Kernel2Ideal.Gen.frame (F := Bits) m ρ

theorem kernelIdeal : Cert.quiescent_Kernel2Ideal (hKernel2Ideal := Cert.Kernel2Ideal.Gen.facts) := fun m ρ _ =>
  Cert.Kernel2Ideal.Gen.frame (F := Ideal) m ρ

theorem referenceIdeal : Cert.quiescent_Reference2Ideal (hReference2Ideal := Cert.Reference2Ideal.Gen.facts) := fun m ρ _ =>
  (θ_run Cert.Reference2Ideal.defs _ _).mono
    (fun r h => ⟨fun c => (h c).2.2, Idealize.ShloMosaic.sem_eq_zero_of_no_sems (by decide) r.2⟩)
    (Cert.Reference2Ideal.Value.run m ρ)

end Cert.InFrames

end
-- ==== Proof.InRun.lean ====
/- What the input projection's backward pass leaves at a step: its stored values, as functions of the step's blocks. -/
module

public import proofs.«01_k».proof.Proof.Gen.Kernel2Ideal.Value
public import Idealize.ShloMosaic.Lib.Tactic

@[expose] public section

set_option maxRecDepth 16384

noncomputable section

namespace Cert.Kernel2Ideal.InProj

open Idealize.ShloMosaic Idealize.ShloMosaic.TcCoe Idealize.ShloMosaic.Tactic Idealize.SL.Sem
open Idealize.ShloMosaic.Pipeline (Dat)
open Cert.Kernel2Ideal Cert.Kernel2Ideal.Gen

variable {F : FTy → Type} [FloatOps F]

theorem at_zero : (![0, 0] : Fin 2 → Nat) = fun _ => 0 := funext fun a => by fin_cases a <;> rfl

/-- Half a tile's columns. -/
def half (o : Fin S512x1024.rank → ℕ) (inb : ∀ a, o a + S512x512.size a ≤ S512x1024.size a) (x : Vec F S512x1024 .bf16) : Vec F S512x512 .bf16 := View.ld x (Rect.unit o S512x512.size inb)

/-- 512 rows of the weights. -/
def rows (o : Fin S3584x1024.rank → ℕ) (inb : ∀ a, o a + S512x1024.size a ≤ S3584x1024.size a) (w : Vec F S3584x1024 .bf16) : Vec F S512x1024 .bf16 := View.ld w (Rect.unit o S512x1024.size inb)

/-- The two partial sums of the products with the weights. -/
def early (x0 : Vec F S512x1024 .bf16) (x1 : Vec F S512x512 .bf16) (x6 : Vec F S512x128 .bf16) (x7 : Vec F S3584x1024 .bf16) (x8 : Vec F S128x1024 .bf16) : FVec F S512x1024 .f32 :=
  k0_pay3 x6 x8 (half ![0, 0] inb_S512x1024_S512x512_0_0 x0) (rows ![0, 0] inb_S3584x1024_S512x1024_0_0 x7)
    (half ![0, 512] inb_S512x1024_S512x512_0_512 x0) (rows ![512, 0] inb_S3584x1024_S512x1024_512_0 x7) x1 (rows ![1024, 0] inb_S3584x1024_S512x1024_1024_0 x7)

def fourth (x2 : Vec F S512x512 .bf16) (x7 : Vec F S3584x1024 .bf16) : FVec F S512x1024 .f32 := k0_pay4 x2 (rows ![1536, 0] inb_S3584x1024_S512x1024_1536_0 x7)

/-- The gradient of the normalised input, a tile. -/
def dh (x0 : Vec F S512x1024 .bf16) (x1 x2 x3 x4 x5 : Vec F S512x512 .bf16) (x6 : Vec F S512x128 .bf16) (x7 : Vec F S3584x1024 .bf16) (x8 : Vec F S128x1024 .bf16) : FVec F S512x1024 .f32 :=
  k0_pay5 (early x0 x1 x6 x7 x8) (fourth x2 x7) x3 (rows ![2048, 0] inb_S3584x1024_S512x1024_2048_0 x7) x4 (rows ![2560, 0] inb_S3584x1024_S512x1024_2560_0 x7)
    x5 (rows ![3072, 0] inb_S3584x1024_S512x1024_3072_0 x7)

/-- The input's gradient, a tile. -/
def dxOf (d : FVec F S512x1024 .f32) (x9 : Vec F S512x1024 .f32) (x10 : Vec F S1x1024 .f32) (x11 : Vec F S512x1024 .f32) : FVec F S512x1024 .f32 :=
  k0_pay1 d (k0_pay6 x9) (k0_pay7 x9) x11 x10

/-- The gain's gradient, a tile further. -/
def dgOf (x0 : Vec F S512x1024 .bf16) (x1 x2 x3 x4 x5 : Vec F S512x512 .bf16) (x6 : Vec F S512x128 .bf16) (x7 : Vec F S3584x1024 .bf16) (x8 : Vec F S128x1024 .bf16)
    (x9 : Vec F S512x1024 .f32) (o : Vec F S1x1024 .f32) : FVec F S1x1024 .f32 :=
  k0_pay8 (early x0 x1 x6 x7 x8) (fourth x2 x7) x3 (rows ![2048, 0] inb_S3584x1024_S512x1024_2048_0 x7) x4 (rows ![2560, 0] inb_S3584x1024_S512x1024_2560_0 x7)
    x5 (rows ![3072, 0] inb_S3584x1024_S512x1024_3072_0 x7) x9 o

section

variable (c : Dev nD) (i : grid0.Coords) (arg1 : Memref sig .tc .vmem S512x1024 .bf16) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole)
  (arg6 : Memref sig .tc .vmem S512x512 .bf16) (harg6 : arg6.IsWhole) (arg7 : Memref sig .tc .vmem S512x128 .bf16) (harg7 : arg7.IsWhole) (arg8 : Memref sig .tc .vmem S3584x1024 .bf16) (harg8 : arg8.IsWhole)
  (arg9 : Memref sig .tc .vmem S128x1024 .bf16) (harg9 : arg9.IsWhole) (arg10 : Memref sig .tc .vmem S512x1024 .f32) (harg10 : arg10.IsWhole) (arg11 : Memref sig .tc .vmem S1x1024 .f32) (harg11 : arg11.IsWhole)
  (arg12 : Memref sig .tc .vmem S512x1024 .f32) (harg12 : arg12.IsWhole) (arg13 : Memref sig .tc .vmem S512x1024 .f32) (harg13 : arg13.IsWhole) (arg14 : Memref sig .tc .vmem S1x1024 .f32) (harg14 : arg14.IsWhole)
  (x0 : Vec F S512x1024 .bf16) (x1 x2 x3 x4 x5 : Vec F S512x512 .bf16) (x6 : Vec F S512x128 .bf16) (x7 : Vec F S3584x1024 .bf16) (x8 : Vec F S128x1024 .bf16)
  (x9 : Vec F S512x1024 .f32) (x10 : Vec F S1x1024 .f32) (x11 : Vec F S512x1024 .f32) (o : Vec F S1x1024 .f32)

/-- A later step stores the tile's gradient. -/
theorem out_B_12 (hc : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11 o = dxOf (dh x0 x1 x2 x3 x4 x5 x6 x7 x8) x9 x10 x11 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11 o)]
  unfold kernelRun0_B
  dsimp only
  sl_unfold_words
  rw [View.canon_unit_zero at_zero]
  simp only [View.readAt_eq_ld, harg1.read_unread, harg2.read_unread, harg3.read_unread, harg4.read_unread, harg5.read_unread, harg6.read_unread, harg7.read_unread, harg8.read_unread, harg9.read_unread,
    harg10.read_unread, harg11.read_unread, harg12.read_unread, harg14.read_unread, View.ld_unit_zero (S := S512x128) at_zero, View.ld_unit_zero (S := S128x1024) at_zero, View.ld_unit_zero (S := S512x512) at_zero, View.ld_unit_zero (S := S512x1024) at_zero, View.ld_unit_zero (S := S1x1024) at_zero]
  rfl

/-- A later step adds the tile's gain gradient. -/
theorem out_B_13 (hc : ¬cond0_0 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11 o = dgOf x0 x1 x2 x3 x4 x5 x6 x7 x8 x9 o := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11 o)]
  unfold kernelRun0_B
  dsimp only
  sl_unfold_words
  rw [View.canon_unit_zero at_zero]
  simp only [View.readAt_eq_ld, harg1.read_unread, harg2.read_unread, harg3.read_unread, harg4.read_unread, harg5.read_unread, harg6.read_unread, harg7.read_unread, harg8.read_unread, harg9.read_unread,
    harg10.read_unread, harg11.read_unread, harg12.read_unread, harg14.read_unread, View.ld_unit_zero (S := S512x128) at_zero, View.ld_unit_zero (S := S128x1024) at_zero, View.ld_unit_zero (S := S512x512) at_zero, View.ld_unit_zero (S := S512x1024) at_zero, View.ld_unit_zero (S := S1x1024) at_zero]
  rfl

/-- The first step stores the tile's gradient. -/
theorem out_A_12 (hc : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11 = dxOf (dh x0 x1 x2 x3 x4 x5 x6 x7 x8) x9 x10 x11 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11)]
  unfold kernelRun0_A
  dsimp only
  sl_unfold_words
  rw [View.canon_unit_zero at_zero]
  simp only [View.readAt_eq_ld, harg1.read_unread, harg2.read_unread, harg3.read_unread, harg4.read_unread, harg5.read_unread, harg6.read_unread, harg7.read_unread, harg8.read_unread, harg9.read_unread,
    harg10.read_unread, harg11.read_unread, harg12.read_unread, View.ld_unit_zero (S := S512x128) at_zero, View.ld_unit_zero (S := S128x1024) at_zero, View.ld_unit_zero (S := S512x512) at_zero, View.ld_unit_zero (S := S512x1024) at_zero, View.ld_unit_zero (S := S1x1024) at_zero]
  rfl

/-- The first step starts the gain's gradient at zero. -/
theorem out_A_13 (hc : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11 = dgOf x0 x1 x2 x3 x4 x5 x6 x7 x8 x9 (k0_pay2 (F := F)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc
      x0 x1 x2 x3 x4 x5 x6 x7 x8 x9 x10 x11)]
  unfold kernelRun0_A
  dsimp only
  sl_unfold_words
  rw [View.canon_cons_unit_zero (S := S1x1024) at_zero]
  simp only [View.readCov_unit_zero (S := S1x1024) _ at_zero, View.readAt_eq_ld, harg1.read_unread, harg2.read_unread, harg3.read_unread, harg4.read_unread, harg5.read_unread, harg6.read_unread, harg7.read_unread, harg8.read_unread, harg9.read_unread,
    harg10.read_unread, harg11.read_unread, harg12.read_unread, View.ld_unit_zero (S := S512x128) at_zero, View.ld_unit_zero (S := S128x1024) at_zero, View.ld_unit_zero (S := S512x512) at_zero, View.ld_unit_zero (S := S512x1024) at_zero, View.ld_unit_zero (S := S1x1024) at_zero]
  rfl

end

end Cert.Kernel2Ideal.InProj

end
-- ==== Proof.InTile.lean ====
/- The step's stored values, element by element over the extended reals. -/
module

public import proofs.«01_k».proof.Proof.InRun
public import Idealize.ShloMosaic.PureOps.Ideal
public import Idealize.ShloMosaic.Lib.Pointwise

@[expose] public section

set_option maxRecDepth 16384

noncomputable section

namespace Cert.Kernel2Ideal.InProj

open Idealize.ShloMosaic Idealize.ShloMosaic.Tactic Idealize.SL.Sem
open Cert.Kernel2Ideal Cert.Kernel2Ideal.Gen

/-- The constants: the row's length and the small number under the root. -/
abbrev len : EReal := Ideal.ofBits .f32 0x44800000#32
abbrev tiny : EReal := Ideal.ofBits .f32 0x358637BD#32

/-- One over the root of a row's mean square. -/
def inv (x : Fin 1024 → EReal) : EReal := Ideal.rsqrt (Ideal.div (∑ k, x k * x k) len + tiny)

/-- The input's gradient at a row's place. -/
def dxAt (x g d o : Fin 1024 → EReal) (k : Fin 1024) : EReal :=
  o k + inv x * (d k * g k - x k * inv x * Ideal.div (∑ k', d k' * g k' * (x k' * inv x)) len)

variable (x0 : Vec Ideal S512x1024 .bf16) (x1 x2 x3 x4 x5 : Vec Ideal S512x512 .bf16) (x6 : Vec Ideal S512x128 .bf16) (x7 : Vec Ideal S3584x1024 .bf16) (x8 : Vec Ideal S128x1024 .bf16)
  (x9 : Vec Ideal S512x1024 .f32) (x10 : Vec Ideal S1x1024 .f32) (x11 : Vec Ideal S512x1024 .f32) (o : Vec Ideal S1x1024 .f32)

theorem half_at (u : ℕ) (inb) (h : u + 512 ≤ 1024) (a : Fin 512) (d : Fin 512) : half ![0, u] inb x0 (ix2 a d) = x0 (ix2 a ⟨u + d.val, by omega⟩) :=
  congrArg x0 (Shape.idx_ext₂ (show 0 + 1 * a.val = a.val by omega) (show u + 1 * d.val = u + d.val by omega))

theorem rows_at (u : ℕ) (inb) (h : u + 512 ≤ 3584) (d : Fin 512) (k : Fin 1024) : rows ![u, 0] inb x7 (ix2 d k) = x7 (ix2 ⟨u + d.val, by omega⟩ k) :=
  congrArg x7 (Shape.idx_ext₂ (show u + 1 * d.val = u + d.val by omega) (show 0 + 1 * k.val = k.val by omega))

/-- A product of a tile with the weights' rows from `u`. -/
def part (x : Vec Ideal S512x512 .bf16) (w : Vec Ideal S512x1024 .bf16) (a : Fin 512) (k : Fin 1024) : EReal := ∑ d : Fin 512, x (ix2 a d) * w (ix2 d k)

theorem pay3_at (v8 v14 v20 : Vec Ideal S512x512 .bf16) (v10 v16 v22 : Vec Ideal S512x1024 .bf16) (a : Fin 512) (k : Fin 1024) :
    k0_pay3 x6 x8 v8 v10 v14 v16 v20 v22 (ix2 a k) = (∑ l : Fin 128, x6 (ix2 a l) * x8 (ix2 l k)) + part v8 v10 a k + part v14 v16 a k + part v20 v22 a k := by
  unfold k0_pay3 part
  pointwise

theorem pay4_at (x : Vec Ideal S512x512 .bf16) (w : Vec Ideal S512x1024 .bf16) (a : Fin 512) (k : Fin 1024) : k0_pay4 x w (ix2 a k) = part x w a k := by
  unfold k0_pay4 part
  pointwise

theorem pay5_at (e f : FVec Ideal S512x1024 .f32) (y1 y2 y3 : Vec Ideal S512x512 .bf16) (w1 w2 w3 : Vec Ideal S512x1024 .bf16) (a : Fin 512) (k : Fin 1024) :
    k0_pay5 e f y1 w1 y2 w2 y3 w3 (ix2 a k) = e (ix2 a k) + f (ix2 a k) + part y1 w1 a k + part y2 w2 a k + part y3 w3 a k := by
  unfold k0_pay5 part
  pointwise

theorem pay6_at (a : Fin 512) : k0_pay6 x9 (ix2 a 0) = inv fun k => x9 (ix2 a k) := by
  unfold k0_pay6 inv
  pointwise

theorem pay7_at (a : Fin 512) (k : Fin 1024) : k0_pay7 x9 (ix2 a k) = x9 (ix2 a k) * inv fun k => x9 (ix2 a k) := by
  rw [← pay6_at]
  unfold k0_pay7
  generalize k0_pay6 x9 = r
  pointwise

theorem pay1_at (d : FVec Ideal S512x1024 .f32) (r : FVec Ideal S512x1 .f32) (xh : FVec Ideal S512x1024 .f32) (a : Fin 512) (k : Fin 1024) :
    k0_pay1 d r xh x11 x10 (ix2 a k) = x11 (ix2 a k) + r (ix2 a 0) * (d (ix2 a k) * x10 (ix2 0 k)
      - xh (ix2 a k) * Ideal.div (∑ k', d (ix2 a k') * x10 (ix2 0 k') * xh (ix2 a k')) len) := by
  unfold k0_pay1
  pointwise

theorem dxOf_at (d : FVec Ideal S512x1024 .f32) (a : Fin 512) (k : Fin 1024) :
    dxOf d x9 x10 x11 (ix2 a k) = dxAt (fun k => x9 (ix2 a k)) (fun k => x10 (ix2 0 k)) (fun k => d (ix2 a k)) (fun k => x11 (ix2 a k)) k := by
  unfold dxOf dxAt
  rw [pay1_at, pay6_at, pay7_at]
  simp only [pay7_at]

theorem pay8_at (e f : FVec Ideal S512x1024 .f32) (y1 y2 y3 : Vec Ideal S512x512 .bf16) (w1 w2 w3 : Vec Ideal S512x1024 .bf16) (k : Fin 1024) :
    k0_pay8 e f y1 w1 y2 w2 y3 w3 x9 o (ix2 0 k) = o (ix2 0 k) + ∑ a : Fin 512, k0_pay5 e f y1 w1 y2 w2 y3 w3 (ix2 a k) * (x9 (ix2 a k) * inv fun k => x9 (ix2 a k)) := by
  rw [← Finset.sum_congr rfl fun a _ => congrArg (k0_pay5 e f y1 w1 y2 w2 y3 w3 (ix2 a k) * ·) (pay7_at x9 a k)]
  unfold k0_pay8
  generalize k0_pay7 x9 = r
  generalize k0_pay5 e f y1 w1 y2 w2 y3 w3 = q
  pointwise

theorem dgOf_at (k : Fin 1024) :
    dgOf x0 x1 x2 x3 x4 x5 x6 x7 x8 x9 o (ix2 0 k) = o (ix2 0 k) + ∑ a : Fin 512, dh x0 x1 x2 x3 x4 x5 x6 x7 x8 (ix2 a k) * (x9 (ix2 a k) * inv fun k => x9 (ix2 a k)) := by
  unfold dgOf dh
  exact pay8_at ..

theorem pay2_at (k : Fin 1024) : k0_pay2 (F := Ideal) (ix2 0 k) = 0 := by
  unfold k0_pay2
  pointwise

/-- The gradient of the normalised input is one sum over the projection's columns. -/
theorem dh_at (a : Fin 512) (k : Fin 1024) (f : ℕ → EReal)
    (h0 : ∀ d : Fin 1024, x0 (ix2 a d) * x7 (ix2 ⟨d.val, by omega⟩ k) = f d.val)
    (h1 : ∀ d : Fin 512, x1 (ix2 a d) * x7 (ix2 ⟨1024 + d.val, by omega⟩ k) = f (1024 + d.val))
    (h2 : ∀ d : Fin 512, x2 (ix2 a d) * x7 (ix2 ⟨1536 + d.val, by omega⟩ k) = f (1536 + d.val))
    (h3 : ∀ d : Fin 512, x3 (ix2 a d) * x7 (ix2 ⟨2048 + d.val, by omega⟩ k) = f (2048 + d.val))
    (h4 : ∀ d : Fin 512, x4 (ix2 a d) * x7 (ix2 ⟨2560 + d.val, by omega⟩ k) = f (2560 + d.val))
    (h5 : ∀ d : Fin 512, x5 (ix2 a d) * x7 (ix2 ⟨3072 + d.val, by omega⟩ k) = f (3072 + d.val))
    (h6 : ∀ l : Fin 128, x6 (ix2 a l) * x8 (ix2 l k) = if l.val < 8 then f (3584 + l.val) else 0) :
    dh x0 x1 x2 x3 x4 x5 x6 x7 x8 (ix2 a k) = ∑ j : Fin 3592, f j.val := by
  have block : ∀ (u n : ℕ), ∑ j ∈ Finset.range (u + n), f j = ∑ j ∈ Finset.range u, f j + ∑ d : Fin n, f (u + d.val) := fun u n => by
    rw [Finset.sum_range_add, Fin.sum_univ_eq_sum_range fun d => f (u + d)]
  have tail : ∑ l : Fin 128, (if l.val < 8 then f (3584 + l.val) else 0) = ∑ l : Fin 8, f (3584 + l.val) := by
    rw [Fin.sum_univ_eq_sum_range (fun l => if l < 8 then f (3584 + l) else 0), Fin.sum_univ_eq_sum_range fun l => f (3584 + l), show 128 = 8 + 120 from rfl, Finset.sum_range_add,
      Finset.sum_eq_zero (s := Finset.range 120) fun x _ => if_neg (by omega), add_zero]
    exact Finset.sum_congr rfl fun l hl => if_pos (Finset.mem_range.mp hl)
  unfold dh early fourth
  rw [pay5_at, pay3_at, pay4_at]
  unfold part
  simp only [half_at x0 0 _ (by omega), half_at x0 512 _ (by omega), rows_at x7 0 _ (by omega), rows_at x7 512 _ (by omega), rows_at x7 1024 _ (by omega), rows_at x7 1536 _ (by omega), rows_at x7 2048 _ (by omega),
    rows_at x7 2560 _ (by omega), rows_at x7 3072 _ (by omega), h1, h2, h3, h4, h5, h6]
  have e0 : ∀ (u : ℕ) (hu : u + 512 ≤ 1024), ∑ d : Fin 512, x0 (ix2 a ⟨u + d.val, by omega⟩) * x7 (ix2 ⟨u + d.val, by omega⟩ k) = ∑ d : Fin 512, f (u + d.val) := fun u hu =>
    Finset.sum_congr rfl fun d _ => h0 ⟨u + d.val, by omega⟩
  rw [e0 0 (by omega), e0 512 (by omega), tail, Fin.sum_univ_eq_sum_range f, show 3592 = 3584 + 8 from rfl, block,
    show 3584 = 3072 + 512 from rfl, block, show 3072 = 2560 + 512 from rfl, block, show 2560 = 2048 + 512 from rfl, block, show 2048 = 1536 + 512 from rfl, block,
    show 1536 = 1024 + 512 from rfl, block, show 1024 = 512 + 512 from rfl, block, show (512 : ℕ) = 0 + 512 from rfl, block]
  simp only [Finset.range_zero, Finset.sum_empty, zero_add]
  ac_rfl

end Cert.Kernel2Ideal.InProj

end
-- ==== Proof.InHost.lean ====
/- What the launch is handed, block by block, in the arguments' elements. -/
module

public import proofs.«01_k».proof.Proof.InTile

@[expose] public section

set_option maxRecDepth 16384

noncomputable section

namespace Cert.Kernel2Ideal.InProj

open Idealize.ShloMosaic Idealize.ShloMosaic.Tactic Idealize.ShloMosaic.TcCoe Idealize.SL.Sem
open Cert.Kernel2Ideal Cert.Kernel2Ideal.Gen

variable (m : (ℓ : Loc nD τ sig) → Buf (Elt Ideal) ℓ) (c : Dev nD)

/-- The arguments: the input, the gain, the weights, the projection's gradient, the residual's gradient. -/
def aX : S4096x1024.Idx → EReal := m ((c.tc : Thread nD τ).loc main_arg0)
def aG : S1x1024.Idx → EReal := m ((c.tc : Thread nD τ).loc main_arg1)
def aW : S1024x3592.Idx → EReal := m ((c.tc : Thread nD τ).loc main_arg2)
def aD : S4096x3592.Idx → EReal := m ((c.tc : Thread nD τ).loc main_arg3)
def aO : S4096x1024.Idx → EReal := m ((c.tc : Thread nD τ).loc main_arg4)

/-! ## The host lines -/

section Elements

variable (D : FVec Ideal S4096x3592 .f32) (W : FVec Ideal S1024x3592 .f32)

def zeroH : FVec Ideal S_ .f32 := sitofp .f32 (constantI S_ 32 0#32)

def wide : FVec Ideal S4096x1024 .bf16 := truncf .bf16 (extractStridedSlice S4096x1024 ![0, 0] D slices_S4096x3592_S4096x1024_0_0 : FVec Ideal S4096x1024 .f32) bitsLt_bf16_f32
def piece (u : ℕ) (h : S4096x3592.Slices ![0, u] S4096x512) : FVec Ideal S4096x512 .bf16 := truncf .bf16 (extractStridedSlice S4096x512 ![0, u] D h : FVec Ideal S4096x512 .f32) bitsLt_bf16_f32
def lastD : FVec Ideal S4096x128 .bf16 :=
  truncf .bf16 (pad S4096x128 ![0, 0] ![0, 120] ![0, 0] (extractStridedSlice S4096x8 ![0, 3584] D slices_S4096x3592_S4096x8_0_3584 : FVec Ideal S4096x8 .f32) zeroH pads_S4096x8_S4096x128_000_01200 h_S_ : FVec Ideal S4096x128 .f32) bitsLt_bf16_f32
def mainW : FVec Ideal S3584x1024 .bf16 :=
  truncf .bf16 (transpose S3584x1024 [1, 0] (extractStridedSlice S1024x3584 ![0, 0] W slices_S1024x3592_S1024x3584_0_0 : FVec Ideal S1024x3584 .f32) transposes_S1024x3584_S3584x1024_1_0 : FVec Ideal S3584x1024 .f32) bitsLt_bf16_f32
def lastW : FVec Ideal S128x1024 .bf16 :=
  truncf .bf16 (pad S128x1024 ![0, 0] ![120, 0] ![0, 0] (transpose S8x1024 [1, 0] (extractStridedSlice S1024x8 ![0, 3584] W slices_S1024x3592_S1024x8_0_3584 : FVec Ideal S1024x8 .f32) transposes_S1024x8_S8x1024_1_0 : FVec Ideal S8x1024 .f32)
    zeroH pads_S8x1024_S128x1024_01200_000 h_S_ : FVec Ideal S128x1024 .f32) bitsLt_bf16_f32

theorem zero_word : FloatOps.sitofp (F := Ideal) .f32 (0#32) = (0 : EReal) := by
  show (((0#32).toInt : ℝ) : EReal) = 0
  simp

theorem wide_at (r : Fin 4096) (d : Fin 1024) : wide D (ix2 r d) = D (ix2 r ⟨d.val, by omega⟩) := by
  unfold wide
  pointwise

theorem piece_at (u : ℕ) (h) (hu : u + 512 ≤ 3592) (r : Fin 4096) (d : Fin 512) : piece D u h (ix2 r d) = D (ix2 r ⟨u + d.val, by omega⟩) := by
  unfold piece
  pointwise

theorem mainW_at (d : Fin 3584) (k : Fin 1024) : mainW W (ix2 d k) = W (ix2 k ⟨d.val, by omega⟩) := by
  unfold mainW
  pointwise

theorem lastD_at (r : Fin 4096) (l : Fin 128) : lastD D (ix2 r l) = if h : l.val < 8 then D (ix2 r ⟨3584 + l.val, by omega⟩) else 0 := by
  unfold lastD zeroH
  pointwise
  rw [zero_word]

theorem lastW_at (l : Fin 128) (k : Fin 1024) : lastW W (ix2 l k) = if h : l.val < 8 then W (ix2 k ⟨3584 + l.val, by omega⟩) else 0 := by
  unfold lastW zeroH
  pointwise
  rw [zero_word]

end Elements

theorem host_eqs : Gen.V m c main_v1 = wide (aD m c) ∧ Gen.V m c main_v3 = piece (aD m c) 1024 slices_S4096x3592_S4096x512_0_1024
    ∧ Gen.V m c main_v5 = piece (aD m c) 1536 slices_S4096x3592_S4096x512_0_1536 ∧ Gen.V m c main_v7 = piece (aD m c) 2048 slices_S4096x3592_S4096x512_0_2048
    ∧ Gen.V m c main_v9 = piece (aD m c) 2560 slices_S4096x3592_S4096x512_0_2560 ∧ Gen.V m c main_v11 = piece (aD m c) 3072 slices_S4096x3592_S4096x512_0_3072
    ∧ Gen.V m c main_v14 = lastD (aD m c) ∧ Gen.V m c main_v17 = mainW (aW m c) ∧ Gen.V m c main_v21 = lastW (aW m c) := by
  unfold aD aW Gen.V
  simp only [Gen.hostOps0, Gen.hostOps0_1, Gen.hostOps0_2, Gen.hostOps0_3, Gen.hostOps0_4, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  exact ⟨rfl, rfl, rfl, rfl, rfl, rfl, rfl, rfl, rfl⟩

/-! ## The blocks -/

theorem lt8 (t : Fin cfg0.N) : t.val < 8 := Nat.lt_of_lt_of_eq t.isLt N_0

/-- A tile's row in the arrays. -/
abbrev rowOf (t : Fin cfg0.N) (a : Fin 512) : Fin 4096 := ⟨512 * t.val + a.val, by have := lt8 t; omega⟩

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = t.val ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = t.val ∧ win0_9.index t 1 = 0 := by decide +kernel
theorem at10 : ∀ t : Fin grid0.N, win0_10.index t 0 = 0 ∧ win0_10.index t 1 = 0 := by decide +kernel
theorem at11 : ∀ t : Fin grid0.N, win0_11.index t 0 = t.val ∧ win0_11.index t 1 = 0 := by decide +kernel

/-- A block of full rows of an array, and a block that is the whole array, at an index. -/
theorem rows_blk {n : ℕ} (y : (⟨2, ![4096, n]⟩ : Shape).Idx → EReal) (t : Fin cfg0.N) (a : Fin 512) (d : Fin n) {i0 i1 : ℕ} (h : i0 = t.val ∧ i1 = 0) (idx : (⟨2, ![4096, n]⟩ : Shape).Idx)
    (e0 : (idx 0).val = i0 * 512 + 1 * a.val) (e1 : (idx 1).val = i1 * n + 1 * d.val) : y idx = y (ix2 (rowOf t a) d) := by
  refine congrArg y (Shape.idx_ext₂ ?_ ?_)
  · show (idx 0).val = 512 * t.val + a.val
    rw [e0, h.1]; omega
  · show (idx 1).val = d.val
    rw [e1, h.2]; omega

theorem whole_blk {n k : ℕ} (y : (⟨2, ![n, k]⟩ : Shape).Idx → EReal) (a : Fin n) (d : Fin k) {i0 i1 : ℕ} (h : i0 = 0 ∧ i1 = 0) (idx : (⟨2, ![n, k]⟩ : Shape).Idx)
    (e0 : (idx 0).val = i0 * n + 1 * a.val) (e1 : (idx 1).val = i1 * k + 1 * d.val) : y idx = y (ix2 a d) := by
  refine congrArg y (Shape.idx_ext₂ ?_ ?_)
  · show (idx 0).val = a.val
    rw [e0, h.1]; omega
  · show (idx 1).val = d.val
    rw [e1, h.2]; omega

theorem blk0 (t : Fin cfg0.N) (a : Fin 512) (d : Fin 1024) : (iblk m c 0 t : Vec Ideal S512x1024 .bf16) (ix2 a d) = aD m c (ix2 (rowOf t a) ⟨d.val, by omega⟩) :=
  (rows_blk (V m c main_v1) t a d (at0 t) _ rfl rfl).trans (by rw [(host_eqs m c).1]; exact wide_at ..)
theorem blk1 (t : Fin cfg0.N) (a : Fin 512) (d : Fin 512) : (iblk m c 1 t : Vec Ideal S512x512 .bf16) (ix2 a d) = aD m c (ix2 (rowOf t a) ⟨1024 + d.val, by omega⟩) :=
  (rows_blk (V m c main_v3) t a d (at1 t) _ rfl rfl).trans (by rw [(host_eqs m c).2.1]; exact piece_at _ _ _ (by omega) _ _)
theorem blk2 (t : Fin cfg0.N) (a : Fin 512) (d : Fin 512) : (iblk m c 2 t : Vec Ideal S512x512 .bf16) (ix2 a d) = aD m c (ix2 (rowOf t a) ⟨1536 + d.val, by omega⟩) :=
  (rows_blk (V m c main_v5) t a d (at2 t) _ rfl rfl).trans (by rw [(host_eqs m c).2.2.1]; exact piece_at _ _ _ (by omega) _ _)
theorem blk3 (t : Fin cfg0.N) (a : Fin 512) (d : Fin 512) : (iblk m c 3 t : Vec Ideal S512x512 .bf16) (ix2 a d) = aD m c (ix2 (rowOf t a) ⟨2048 + d.val, by omega⟩) :=
  (rows_blk (V m c main_v7) t a d (at3 t) _ rfl rfl).trans (by rw [(host_eqs m c).2.2.2.1]; exact piece_at _ _ _ (by omega) _ _)
theorem blk4 (t : Fin cfg0.N) (a : Fin 512) (d : Fin 512) : (iblk m c 4 t : Vec Ideal S512x512 .bf16) (ix2 a d) = aD m c (ix2 (rowOf t a) ⟨2560 + d.val, by omega⟩) :=
  (rows_blk (V m c main_v9) t a d (at4 t) _ rfl rfl).trans (by rw [(host_eqs m c).2.2.2.2.1]; exact piece_at _ _ _ (by omega) _ _)
theorem blk5 (t : Fin cfg0.N) (a : Fin 512) (d : Fin 512) : (iblk m c 5 t : Vec Ideal S512x512 .bf16) (ix2 a d) = aD m c (ix2 (rowOf t a) ⟨3072 + d.val, by omega⟩) :=
  (rows_blk (V m c main_v11) t a d (at5 t) _ rfl rfl).trans (by rw [(host_eqs m c).2.2.2.2.2.1]; exact piece_at _ _ _ (by omega) _ _)
theorem blk6 (t : Fin cfg0.N) (a : Fin 512) (l : Fin 128) : (iblk m c 6 t : Vec Ideal S512x128 .bf16) (ix2 a l) = if h : l.val < 8 then aD m c (ix2 (rowOf t a) ⟨3584 + l.val, by omega⟩) else 0 :=
  (rows_blk (V m c main_v14) t a l (at6 t) _ rfl rfl).trans (by rw [(host_eqs m c).2.2.2.2.2.2.1]; exact lastD_at ..)
theorem blk7 (t : Fin cfg0.N) (d : Fin 3584) (k : Fin 1024) : (iblk m c 7 t : Vec Ideal S3584x1024 .bf16) (ix2 d k) = aW m c (ix2 k ⟨d.val, by omega⟩) :=
  (whole_blk (V m c main_v17) d k (at7 t) _ rfl rfl).trans (by rw [(host_eqs m c).2.2.2.2.2.2.2.1]; exact mainW_at ..)
theorem blk8 (t : Fin cfg0.N) (l : Fin 128) (k : Fin 1024) : (iblk m c 8 t : Vec Ideal S128x1024 .bf16) (ix2 l k) = if h : l.val < 8 then aW m c (ix2 k ⟨3584 + l.val, by omega⟩) else 0 :=
  (whole_blk (V m c main_v21) l k (at8 t) _ rfl rfl).trans (by rw [(host_eqs m c).2.2.2.2.2.2.2.2]; exact lastW_at ..)
theorem blk9 (t : Fin cfg0.N) (a : Fin 512) (k : Fin 1024) : (iblk m c 9 t : Vec Ideal S512x1024 .f32) (ix2 a k) = aX m c (ix2 (rowOf t a) k) :=
  (rows_blk (V m c main_arg0) t a k (at9 t) _ rfl rfl).trans (by rw [V_main_arg0]; rfl)
theorem blk10 (t : Fin cfg0.N) (k : Fin 1024) : (iblk m c 10 t : Vec Ideal S1x1024 .f32) (ix2 0 k) = aG m c (ix2 0 k) :=
  (whole_blk (V m c main_arg1) (0 : Fin 1) k (at10 t) _ rfl rfl).trans (by rw [V_main_arg1]; rfl)
theorem blk11 (t : Fin cfg0.N) (a : Fin 512) (k : Fin 1024) : (iblk m c 11 t : Vec Ideal S512x1024 .f32) (ix2 a k) = aO m c (ix2 (rowOf t a) k) :=
  (rows_blk (V m c main_arg4) t a k (at11 t) _ rfl rfl).trans (by rw [V_main_arg4]; rfl)

/-! ## The tile's gradients in the arguments -/

/-- A row of the normalised input's gradient: the projection's gradient against the weights. -/
def dH (D : S4096x3592.Idx → EReal) (W : S1024x3592.Idx → EReal) (r : Fin 4096) (k : Fin 1024) : EReal := ∑ j : Fin 3592, D (ix2 r j) * W (ix2 k j)

/-- One term of that sum, at a column's number. -/
def term (D : S4096x3592.Idx → EReal) (W : S1024x3592.Idx → EReal) (r : Fin 4096) (k : Fin 1024) (j : ℕ) : EReal := if h : j < 3592 then D (ix2 r ⟨j, h⟩) * W (ix2 k ⟨j, h⟩) else 0

theorem term_at (D : S4096x3592.Idx → EReal) (W : S1024x3592.Idx → EReal) (r : Fin 4096) (k : Fin 1024) {j : ℕ} (h : j < 3592) : D (ix2 r ⟨j, h⟩) * W (ix2 k ⟨j, h⟩) = term D W r k j := by
  unfold term
  rw [dif_pos h]

/-- The products over the eight padded columns. -/
theorem padded {P : Prop} [Decidable P] (x y : P → EReal) (z : EReal) (h : ∀ p, x p * y p = z) : (if h : P then x h else 0) * (if h : P then y h else 0) = if P then z else 0 := by
  by_cases p : P
  · rw [dif_pos p, dif_pos p, if_pos p, h]
  · rw [dif_neg p, if_neg p, zero_mul]

/-- A tile of the normalised input's gradient. -/
def dhT (t : Fin cfg0.N) : FVec Ideal S512x1024 .f32 :=
  dh (iblk m c 0 t) (iblk m c 1 t) (iblk m c 2 t) (iblk m c 3 t) (iblk m c 4 t) (iblk m c 5 t) (iblk m c 6 t) (iblk m c 7 t) (iblk m c 8 t)

theorem dhT_at (t : Fin cfg0.N) (a : Fin 512) (k : Fin 1024) : dhT m c t (ix2 a k) = dH (aD m c) (aW m c) (rowOf t a) k := by
  unfold dhT
  rw [dh_at _ _ _ _ _ _ _ _ _ a k (term (aD m c) (aW m c) (rowOf t a) k)
    (fun d => by rw [blk0, blk7]; exact term_at ..) (fun d => by rw [blk1, blk7]; exact term_at ..) (fun d => by rw [blk2, blk7]; exact term_at ..)
    (fun d => by rw [blk3, blk7]; exact term_at ..) (fun d => by rw [blk4, blk7]; exact term_at ..) (fun d => by rw [blk5, blk7]; exact term_at ..)
    (fun l => by rw [blk6, blk8]; exact padded _ _ _ fun _ => term_at ..)]
  exact Finset.sum_congr rfl fun j _ => (term_at _ _ _ _ j.isLt).symm

/-- What a row adds to the gain's gradient. -/
def dgRow (X : S4096x1024.Idx → EReal) (D : S4096x3592.Idx → EReal) (W : S1024x3592.Idx → EReal) (k : Fin 1024) (r : Fin 4096) : EReal := dH D W r k * (X (ix2 r k) * inv fun k => X (ix2 r k))

/-- The input's gradient at a row. -/
def dxRow (X : S4096x1024.Idx → EReal) (G : S1x1024.Idx → EReal) (D : S4096x3592.Idx → EReal) (W : S1024x3592.Idx → EReal) (O : S4096x1024.Idx → EReal) (r : Fin 4096) (k : Fin 1024) : EReal :=
  dxAt (fun k => X (ix2 r k)) (fun k => G (ix2 0 k)) (dH D W r) (fun k => O (ix2 r k)) k

theorem dxT_at (t : Fin cfg0.N) (a : Fin 512) (k : Fin 1024) :
    dxOf (dhT m c t) (iblk m c 9 t) (iblk m c 10 t) (iblk m c 11 t) (ix2 a k) = dxRow (aX m c) (aG m c) (aD m c) (aW m c) (aO m c) (rowOf t a) k := by
  rw [dxOf_at]
  simp only [blk9, blk10, blk11, dhT_at]
  rfl

theorem dgT_at (t : Fin cfg0.N) (o : Vec Ideal S1x1024 .f32) (k : Fin 1024) :
    dgOf (iblk m c 0 t) (iblk m c 1 t) (iblk m c 2 t) (iblk m c 3 t) (iblk m c 4 t) (iblk m c 5 t) (iblk m c 6 t) (iblk m c 7 t) (iblk m c 8 t) (iblk m c 9 t) o (ix2 0 k)
      = o (ix2 0 k) + ∑ a : Fin 512, dgRow (aX m c) (aD m c) (aW m c) k (rowOf t a) := by
  rw [dgOf_at]
  refine congrArg (o (ix2 0 k) + ·) (Finset.sum_congr rfl fun a _ => ?_)
  show dhT m c t (ix2 a k) * _ = _
  rw [dhT_at, blk9]
  simp only [blk9]
  rfl

end Cert.Kernel2Ideal.InProj

end
-- ==== Proof.InOut.lean ====
/- The result arrays, element by element. -/
module

public import proofs.«01_k».proof.Proof.InHost
public import Idealize.ShloMosaic.Lib.Pipeline.ValueKit

@[expose] public section

set_option maxRecDepth 16384

noncomputable section

namespace Cert.Kernel2Ideal.InProj

open Idealize.ShloMosaic Idealize.ShloMosaic.Tactic Idealize.ShloMosaic.TcCoe Idealize.SL.Sem
open Cert.Kernel2Ideal Cert.Kernel2Ideal.Gen

variable (m : (ℓ : Loc nD τ sig) → Buf (Elt Ideal) ℓ) (c : Dev nD)

theorem dx_step (t : Fin cfg0.N) : (outsAt0 m c t.val t.isLt).1 = dxOf (dhT m c t) (iblk m c 9 t) (iblk m c 10 t) (iblk m c 11 t) := by
  by_cases h : t.val % 8 = 0
  · have g := congrArg Prod.fst (outsAt0_A m c t h)
    dsimp only at g
    rw [out_A_12] at g
    exact g
  · have g := congrArg Prod.fst (outsAt0_B m c t h)
    dsimp only at g
    rw [out_B_12] at g
    exact g

theorem dg_first (t : Fin cfg0.N) (h : t.val % 8 = 0) (k : Fin 1024) :
    (outsAt0 m c t.val t.isLt).2 (ix2 0 k) = ∑ a : Fin 512, dgRow (aX m c) (aD m c) (aW m c) k (rowOf t a) := by
  have g := congrArg Prod.snd (outsAt0_A m c t h)
  dsimp only at g
  rw [out_A_13] at g
  rw [g, dgT_at, pay2_at, zero_add]

theorem dg_next (t : Fin cfg0.N) (h : ¬t.val % 8 = 0) (k : Fin 1024) :
    (outsAt0 m c t.val t.isLt).2 (ix2 0 k) = (outsAt0 m c (t.val - 1) (Nat.lt_of_le_of_lt (Nat.sub_le _ _) t.isLt)).2 (ix2 0 k) + ∑ a : Fin 512, dgRow (aX m c) (aD m c) (aW m c) k (rowOf t a) := by
  have g := congrArg Prod.snd (outsAt0_B m c t h)
  dsimp only at g
  rw [out_B_13] at g
  rw [g, dgT_at]

theorem rows_sum (g : Fin 4096 → EReal) : ∑ t : Fin cfg0.N, ∑ a : Fin 512, g (rowOf t a) = ∑ r : Fin 4096, g r := by
  refine (Eq.trans ?_ (Fin.sum_univ_mul_divNat_modNat 8 512 fun t a => g ⟨512 * t.val + a.val, by omega⟩).symm).trans (Finset.sum_congr rfl fun r _ => congrArg g (Fin.ext ?_))
  · exact Fintype.sum_equiv (finCongr N_0) _ _ fun t => rfl
  · show 512 * (r.val / 512) + r.val % 512 = r.val
    omega

theorem dg_last (t : Fin cfg0.N) (h : t.val % 8 = 7) (k : Fin 1024) : (outsAt0 m c t.val t.isLt).2 (ix2 0 k) = ∑ r : Fin 4096, dgRow (aX m c) (aD m c) (aW m c) k r := by
  have l := lt8 t
  have N : cfg0.N = 8 := N_0
  rw [Pipeline.eq_sum_fin_of_reset_step_last (fun n hn => (outsAt0 m c n hn).2 (ix2 0 k)) 8 0 (fun t => ∑ a : Fin 512, dgRow (aX m c) (aD m c) (aW m c) k (rowOf t a))
    (fun t h => by rw [zero_add]; exact dg_first m c t h k) (fun t h => dg_next m c t h k) (by omega) t (by omega), zero_add, rows_sum]

def outDx : S4096x1024.Idx → EReal := fun i => dxRow (aX m c) (aG m c) (aD m c) (aW m c) (aO m c) (i 0) (i 1)
def outDg : S1x1024.Idx → EReal := fun i => ∑ r : Fin 4096, dgRow (aX m c) (aD m c) (aW m c) (i 1) r

theorem at12 : ∀ t : Fin grid0.N, win0_12.index t 0 = t.val ∧ win0_12.index t 1 = 0 := by decide +kernel
theorem at13 : ∀ t : Fin grid0.N, win0_13.index t 0 = 0 ∧ win0_13.index t 1 = 0 := by decide +kernel

theorem final_dx : (dats m 0 c).arrAt 12 cfg0.N = outDx m c := by
  refine (dats m 0 c).arrAt_eq_of_covers 12 _ (by decide +kernel) fun t hf y => ?_
  blk_simp
  rw [after0_12, dx_step]
  idx_vars y
  refine (dxT_at m c t y0 y1).trans ?_
  have e0 := Pipeline.Window.rect_emb_val (cfg0.win 12) t (ix2 y0 y1) 0
  have e1 := Pipeline.Window.rect_emb_val (cfg0.win 12) t (ix2 y0 y1) 1
  rw [(at12 t).1] at e0
  rw [(at12 t).2] at e1
  unfold outDx
  refine congrArg₂ (dxRow (aX m c) (aG m c) (aD m c) (aW m c) (aO m c)) (Fin.ext ?_) (Fin.ext ?_)
  · refine Eq.trans ?_ e0.symm
    show 512 * t.val + y0.val = t.val * 512 + y0.val
    omega
  · refine Eq.trans ?_ e1.symm
    show y1.val = 0 * 1024 + y1.val
    omega

theorem final_dg : (dats m 0 c).arrAt 13 cfg0.N = outDg m c := by
  refine (dats m 0 c).arrAt_eq_of_covers 13 _ (by decide +kernel) fun t hf y => ?_
  blk_simp
  rw [after0_13]
  idx_vars y
  obtain rfl : y0 = 0 := Subsingleton.elim _ _
  refine (dg_last m c t ((flush0_13 t).mp hf) y1).trans ?_
  have e1 := Pipeline.Window.rect_emb_val (cfg0.win 13) t (ix2 0 y1) 1
  rw [(at13 t).2] at e1
  unfold outDg
  refine Finset.sum_congr rfl fun r _ => congrArg (fun k => dgRow (aX m c) (aD m c) (aW m c) k r) (Fin.ext ?_)
  refine Eq.trans ?_ e1.symm
  show y1.val = 0 * 1024 + y1.val
  omega

end Cert.Kernel2Ideal.InProj

end
-- ==== Proof.InRef.lean ====
/- The projection's backward by its mathematics: the reference's results, element by element. -/
module

public import proofs.«01_k».proof.Proof.InOut
public import proofs.«01_k».proof.Proof.Softmax
public import proofs.«01_k».proof.Proof.Gen.Reference2Ideal.Run

@[expose] public section

set_option maxRecDepth 16384

noncomputable section

namespace Cert.Reference2Ideal.InProj

open Idealize.ShloMosaic Idealize.ShloMosaic.Tactic Idealize.SL.Sem Idealize.ShloMosaic.TcCoe
open Cert.Reference2Ideal
open Facts₀ Facts
open Cert.Kernel2Ideal.InProj (len tiny inv dxAt dH dgRow dxRow)

/-! ## The reference's arrays -/

section Arrays

variable (X : FVec Ideal S4096x1024 .f32) (G : FVec Ideal S1x1024 .f32) (W : FVec Ideal S1024x3592 .f32) (D : FVec Ideal S4096x3592 .f32) (O Z H : FVec Ideal S4096x1024 .f32) (s v r : FVec Ideal S4096x1 .f32) (t : FVec Ideal S4096 .f32)

def dotR : FVec Ideal S4096x1024 .f32 := Host.dotGeneral dot_S4096x3592_S1024x3592_S4096x1024_1_1_0_0_n_n none D W
def colR (b : BitVec 32) : FVec Ideal S4096x1 .f32 := broadcastInDim S4096x1 ![] bcast_S_S4096x1 (constant S_ .f32 b)
def sumR : FVec Ideal S4096 .f32 := Host.reduceAdd (mulf X Z) (constant S_ .f32 0x00000000#32) reducesTo_S4096x1024_S4096_d1 h_S_
/-- A row's mean square and the small number. -/
def meanR : FVec Ideal S4096x1 .f32 := addf (Host.divf (broadcastInDim S4096x1 ![0] bcast_S4096_S4096x1_0 (sumR X X)) (colR 0x44800000#32)) (colR 0x358637BD#32)
def gainR : FVec Ideal S4096x1024 .f32 := mulf H (broadcastInDim S4096x1024 ![0, 1] bcast_S1x1024_S4096x1024_0_1 G)
def wideR : FVec Ideal S4096x1024 .f32 := broadcastInDim S4096x1024 ![0, 1] bcast_S4096x1_S4096x1024_0_1 r
/-- Half the gradient of a row's mean square, over its length. -/
def halfR : FVec Ideal S4096x1 .f32 := Host.divf (mulf s (mulf (colR 0xBF000000#32) (Host.divf r v))) (colR 0x44800000#32)
def unitR : FVec Ideal S4096 .f32 := Host.reduceAdd s (constant S_ .f32 0x00000000#32) reducesTo_S4096x1_S4096_d1 h_S_
def fillR : FVec Ideal S4096x1024 .f32 := broadcastInDim S4096x1024 ![0] bcast_S4096_S4096x1024_0 t
def dxR : FVec Ideal S4096x1024 .f32 := addf (addf (addf O (mulf Z (wideR r))) (mulf X (fillR t))) (mulf (fillR t) X)
def dgR : FVec Ideal S1x1024 .f32 := shapeCast _ (Host.reduceAdd (mulf (mulf X (wideR r)) H) (constant S_ .f32 0x00000000#32) reducesTo_S4096x1024_S1024_d0 h_S_) shapeCasts_S1024_S1x1024

theorem dotR_at (a : Fin 4096) (k : Fin 1024) : dotR W D (ix2 a k) = dH D W a k := by
  unfold dotR dH
  pointwise
theorem colR_at (b : BitVec 32) (a : Fin 4096) : colR b (ix2 a 0) = Ideal.ofBits .f32 b := by
  unfold colR
  pointwise
theorem sumR_at (a : Fin 4096) : sumR X Z (ix1 a) = ∑ k : Fin 1024, X (ix2 a k) * Z (ix2 a k) := by
  unfold sumR
  pointwise
theorem meanR_at (a : Fin 4096) : meanR X (ix2 a 0) = Ideal.div (∑ k : Fin 1024, X (ix2 a k) * X (ix2 a k)) len + tiny := by
  rw [← sumR_at]
  unfold meanR colR
  generalize sumR X X = y
  pointwise
theorem gainR_at (a : Fin 4096) (k : Fin 1024) : gainR G H (ix2 a k) = H (ix2 a k) * G (ix2 0 k) := by
  unfold gainR
  pointwise
theorem wideR_at (a : Fin 4096) (k : Fin 1024) : wideR r (ix2 a k) = r (ix2 a 0) := by
  unfold wideR
  pointwise
theorem fillR_at (a : Fin 4096) (k : Fin 1024) : fillR t (ix2 a k) = t (ix1 a) := by
  unfold fillR
  pointwise
theorem halfR_at (a : Fin 4096) : halfR s v r (ix2 a 0) = Ideal.div (s (ix2 a 0) * (Ideal.ofBits .f32 0xBF000000#32 * Ideal.div (r (ix2 a 0)) (v (ix2 a 0)))) len := by
  unfold halfR colR
  pointwise
theorem unitR_at (a : Fin 4096) : unitR s (ix1 a) = s (ix2 a 0) := by
  unfold unitR
  pointwise
  simp
theorem dxR_at (a : Fin 4096) (k : Fin 1024) : dxR X O Z r t (ix2 a k) = O (ix2 a k) + Z (ix2 a k) * r (ix2 a 0) + X (ix2 a k) * t (ix1 a) + t (ix1 a) * X (ix2 a k) := by
  rw [← wideR_at r a k, ← fillR_at t a k]
  rfl
theorem dgR_at (k : Fin 1024) : dgR X H r (ix2 0 k) = ∑ a : Fin 4096, X (ix2 a k) * r (ix2 a 0) * H (ix2 a k) := by
  unfold dgR wideR
  pointwise

end Arrays

/-! ## The results -/

variable (m : (ℓ : Loc nD τ sig) → Buf (Elt Ideal) ℓ) (c : Dev nD)

def aX : FVec Ideal S4096x1024 .f32 := m ((c.tc : Thread nD τ).loc main_arg0)
def aG : FVec Ideal S1x1024 .f32 := m ((c.tc : Thread nD τ).loc main_arg1)
def aW : FVec Ideal S1024x3592 .f32 := m ((c.tc : Thread nD τ).loc main_arg2)
def aD : FVec Ideal S4096x3592 .f32 := m ((c.tc : Thread nD τ).loc main_arg3)
def aO : FVec Ideal S4096x1024 .f32 := m ((c.tc : Thread nD τ).loc main_arg4)

def rootR (X : FVec Ideal S4096x1024 .f32) : FVec Ideal S4096x1 .f32 := Host.rsqrt (meanR X)
def outDx (X : FVec Ideal S4096x1024 .f32) (G : FVec Ideal S1x1024 .f32) (W : FVec Ideal S1024x3592 .f32) (D : FVec Ideal S4096x3592 .f32) (O : FVec Ideal S4096x1024 .f32) : FVec Ideal S4096x1024 .f32 :=
  dxR X O (gainR G (dotR W D)) (rootR X) (unitR (halfR (shapeCast _ (sumR X (gainR G (dotR W D))) shapeCasts_S4096_S4096x1) (meanR X) (rootR X)))
def outDg (X : FVec Ideal S4096x1024 .f32) (W : FVec Ideal S1024x3592 .f32) (D : FVec Ideal S4096x3592 .f32) : FVec Ideal S1x1024 .f32 := dgR X (dotR W D) (rootR X)

theorem v36_eq : Value.res_main_v36 m c = outDx (aX m c) (aG m c) (aW m c) (aD m c) (aO m c) := by unfold Value.res_main_v36; rfl

theorem run_results (ρ : Dev nD → PrngReg) : θ_run defs (onTc (τ := τ) (main (F := Ideal))) ⟨m, fun _ => 0, ρ⟩ fun r => ∀ c : Dev nD,
    r.2.mem ((c.tc : Thread nD τ).loc main_v36) = outDx (aX m c) (aG m c) (aW m c) (aD m c) (aO m c) ∧ r.2.mem ((c.tc : Thread nD τ).loc main_v19) = outDg (aX m c) (aW m c) (aD m c)
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (v36_eq m c), (h c).2.1.trans rfl, (h c).2.2⟩) (Value.run m ρ)

end Cert.Reference2Ideal.InProj

end
-- ==== Proof.InValue.lean ====
/- The projection's value claim: the launch's results are the reference's gradients, at infinite arguments too. -/
module

public import proofs.«01_k».proof.Proof.InRef
public import proofs.«01_k».proof.Proof.Value

@[expose] public section

set_option maxRecDepth 16384

noncomputable section

namespace Cert.InValue

open Idealize.ShloMosaic Idealize.ShloMosaic.Tactic Idealize.SL.Sem
open Cert.Kernel2Ideal.InProj (len tiny dxAt dH dgRow dxRow)
open Cert.KernelIdeal.Fox (coe_sum)

/-! ## A row -/

theorem len_real : len = ((1024 : ℝ) : EReal) := by
  show Ideal.ofBits .f32 0x44800000#32 = _
  simp [Ideal.ofBits, Ideal.ieee, -EReal.coe_mul]; norm_num

theorem tiny_real : ∃ e : ℝ, 0 < e ∧ tiny = (e : EReal) := by
  refine ⟨8796093 / 8796093022208, by norm_num, ?_⟩
  show Ideal.ofBits .f32 0x358637BD#32 = _
  simp [Ideal.ofBits, Ideal.ieee, -EReal.coe_mul]; norm_num

theorem half_real : Ideal.ofBits .f32 0xBF000000#32 = ((-1 / 2 : ℝ) : EReal) := by
  simp [Ideal.ofBits, Ideal.ieee, -EReal.coe_mul]; norm_num

/-- The reference's gradient of a row: half the mean square's gradient, twice over. -/
def refAt (x g d o : Fin 1024 → EReal) (k : Fin 1024) : EReal :=
  let v := Ideal.div (∑ k, x k * x k) len + tiny
  let t := Ideal.div ((∑ k, x k * (d k * g k)) * (Ideal.ofBits .f32 0xBF000000#32 * Ideal.div (Ideal.rsqrt v) v)) len
  o k + d k * g k * Ideal.rsqrt v + x k * t + t * x k

theorem div_real (a b : ℝ) (h : b ≠ 0) : Ideal.div (a : EReal) (b : EReal) = ((a / b : ℝ) : EReal) := by
  rw [Ideal.div_coe h, ← EReal.coe_mul, mul_one_div]

/-- A nonnegative real factor comes out of a sum, whatever its terms. -/
theorem sum_scale {ι : Type} (S : Finset ι) (f : ι → EReal) {a : ℝ} (h : 0 ≤ a) : ∑ i ∈ S, f i * (a : EReal) = (∑ i ∈ S, f i) * (a : EReal) := by
  classical
  induction S using Finset.induction_on with
  | empty => simp
  | insert i S hi ih =>
    rw [Finset.sum_insert hi, Finset.sum_insert hi, ih, EReal.right_distrib_of_nonneg_of_ne_top (by exact_mod_cast h) (EReal.coe_ne_top a)]

theorem twice (w : EReal) {a : ℝ} (h : 0 < a) : w * ((-a : ℝ) : EReal) + w * ((-a : ℝ) : EReal) = -(w * ((2 * a : ℝ) : EReal)) := by
  rw [EReal.coe_neg, mul_neg]
  induction w with
  | bot => rw [EReal.bot_mul_coe_of_pos h, EReal.bot_mul_coe_of_pos (by linarith)]; rfl
  | top => rw [EReal.top_mul_coe_of_pos h, EReal.top_mul_coe_of_pos (by linarith)]; rfl
  | coe w => norm_cast; ring

/-- A row's two forms of the gradient, where the mean square is a positive real number. -/
theorem two_forms (o y x S : EReal) {R v : ℝ} (hR : 0 < R) (hv : 0 < v) (hRv : R * R * v = 1) :
    o + (R : EReal) * (y - x * R * Ideal.div (S * R) ((1024 : ℝ) : EReal))
      = o + y * R + x * Ideal.div (S * (((-1 / 2 : ℝ) : EReal) * Ideal.div R v)) ((1024 : ℝ) : EReal) + Ideal.div (S * (((-1 / 2 : ℝ) : EReal) * Ideal.div R v)) ((1024 : ℝ) : EReal) * x := by
  have hd : R / v = R * (R * R) := by rw [div_eq_iff hv.ne', mul_assoc, hRv, mul_one]
  have e1 : x * (R : EReal) * (S * R * ((1 / 1024 : ℝ) : EReal)) = x * S * ((R * R / 1024 : ℝ) : EReal) := by
    rw [show R * R / 1024 = R * R * (1 / 1024) by ring, EReal.coe_mul, EReal.coe_mul]
    ac_rfl
  have e2 : (R : EReal) * (x * S * ((R * R / 1024 : ℝ) : EReal)) = x * S * ((2 * (R * (R * R) / 2048) : ℝ) : EReal) := by
    rw [show 2 * (R * (R * R) / 2048) = R * (R * R / 1024) by ring, EReal.coe_mul R]
    ac_rfl
  have e3 : S * (((-1 / 2 : ℝ) : EReal) * ((R / v : ℝ) : EReal)) * ((1 / 1024 : ℝ) : EReal) = S * ((-(R * (R * R) / 2048) : ℝ) : EReal) := by
    rw [← EReal.coe_mul, mul_assoc, ← EReal.coe_mul, hd]
    congr 2
    ring
  rw [div_real R v hv.ne', Ideal.div_coe (by norm_num), Ideal.div_coe (by norm_num), e1, e3, sub_eq_add_neg,
    EReal.left_distrib_of_nonneg_of_ne_top (by exact_mod_cast hR.le) (EReal.coe_ne_top R), mul_neg, e2, ← twice _ (by positivity)]
  ac_rfl

theorem square_nonneg (a : EReal) : 0 ≤ a * a := by
  induction a with
  | bot => simp
  | top => simp
  | coe a => exact_mod_cast mul_self_nonneg a

/-- An infinite entry makes the sum of squares infinite. -/
theorem squares_top (x : Fin 1024 → EReal) (i : Fin 1024) (h : x i = ⊤ ∨ x i = ⊥) : ∑ k, x k * x k = ⊤ := by
  classical
  rw [← Finset.add_sum_erase Finset.univ _ (Finset.mem_univ i)]
  have s : x i * x i = ⊤ := by rcases h with h | h <;> rw [h] <;> rfl
  rw [s]
  exact EReal.top_add_of_ne_bot (ne_of_gt (lt_of_lt_of_le EReal.bot_lt_zero (Finset.sum_nonneg fun k _ => square_nonneg _)))

theorem row_eq (x g d o : Fin 1024 → EReal) (k : Fin 1024) : dxAt x g d o k = refAt x g d o k := by
  obtain ⟨e, he, et⟩ := tiny_real
  by_cases hx : ∀ k, ((x k).toReal : EReal) = x k
  · obtain ⟨x, rfl⟩ : ∃ x' : Fin 1024 → ℝ, x = fun k => (x' k : EReal) := ⟨fun k => (x k).toReal, funext fun k => (hx k).symm⟩
    set v : ℝ := (∑ k, x k * x k) / 1024 + e with hv
    have pv : 0 < v := add_pos_of_nonneg_of_pos (div_nonneg (Finset.sum_nonneg fun k _ => mul_self_nonneg _) (by norm_num)) he
    have ev : Ideal.div (∑ k, (x k : EReal) * (x k : EReal)) len + tiny = (v : EReal) := by
      simp only [← EReal.coe_mul, ← coe_sum, len_real, et]
      rw [div_real _ _ (by norm_num), ← EReal.coe_add]
    have er : Ideal.rsqrt (v : EReal) = (((Real.sqrt v)⁻¹ : ℝ) : EReal) := by rw [Ideal.rsqrt_coe, if_neg (not_lt.mpr pv.le), if_neg pv.ne']
    have pR : 0 < (Real.sqrt v)⁻¹ := inv_pos.mpr (Real.sqrt_pos.mpr pv)
    have hRv : (Real.sqrt v)⁻¹ * (Real.sqrt v)⁻¹ * v = 1 := by rw [← mul_inv, Real.mul_self_sqrt pv.le, inv_mul_cancel₀ pv.ne']
    have s1 : ∑ k, d k * g k * ((x k : EReal) * (((Real.sqrt v)⁻¹ : ℝ) : EReal)) = (∑ k, (x k : EReal) * (d k * g k)) * (((Real.sqrt v)⁻¹ : ℝ) : EReal) := by
      rw [← sum_scale _ _ pR.le]
      exact Finset.sum_congr rfl fun k _ => by ac_rfl
    unfold dxAt refAt Cert.Kernel2Ideal.InProj.inv
    simp only [ev, er, half_real, s1]
    simp only [len_real]
    exact two_forms _ _ _ _ pR pv hRv
  · obtain ⟨i, hi⟩ := not_forall.mp hx
    have top : ∑ k, x k * x k = ⊤ := squares_top x i (by
      by_contra n
      exact hi (EReal.coe_toReal (fun h => n (.inl h)) fun h => n (.inr h)))
    have ev : Ideal.div ⊤ len + tiny = ⊤ := by
      rw [len_real, et, Ideal.div_coe (by norm_num), EReal.top_mul_coe_of_pos (by norm_num)]
      rfl
    have ez : Ideal.div 0 ⊤ = 0 := by simp [Ideal.div]
    have el : Ideal.div 0 len = 0 := by rw [len_real, Ideal.div_coe (by norm_num), zero_mul]
    unfold dxAt refAt Cert.Kernel2Ideal.InProj.inv
    simp only [top, ev, Ideal.rsqrt_top, ez, el, mul_zero, zero_mul, add_zero]

/-! ## The results -/

theorem dx_at (X : FVec Ideal Cert.Reference2Ideal.S4096x1024 .f32) (G : FVec Ideal Cert.Reference2Ideal.S1x1024 .f32) (W : FVec Ideal Cert.Reference2Ideal.S1024x3592 .f32)
    (D : FVec Ideal Cert.Reference2Ideal.S4096x3592 .f32) (O : FVec Ideal Cert.Reference2Ideal.S4096x1024 .f32) (a : Fin 4096) (k : Fin 1024) :
    Cert.Reference2Ideal.InProj.outDx X G W D O (ix2 a k) = refAt (fun k => X (ix2 a k)) (fun k => G (ix2 0 k)) (dH D W a) (fun k => O (ix2 a k)) k := by
  have root : ∀ a, Cert.Reference2Ideal.InProj.rootR X (ix2 a 0) = Ideal.rsqrt (Cert.Reference2Ideal.InProj.meanR X (ix2 a 0)) := fun a => rfl
  have flat : ∀ y : FVec Ideal Cert.Reference2Ideal.S4096 .f32, (shapeCast Cert.Reference2Ideal.S4096x1 y Cert.Reference2Ideal.Facts₀.shapeCasts_S4096_S4096x1 : FVec Ideal Cert.Reference2Ideal.S4096x1 .f32) (ix2 a 0) = y (ix1 a) := fun y => by pointwise
  unfold Cert.Reference2Ideal.InProj.outDx refAt
  rw [Cert.Reference2Ideal.InProj.dxR_at, Cert.Reference2Ideal.InProj.unitR_at, Cert.Reference2Ideal.InProj.halfR_at, flat, root, Cert.Reference2Ideal.InProj.meanR_at, Cert.Reference2Ideal.InProj.sumR_at]
  simp only [Cert.Reference2Ideal.InProj.gainR_at, Cert.Reference2Ideal.InProj.dotR_at]

theorem dg_at (X : FVec Ideal Cert.Reference2Ideal.S4096x1024 .f32) (W : FVec Ideal Cert.Reference2Ideal.S1024x3592 .f32)
    (D : FVec Ideal Cert.Reference2Ideal.S4096x3592 .f32) (k : Fin 1024) : Cert.Reference2Ideal.InProj.outDg X W D (ix2 0 k) = ∑ r : Fin 4096, dgRow X D W k r := by
  have root : ∀ a, Cert.Reference2Ideal.InProj.rootR X (ix2 a 0) = Ideal.rsqrt (Cert.Reference2Ideal.InProj.meanR X (ix2 a 0)) := fun a => rfl
  unfold Cert.Reference2Ideal.InProj.outDg
  rw [Cert.Reference2Ideal.InProj.dgR_at]
  refine Finset.sum_congr rfl fun a _ => ?_
  rw [root, Cert.Reference2Ideal.InProj.meanR_at, Cert.Reference2Ideal.InProj.dotR_at, mul_comm]
  rfl

/-! ## The claim -/

theorem algebraic : Cert.algebraic_Kernel2Ideal_Reference2Ideal (hKernel2Ideal := Cert.Kernel2Ideal.Gen.facts) (hReference2Ideal := Cert.Reference2Ideal.Gen.facts) := by
  intro m g m' g' _ ha
  have ex : ∀ c, Cert.Reference2Ideal.InProj.aX m' c = Cert.Kernel2Ideal.InProj.aX m c := fun c => (ha c).1
  have eg : ∀ c, Cert.Reference2Ideal.InProj.aG m' c = Cert.Kernel2Ideal.InProj.aG m c := fun c => (ha c).2.1
  have ew : ∀ c, Cert.Reference2Ideal.InProj.aW m' c = Cert.Kernel2Ideal.InProj.aW m c := fun c => (ha c).2.2.1
  have ed : ∀ c, Cert.Reference2Ideal.InProj.aD m' c = Cert.Kernel2Ideal.InProj.aD m c := fun c => (ha c).2.2.2.1
  have eo : ∀ c, Cert.Reference2Ideal.InProj.aO m' c = Cert.Kernel2Ideal.InProj.aO m c := fun c => (ha c).2.2.2.2
  refine ⟨fun c => Cert.Kernel2Ideal.InProj.outDx m c, fun c => Cert.Kernel2Ideal.InProj.outDg m c, ?_, ?_⟩
  · refine (θ_run Cert.Kernel2Ideal.defs _ _).mono (fun r h c => ?_) (Cert.Kernel2Ideal.Value.run_blocks m g)
    exact ⟨(h c).1.trans (Cert.Kernel2Ideal.InProj.final_dx m c), (h c).2.1.trans (Cert.Kernel2Ideal.InProj.final_dg m c), (h c).2.2⟩
  · refine (θ_run Cert.Reference2Ideal.defs _ _).mono (fun r h c => ?_) (Cert.Reference2Ideal.InProj.run_results m' g')
    refine ⟨(h c).1.trans ?_, (h c).2.1.trans ?_, (h c).2.2⟩
    · rw [ex, eg, ew, ed, eo]
      funext y
      idx_vars y
      exact (dx_at _ _ _ _ _ y0 y1).trans (row_eq _ _ _ _ y1).symm
    · rw [ex, ew, ed]
      funext y
      idx_vars y
      obtain rfl : y0 = 0 := Subsingleton.elim _ _
      exact dg_at _ _ _ y1

end Cert.InValue

end
-- ==== Proof.FwFrames.lean ====
/- The frames of the forward projection's three programs: they run, their arguments end unchanged, every counter ends at zero. -/
module

public import proofs.«01_k».proof.Defs
public import proofs.«01_k».proof.Proof.Gen.Kernel3
public import proofs.«01_k».proof.Proof.Gen.Reference3Ideal.Run
public import proofs.«01_k».proof.Proof.Gen.Kernel3Ideal.Frame
public import Idealize.ShloMosaic.Lib.Quiescent

@[expose] public section

set_option maxRecDepth 16384

noncomputable section

namespace Cert.FwFrames

open Idealize.ShloMosaic Idealize.SL.Sem Cert.Kernel3

/-- The claim of the idealized text, read at the machine's own floats. -/
abbrev atBits : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

/-- The two programs have one text. -/
theorem same_text : Cert.quiescent_Kernel3 (hKernel3 := Cert.Kernel3.Gen.facts) = atBits := by
  sl_kernel_rfl

theorem kernel : Cert.quiescent_Kernel3 (hKernel3 := Cert.Kernel3.Gen.facts) :=
  same_text.mpr fun m ρ _ => Cert.Kernel3Ideal.Gen.frame (F := Bits) m ρ

theorem kernelIdeal : Cert.quiescent_Kernel3Ideal (hKernel3Ideal := Cert.Kernel3Ideal.Gen.facts) := fun m ρ _ =>
  Cert.Kernel3Ideal.Gen.frame (F := Ideal) m ρ

theorem referenceIdeal : Cert.quiescent_Reference3Ideal (hReference3Ideal := Cert.Reference3Ideal.Gen.facts) := fun m ρ _ =>
  (θ_run Cert.Reference3Ideal.defs _ _).mono
    (fun r h => ⟨fun c => (h c).2.2.2.2.2, Idealize.ShloMosaic.sem_eq_zero_of_no_sems (by decide) r.2⟩)
    (Cert.Reference3Ideal.Value.run m ρ)

end Cert.FwFrames

end
-- ==== Proof.FwTile.lean ====
/- What a step of the forward projection stores, element by element over the extended reals. -/
module

public import proofs.«01_k».proof.Proof.InTile
public import proofs.«01_k».proof.Proof.Gen.Kernel3Ideal.Value

@[expose] public section

set_option maxRecDepth 16384

noncomputable section

namespace Cert.Kernel3Ideal.FwProj

open Idealize.ShloMosaic Idealize.ShloMosaic.Tactic Idealize.SL.Sem
open Cert.Kernel3Ideal Cert.Kernel3Ideal.Gen
open Cert.Kernel2Ideal.InProj (len tiny at_zero)

/-- A row after the norm, at a place. -/
def hAt (x g : Fin 1024 → EReal) (k : Fin 1024) : EReal := x k * Cert.Kernel2Ideal.InProj.inv x * g k

/-- The queries' factor. -/
abbrev factor : EReal := Ideal.ofBits .f32 0x3E000000#32

variable (x0 : Vec Ideal S512x1024 .f32) (x1 : Vec Ideal S1x1024 .f32) (x2 : Vec Ideal S1024x3584 .bf16) (x3 : Vec Ideal S1024x128 .bf16)

/-- A tile's row after the norm. -/
def hT (a : Fin 512) (k : Fin 1024) : EReal := hAt (fun k => x0 (ix2 a k)) (fun k => x1 (ix2 0 k)) k

theorem pay1_at (a : Fin 512) (k : Fin 1024) : k0_pay1 x0 x1 (ix2 a k) = hT x0 x1 a k := by
  unfold k0_pay1 hT hAt Cert.Kernel2Ideal.InProj.inv
  pointwise

theorem pay2_at (a : Fin 512) (k : Fin 1024) : k0_pay2 x0 x1 (ix2 a k) = hT x0 x1 a k := by
  rw [← pay1_at]
  unfold k0_pay2
  generalize k0_pay1 x0 x1 = y
  pointwise

theorem pay3_at (a : Fin 512) (k : Fin 1024) : k0_pay3 x0 x1 (ix2 k a) = hT x0 x1 a k := by
  rw [← pay1_at]
  unfold k0_pay3
  generalize k0_pay1 x0 x1 = y
  pointwise

section Products

variable (h : FVec Ideal S512x1024 .bf16) (w : Vec Ideal S1024x512 .bf16) (v : Vec Ideal S1024x128 .bf16) (a j : Fin 512)

/-- A row of a tile against a column. -/
def row (h : FVec Ideal S512x1024 .bf16) (w : Vec Ideal S1024x512 .bf16) (a j : Fin 512) : EReal := ∑ k : Fin 1024, h (ix2 a k) * w (ix2 k j)

theorem pay4_at : k0_pay4 x0 x1 w (ix2 a j) = row (k0_pay2 x0 x1) w a j := by
  unfold k0_pay4 row
  generalize k0_pay2 x0 x1 = y
  pointwise
theorem pay5_at : k0_pay5 x0 x1 w (ix2 a j) = row (k0_pay2 x0 x1) w a j := by
  unfold k0_pay5 row
  generalize k0_pay2 x0 x1 = y
  pointwise
theorem pay6_at : k0_pay6 x0 x1 w (ix2 a j) = row (k0_pay2 x0 x1) w a j := by
  unfold k0_pay6 row
  generalize k0_pay2 x0 x1 = y
  pointwise
theorem pay7_at : k0_pay7 h w (ix2 a j) = row h w a j := by
  unfold k0_pay7 row
  pointwise
theorem pay8_at : k0_pay8 h w (ix2 j a) = row h w a j * factor := by
  rw [← pay7_at]
  unfold k0_pay8
  generalize k0_pay7 h w = y
  pointwise
theorem pay9_at : k0_pay9 h w (ix2 a j) = row h w a j := by
  unfold k0_pay9 row
  pointwise
theorem pay10_at : k0_pay10 h w (ix2 j a) = row h w a j := by
  rw [← pay9_at]
  unfold k0_pay10
  generalize k0_pay9 h w = y
  pointwise
theorem pay11_at : k0_pay11 h w (ix2 a j) = row h w a j := by
  unfold k0_pay11 row
  pointwise
theorem pay12_at : k0_pay12 h w (ix2 a j) = row h w a j := by
  unfold k0_pay12 row
  pointwise
theorem pay13_at (l : Fin 128) : k0_pay13 h v (ix2 a l) = ∑ k : Fin 1024, h (ix2 a k) * v (ix2 k l) := by
  unfold k0_pay13
  pointwise

end Products

/-! ## The five stored blocks -/

theorem pay14_eq : k0_pay14 x0 x1 x2 x3 = k0_pay2 x0 x1 := by
  unfold k0_pay14
  rw [View.ld_unit_zero (S := S512x1024) at_zero, View.ld_unit_zero (S := S1x1024) at_zero]

theorem cols_at (u : ℕ) (inb) (h : u + 512 ≤ 3584) (k : Fin 1024) (j : Fin 512) :
    View.ld x2 (Rect.unit (s := S1024x3584) ![0, u] S1024x512.size inb) (ix2 k j) = x2 (ix2 k ⟨u + j.val, by omega⟩) :=
  congrArg x2 (Shape.idx_ext₂ (show 0 + 1 * k.val = k.val by omega) (show u + 1 * j.val = u + j.val by omega))

/-- A tile's row against a column of the weight. -/
def projT (a : Fin 512) (j : Fin 3584) : EReal := ∑ k : Fin 1024, hT x0 x1 a k * x2 (ix2 k j)

theorem row_at (u : ℕ) (inb) (h : u + 512 ≤ 3584) (a j : Fin 512) :
    row (k0_pay2 x0 x1) (View.ld x2 (Rect.unit (s := S1024x3584) ![0, u] S1024x512.size inb)) a j = projT x0 x1 x2 a ⟨u + j.val, by omega⟩ :=
  Finset.sum_congr rfl fun k _ => by rw [pay2_at, cols_at x2 u inb h]

/-- A block of 512 columns of the stored tile, whose elements are those rows. -/
theorem block_at (u : ℕ) (inb : ∀ a, (![0, u] : Fin 2 → ℕ) a + S512x512.size a ≤ S512x3584.size a) (inw) (h : u + 512 ≤ 3584) (p : FVec Ideal S512x512 .f32)
    (hp : ∀ a j, p (ix2 a j) = row (k0_pay2 x0 x1) (View.ld x2 (Rect.unit (s := S1024x3584) ![0, u] S1024x512.size inw)) a j) (z : S512x512.Idx) :
    p z = (fun i : S512x3584.Idx => projT x0 x1 x2 (i 0) (i 1)) ((Rect.unit (s := S512x3584) ![0, u] S512x512.size inb).emb z) := by
  idx_vars z
  rw [hp, row_at x0 x1 x2 u inw h]
  refine congrArg₂ (projT x0 x1 x2) (Fin.ext ?_) (Fin.ext ?_)
  · show z0.val = 0 + 1 * z0.val
    omega
  · show u + z1.val = u + 1 * z1.val
    omega

theorem out4_eq : out0_4 x0 x1 x2 x3 = fun i : S512x3584.Idx => projT x0 x1 x2 (i 0) (i 1) := by
  unfold out0_4
  rw [pay14_eq, View.ld_unit_zero (S := S512x1024) at_zero, View.ld_unit_zero (S := S1x1024) at_zero]
  funext y
  refine View.canon_apply_of_pieces (fun i : S512x3584.Idx => projT x0 x1 x2 (i 0) (i 1)) _ ?_ y (cover0_4 (F := Ideal) _ _ _ _ _ _ _ y)
  simp only [List.forall_mem_cons, List.not_mem_nil, false_imp_iff, implies_true, and_true]
  refine ⟨block_at x0 x1 x2 3072 _ inb_S1024x3584_S1024x512_0_3072 (by omega) _ ?_, block_at x0 x1 x2 2560 _ inb_S1024x3584_S1024x512_0_2560 (by omega) _ ?_, block_at x0 x1 x2 2048 _ inb_S1024x3584_S1024x512_0_2048 (by omega) _ ?_, block_at x0 x1 x2 1536 _ inb_S1024x3584_S1024x512_0_1536 (by omega) _ ?_, block_at x0 x1 x2 1024 _ inb_S1024x3584_S1024x512_0_1024 (by omega) _ ?_, block_at x0 x1 x2 512 _ inb_S1024x3584_S1024x512_0_512 (by omega) _ ?_, block_at x0 x1 x2 0 _ inb_S1024x3584_S1024x512_0_0 (by omega) _ ?_⟩ <;> intro a j
  exacts [pay12_at _ _ a j, pay11_at _ _ a j, pay9_at _ _ a j, pay7_at _ _ a j, pay6_at _ _ _ a j, pay5_at _ _ _ a j, pay4_at _ _ _ a j]

theorem out5_at (a : Fin 512) (l : Fin 128) : out0_5 x0 x1 x2 x3 (ix2 a l) = ∑ k : Fin 1024, hT x0 x1 a k * x3 (ix2 k l) := by
  unfold out0_5
  rw [View.canon_unit_zero at_zero, pay14_eq, View.ld_unit_zero (S := S1024x128) at_zero, pay13_at]
  simp only [pay2_at]

theorem out6_at (a : Fin 512) (k : Fin 1024) : out0_6 x0 x1 x2 x3 (ix2 k a) = hT x0 x1 a k := by
  unfold out0_6
  rw [View.canon_unit_zero at_zero, View.ld_unit_zero (S := S512x1024) at_zero, View.ld_unit_zero (S := S1x1024) at_zero, pay3_at]

theorem out7_at (a j : Fin 512) : out0_7 x0 x1 x2 x3 (ix2 j a) = projT x0 x1 x2 a ⟨1536 + j.val, by omega⟩ * factor := by
  unfold out0_7
  rw [View.canon_unit_zero at_zero, pay14_eq, pay8_at, row_at x0 x1 x2 1536 _ (by omega)]

theorem out8_at (a j : Fin 512) : out0_8 x0 x1 x2 x3 (ix2 j a) = projT x0 x1 x2 a ⟨2048 + j.val, by omega⟩ := by
  unfold out0_8
  rw [View.canon_unit_zero at_zero, pay14_eq, pay10_at, row_at x0 x1 x2 2048 _ (by omega)]

end Cert.Kernel3Ideal.FwProj

end
-- ==== Proof.FwOut.lean ====
/- The forward projection's result arrays, element by element, in the arguments. -/
module

public import proofs.«01_k».proof.Proof.FwTile
public import proofs.«01_k».proof.Proof.InHost
public import Idealize.ShloMosaic.Lib.Pipeline.ValueKit

@[expose] public section

set_option maxRecDepth 16384

noncomputable section

namespace Cert.Kernel3Ideal.FwProj

open Idealize.ShloMosaic Idealize.ShloMosaic.Tactic Idealize.ShloMosaic.TcCoe Idealize.SL.Sem
open Cert.Kernel3Ideal Cert.Kernel3Ideal.Gen
open Cert.Kernel2Ideal.InProj (zero_word)

variable (m : (ℓ : Loc nD τ sig) → Buf (Elt Ideal) ℓ) (c : Dev nD)

/-- The arguments: the input, the gain, the weights. -/
def aX : S4096x1024.Idx → EReal := m ((c.tc : Thread nD τ).loc main_arg0)
def aG : S1x1024.Idx → EReal := m ((c.tc : Thread nD τ).loc main_arg1)
def aW : S1024x3592.Idx → EReal := m ((c.tc : Thread nD τ).loc main_arg2)

/-! ## The host lines -/

section Elements

variable (W : FVec Ideal S1024x3592 .f32)

def zeroH : FVec Ideal S_ .f32 := sitofp .f32 (constantI S_ 32 0#32)
def mainW : FVec Ideal S1024x3584 .bf16 := truncf .bf16 (extractStridedSlice S1024x3584 ![0, 0] W slices_S1024x3592_S1024x3584_0_0 : FVec Ideal S1024x3584 .f32) bitsLt_bf16_f32
def lastW : FVec Ideal S1024x128 .bf16 :=
  truncf .bf16 (pad S1024x128 ![0, 0] ![0, 120] ![0, 0] (extractStridedSlice S1024x8 ![0, 3584] W slices_S1024x3592_S1024x8_0_3584 : FVec Ideal S1024x8 .f32) zeroH pads_S1024x8_S1024x128_000_01200 h_S_ : FVec Ideal S1024x128 .f32) bitsLt_bf16_f32

theorem mainW_at (k : Fin 1024) (j : Fin 3584) : mainW W (ix2 k j) = W (ix2 k ⟨j.val, by omega⟩) := by
  unfold mainW
  pointwise

theorem lastW_at (k : Fin 1024) (l : Fin 128) : lastW W (ix2 k l) = if h : l.val < 8 then W (ix2 k ⟨3584 + l.val, by omega⟩) else 0 := by
  unfold lastW zeroH
  pointwise
  rw [zero_word]

end Elements

theorem host_eqs : Gen.V m c main_v1 = mainW (aW m c) ∧ Gen.V m c main_v4 = lastW (aW m c) := by
  unfold aW Gen.V
  simp only [Gen.hostOps0, Gen.hostOps0_1, Gen.hostOps0_2, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  exact ⟨rfl, rfl⟩

/-! ## The blocks -/

theorem lt8 (t : Fin cfg0.N) : t.val < 8 := Nat.lt_of_lt_of_eq t.isLt N_0

/-- A tile's row in the arrays. -/
abbrev rowOf (t : Fin cfg0.N) (a : Fin 512) : Fin 4096 := ⟨512 * t.val + a.val, by have := lt8 t; omega⟩

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = 0 ∧ win0_6.index t 1 = t.val := by decide +kernel
theorem at7 : ∀ t : Fin grid0.N, win0_7.index t 0 = 0 ∧ win0_7.index t 1 = t.val := by decide +kernel
theorem at8 : ∀ t : Fin grid0.N, win0_8.index t 0 = 0 ∧ win0_8.index t 1 = t.val := by decide +kernel

theorem blk0 (t : Fin cfg0.N) (a : Fin 512) (k : Fin 1024) : (iblk m c 0 t : Vec Ideal S512x1024 .f32) (ix2 a k) = aX m c (ix2 (rowOf t a) k) := by
  refine Eq.trans (b := V m c main_arg0 (ix2 (rowOf t a) k)) (congrArg (V m c main_arg0) (Shape.idx_ext₂ ?_ ?_)) (by rw [V_main_arg0]; rfl)
  · show win0_0.index t 0 * 512 + 1 * a.val = 512 * t.val + a.val
    rw [(at0 t).1]; omega
  · show win0_0.index t 1 * 1024 + 1 * k.val = k.val
    rw [(at0 t).2]; omega

/-- A block that is the whole array, at an index. -/
theorem whole_blk {n k : ℕ} (y : (⟨2, ![n, k]⟩ : Shape).Idx → EReal) (a : Fin n) (d : Fin k) {i0 i1 : ℕ} (h : i0 = 0 ∧ i1 = 0) (idx : (⟨2, ![n, k]⟩ : Shape).Idx)
    (e0 : (idx 0).val = i0 * n + 1 * a.val) (e1 : (idx 1).val = i1 * k + 1 * d.val) : y idx = y (ix2 a d) := by
  refine congrArg y (Shape.idx_ext₂ ?_ ?_)
  · show (idx 0).val = a.val
    rw [e0, h.1]; omega
  · show (idx 1).val = d.val
    rw [e1, h.2]; omega

theorem blk1 (t : Fin cfg0.N) (k : Fin 1024) : (iblk m c 1 t : Vec Ideal S1x1024 .f32) (ix2 0 k) = aG m c (ix2 0 k) :=
  (whole_blk (V m c main_arg1) (0 : Fin 1) k (at1 t) _ rfl rfl).trans (by rw [V_main_arg1]; rfl)
theorem blk2 (t : Fin cfg0.N) (k : Fin 1024) (j : Fin 3584) : (iblk m c 2 t : Vec Ideal S1024x3584 .bf16) (ix2 k j) = aW m c (ix2 k ⟨j.val, by omega⟩) :=
  (whole_blk (V m c main_v1) k j (at2 t) _ rfl rfl).trans (by rw [(host_eqs m c).1]; exact mainW_at ..)
theorem blk3 (t : Fin cfg0.N) (k : Fin 1024) (l : Fin 128) : (iblk m c 3 t : Vec Ideal S1024x128 .bf16) (ix2 k l) = if h : l.val < 8 then aW m c (ix2 k ⟨3584 + l.val, by omega⟩) else 0 :=
  (whole_blk (V m c main_v4) k l (at3 t) _ rfl rfl).trans (by rw [(host_eqs m c).2]; exact lastW_at ..)

/-! ## The result arrays -/

section Functions

variable (X : S4096x1024.Idx → EReal) (G : S1x1024.Idx → EReal) (W : S1024x3592.Idx → EReal)

/-- The normed input at a row, and its product with the weights. -/
def H (r : Fin 4096) (k : Fin 1024) : EReal := hAt (fun k => X (ix2 r k)) (fun k => G (ix2 0 k)) k
def proj (r : Fin 4096) (j : Fin 3592) : EReal := ∑ k : Fin 1024, H X G r k * W (ix2 k j)

def outP : S4096x3584.Idx → EReal := fun i => proj X G W (i 0) (Fin.castLE (by decide) (i 1))
def outF : S4096x128.Idx → EReal := fun i => if h : (i 1).val < 8 then proj X G W (i 0) ⟨3584 + (i 1).val, by omega⟩ else 0
def outH : S1024x4096.Idx → EReal := fun i => H X G (i 1) (i 0)
def outQ : S512x4096.Idx → EReal := fun i => proj X G W (i 1) ⟨1536 + (i 0).val, by have : (i 0).val < 512 := (i 0).isLt; omega⟩ * factor
def outK : S512x4096.Idx → EReal := fun i => proj X G W (i 1) ⟨2048 + (i 0).val, by have : (i 0).val < 512 := (i 0).isLt; omega⟩

end Functions

theorem hT_eq (t : Fin cfg0.N) (a : Fin 512) (k : Fin 1024) : hT (iblk m c 0 t) (iblk m c 1 t) a k = H (aX m c) (aG m c) (rowOf t a) k := by
  unfold hT H
  simp only [blk0, blk1]

theorem projT_eq (t : Fin cfg0.N) (a : Fin 512) (j : Fin 3584) : projT (iblk m c 0 t) (iblk m c 1 t) (iblk m c 2 t) a j = proj (aX m c) (aG m c) (aW m c) (rowOf t a) ⟨j.val, by omega⟩ :=
  Finset.sum_congr rfl fun k _ => by rw [hT_eq, blk2]

theorem lastT_eq (t : Fin cfg0.N) (a : Fin 512) (l : Fin 128) :
    ∑ k : Fin 1024, hT (iblk m c 0 t) (iblk m c 1 t) a k * (iblk m c 3 t : Vec Ideal S1024x128 .bf16) (ix2 k l)
      = if h : l.val < 8 then proj (aX m c) (aG m c) (aW m c) (rowOf t a) ⟨3584 + l.val, by omega⟩ else 0 := by
  simp only [hT_eq, blk3]
  by_cases h : l.val < 8
  · simp only [h, dif_pos]
    rfl
  · simp only [h, dif_neg, not_false_eq_true, mul_zero, Finset.sum_const_zero]

/-- Two indices of an array with the same places. -/
theorem same₂ {n k : ℕ} {i : (⟨2, ![n, k]⟩ : Shape).Idx} {a : Fin n} {b : Fin k} (h0 : (i 0).val = a.val) (h1 : (i 1).val = b.val) : ix2 a b = i := (Shape.idx_ext₂ h0 h1).symm

theorem tileQ (t : Fin cfg0.N) (a j : Fin 512) : out0_7 (iblk m c 0 t) (iblk m c 1 t) (iblk m c 2 t) (iblk m c 3 t) (ix2 j a) = outQ (aX m c) (aG m c) (aW m c) (ix2 j (rowOf t a)) := by
  rw [out7_at, projT_eq]
  unfold outQ
  generalize factor = f
  rfl

theorem tileK (t : Fin cfg0.N) (a j : Fin 512) : out0_8 (iblk m c 0 t) (iblk m c 1 t) (iblk m c 2 t) (iblk m c 3 t) (ix2 j a) = outK (aX m c) (aG m c) (aW m c) (ix2 j (rowOf t a)) := by
  rw [out8_at, projT_eq]
  rfl

theorem final_P : (dats m 0 c).arrAt 4 cfg0.N = outP (aX m c) (aG m c) (aW m c) := by
  refine (dats m 0 c).arrAt_eq_of_covers 4 _ (by decide +kernel) fun t hf y => ?_
  blk_simp
  rw [after0_4, out4_eq]
  idx_vars y
  have e0 := Pipeline.Window.rect_emb_val (cfg0.win 4) t (ix2 y0 y1) 0
  have e1 := Pipeline.Window.rect_emb_val (cfg0.win 4) t (ix2 y0 y1) 1
  rw [(at4 t).1] at e0
  rw [(at4 t).2] at e1
  refine (projT_eq m c t y0 y1).trans (congrArg (outP (aX m c) (aG m c) (aW m c)) (same₂ (a := rowOf t y0) (b := y1) (e0.trans ?_) (e1.trans ?_)))
  · show t.val * 512 + y0.val = 512 * t.val + y0.val
    omega
  · show 0 * 3584 + y1.val = y1.val
    omega

theorem final_F : (dats m 0 c).arrAt 5 cfg0.N = outF (aX m c) (aG m c) (aW m c) := by
  refine (dats m 0 c).arrAt_eq_of_covers 5 _ (by decide +kernel) fun t hf y => ?_
  blk_simp
  rw [after0_5]
  idx_vars y
  have e0 := Pipeline.Window.rect_emb_val (cfg0.win 5) t (ix2 y0 y1) 0
  have e1 := Pipeline.Window.rect_emb_val (cfg0.win 5) t (ix2 y0 y1) 1
  rw [(at5 t).1] at e0
  rw [(at5 t).2] at e1
  refine (out5_at _ _ _ _ y0 y1).trans ((lastT_eq m c t y0 y1).trans (congrArg (outF (aX m c) (aG m c) (aW m c)) (same₂ (a := rowOf t y0) (b := y1) (e0.trans ?_) (e1.trans ?_))))
  · show t.val * 512 + y0.val = 512 * t.val + y0.val
    omega
  · show 0 * 128 + y1.val = y1.val
    omega

theorem final_H : (dats m 0 c).arrAt 6 cfg0.N = outH (aX m c) (aG m c) := by
  refine (dats m 0 c).arrAt_eq_of_covers 6 _ (by decide +kernel) fun t hf y => ?_
  blk_simp
  rw [after0_6]
  idx_vars y
  have e0 := Pipeline.Window.rect_emb_val (cfg0.win 6) t (ix2 y0 y1) 0
  have e1 := Pipeline.Window.rect_emb_val (cfg0.win 6) t (ix2 y0 y1) 1
  rw [(at6 t).1] at e0
  rw [(at6 t).2] at e1
  refine (out6_at _ _ _ _ y1 y0).trans ((hT_eq m c t y1 y0).trans (congrArg (outH (aX m c) (aG m c)) (same₂ (a := y0) (b := rowOf t y1) (e0.trans ?_) (e1.trans ?_))))
  · show 0 * 1024 + y0.val = y0.val
    omega
  · show t.val * 512 + y1.val = 512 * t.val + y1.val
    omega

theorem final_Q : (dats m 0 c).arrAt 7 cfg0.N = outQ (aX m c) (aG m c) (aW m c) := by
  refine (dats m 0 c).arrAt_eq_of_covers 7 _ (by decide +kernel) fun t hf y => ?_
  blk_simp
  rw [after0_7]
  idx_vars y
  have e0 := Pipeline.Window.rect_emb_val (cfg0.win 7) t (ix2 y0 y1) 0
  have e1 := Pipeline.Window.rect_emb_val (cfg0.win 7) t (ix2 y0 y1) 1
  rw [(at7 t).1] at e0
  rw [(at7 t).2] at e1
  refine (tileQ m c t y1 y0).trans (congrArg (outQ (aX m c) (aG m c) (aW m c)) (same₂ (a := y0) (b := rowOf t y1) (e0.trans ?_) (e1.trans ?_)))
  · show 0 * 512 + y0.val = y0.val
    omega
  · show t.val * 512 + y1.val = 512 * t.val + y1.val
    omega

theorem final_K : (dats m 0 c).arrAt 8 cfg0.N = outK (aX m c) (aG m c) (aW m c) := by
  refine (dats m 0 c).arrAt_eq_of_covers 8 _ (by decide +kernel) fun t hf y => ?_
  blk_simp
  rw [after0_8]
  idx_vars y
  have e0 := Pipeline.Window.rect_emb_val (cfg0.win 8) t (ix2 y0 y1) 0
  have e1 := Pipeline.Window.rect_emb_val (cfg0.win 8) t (ix2 y0 y1) 1
  rw [(at8 t).1] at e0
  rw [(at8 t).2] at e1
  refine (tileK m c t y1 y0).trans (congrArg (outK (aX m c) (aG m c) (aW m c)) (same₂ (a := y0) (b := rowOf t y1) (e0.trans ?_) (e1.trans ?_)))
  · show 0 * 512 + y0.val = y0.val
    omega
  · show t.val * 512 + y1.val = 512 * t.val + y1.val
    omega

end Cert.Kernel3Ideal.FwProj

end
-- ==== Proof.FwRef.lean ====
/- The forward projection by its mathematics: the reference's results, element by element. -/
module

public import proofs.«01_k».proof.Proof.FwOut
public import proofs.«01_k».proof.Proof.Gen.Reference3Ideal.Run

@[expose] public section

set_option maxRecDepth 16384

noncomputable section

namespace Cert.Reference3Ideal.FwProj

open Idealize.ShloMosaic Idealize.ShloMosaic.Tactic Idealize.SL.Sem Idealize.ShloMosaic.TcCoe
open Cert.Reference3Ideal
open Facts₀ Facts
open Cert.Kernel3Ideal.FwProj (factor hAt H proj)

/-! ## The reference's arrays -/

section Arrays

variable (X : FVec Ideal S4096x1024 .f32) (G : FVec Ideal S1x1024 .f32) (W : FVec Ideal S1024x3592 .f32) (N : FVec Ideal S4096x1024 .f32) (P : FVec Ideal S4096x3592 .f32) (r : FVec Ideal S4096x1 .f32)

def colR (b : BitVec 32) : FVec Ideal S4096x1 .f32 := broadcastInDim S4096x1 ![] bcast_S_S4096x1 (constant S_ .f32 b)
def sumR : FVec Ideal S4096 .f32 := Host.reduceAdd (mulf X X) (constant S_ .f32 0x00000000#32) reducesTo_S4096x1024_S4096_d1 h_S_
/-- A row's mean square and the small number. -/
def meanR : FVec Ideal S4096x1 .f32 := addf (Host.divf (broadcastInDim S4096x1 ![0] bcast_S4096_S4096x1_0 (sumR X)) (colR 0x44800000#32)) (colR 0x358637BD#32)
/-- The rows times their factors and the gain. -/
def scaledR : FVec Ideal S4096x1024 .f32 := mulf (mulf X (broadcastInDim S4096x1024 ![0, 1] bcast_S4096x1_S4096x1024_0_1 r)) (broadcastInDim S4096x1024 ![0, 1] bcast_S1x1024_S4096x1024_0_1 G)
def normR : FVec Ideal S4096x1024 .f32 := scaledR X G (Host.rsqrt (meanR X))
def dotR : FVec Ideal S4096x3592 .f32 := Host.dotGeneral dot_S4096x1024_S1024x3592_S4096x3592_1_0_0_1_n_n none N W
def mainR : FVec Ideal S4096x3584 .f32 := extractStridedSlice S4096x3584 ![0, 0] P slices_S4096x3592_S4096x3584_0_0
def lastR : FVec Ideal S4096x128 .f32 := pad S4096x128 ![0, 0] ![0, 120] ![0, 0] (extractStridedSlice S4096x8 ![0, 3584] P slices_S4096x3592_S4096x8_0_3584) (sitofp .f32 (constantI S_ 32 0#32)) pads_S4096x8_S4096x128_000_01200 h_S_
def turnedR : FVec Ideal S1024x4096 .bf16 := truncf .bf16 (transpose S1024x4096 [1, 0] N transposes_S4096x1024_S1024x4096_1_0) bitsLt_bf16_f32
def queryR : FVec Ideal S512x4096 .bf16 := truncf .bf16 (transpose S512x4096 [1, 0] (mulf (extractStridedSlice S4096x512 ![0, 1536] P slices_S4096x3592_S4096x512_0_1536) (broadcastInDim S4096x512 ![] bcast_S_S4096x512 (constant S_ .f32 0x3E000000#32))) transposes_S4096x512_S512x4096_1_0) bitsLt_bf16_f32
def keyR : FVec Ideal S512x4096 .bf16 := truncf .bf16 (transpose S512x4096 [1, 0] (extractStridedSlice S4096x512 ![0, 2048] P slices_S4096x3592_S4096x512_0_2048) transposes_S4096x512_S512x4096_1_0) bitsLt_bf16_f32

theorem sumR_at (a : Fin 4096) : sumR X (ix1 a) = ∑ k : Fin 1024, X (ix2 a k) * X (ix2 a k) := by
  unfold sumR
  pointwise
theorem meanR_at (a : Fin 4096) : meanR X (ix2 a 0) = Ideal.div (∑ k : Fin 1024, X (ix2 a k) * X (ix2 a k)) Cert.Kernel2Ideal.InProj.len + Cert.Kernel2Ideal.InProj.tiny := by
  rw [← sumR_at]
  unfold meanR colR
  generalize sumR X = y
  pointwise
theorem scaledR_at (a : Fin 4096) (k : Fin 1024) : scaledR X G r (ix2 a k) = X (ix2 a k) * r (ix2 a 0) * G (ix2 0 k) := by
  unfold scaledR
  pointwise
theorem normR_at (a : Fin 4096) (k : Fin 1024) : normR X G (ix2 a k) = H X G a k := by
  have root : Host.rsqrt (meanR X) (ix2 a 0) = Ideal.rsqrt (meanR X (ix2 a 0)) := rfl
  unfold normR
  rw [scaledR_at, root, meanR_at]
  rfl
theorem dotR_at (a : Fin 4096) (j : Fin 3592) : dotR W N (ix2 a j) = ∑ k : Fin 1024, N (ix2 a k) * W (ix2 k j) := by
  unfold dotR
  pointwise
theorem mainR_at (a : Fin 4096) (j : Fin 3584) : mainR P (ix2 a j) = P (ix2 a ⟨j.val, by omega⟩) := by
  unfold mainR
  pointwise
theorem lastR_at (a : Fin 4096) (l : Fin 128) : lastR P (ix2 a l) = if h : l.val < 8 then P (ix2 a ⟨3584 + l.val, by omega⟩) else 0 := by
  unfold lastR
  pointwise
  rw [Cert.Kernel2Ideal.InProj.zero_word]
theorem turnedR_at (a : Fin 4096) (k : Fin 1024) : turnedR N (ix2 k a) = N (ix2 a k) := by
  unfold turnedR
  pointwise
theorem queryR_at (a : Fin 4096) (j : Fin 512) : queryR P (ix2 j a) = P (ix2 a ⟨1536 + j.val, by omega⟩) * factor := by
  unfold queryR
  pointwise
theorem keyR_at (a : Fin 4096) (j : Fin 512) : keyR P (ix2 j a) = P (ix2 a ⟨2048 + j.val, by omega⟩) := by
  unfold keyR
  pointwise

/-- The projection of the normed rows. -/
def projR : FVec Ideal S4096x3592 .f32 := dotR W (normR X G)
theorem projR_at (a : Fin 4096) (j : Fin 3592) : projR X G W (ix2 a j) = proj X G W a j := by
  unfold projR
  rw [dotR_at]
  exact Finset.sum_congr rfl fun k _ => by rw [normR_at]

end Arrays

/-! ## The results -/

section Results

variable (X : FVec Ideal S4096x1024 .f32) (G : FVec Ideal S1x1024 .f32) (W : FVec Ideal S1024x3592 .f32)

theorem main_eq : mainR (projR X G W) = Cert.Kernel3Ideal.FwProj.outP X G W := by
  funext y
  idx_vars y
  exact (mainR_at _ y0 y1).trans (projR_at ..)
theorem last_eq : lastR (projR X G W) = Cert.Kernel3Ideal.FwProj.outF X G W := by
  funext y
  idx_vars y
  rw [lastR_at]
  simp only [projR_at]
  rfl
theorem turned_eq : turnedR (normR X G) = Cert.Kernel3Ideal.FwProj.outH X G := by
  funext y
  idx_vars y
  exact (turnedR_at _ y1 y0).trans (normR_at ..)
theorem query_eq : queryR (projR X G W) = Cert.Kernel3Ideal.FwProj.outQ X G W := by
  funext y
  idx_vars y
  rw [queryR_at, projR_at]
  unfold Cert.Kernel3Ideal.FwProj.outQ
  generalize factor = f
  rfl
theorem key_eq : keyR (projR X G W) = Cert.Kernel3Ideal.FwProj.outK X G W := by
  funext y
  idx_vars y
  rw [keyR_at, projR_at]
  rfl

end Results

variable (m : (ℓ : Loc nD τ sig) → Buf (Elt Ideal) ℓ) (c : Dev nD)

def aX : FVec Ideal S4096x1024 .f32 := m ((c.tc : Thread nD τ).loc main_arg0)
def aG : FVec Ideal S1x1024 .f32 := m ((c.tc : Thread nD τ).loc main_arg1)
def aW : FVec Ideal S1024x3592 .f32 := m ((c.tc : Thread nD τ).loc main_arg2)

theorem run_results (ρ : Dev nD → PrngReg) : θ_run defs (onTc (τ := τ) (main (F := Ideal))) ⟨m, fun _ => 0, ρ⟩ fun r => ∀ c : Dev nD,
    r.2.mem ((c.tc : Thread nD τ).loc main_v17) = mainR (projR (aX m c) (aG m c) (aW m c)) ∧ r.2.mem ((c.tc : Thread nD τ).loc main_v14) = lastR (projR (aX m c) (aG m c) (aW m c))
    ∧ r.2.mem ((c.tc : Thread nD τ).loc main_v19) = turnedR (normR (aX m c) (aG m c)) ∧ r.2.mem ((c.tc : Thread nD τ).loc main_v23) = queryR (projR (aX m c) (aG m c) (aW m c))
    ∧ r.2.mem ((c.tc : Thread nD τ).loc main_v25) = keyR (projR (aX m c) (aG m c) (aW m c))
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2.1.trans rfl, (h c).2.2.2.2.1.trans rfl, (h c).2.2.2.2.2⟩) (Value.run m ρ)

end Cert.Reference3Ideal.FwProj

end
-- ==== Proof.FwValue.lean ====
/- The forward projection's two programs end with the same arrays. -/
module

public import proofs.«01_k».proof.Defs
public import proofs.«01_k».proof.Proof.FwRef
public import proofs.«01_k».proof.Proof.Gen.Kernel3Ideal.Value

@[expose] public section

set_option maxRecDepth 16384

noncomputable section

namespace Cert.FwValue

open Idealize.ShloMosaic Idealize.SL.Sem Idealize.ShloMosaic.TcCoe

theorem algebraic : Cert.algebraic_Kernel3Ideal_Reference3Ideal (hKernel3Ideal := Cert.Kernel3Ideal.Gen.facts) (hReference3Ideal := Cert.Reference3Ideal.Gen.facts) := by
  intro m g m' g' _ ha
  have ex : ∀ c, Cert.Reference3Ideal.FwProj.aX m' c = Cert.Kernel3Ideal.FwProj.aX m c := fun c => (ha c).1
  have eg : ∀ c, Cert.Reference3Ideal.FwProj.aG m' c = Cert.Kernel3Ideal.FwProj.aG m c := fun c => (ha c).2.1
  have ew : ∀ c, Cert.Reference3Ideal.FwProj.aW m' c = Cert.Kernel3Ideal.FwProj.aW m c := fun c => (ha c).2.2
  refine ⟨fun c => Cert.Kernel3Ideal.FwProj.outP (Cert.Kernel3Ideal.FwProj.aX m c) (Cert.Kernel3Ideal.FwProj.aG m c) (Cert.Kernel3Ideal.FwProj.aW m c),
    fun c => Cert.Kernel3Ideal.FwProj.outF (Cert.Kernel3Ideal.FwProj.aX m c) (Cert.Kernel3Ideal.FwProj.aG m c) (Cert.Kernel3Ideal.FwProj.aW m c),
    fun c => Cert.Kernel3Ideal.FwProj.outH (Cert.Kernel3Ideal.FwProj.aX m c) (Cert.Kernel3Ideal.FwProj.aG m c),
    fun c => Cert.Kernel3Ideal.FwProj.outQ (Cert.Kernel3Ideal.FwProj.aX m c) (Cert.Kernel3Ideal.FwProj.aG m c) (Cert.Kernel3Ideal.FwProj.aW m c),
    fun c => Cert.Kernel3Ideal.FwProj.outK (Cert.Kernel3Ideal.FwProj.aX m c) (Cert.Kernel3Ideal.FwProj.aG m c) (Cert.Kernel3Ideal.FwProj.aW m c), ?_, ?_⟩
  · refine (θ_run Cert.Kernel3Ideal.defs _ _).mono (fun r h c => ?_) (Cert.Kernel3Ideal.Value.run_blocks m g)
    exact ⟨(h c).1.trans (Cert.Kernel3Ideal.FwProj.final_P m c), (h c).2.1.trans (Cert.Kernel3Ideal.FwProj.final_F m c), (h c).2.2.1.trans (Cert.Kernel3Ideal.FwProj.final_H m c),
      (h c).2.2.2.1.trans (Cert.Kernel3Ideal.FwProj.final_Q m c), (h c).2.2.2.2.1.trans (Cert.Kernel3Ideal.FwProj.final_K m c), (h c).2.2.2.2.2⟩
  · refine (θ_run Cert.Reference3Ideal.defs _ _).mono (fun r h c => ?_) (Cert.Reference3Ideal.FwProj.run_results m' g')
    have k := h c
    rw [ex, eg, ew, Cert.Reference3Ideal.FwProj.main_eq, Cert.Reference3Ideal.FwProj.last_eq, Cert.Reference3Ideal.FwProj.turned_eq, Cert.Reference3Ideal.FwProj.query_eq, Cert.Reference3Ideal.FwProj.key_eq] at k
    exact k

end Cert.FwValue

end
-- ==== Proof.MgFrames.lean ====
/- The frames of the merge's three programs: they run, their arguments end unchanged, every counter ends at zero. -/
module

public import proofs.«01_k».proof.Defs
public import proofs.«01_k».proof.Proof.Gen.Kernel4
public import proofs.«01_k».proof.Proof.Gen.Reference4Ideal.Run
public import proofs.«01_k».proof.Proof.Gen.Kernel4Ideal.Frame
public import Idealize.ShloMosaic.Lib.Quiescent

@[expose] public section

set_option maxRecDepth 16384

noncomputable section

namespace Cert.MgFrames

open Idealize.ShloMosaic Idealize.SL.Sem Cert.Kernel4

/-- The claim of the idealized text, read at the machine's own floats. -/
abbrev atBits : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

/-- The two programs have one text. -/
theorem same_text : Cert.quiescent_Kernel4 (hKernel4 := Cert.Kernel4.Gen.facts) = atBits := by
  sl_kernel_rfl

theorem kernel : Cert.quiescent_Kernel4 (hKernel4 := Cert.Kernel4.Gen.facts) :=
  same_text.mpr fun m ρ _ => Cert.Kernel4Ideal.Gen.frame (F := Bits) m ρ

theorem kernelIdeal : Cert.quiescent_Kernel4Ideal (hKernel4Ideal := Cert.Kernel4Ideal.Gen.facts) := fun m ρ _ =>
  Cert.Kernel4Ideal.Gen.frame (F := Ideal) m ρ

theorem referenceIdeal : Cert.quiescent_Reference4Ideal (hReference4Ideal := Cert.Reference4Ideal.Gen.facts) := fun m ρ _ =>
  (θ_run Cert.Reference4Ideal.defs _ _).mono
    (fun r h => ⟨fun c => (h c).2.2.2.2.2.2.2, Idealize.ShloMosaic.sem_eq_zero_of_no_sems (by decide) r.2⟩)
    (Cert.Reference4Ideal.Value.run m ρ)

end Cert.MgFrames

end
-- ==== Proof.MgRun.lean ====
/- What the merge's backward pass leaves at a step: its stored values, as functions of the step's blocks. -/
module

public import proofs.«01_k».proof.Proof.Gen.Kernel4Ideal.Value
public import Idealize.ShloMosaic.Lib.Tactic

@[expose] public section

set_option maxRecDepth 16384

noncomputable section

namespace Cert.Kernel4Ideal.Merge

open Idealize.ShloMosaic Idealize.ShloMosaic.TcCoe Idealize.ShloMosaic.Tactic Idealize.SL.Sem
open Idealize.ShloMosaic.Pipeline (Dat)
open Cert.Kernel4Ideal Cert.Kernel4Ideal.Gen

variable {F : FTy → Type} [FloatOps F]

theorem at_zero : (![0, 0] : Fin 2 → Nat) = fun _ => 0 := funext fun a => by fin_cases a <;> rfl
theorem at_zero₃ : (![0, 0, 0] : Fin 3 → Nat) = fun _ => 0 := funext fun a => by fin_cases a <;> rfl

/-- Half the columns of the transposed output weights. -/
def cols (o : Fin S1024x1024.rank → ℕ) (inb : ∀ a, o a + S1024x512.size a ≤ S1024x1024.size a) (w : Vec F S1024x1024 .bf16) : Vec F S1024x512 .bf16 := View.ld w (Rect.unit o S1024x512.size inb)

/-- The gradient of the merged product, a tile. -/
def dy (x0 x1 : Vec F S512x1024 .f32) (x2 : Vec F S1x1024 .f32) : FVec F S512x1024 .bf16 := k0_pay13 x1 x0 x2

/-- The gradient of the gated third part, a tile. -/
def dmc (x0 x1 : Vec F S512x1024 .f32) (x2 : Vec F S1x1024 .f32) (x3 : Vec F S1024x1024 .bf16) : FVec F S512x512 .f32 :=
  k0_pay19 (dy x0 x1 x2) (cols ![0, 512] inb_S1024x1024_S1024x512_0_512 x3)

/-- The gradient of the attention's output, a tile. -/
def da (x0 x1 : Vec F S512x1024 .f32) (x2 : Vec F S1x1024 .f32) (x3 : Vec F S1024x1024 .bf16) (x4 : Vec F S512x512 .f32) : FVec F S512x512 .f32 :=
  k0_pay21 (dy x0 x1 x2) (cols ![0, 512] inb_S1024x1024_S1024x512_0_512 x3) x4

/-- A step's results that are not accumulated, and the two accumulators after it. -/
def step (x0 x1 : Vec F S512x1024 .f32) (x2 : Vec F S1x1024 .f32) (x3 : Vec F S1024x1024 .bf16) (x4 x5 : Vec F S512x512 .f32) (x6 : Vec F S1024x512 .bf16) (o : Vec F S1x1024 .f32) (s : Vec F S1024x1024 .f32) :
    FVec F S512x512 .f32 × FVec F S1x1024 .f32 × FVec F S512x512 .bf16 × FVec F S512x512 .bf16 × FVec F S512x512 .bf16 × FVec F S1x8x512 .f32 × FVec F S1024x1024 .f32 :=
  (k0_pay18 (dy x0 x1 x2) (cols ![0, 0] inb_S1024x1024_S1024x512_0_0 x3),
    k0_pay12 x1 x0 o,
    k0_pay22 (dy x0 x1 x2) (cols ![0, 512] inb_S1024x1024_S1024x512_0_512 x3) x4,
    k0_pay24 (k0_pay23 (dy x0 x1 x2) (cols ![0, 512] inb_S1024x1024_S1024x512_0_512 x3) x4),
    k0_pay25 (dmc x0 x1 x2 x3) x4 x5 (k0_pay20 x4),
    k0_pay1 (k0_pay27 (F := F)) (k0_pay28 x5 (da x0 x1 x2 x3 x4)) (k0_pay29 x5 (da x0 x1 x2 x3 x4)),
    k0_pay14 (dy x0 x1 x2) s x6)

variable (m : (ℓ : Loc nD τ sig) → Buf (Elt F) ℓ) (c : Dev nD) (t : Fin cfg0.N)

/-- The first step starts both accumulators at zero. -/
theorem step_A (h0 : t.val % 8 = 0) (h1 : ¬t.val % 8 = 7) :
    (outsAt0 m c t.val t.isLt).2 = step (iblk m c 0 t) (iblk m c 1 t) (iblk m c 2 t) (iblk m c 3 t) (iblk m c 4 t) (iblk m c 5 t) (iblk m c 6 t) (k0_pay7 (F := F)) (k0_pay8 (F := F)) := by
  rw [outsAt0_A m c t h0 h1]
  refine Prod.ext ?_ (Prod.ext ?_ (Prod.ext ?_ (Prod.ext ?_ (Prod.ext ?_ (Prod.ext ?_ ?_))))) <;> dsimp only
  all_goals
    first
      | rw [out0_A_8, View.read_writes_eq_canon _ _ _ fun y => cover0_A_8 (y := y) ..]
      | rw [out0_A_9, View.read_writes_eq_canon _ _ _ fun y => cover0_A_9 (y := y) ..]
      | rw [out0_A_10, View.read_writes_eq_canon _ _ _ fun y => cover0_A_10 (y := y) ..]
      | rw [out0_A_11, View.read_writes_eq_canon _ _ _ fun y => cover0_A_11 (y := y) ..]
      | rw [out0_A_12, View.read_writes_eq_canon _ _ _ fun y => cover0_A_12 (y := y) ..]
      | rw [out0_A_13, View.read_writes_eq_canon _ _ _ fun y => cover0_A_13 (y := y) ..]
      | rw [sout0_A_0, View.read_writes_eq_canon _ _ _ fun y => scover0_A_0 (y := y) ..]
    unfold kernelRun0_A
    dsimp only
    sl_unfold_words
    first | rw [View.canon_unit_zero at_zero] | rw [View.canon_unit_zero at_zero₃] | rw [View.canon_cons_unit_zero (S := S1x1024) at_zero] | rw [View.canon_cons_unit_zero (S := S1024x1024) at_zero]
    simp only [View.readCov_unit_zero (S := S1x1024) _ at_zero, View.readCov_unit_zero (S := S1024x1024) _ at_zero, View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) at_zero, View.ld_unit_zero (S := S1x1024) at_zero, View.ld_unit_zero (S := S512x512) at_zero, View.ld_unit_zero (S := S1024x512) at_zero, View.ld_unit_zero (S := S1024x1024) at_zero]
    rfl

/-- A middle step adds to both accumulators. -/
theorem step_B (h0 : ¬t.val % 8 = 0) (h1 : ¬t.val % 8 = 7) :
    (outsAt0 m c t.val t.isLt).2 = step (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2 := by
  rw [outsAt0_B m c t h0 h1]
  refine Prod.ext ?_ (Prod.ext ?_ (Prod.ext ?_ (Prod.ext ?_ (Prod.ext ?_ (Prod.ext ?_ ?_))))) <;> dsimp only
  all_goals
    first
      | rw [out0_B_8, View.read_writes_eq_canon _ _ _ fun y => cover0_B_8 (y := y) ..]
      | rw [out0_B_9, View.read_writes_eq_canon _ _ _ fun y => cover0_B_9 (y := y) ..]
      | rw [out0_B_10, View.read_writes_eq_canon _ _ _ fun y => cover0_B_10 (y := y) ..]
      | rw [out0_B_11, View.read_writes_eq_canon _ _ _ fun y => cover0_B_11 (y := y) ..]
      | rw [out0_B_12, View.read_writes_eq_canon _ _ _ fun y => cover0_B_12 (y := y) ..]
      | rw [out0_B_13, View.read_writes_eq_canon _ _ _ fun y => cover0_B_13 (y := y) ..]
      | rw [sout0_B_0, View.read_writes_eq_canon _ _ _ fun y => scover0_B_0 (y := y) ..]
    unfold kernelRun0_B
    dsimp only
    sl_unfold_words
    first | rw [View.canon_unit_zero at_zero] | rw [View.canon_unit_zero at_zero₃]
    simp only [(hs0_9 t).read_unread, (Memref.isWhole_whole _ : scM0_0.IsWhole).read_unread, View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) at_zero, View.ld_unit_zero (S := S1x1024) at_zero, View.ld_unit_zero (S := S512x512) at_zero, View.ld_unit_zero (S := S1024x512) at_zero, View.ld_unit_zero (S := S1024x1024) at_zero]
    rfl

/-- The last step adds to both accumulators. -/
theorem step_C (h0 : ¬t.val % 8 = 0) (h1 : t.val % 8 = 7) :
    (outsAt0 m c t.val t.isLt).2 = step (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2 := by
  rw [outsAt0_C m c t h0 h1]
  refine Prod.ext ?_ (Prod.ext ?_ (Prod.ext ?_ (Prod.ext ?_ (Prod.ext ?_ (Prod.ext ?_ ?_))))) <;> dsimp only
  all_goals
    first
      | rw [out0_C_8, View.read_writes_eq_canon _ _ _ fun y => cover0_C_8 (y := y) ..]
      | rw [out0_C_9, View.read_writes_eq_canon _ _ _ fun y => cover0_C_9 (y := y) ..]
      | rw [out0_C_10, View.read_writes_eq_canon _ _ _ fun y => cover0_C_10 (y := y) ..]
      | rw [out0_C_11, View.read_writes_eq_canon _ _ _ fun y => cover0_C_11 (y := y) ..]
      | rw [out0_C_12, View.read_writes_eq_canon _ _ _ fun y => cover0_C_12 (y := y) ..]
      | rw [out0_C_13, View.read_writes_eq_canon _ _ _ fun y => cover0_C_13 (y := y) ..]
      | rw [sout0_C_0, View.read_writes_eq_canon _ _ _ fun y => scover0_C_0 (y := y) ..]
    unfold kernelRun0_C
    dsimp only
    sl_unfold_words
    first | rw [View.canon_unit_zero at_zero] | rw [View.canon_unit_zero at_zero₃]
    simp only [(hs0_9 t).read_unread, (Memref.isWhole_whole _ : scM0_0.IsWhole).read_unread, View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) at_zero, View.ld_unit_zero (S := S1x1024) at_zero, View.ld_unit_zero (S := S512x512) at_zero, View.ld_unit_zero (S := S1024x512) at_zero, View.ld_unit_zero (S := S1024x1024) at_zero]
    rfl

end Cert.Kernel4Ideal.Merge

end
-- ==== Proof.MgTile.lean ====
/- What a step of the merge's backward pass stores, element by element over the extended reals. -/
module

public import proofs.«01_k».proof.Proof.InTile
public import proofs.«01_k».proof.Proof.MgRun

@[expose] public section

set_option maxRecDepth 16384

noncomputable section

namespace Cert.Kernel4Ideal.Merge

open Idealize.ShloMosaic Idealize.ShloMosaic.Tactic Idealize.SL.Sem
open Cert.Kernel4Ideal Cert.Kernel4Ideal.Gen
open Cert.Kernel2Ideal.InProj (len tiny dxAt)

/-- The constant one. -/
abbrev one : EReal := Ideal.ofBits .f32 0x3F800000#32

/-- One over one plus the exponential of the negated gate. -/
def sg (g : EReal) : EReal := Ideal.div one (one + Ideal.exp (0 - g))

/-- The gradient of the gate. -/
def dgate (d g o : EReal) : EReal := d * o * (sg g * (one + g * (one - sg g)))

section Tiles

variable (x0 x1 : Vec Ideal S512x1024 .f32) (x2 : Vec Ideal S1x1024 .f32) (x3 : Vec Ideal S1024x1024 .bf16) (x4 x5 : Vec Ideal S512x512 .f32) (x6 : Vec Ideal S1024x512 .bf16) (o : Vec Ideal S1x1024 .f32) (s : Vec Ideal S1024x1024 .f32)

theorem pay10_at (a : Fin 512) : k0_pay10 x1 (ix2 a 0) = Cert.Kernel2Ideal.InProj.inv fun k => x1 (ix2 a k) := by
  unfold k0_pay10 k0_pay9 Cert.Kernel2Ideal.InProj.inv
  pointwise

theorem pay11_at (a : Fin 512) (k : Fin 1024) : k0_pay11 x1 (ix2 a k) = x1 (ix2 a k) * Cert.Kernel2Ideal.InProj.inv fun k => x1 (ix2 a k) := by
  rw [← pay10_at]
  unfold k0_pay11 k0_pay9
  generalize k0_pay10 x1 = r
  pointwise

theorem pay12_at (k : Fin 1024) :
    k0_pay12 x1 x0 o (ix2 0 k) = o (ix2 0 k) + ∑ a : Fin 512, x0 (ix2 a k) * (x1 (ix2 a k) * Cert.Kernel2Ideal.InProj.inv fun k => x1 (ix2 a k)) := by
  rw [← Finset.sum_congr rfl fun a _ => congrArg (x0 (ix2 a k) * ·) (pay11_at x1 a k)]
  unfold k0_pay12
  generalize k0_pay11 x1 = r
  pointwise

theorem pay13_at (a : Fin 512) (k : Fin 1024) :
    k0_pay13 x1 x0 x2 (ix2 a k) = k0_pay10 x1 (ix2 a 0) * (x0 (ix2 a k) * x2 (ix2 0 k) - k0_pay11 x1 (ix2 a k) * Ideal.div (∑ k', x0 (ix2 a k') * x2 (ix2 0 k') * k0_pay11 x1 (ix2 a k')) len) := by
  unfold k0_pay13
  generalize k0_pay10 x1 = r
  generalize k0_pay11 x1 = q
  pointwise

theorem dy_at (a : Fin 512) (k : Fin 1024) :
    dy x0 x1 x2 (ix2 a k) = dxAt (fun k => x1 (ix2 a k)) (fun k => x2 (ix2 0 k)) (fun k => x0 (ix2 a k)) (fun _ => 0) k := by
  unfold dy dxAt
  rw [pay13_at, pay10_at, pay11_at, zero_add]
  simp only [pay11_at]

theorem pay14_at (d : FVec Ideal S512x1024 .bf16) (i k : Fin 1024) : k0_pay14 d s x6 (ix2 i k) = s (ix2 i k) + ∑ a : Fin 512, x6 (ix2 i a) * d (ix2 a k) := by
  unfold k0_pay14
  pointwise

theorem cols_at (u : ℕ) (inb) (h : u + 512 ≤ 1024) (k : Fin 1024) (j : Fin 512) : cols ![0, u] inb x3 (ix2 k j) = x3 (ix2 k ⟨u + j.val, by omega⟩) :=
  congrArg x3 (Shape.idx_ext₂ (show 0 + 1 * k.val = k.val by omega) (show u + 1 * j.val = u + j.val by omega))

variable (d : FVec Ideal S512x1024 .bf16) (w : Vec Ideal S1024x512 .bf16) (e : FVec Ideal S512x512 .f32) (a j : Fin 512)

theorem pay18_at : k0_pay18 d w (ix2 a j) = ∑ k : Fin 1024, d (ix2 a k) * w (ix2 k j) := by
  unfold k0_pay18
  pointwise

theorem pay19_at : k0_pay19 d w (ix2 a j) = ∑ k : Fin 1024, d (ix2 a k) * w (ix2 k j) := by
  unfold k0_pay19
  pointwise

theorem pay20_at : k0_pay20 x4 (ix2 a j) = sg (x4 (ix2 a j)) := by
  unfold k0_pay20 sg
  pointwise

theorem pay21_at : k0_pay21 d w x4 (ix2 a j) = k0_pay19 d w (ix2 a j) * (x4 (ix2 a j) * sg (x4 (ix2 a j))) := by
  rw [← pay20_at]
  unfold k0_pay21
  generalize k0_pay20 x4 = y
  generalize k0_pay19 d w = z
  pointwise

theorem pay22_at : k0_pay22 d w x4 (ix2 a j) = k0_pay21 d w x4 (ix2 a j) := by
  unfold k0_pay22
  generalize k0_pay21 d w x4 = y
  pointwise

theorem pay24_at : k0_pay24 (k0_pay23 d w x4) (ix2 j a) = k0_pay21 d w x4 (ix2 a j) := by
  unfold k0_pay24 k0_pay23
  generalize k0_pay21 d w x4 = y
  pointwise

theorem pay25_at : k0_pay25 e x4 x5 (k0_pay20 x4) (ix2 a j) = dgate (e (ix2 a j)) (x4 (ix2 a j)) (x5 (ix2 a j)) := by
  unfold dgate
  rw [← pay20_at]
  unfold k0_pay25
  generalize k0_pay20 x4 = y
  pointwise

theorem pay26_at : k0_pay26 x5 e (ix2 a j) = e (ix2 a j) * x5 (ix2 a j) := by
  unfold k0_pay26
  pointwise

theorem pay28_at : k0_pay28 x5 e (ix2 a j) = e (ix2 a j) * x5 (ix2 a j) := by
  rw [← pay26_at]
  unfold k0_pay28
  generalize k0_pay26 x5 e = y
  pointwise

theorem pay29_at : k0_pay29 x5 e (ix2 a j) = e (ix2 a j) * x5 (ix2 a j) - e (ix2 a j) * x5 (ix2 a j) := by
  rw [← pay26_at]
  unfold k0_pay29 k0_pay28
  generalize k0_pay26 x5 e = y
  pointwise

theorem pay1_at (p : FVec Ideal S512x128 .f32) (hi : FVec Ideal S512x512 .bf16) (lo : FVec Ideal S512x512 .f32) (h : Fin 8) :
    k0_pay1 p hi lo (ix3 0 h a) = (∑ j : Fin 512, hi (ix2 a j) * p (ix2 j ⟨h.val, by omega⟩)) + ∑ j : Fin 512, lo (ix2 a j) * p (ix2 j ⟨h.val, by omega⟩) := by
  unfold k0_pay1
  pointwise

theorem pay27_at (l : Fin 128) : k0_pay27 (F := Ideal) (ix2 j l) = if j.val / 64 = l.val then 1 else 0 := by
  unfold k0_pay27
  pointwise
  generalize hq : Scalar.select _ _ _ = q
  have e : q = BitVec.ofNat 32 (j.val / 64) := by
    subst hq
    revert j
    decide +kernel
  subst e
  have l' := l.isLt
  have j' := j.isLt
  have n : BitVec.ofNat 32 (j.val / 64) = BitVec.ofNat 32 l.val ↔ j.val / 64 = l.val := by
    rw [← BitVec.toNat_inj, BitVec.toNat_ofNat, BitVec.toNat_ofNat, Nat.mod_eq_of_lt (by omega), Nat.mod_eq_of_lt (by omega)]
  by_cases h : j.val / 64 = l.val
  · rw [if_pos h, h]
    show FloatOps.sitofp FTy.f32 (BitVec.setWidth 32 (BitVec.ofBool (BitVec.ofNat 32 l.val == BitVec.ofNat 32 l.val))) = 1
    rw [beq_self_eq_true]
    show (((1#32).toInt : ℝ) : EReal) = 1
    simp
  · rw [if_neg h]
    show FloatOps.sitofp FTy.f32 (BitVec.setWidth 32 (BitVec.ofBool (BitVec.ofNat 32 (j.val / 64) == BitVec.ofNat 32 l.val))) = 0
    rw [beq_false_of_ne fun k => h (n.mp k)]
    show (((0#32).toInt : ℝ) : EReal) = 0
    simp

theorem pay7_at (k : Fin 1024) : k0_pay7 (F := Ideal) (ix2 0 k) = 0 := by
  unfold k0_pay7
  pointwise

theorem pay8_at (i k : Fin 1024) : k0_pay8 (F := Ideal) (ix2 i k) = 0 := by
  unfold k0_pay8
  pointwise

end Tiles

end Cert.Kernel4Ideal.Merge

end
-- ==== Proof.MgGw.lean ====
/- The last step of the merge's backward pass stores the summed weight gradient by its blocks of 128 rows. -/
module

public import proofs.«01_k».proof.Proof.MgTile

@[expose] public section

set_option maxRecDepth 16384

noncomputable section

namespace Cert.Kernel4Ideal.Merge

open Idealize.ShloMosaic Idealize.ShloMosaic.TcCoe Idealize.ShloMosaic.Tactic Idealize.SL.Sem
open Cert.Kernel4Ideal Cert.Kernel4Ideal.Gen

/-- The place of the stored block in the sum: block `2q + p`, row `u`. -/
def gwOf (s : Vec Ideal S1024x1024 .f32) : S2x4x128x1024.Idx → EReal :=
  fun i => s (ix2 (⟨(2 * (i 1).val + (i 0).val) * 128 + (i 2).val, by
    have h0 : (i 0).val < 2 := (i 0).isLt
    have h1 : (i 1).val < 4 := (i 1).isLt
    have h2 : (i 2).val < 128 := (i 2).isLt
    omega⟩ : Fin 1024) (i 3 : Fin 1024))

/-- A block of 128 rows, stored at its two indices, holds the sum's rows. -/
theorem block_at (s : Vec Ideal S1024x1024 .f32) (p q u : ℕ) (inb : ∀ a, (![p, q, 0, 0] : Fin 4 → ℕ) a + S1x1x128x1024.size a ≤ S2x4x128x1024.size a) (inu) (h : u = (2 * q + p) * 128)
    (f : Vec Ideal S128x1024 .f32 → FVec Ideal S1x1x128x1024 .bf16) (hf : ∀ (x : Vec Ideal S128x1024 .f32) (a : Fin 128) (k : Fin 1024), f x (ix4 0 0 a k) = x (ix2 a k)) (z : S1x1x128x1024.Idx) :
    f (View.ld s (Rect.unit (s := S1024x1024) ![u, 0] S128x1024.size inu)) z = gwOf s ((Rect.unit (s := S2x4x128x1024) ![p, q, 0, 0] S1x1x128x1024.size inb).emb z) := by
  idx_vars z
  obtain rfl : z0 = 0 := Subsingleton.elim _ _
  obtain rfl : z1 = 0 := Subsingleton.elim _ _
  rw [hf]
  unfold gwOf
  refine congrArg s (Shape.idx_ext₂ ?_ ?_)
  · show u + 1 * z2.val = (2 * (q + 1 * 0) + (p + 1 * 0)) * 128 + (0 + 1 * z2.val)
    omega
  · show 0 + 1 * z3.val = 0 + 1 * z3.val
    rfl

/-- A piece's payload keeps the rows. -/
theorem piece_at (x : Vec Ideal S128x1024 .f32) (a : Fin 128) (k : Fin 1024) : k0_pay2 x (ix4 0 0 a k) = x (ix2 a k) := by
  unfold k0_pay2
  pointwise

variable (m : (ℓ : Loc nD τ sig) → Buf (Elt Ideal) ℓ) (c : Dev nD) (t : Fin cfg0.N)

theorem gw_C (h0 : ¬t.val % 8 = 0) (h1 : t.val % 8 = 7) :
    (outsAt0 m c t.val t.isLt).1 = gwOf (outsAt0 m c t.val t.isLt).2.2.2.2.2.2.2 := by
  rw [step_C m c t h0 h1, outsAt0_C m c t h0 h1]
  dsimp only [step]
  rw [out0_C_7, View.read_writes_eq_canon _ _ _ fun y => cover0_C_7 (y := y) ..]
  unfold kernelRun0_C
  dsimp only
  sl_unfold_words
  simp only [(hs0_9 t).read_unread, (Memref.isWhole_whole _ : scM0_0.IsWhole).read_unread, View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) at_zero, View.ld_unit_zero (S := S1x1024) at_zero, View.ld_unit_zero (S := S512x512) at_zero, View.ld_unit_zero (S := S1024x512) at_zero, View.ld_unit_zero (S := S1024x1024) at_zero]
  simp only [View.readCov_eq_canon', View.canon_unit_zero (S := S1024x1024) at_zero]
  change _ = gwOf (k0_pay14 (k0_pay13 (iblk m c 1 t) (iblk m c 0 t) (iblk m c 2 t)) _ (iblk m c 6 t))
  generalize k0_pay14 (k0_pay13 (iblk m c 1 t) (iblk m c 0 t) (iblk m c 2 t)) _ (iblk m c 6 t) = s
  funext y
  refine View.canon_apply_of_pieces (Val := Elt Ideal) (e := .bf16) (gwOf s) _ ?_ y ?_
  · simp only [List.forall_mem_cons, List.not_mem_nil, false_imp_iff, implies_true, and_true]
    exact ⟨block_at s 1 3 896 _ _ rfl _ piece_at, block_at s 0 3 768 _ _ rfl _ piece_at, block_at s 1 2 640 _ _ rfl _ piece_at, block_at s 0 2 512 _ _ rfl _ piece_at,
      block_at s 1 1 384 _ _ rfl _ piece_at, block_at s 0 1 256 _ _ rfl _ piece_at, block_at s 1 0 128 _ _ rfl _ piece_at, block_at s 0 0 0 _ _ rfl _ piece_at⟩
  · exact View.cover_of_tiledL (s := S2x4x128x1024) _ S1x1x128x1024.size (by sl_kernel_rfl) y

end Cert.Kernel4Ideal.Merge

end
-- ==== Proof.MgHost.lean ====
/- What the merge's backward launch is handed, block by block, in the arguments' elements. -/
module

public import proofs.«01_k».proof.Proof.MgGw
public import proofs.«01_k».proof.Proof.FwOut

@[expose] public section

set_option maxRecDepth 16384

noncomputable section

namespace Cert.Kernel4Ideal.Merge

open Idealize.ShloMosaic Idealize.ShloMosaic.Tactic Idealize.ShloMosaic.TcCoe Idealize.SL.Sem
open Cert.Kernel4Ideal Cert.Kernel4Ideal.Gen
open Cert.Kernel3Ideal.FwProj (whole_blk)

/-! ## The mathematics, in the arguments' elements -/

section Functions

variable (X : S4096x1024.Idx → EReal) (M O : S4096x512.Idx → EReal) (P : S4096x3584.Idx → EReal) (G : S1x1024.Idx → EReal) (W : S1024x1024.Idx → EReal)

/-- The third part's gate: the projection's last 512 columns. -/
def gate (r : Fin 4096) (j : Fin 512) : EReal := P (ix2 r ⟨3072 + j.val, by omega⟩)

/-- The merged row: two parts as given, the third the attention's output times its gate's silu. -/
def mix (r : Fin 4096) (i : Fin 1024) : EReal :=
  if h : i.val < 512 then M (ix2 r ⟨i.val, h⟩)
  else O (ix2 r ⟨i.val - 512, by omega⟩) * (gate P r ⟨i.val - 512, by omega⟩ * Ideal.div one (one + Ideal.exp (-gate P r ⟨i.val - 512, by omega⟩)))

/-- The merged row's product with the output weights. -/
def Y (r : Fin 4096) (k : Fin 1024) : EReal := ∑ i : Fin 1024, mix M O P r i * W (ix2 i k)

/-- The gradient of that product. -/
def dY (r : Fin 4096) (k : Fin 1024) : EReal :=
  Cert.Kernel2Ideal.InProj.dxAt (Y M O P W r) (fun k => G (ix2 0 k)) (fun k => X (ix2 r k)) (fun _ => 0) k

/-- The gradient of the merged row. -/
def dMix (r : Fin 4096) (i : Fin 1024) : EReal := ∑ k : Fin 1024, dY X M O P G W r k * W (ix2 i k)

/-- The gradient of the gated third part, and of the attention's output. -/
def dThird (r : Fin 4096) (j : Fin 512) : EReal := dMix X M O P G W r ⟨512 + j.val, by omega⟩
def dA (r : Fin 4096) (j : Fin 512) : EReal := dThird X M O P G W r j * (gate P r j * sg (gate P r j))

/-- A row's part of the gain's gradient, and of the weights' gradient. -/
def gainRow (k : Fin 1024) (r : Fin 4096) : EReal := X (ix2 r k) * (Y M O P W r k * Cert.Kernel2Ideal.InProj.inv (Y M O P W r))
def weightRow (i k : Fin 1024) (r : Fin 4096) : EReal := mix M O P r i * dY X M O P G W r k

end Functions

/-! ## The host lines -/

section Elements

variable (M O : FVec Ideal S4096x512 .f32) (P : FVec Ideal S4096x3584 .f32) (W : FVec Ideal S1024x1024 .f32)

def gateH : FVec Ideal S4096x512 .f32 := extractStridedSlice S4096x512 ![0, 3072] P slices_S4096x3584_S4096x512_0_3072
def onesH : FVec Ideal S4096x512 .f32 := broadcastInDim S4096x512 ![] bcast_S_S4096x512 (constant S_ .f32 0x3F800000#32)
def siluH (g : FVec Ideal S4096x512 .f32) : FVec Ideal S4096x512 .f32 := mulf g (Host.divf onesH (addf onesH (Host.exp (Host.negf g))))
def mixH : FVec Ideal S4096x1024 .f32 := concatenate S4096x1024 1 [⟨S4096x512, M⟩, ⟨S4096x512, mulf O (siluH (gateH P))⟩] concatenates_S4096x512_S4096x512_S4096x1024_d1
def yH (x : FVec Ideal S4096x1024 .f32) : FVec Ideal S4096x1024 .f32 := Host.dotGeneral dot_S4096x1024_S1024x1024_S4096x1024_1_0_0_1_n_n none x W
def weightH : FVec Ideal S1024x1024 .bf16 := truncf .bf16 (transpose S1024x1024 [1, 0] W transposes_S1024x1024_S1024x1024_1_0 : FVec Ideal S1024x1024 .f32) bitsLt_bf16_f32
def turnedH (x : FVec Ideal S4096x1024 .f32) : FVec Ideal S1024x4096 .bf16 := truncf .bf16 (transpose S1024x4096 [1, 0] x transposes_S4096x1024_S1024x4096_1_0 : FVec Ideal S1024x4096 .f32) bitsLt_bf16_f32

theorem gateH_at (r : Fin 4096) (j : Fin 512) : gateH P (ix2 r j) = gate P r j := by
  unfold gateH gate
  pointwise
theorem siluH_at (g : FVec Ideal S4096x512 .f32) (r : Fin 4096) (j : Fin 512) : siluH g (ix2 r j) = g (ix2 r j) * Ideal.div one (one + Ideal.exp (-g (ix2 r j))) := by
  unfold siluH onesH
  pointwise
theorem mixH_at (r : Fin 4096) (i : Fin 1024) : mixH M O P (ix2 r i) = mix M O P r i := by
  unfold mix
  simp only [← gateH_at, ← siluH_at]
  unfold mixH
  generalize siluH (gateH P) = s
  pointwise
theorem yH_at (x : FVec Ideal S4096x1024 .f32) (r : Fin 4096) (k : Fin 1024) : yH W x (ix2 r k) = ∑ i : Fin 1024, x (ix2 r i) * W (ix2 i k) := by
  unfold yH
  pointwise
theorem weightH_at (k i : Fin 1024) : weightH W (ix2 k i) = W (ix2 i k) := by
  unfold weightH
  pointwise
theorem turnedH_at (x : FVec Ideal S4096x1024 .f32) (r : Fin 4096) (i : Fin 1024) : turnedH x (ix2 i r) = x (ix2 r i) := by
  unfold turnedH
  pointwise

end Elements

variable (m : (ℓ : Loc nD τ sig) → Buf (Elt Ideal) ℓ) (c : Dev nD)

/-- The arguments: the gradient, the merge's first two parts, the attention's output, the projection, the gain, the weights. -/
def aX : S4096x1024.Idx → EReal := m ((c.tc : Thread nD τ).loc main_arg0)
def aM : S4096x512.Idx → EReal := m ((c.tc : Thread nD τ).loc main_arg1)
def aO : S4096x512.Idx → EReal := m ((c.tc : Thread nD τ).loc main_arg2)
def aP : S4096x3584.Idx → EReal := m ((c.tc : Thread nD τ).loc main_arg3)
def aG : S1x1024.Idx → EReal := m ((c.tc : Thread nD τ).loc main_arg4)
def aW : S1024x1024.Idx → EReal := m ((c.tc : Thread nD τ).loc main_arg5)

theorem host_eqs : Gen.V m c main_v4 = yH (aW m c) (mixH (aM m c) (aO m c) (aP m c)) ∧ Gen.V m c main_v6 = weightH (aW m c) ∧ Gen.V m c main_v8 = turnedH (mixH (aM m c) (aO m c) (aP m c)) := by
  unfold aM aO aP aW Gen.V
  simp only [Gen.hostOps0, Gen.hostOps0_1, Gen.hostOps0_2, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp
  exact ⟨rfl, rfl, rfl⟩

/-! ## The blocks -/

theorem lt8 (t : Fin cfg0.N) : t.val < 8 := Nat.lt_of_lt_of_eq t.isLt N_0

/-- A tile's row in the arrays. -/
abbrev rowOf (t : Fin cfg0.N) (a : Fin 512) : Fin 4096 := ⟨512 * t.val + a.val, by have := lt8 t; omega⟩

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val ∧ win0_4.index t 1 = 6 := by decide +kernel
theorem at5 : ∀ t : Fin grid0.N, win0_5.index t 0 = t.val ∧ win0_5.index t 1 = 0 := by decide +kernel
theorem at6 : ∀ t : Fin grid0.N, win0_6.index t 0 = 0 ∧ win0_6.index t 1 = t.val := by decide +kernel

/-- A block of an array whose place in it is known, at an index. -/
theorem at_blk {n k N K : ℕ} (y : (⟨2, ![N, K]⟩ : Shape).Idx → EReal) (idx : (⟨2, ![N, K]⟩ : Shape).Idx) (a : Fin n) (d : Fin k) {i0 i1 j0 j1 : ℕ} (h : i0 = j0 ∧ i1 = j1) (r : Fin N) (s : Fin K)
    (e0 : (idx 0).val = i0 * n + 1 * a.val) (e1 : (idx 1).val = i1 * k + 1 * d.val) (f0 : j0 * n + 1 * a.val = r.val) (f1 : j1 * k + 1 * d.val = s.val) : y idx = y (ix2 r s) := by
  refine congrArg y (Shape.idx_ext₂ ?_ ?_)
  · show (idx 0).val = r.val
    rw [e0, h.1, f0]
  · show (idx 1).val = s.val
    rw [e1, h.2, f1]

theorem blk0 (t : Fin cfg0.N) (a : Fin 512) (k : Fin 1024) : (iblk m c 0 t : Vec Ideal S512x1024 .f32) (ix2 a k) = aX m c (ix2 (rowOf t a) k) :=
  (at_blk (V m c main_arg0) _ a k (at0 t) (rowOf t a) k rfl rfl (show t.val * 512 + 1 * a.val = 512 * t.val + a.val by omega) (by omega)).trans (by rw [V_main_arg0]; rfl)
theorem blk1 (t : Fin cfg0.N) (a : Fin 512) (k : Fin 1024) : (iblk m c 1 t : Vec Ideal S512x1024 .f32) (ix2 a k) = Y (aM m c) (aO m c) (aP m c) (aW m c) (rowOf t a) k :=
  (at_blk (V m c main_v4) _ a k (at1 t) (rowOf t a) k rfl rfl (show t.val * 512 + 1 * a.val = 512 * t.val + a.val by omega) (by omega)).trans (by
    rw [(host_eqs m c).1, yH_at]
    exact Finset.sum_congr rfl fun i _ => congrArg (· * _) (mixH_at ..))
theorem blk2 (t : Fin cfg0.N) (k : Fin 1024) : (iblk m c 2 t : Vec Ideal S1x1024 .f32) (ix2 0 k) = aG m c (ix2 0 k) :=
  (whole_blk (V m c main_arg4) (0 : Fin 1) k (at2 t) _ rfl rfl).trans (by rw [V_main_arg4]; rfl)
theorem blk3 (t : Fin cfg0.N) (k i : Fin 1024) : (iblk m c 3 t : Vec Ideal S1024x1024 .bf16) (ix2 k i) = aW m c (ix2 i k) :=
  (whole_blk (V m c main_v6) k i (at3 t) _ rfl rfl).trans (by rw [(host_eqs m c).2.1]; exact weightH_at ..)
theorem blk4 (t : Fin cfg0.N) (a j : Fin 512) : (iblk m c 4 t : Vec Ideal S512x512 .f32) (ix2 a j) = gate (aP m c) (rowOf t a) j :=
  (at_blk (V m c main_arg3) _ a j (at4 t) (rowOf t a) ⟨3072 + j.val, by omega⟩ rfl rfl (show t.val * 512 + 1 * a.val = 512 * t.val + a.val by omega) (show 6 * 512 + 1 * j.val = 3072 + j.val by omega)).trans (by rw [V_main_arg3]; rfl)
theorem blk5 (t : Fin cfg0.N) (a j : Fin 512) : (iblk m c 5 t : Vec Ideal S512x512 .f32) (ix2 a j) = aO m c (ix2 (rowOf t a) j) :=
  (at_blk (V m c main_arg2) _ a j (at5 t) (rowOf t a) j rfl rfl (show t.val * 512 + 1 * a.val = 512 * t.val + a.val by omega) (by omega)).trans (by rw [V_main_arg2]; rfl)
theorem blk6 (t : Fin cfg0.N) (i : Fin 1024) (a : Fin 512) : (iblk m c 6 t : Vec Ideal S1024x512 .bf16) (ix2 i a) = mix (aM m c) (aO m c) (aP m c) (rowOf t a) i :=
  (at_blk (V m c main_v8) _ i a (at6 t) i (rowOf t a) rfl rfl (by omega) (show t.val * 512 + 1 * a.val = 512 * t.val + a.val by omega)).trans (by
    rw [(host_eqs m c).2.2, turnedH_at]
    exact mixH_at ..)

end Cert.Kernel4Ideal.Merge

end
-- ==== Proof.MgOut.lean ====
/- The merge's backward result arrays, element by element, in the arguments. -/
module

public import proofs.«01_k».proof.Proof.MgHost
public import Idealize.ShloMosaic.Lib.Pipeline.ValueKit

@[expose] public section

set_option maxRecDepth 16384

noncomputable section

namespace Cert.Kernel4Ideal.Merge

open Idealize.ShloMosaic Idealize.ShloMosaic.Tactic Idealize.ShloMosaic.TcCoe Idealize.SL.Sem
open Cert.Kernel4Ideal Cert.Kernel4Ideal.Gen

/-! ## The results -/

section Functions

variable (X : S4096x1024.Idx → EReal) (M O : S4096x512.Idx → EReal) (P : S4096x3584.Idx → EReal) (G : S1x1024.Idx → EReal) (W : S1024x1024.Idx → EReal)

/-- A row's part of the row sums: one head's 64 columns, the rounded part and the rest. -/
def headSum (x : Fin 512 → EReal) (h : ℕ) : EReal := (∑ j : Fin 512, x j * if j.val / 64 = h then 1 else 0) + ∑ j : Fin 512, (x j - x j) * if j.val / 64 = h then 1 else 0

def outS : S1024x1024.Idx → EReal := fun i => ∑ r : Fin 4096, weightRow X M O P G W (i 0) (i 1) r
def outM : S4096x512.Idx → EReal := fun i => dMix X M O P G W (i 0) (Fin.castLE (by decide) (i 1))
def outG : S1x1024.Idx → EReal := fun i => ∑ r : Fin 4096, gainRow X M O P W (i 1) r
def outA : S4096x512.Idx → EReal := fun i => dA X M O P G W (i 0) (i 1)
def outT : S512x4096.Idx → EReal := fun i => dA X M O P G W (i 1) (i 0)
def outC : S4096x512.Idx → EReal := fun i => dgate (dThird X M O P G W (i 0) (i 1)) (gate P (i 0) (i 1)) (O (ix2 (i 0) (i 1)))
def deltaAt (h : ℕ) (r : Fin 4096) : EReal := headSum (fun j => dA X M O P G W r j * O (ix2 r j)) h
def outD : S2x8x2048.Idx → EReal := fun i => deltaAt X M O P G W (i 1).val ⟨2048 * (i 0).val + (i 2).val, by
  have h0 : (i 0).val < 2 := (i 0).isLt
  have h2 : (i 2).val < 2048 := (i 2).isLt
  omega⟩

end Functions

variable (m : (ℓ : Loc nD τ sig) → Buf (Elt Ideal) ℓ) (c : Dev nD)

/-! ## A tile's values -/

section Tiles

variable (t : Fin cfg0.N) (a : Fin 512)

theorem dyT (k : Fin 1024) : dy (iblk m c 0 t) (iblk m c 1 t) (iblk m c 2 t) (ix2 a k) = dY (aX m c) (aM m c) (aO m c) (aP m c) (aG m c) (aW m c) (rowOf t a) k := by
  rw [dy_at]
  unfold dY
  simp only [blk0, blk1, blk2]

theorem thirdT (j : Fin 512) : k0_pay19 (dy (iblk m c 0 t) (iblk m c 1 t) (iblk m c 2 t)) (cols ![0, 512] inb_S1024x1024_S1024x512_0_512 (iblk m c 3 t)) (ix2 a j)
    = dThird (aX m c) (aM m c) (aO m c) (aP m c) (aG m c) (aW m c) (rowOf t a) j := by
  rw [pay19_at]
  unfold dThird dMix
  exact Finset.sum_congr rfl fun k _ => by rw [dyT, cols_at _ 512 _ (by omega), blk3]

theorem daT (j : Fin 512) : k0_pay21 (dy (iblk m c 0 t) (iblk m c 1 t) (iblk m c 2 t)) (cols ![0, 512] inb_S1024x1024_S1024x512_0_512 (iblk m c 3 t)) (iblk m c 4 t) (ix2 a j)
    = dA (aX m c) (aM m c) (aO m c) (aP m c) (aG m c) (aW m c) (rowOf t a) j := by
  rw [pay21_at, thirdT, blk4]
  rfl

theorem tileA (j : Fin 512) : k0_pay22 (dy (iblk m c 0 t) (iblk m c 1 t) (iblk m c 2 t)) (cols ![0, 512] inb_S1024x1024_S1024x512_0_512 (iblk m c 3 t)) (iblk m c 4 t) (ix2 a j)
    = outA (aX m c) (aM m c) (aO m c) (aP m c) (aG m c) (aW m c) (ix2 (rowOf t a) j) := by
  rw [pay22_at, daT]
  rfl

theorem tileT (j : Fin 512) : k0_pay24 (k0_pay23 (dy (iblk m c 0 t) (iblk m c 1 t) (iblk m c 2 t)) (cols ![0, 512] inb_S1024x1024_S1024x512_0_512 (iblk m c 3 t)) (iblk m c 4 t)) (ix2 j a)
    = outT (aX m c) (aM m c) (aO m c) (aP m c) (aG m c) (aW m c) (ix2 j (rowOf t a)) := by
  rw [pay24_at, daT]
  rfl

theorem firstT (j : Fin 512) : k0_pay18 (dy (iblk m c 0 t) (iblk m c 1 t) (iblk m c 2 t)) (cols ![0, 0] inb_S1024x1024_S1024x512_0_0 (iblk m c 3 t)) (ix2 a j)
    = outM (aX m c) (aM m c) (aO m c) (aP m c) (aG m c) (aW m c) (ix2 (rowOf t a) j) := by
  rw [pay18_at]
  unfold outM dMix
  exact Finset.sum_congr rfl fun k _ => by
    rw [dyT, cols_at _ 0 _ (by omega), blk3]
    simp only [Nat.zero_add]
    rfl

theorem gateT (j : Fin 512) : k0_pay25 (dmc (iblk m c 0 t) (iblk m c 1 t) (iblk m c 2 t) (iblk m c 3 t)) (iblk m c 4 t) (iblk m c 5 t) (k0_pay20 (iblk m c 4 t)) (ix2 a j)
    = outC (aX m c) (aM m c) (aO m c) (aP m c) (aG m c) (aW m c) (ix2 (rowOf t a) j) := by
  rw [pay25_at, dmc, thirdT, blk4, blk5]
  rfl

theorem deltaT (h : Fin 8) : k0_pay1 (k0_pay27 (F := Ideal)) (k0_pay28 (iblk m c 5 t) (da (iblk m c 0 t) (iblk m c 1 t) (iblk m c 2 t) (iblk m c 3 t) (iblk m c 4 t)))
      (k0_pay29 (iblk m c 5 t) (da (iblk m c 0 t) (iblk m c 1 t) (iblk m c 2 t) (iblk m c 3 t) (iblk m c 4 t))) (ix3 0 h a)
    = deltaAt (aX m c) (aM m c) (aO m c) (aP m c) (aG m c) (aW m c) h.val (rowOf t a) := by
  rw [pay1_at]
  unfold deltaAt headSum
  simp only [pay28_at, pay29_at, pay27_at, da, daT, blk5]

theorem gainT (o : Vec Ideal S1x1024 .f32) (k : Fin 1024) : k0_pay12 (iblk m c 1 t) (iblk m c 0 t) o (ix2 0 k)
    = o (ix2 0 k) + ∑ a : Fin 512, gainRow (aX m c) (aM m c) (aO m c) (aP m c) (aW m c) k (rowOf t a) := by
  rw [pay12_at]
  unfold gainRow
  simp only [blk0, blk1]

theorem weightT (s : Vec Ideal S1024x1024 .f32) (i k : Fin 1024) : k0_pay14 (dy (iblk m c 0 t) (iblk m c 1 t) (iblk m c 2 t)) s (iblk m c 6 t) (ix2 i k)
    = s (ix2 i k) + ∑ a : Fin 512, weightRow (aX m c) (aM m c) (aO m c) (aP m c) (aG m c) (aW m c) i k (rowOf t a) := by
  rw [pay14_at]
  unfold weightRow
  simp only [dyT, blk6]

end Tiles

/-! ## The steps -/

section Steps

variable (t : Fin cfg0.N)

/-- Every step leaves its results by the same function, of some accumulators. -/
theorem step_any : ∃ o s, (outsAt0 m c t.val t.isLt).2 = step (iblk m c 0 t) (iblk m c 1 t) (iblk m c 2 t) (iblk m c 3 t) (iblk m c 4 t) (iblk m c 5 t) (iblk m c 6 t) o s := by
  by_cases h0 : t.val % 8 = 0
  · exact ⟨_, _, step_A m c t h0 (by omega)⟩
  · by_cases h1 : t.val % 8 = 7
    · exact ⟨_, _, step_C m c t h0 h1⟩
    · exact ⟨_, _, step_B m c t h0 h1⟩

theorem step_first (h0 : t.val % 8 = 0) : (outsAt0 m c t.val t.isLt).2 = step (iblk m c 0 t) (iblk m c 1 t) (iblk m c 2 t) (iblk m c 3 t) (iblk m c 4 t) (iblk m c 5 t) (iblk m c 6 t) (k0_pay7 (F := Ideal)) (k0_pay8 (F := Ideal)) :=
  step_A m c t h0 (by omega)

theorem step_next (h0 : ¬t.val % 8 = 0) : (outsAt0 m c t.val t.isLt).2 = step (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2 := by
  by_cases h1 : t.val % 8 = 7
  · exact step_C m c t h0 h1
  · exact step_B m c t h0 h1

theorem rows_sum (g : Fin 4096 → EReal) : ∑ t : Fin cfg0.N, ∑ a : Fin 512, g (rowOf t a) = ∑ r : Fin 4096, g r := by
  refine (Eq.trans ?_ (Fin.sum_univ_mul_divNat_modNat 8 512 fun t a => g ⟨512 * t.val + a.val, by omega⟩).symm).trans (Finset.sum_congr rfl fun r _ => congrArg g (Fin.ext ?_))
  · exact Fintype.sum_equiv (finCongr N_0) _ _ fun t => rfl
  · show 512 * (r.val / 512) + r.val % 512 = r.val
    omega

/-- What is set at the first step and added to at the others is the sum over the rows. -/
theorem last_sum (f : (n : ℕ) → n < cfg0.N → EReal) (g : Fin 4096 → EReal) (first : ∀ t : Fin cfg0.N, t.val % 8 = 0 → f t.val t.isLt = ∑ a : Fin 512, g (rowOf t a))
    (next : ∀ t : Fin cfg0.N, ¬t.val % 8 = 0 → f t.val t.isLt = f (t.val - 1) (Nat.lt_of_le_of_lt (Nat.sub_le _ _) t.isLt) + ∑ a : Fin 512, g (rowOf t a)) (h : t.val % 8 = 7) :
    f t.val t.isLt = ∑ r : Fin 4096, g r := by
  have l := lt8 t
  have N : cfg0.N = 8 := N_0
  rw [Pipeline.eq_sum_fin_of_reset_step_last f 8 0 (fun t => ∑ a : Fin 512, g (rowOf t a)) (fun t h => by rw [zero_add]; exact first t h) next (by omega) t (by omega), zero_add, rows_sum]

theorem gain_last (h : t.val % 8 = 7) (k : Fin 1024) : (outsAt0 m c t.val t.isLt).2.2.1 (ix2 0 k) = ∑ r : Fin 4096, gainRow (aX m c) (aM m c) (aO m c) (aP m c) (aW m c) k r :=
  last_sum t (fun n hn => (outsAt0 m c n hn).2.2.1 (ix2 0 k)) _
    (fun t h => by rw [step_first m c t h]; exact (gainT m c t _ k).trans (by rw [pay7_at, zero_add]))
    (fun t h => by rw [step_next m c t h]; exact gainT m c t _ k) h

theorem weight_last (h : t.val % 8 = 7) (i k : Fin 1024) :
    (outsAt0 m c t.val t.isLt).2.2.2.2.2.2.2 (ix2 i k) = ∑ r : Fin 4096, weightRow (aX m c) (aM m c) (aO m c) (aP m c) (aG m c) (aW m c) i k r :=
  last_sum t (fun n hn => (outsAt0 m c n hn).2.2.2.2.2.2.2 (ix2 i k)) _
    (fun t h => by rw [step_first m c t h]; exact (weightT m c t _ i k).trans (by rw [pay8_at, zero_add]))
    (fun t h => by rw [step_next m c t h]; exact weightT m c t _ i k) h

end Steps

/-! ## The arrays -/

theorem at7 : ∀ t : Fin grid0.N, win0_7.index t 0 = 0 ∧ win0_7.index t 1 = 0 ∧ win0_7.index t 2 = 0 ∧ win0_7.index t 3 = 0 := by decide +kernel
theorem at8 : ∀ t : Fin grid0.N, win0_8.index t 0 = t.val ∧ win0_8.index t 1 = 0 := by decide +kernel
theorem at9 : ∀ t : Fin grid0.N, win0_9.index t 0 = 0 ∧ win0_9.index t 1 = 0 := by decide +kernel
theorem at10 : ∀ t : Fin grid0.N, win0_10.index t 0 = t.val ∧ win0_10.index t 1 = 0 := by decide +kernel
theorem at11 : ∀ t : Fin grid0.N, win0_11.index t 0 = 0 ∧ win0_11.index t 1 = t.val := by decide +kernel
theorem at12 : ∀ t : Fin grid0.N, win0_12.index t 0 = t.val ∧ win0_12.index t 1 = 0 := by decide +kernel
theorem at13 : ∀ t : Fin grid0.N, win0_13.index t 0 = t.val / 4 ∧ win0_13.index t 1 = 0 ∧ win0_13.index t 2 = t.val % 4 := by decide +kernel

theorem final_M : (dats m 0 c).arrAt 8 cfg0.N = outM (aX m c) (aM m c) (aO m c) (aP m c) (aG m c) (aW m c) := by
  refine (dats m 0 c).arrAt_eq_of_covers 8 _ (by decide +kernel) fun t hf y => ?_
  blk_simp
  obtain ⟨o, s, e⟩ := step_any m c t
  rw [after0_8, e]
  idx_vars y
  refine (firstT m c t y0 y1).trans (congrArg (outM (aX m c) (aM m c) (aO m c) (aP m c) (aG m c) (aW m c)) (Shape.idx_ext₂ ?_ ?_))
  · refine Eq.trans ?_ (Pipeline.Window.rect_emb_val (cfg0.win 8) t (ix2 y0 y1) 0).symm
    rw [show (cfg0.win 8).index t 0 = t.val from (at8 t).1]
    show 512 * t.val + y0.val = t.val * 512 + y0.val
    omega
  · refine Eq.trans ?_ (Pipeline.Window.rect_emb_val (cfg0.win 8) t (ix2 y0 y1) 1).symm
    rw [show (cfg0.win 8).index t 1 = 0 from (at8 t).2]
    show y1.val = 0 * 512 + y1.val
    omega

theorem final_A : (dats m 0 c).arrAt 10 cfg0.N = outA (aX m c) (aM m c) (aO m c) (aP m c) (aG m c) (aW m c) := by
  refine (dats m 0 c).arrAt_eq_of_covers 10 _ (by decide +kernel) fun t hf y => ?_
  blk_simp
  obtain ⟨o, s, e⟩ := step_any m c t
  rw [after0_10, e]
  idx_vars y
  refine (tileA m c t y0 y1).trans (congrArg (outA (aX m c) (aM m c) (aO m c) (aP m c) (aG m c) (aW m c)) (Shape.idx_ext₂ ?_ ?_))
  · refine Eq.trans ?_ (Pipeline.Window.rect_emb_val (cfg0.win 10) t (ix2 y0 y1) 0).symm
    rw [show (cfg0.win 10).index t 0 = t.val from (at10 t).1]
    show 512 * t.val + y0.val = t.val * 512 + y0.val
    omega
  · refine Eq.trans ?_ (Pipeline.Window.rect_emb_val (cfg0.win 10) t (ix2 y0 y1) 1).symm
    rw [show (cfg0.win 10).index t 1 = 0 from (at10 t).2]
    show y1.val = 0 * 512 + y1.val
    omega

theorem final_C : (dats m 0 c).arrAt 12 cfg0.N = outC (aX m c) (aM m c) (aO m c) (aP m c) (aG m c) (aW m c) := by
  refine (dats m 0 c).arrAt_eq_of_covers 12 _ (by decide +kernel) fun t hf y => ?_
  blk_simp
  obtain ⟨o, s, e⟩ := step_any m c t
  rw [after0_12, e]
  idx_vars y
  refine (gateT m c t y0 y1).trans (congrArg (outC (aX m c) (aM m c) (aO m c) (aP m c) (aG m c) (aW m c)) (Shape.idx_ext₂ ?_ ?_))
  · refine Eq.trans ?_ (Pipeline.Window.rect_emb_val (cfg0.win 12) t (ix2 y0 y1) 0).symm
    rw [show (cfg0.win 12).index t 0 = t.val from (at12 t).1]
    show 512 * t.val + y0.val = t.val * 512 + y0.val
    omega
  · refine Eq.trans ?_ (Pipeline.Window.rect_emb_val (cfg0.win 12) t (ix2 y0 y1) 1).symm
    rw [show (cfg0.win 12).index t 1 = 0 from (at12 t).2]
    show y1.val = 0 * 512 + y1.val
    omega

theorem final_T : (dats m 0 c).arrAt 11 cfg0.N = outT (aX m c) (aM m c) (aO m c) (aP m c) (aG m c) (aW m c) := by
  refine (dats m 0 c).arrAt_eq_of_covers 11 _ (by decide +kernel) fun t hf y => ?_
  blk_simp
  obtain ⟨o, s, e⟩ := step_any m c t
  rw [after0_11, e]
  idx_vars y
  refine (tileT m c t y1 y0).trans (congrArg (outT (aX m c) (aM m c) (aO m c) (aP m c) (aG m c) (aW m c)) (Shape.idx_ext₂ ?_ ?_))
  · refine Eq.trans ?_ (Pipeline.Window.rect_emb_val (cfg0.win 11) t (ix2 y0 y1) 0).symm
    rw [show (cfg0.win 11).index t 0 = 0 from (at11 t).1]
    show y0.val = 0 * 512 + y0.val
    omega
  · refine Eq.trans ?_ (Pipeline.Window.rect_emb_val (cfg0.win 11) t (ix2 y0 y1) 1).symm
    rw [show (cfg0.win 11).index t 1 = t.val from (at11 t).2]
    show 512 * t.val + y1.val = t.val * 512 + y1.val
    omega

theorem final_G : (dats m 0 c).arrAt 9 cfg0.N = outG (aX m c) (aM m c) (aO m c) (aP m c) (aW m c) := by
  refine (dats m 0 c).arrAt_eq_of_covers 9 _ (by decide +kernel) fun t hf y => ?_
  blk_simp
  rw [after0_9]
  idx_vars y
  obtain rfl : y0 = 0 := Subsingleton.elim _ _
  refine (gain_last m c t ((flush0_9 t).mp hf) y1).trans ?_
  unfold outG
  refine Finset.sum_congr rfl fun r _ => congrArg (fun k => gainRow (aX m c) (aM m c) (aO m c) (aP m c) (aW m c) k r) (Fin.ext ?_)
  refine Eq.trans ?_ (Pipeline.Window.rect_emb_val (cfg0.win 9) t (ix2 0 y1) 1).symm
  rw [show (cfg0.win 9).index t 1 = 0 from (at9 t).2]
  show y1.val = 0 * 1024 + y1.val
  omega

theorem outS_last (t : Fin cfg0.N) (h : t.val % 8 = 7) : (outsAt0 m c t.val t.isLt).2.2.2.2.2.2.2 = outS (aX m c) (aM m c) (aO m c) (aP m c) (aG m c) (aW m c) := by
  funext y
  idx_vars y
  exact weight_last m c t h y0 y1

theorem final_W : (dats m 0 c).arrAt 7 cfg0.N = gwOf (outS (aX m c) (aM m c) (aO m c) (aP m c) (aG m c) (aW m c)) := by
  refine (dats m 0 c).arrAt_eq_of_covers 7 _ (by decide +kernel) fun t hf y => ?_
  blk_simp
  have h := (flush0_7 t).mp hf
  rw [after0_7, gw_C m c t (by omega) h, outS_last m c t h]
  have i7 := at7 t
  refine congrArg (gwOf (outS (aX m c) (aM m c) (aO m c) (aP m c) (aG m c) (aW m c))) (funext fun a => Fin.ext ?_)
  refine Eq.trans ?_ (Pipeline.Window.rect_emb_val (cfg0.win 7) t y a).symm
  have z : ∀ a, (cfg0.win 7).index t a = 0 := fun a => by
    fin_cases a
    exacts [i7.1, i7.2.1, i7.2.2.1, i7.2.2.2]
  rw [z a]
  simp only [Nat.zero_mul, Nat.zero_add]

theorem final_D : (dats m 0 c).arrAt 13 cfg0.N = outD (aX m c) (aM m c) (aO m c) (aP m c) (aG m c) (aW m c) := by
  refine (dats m 0 c).arrAt_eq_of_covers 13 _ (by decide +kernel) fun t hf y => ?_
  blk_simp
  obtain ⟨o, s, e⟩ := step_any m c t
  rw [after0_13, e]
  idx_vars y
  obtain rfl : y0 = 0 := Subsingleton.elim _ _
  refine (deltaT m c t y2 y1).trans ?_
  have e0 := Pipeline.Window.rect_emb_val (cfg0.win 13) t (ix3 0 y1 y2) 0
  have e1 := Pipeline.Window.rect_emb_val (cfg0.win 13) t (ix3 0 y1 y2) 1
  have e2 := Pipeline.Window.rect_emb_val (cfg0.win 13) t (ix3 0 y1 y2) 2
  rw [show (cfg0.win 13).index t 0 = t.val / 4 from (at13 t).1] at e0
  rw [show (cfg0.win 13).index t 1 = 0 from (at13 t).2.1] at e1
  rw [show (cfg0.win 13).index t 2 = t.val % 4 from (at13 t).2.2] at e2
  unfold outD
  refine congrArg₂ (deltaAt (aX m c) (aM m c) (aO m c) (aP m c) (aG m c) (aW m c)) ?_ (Fin.ext ?_)
  · refine Eq.trans ?_ e1.symm
    show y1.val = 0 * 8 + y1.val
    omega
  · refine Eq.trans ?_ (congrArg₂ (fun p q => 2048 * p + q) e0 e2).symm
    show 512 * t.val + y2.val = 2048 * (t.val / 4 * 1 + 0) + (t.val % 4 * 512 + y2.val)
    omega

end Cert.Kernel4Ideal.Merge

end
-- ==== Proof.MgRef.lean ====
/- The merge's backward pass by its mathematics: the reference's results, element by element. -/
module

public import proofs.«01_k».proof.Proof.MgOut
public import proofs.«01_k».proof.Proof.Gen.Reference4Ideal.Run

@[expose] public section

set_option maxRecDepth 16384

noncomputable section

namespace Cert.Reference4Ideal.Merge

open Idealize.ShloMosaic Idealize.ShloMosaic.Tactic Idealize.SL.Sem Idealize.ShloMosaic.TcCoe
open Cert.Reference4Ideal
open Facts₀ Facts
open Cert.Kernel2Ideal.InProj (len tiny)
open Cert.Kernel4Ideal.Merge (one gate mix Y)

/-! ## The reference's arrays -/

section Arrays

variable (M O D N : FVec Ideal S4096x512 .f32) (P : FVec Ideal S4096x3584 .f32) (W : FVec Ideal S1024x1024 .f32) (G : FVec Ideal S1x1024 .f32)
  (X Z : FVec Ideal S4096x1024 .f32) (s v r : FVec Ideal S4096x1 .f32) (t : FVec Ideal S4096 .f32)

def gateR : FVec Ideal S4096x512 .f32 := extractStridedSlice S4096x512 ![0, 3072] P slices_S4096x3584_S4096x512_0_3072
def onesR : FVec Ideal S4096x512 .f32 := broadcastInDim S4096x512 ![] bcast_S_S4096x512 (constant S_ .f32 0x3F800000#32)
/-- One over one plus the exponential of the negated gate. -/
def sigR (g : FVec Ideal S4096x512 .f32) : FVec Ideal S4096x512 .f32 := Host.divf onesR (addf onesR (Host.exp (Host.negf g)))
def mixR : FVec Ideal S4096x1024 .f32 := concatenate S4096x1024 1 [⟨S4096x512, M⟩, ⟨S4096x512, mulf O (mulf (gateR P) (sigR (gateR P)))⟩] concatenates_S4096x512_S4096x512_S4096x1024_d1
def yR (x : FVec Ideal S4096x1024 .f32) : FVec Ideal S4096x1024 .f32 := Host.dotGeneral dot_S4096x1024_S1024x1024_S4096x1024_1_0_0_1_n_n none x W
def colR (b : BitVec 32) : FVec Ideal S4096x1 .f32 := broadcastInDim S4096x1 ![] bcast_S_S4096x1 (constant S_ .f32 b)
def sumR : FVec Ideal S4096 .f32 := Host.reduceAdd (mulf X Z) (constant S_ .f32 0x00000000#32) reducesTo_S4096x1024_S4096_d1 h_S_
/-- A row's mean square and the small number. -/
def meanR : FVec Ideal S4096x1 .f32 := addf (Host.divf (broadcastInDim S4096x1 ![0] bcast_S4096_S4096x1_0 (sumR X X)) (colR 0x44800000#32)) (colR 0x358637BD#32)
def gainR : FVec Ideal S4096x1024 .f32 := mulf X (broadcastInDim S4096x1024 ![0, 1] bcast_S1x1024_S4096x1024_0_1 G)
def wideR : FVec Ideal S4096x1024 .f32 := broadcastInDim S4096x1024 ![0, 1] bcast_S4096x1_S4096x1024_0_1 r
/-- Half the gradient of a row's mean square, over its length. -/
def halfR : FVec Ideal S4096x1 .f32 := Host.divf (mulf s (mulf (colR 0xBF000000#32) (Host.divf r v))) (colR 0x44800000#32)
def unitR : FVec Ideal S4096 .f32 := Host.reduceAdd s (constant S_ .f32 0x00000000#32) reducesTo_S4096x1_S4096_d1 h_S_
def fillR : FVec Ideal S4096x1024 .f32 := broadcastInDim S4096x1024 ![0] bcast_S4096_S4096x1024_0 t
def joinR : FVec Ideal S4096x1024 .f32 := addf (addf (mulf Z (wideR r)) (mulf X (fillR t))) (mulf (fillR t) X)
def gainGradR : FVec Ideal S1x1024 .f32 := shapeCast _ (Host.reduceAdd (mulf (mulf X (wideR r)) Z) (constant S_ .f32 0x00000000#32) reducesTo_S4096x1024_S1024_d0 h_S_) shapeCasts_S1024_S1x1024
def weightR : FVec Ideal S1024x1024 .f32 := transpose S1024x1024 [1, 0] (Host.dotGeneral dot_S4096x1024_S4096x1024_S1024x1024_0_0_1_1_n_n none X Z) transposes_S1024x1024_S1024x1024_1_0
def blocksR : FVec Ideal S2x4x128x1024 .bf16 := truncf .bf16 (transpose S2x4x128x1024 [1, 0, 2, 3] (shapeCast S4x2x128x1024 W shapeCasts_S1024x1024_S4x2x128x1024) transposes_S4x2x128x1024_S2x4x128x1024_1_0_2_3) bitsLt_bf16_f32
def backR : FVec Ideal S4096x1024 .f32 := Host.dotGeneral dot_S4096x1024_S1024x1024_S4096x1024_1_1_0_0_n_n none X W
def firstR : FVec Ideal S4096x512 .f32 := extractStridedSlice S4096x512 ![0, 0] X slices_S4096x1024_S4096x512_0_0
def thirdR : FVec Ideal S4096x512 .f32 := extractStridedSlice S4096x512 ![0, 512] X slices_S4096x1024_S4096x512_0_512
def attR : FVec Ideal S4096x512 .f32 := mulf D (mulf N (sigR N))
def slopeR : FVec Ideal S4096x512 .f32 := addf (mulf (mulf O D) (sigR N)) (mulf (mulf N (mulf O D)) (mulf (sigR N) (subf onesR (sigR N))))
def roundR : FVec Ideal S4096x512 .bf16 := truncf .bf16 D bitsLt_bf16_f32
def turnR : FVec Ideal S512x4096 .bf16 := truncf .bf16 (transpose S512x4096 [1, 0] D transposes_S4096x512_S512x4096_1_0) bitsLt_bf16_f32
def deltaR : FVec Ideal S2x8x2048 .f32 :=
  transpose S2x8x2048 [0, 2, 1] (Host.reduceAdd (shapeCast S2x2048x8x64 (mulf D O) shapeCasts_S4096x512_S2x2048x8x64) (constant S_ .f32 0x00000000#32) reducesTo_S2x2048x8x64_S2x2048x8_d3 h_S_) transposes_S2x2048x8_S2x8x2048_0_2_1

variable (a : Fin 4096) (k : Fin 1024) (j : Fin 512)

theorem gateR_at : gateR P (ix2 a j) = gate P a j := by
  unfold gateR gate
  pointwise
theorem onesR_at : onesR (ix2 a j) = one := by
  unfold onesR
  pointwise
theorem sigR_at : sigR N (ix2 a j) = Ideal.div one (one + Ideal.exp (-N (ix2 a j))) := by
  unfold sigR onesR
  pointwise
theorem mixR_at : mixR M O P (ix2 a k) = mix M O P a k := by
  unfold mix
  simp only [← gateR_at, ← sigR_at]
  unfold mixR
  generalize sigR (gateR P) = s
  generalize gateR P = g
  pointwise
theorem yR_at : yR W X (ix2 a k) = ∑ i : Fin 1024, X (ix2 a i) * W (ix2 i k) := by
  unfold yR
  pointwise
theorem colR_at (b : BitVec 32) : colR b (ix2 a 0) = Ideal.ofBits .f32 b := by
  unfold colR
  pointwise
theorem sumR_at : sumR X Z (ix1 a) = ∑ k : Fin 1024, X (ix2 a k) * Z (ix2 a k) := by
  unfold sumR
  pointwise
theorem meanR_at : meanR X (ix2 a 0) = Ideal.div (∑ k : Fin 1024, X (ix2 a k) * X (ix2 a k)) len + tiny := by
  rw [← sumR_at]
  unfold meanR colR
  generalize sumR X X = y
  pointwise
theorem gainR_at : gainR G X (ix2 a k) = X (ix2 a k) * G (ix2 0 k) := by
  unfold gainR
  pointwise
theorem wideR_at : wideR r (ix2 a k) = r (ix2 a 0) := by
  unfold wideR
  pointwise
theorem fillR_at : fillR t (ix2 a k) = t (ix1 a) := by
  unfold fillR
  pointwise
theorem halfR_at : halfR s v r (ix2 a 0) = Ideal.div (s (ix2 a 0) * (Ideal.ofBits .f32 0xBF000000#32 * Ideal.div (r (ix2 a 0)) (v (ix2 a 0)))) len := by
  unfold halfR colR
  pointwise
theorem unitR_at : unitR s (ix1 a) = s (ix2 a 0) := by
  unfold unitR
  pointwise
  simp
theorem joinR_at : joinR X Z r t (ix2 a k) = Z (ix2 a k) * r (ix2 a 0) + X (ix2 a k) * t (ix1 a) + t (ix1 a) * X (ix2 a k) := by
  rw [← wideR_at r a k, ← fillR_at t a k]
  rfl
theorem gainGradR_at : gainGradR X Z r (ix2 0 k) = ∑ a : Fin 4096, X (ix2 a k) * r (ix2 a 0) * Z (ix2 a k) := by
  unfold gainGradR wideR
  pointwise
theorem weightR_at (i : Fin 1024) : weightR X Z (ix2 i k) = ∑ a : Fin 4096, X (ix2 a k) * Z (ix2 a i) := by
  unfold weightR
  pointwise
theorem backR_at : backR W X (ix2 a k) = ∑ i : Fin 1024, X (ix2 a i) * W (ix2 k i) := by
  unfold backR
  pointwise
theorem firstR_at : firstR X (ix2 a j) = X (ix2 a ⟨j.val, by omega⟩) := by
  unfold firstR
  pointwise
theorem thirdR_at : thirdR X (ix2 a j) = X (ix2 a ⟨512 + j.val, by omega⟩) := by
  unfold thirdR
  pointwise
theorem attR_at : attR D N (ix2 a j) = D (ix2 a j) * (N (ix2 a j) * Ideal.div one (one + Ideal.exp (-N (ix2 a j)))) := by
  rw [← sigR_at]
  unfold attR
  generalize sigR N = y
  pointwise
theorem slopeR_at (q : EReal) (hq : q = Ideal.div one (one + Ideal.exp (-N (ix2 a j)))) :
    slopeR O D N (ix2 a j) = O (ix2 a j) * D (ix2 a j) * q + N (ix2 a j) * (O (ix2 a j) * D (ix2 a j)) * (q * (one - q)) := by
  rw [hq, ← sigR_at, ← onesR_at a j]
  unfold slopeR
  generalize sigR N = y
  pointwise
theorem roundR_at : roundR D (ix2 a j) = D (ix2 a j) := by
  unfold roundR
  pointwise
theorem turnR_at : turnR D (ix2 j a) = D (ix2 a j) := by
  unfold turnR
  pointwise
theorem blocksR_at (p : Fin 2) (q : Fin 4) (u : Fin 128) : blocksR W (ix4 p q u k) = W (ix2 ⟨(2 * q.val + p.val) * 128 + u.val, by omega⟩ k) := by
  unfold blocksR
  pointwise
  exact congrArg (fun i => W (ix2 i k)) (Fin.ext (by show q.val * 256 + p.val * 128 + u.val = (2 * q.val + p.val) * 128 + u.val; omega))
theorem deltaR_at (b : Fin 2) (h : Fin 8) (u : Fin 2048) :
    deltaR O D (ix3 b h u) = ∑ l : Fin 64, D (ix2 ⟨b.val * 2048 + u.val, by omega⟩ ⟨h.val * 64 + l.val, by omega⟩) * O (ix2 ⟨b.val * 2048 + u.val, by omega⟩ ⟨h.val * 64 + l.val, by omega⟩) := by
  unfold deltaR
  pointwise

end Arrays

/-! ## The results -/

section Results

variable (X : FVec Ideal S4096x1024 .f32) (M O : FVec Ideal S4096x512 .f32) (P : FVec Ideal S4096x3584 .f32) (G : FVec Ideal S1x1024 .f32) (W : FVec Ideal S1024x1024 .f32)

def rootR (y : FVec Ideal S4096x1024 .f32) : FVec Ideal S4096x1 .f32 := Host.rsqrt (meanR y)
/-- The gradient of the norm's argument. -/
def normR (y : FVec Ideal S4096x1024 .f32) : FVec Ideal S4096x1024 .f32 :=
  joinR y (gainR G X) (rootR y) (unitR (halfR (shapeCast _ (sumR y (gainR G X)) shapeCasts_S4096_S4096x1) (meanR y) (rootR y)))
def dyR : FVec Ideal S4096x1024 .f32 := normR X G (yR W (mixR M O P))
def thirdGradR : FVec Ideal S4096x512 .f32 := thirdR (backR W (dyR X M O P G W))
def attGradR : FVec Ideal S4096x512 .f32 := attR (thirdGradR X M O P G W) (gateR P)

def resS : FVec Ideal S2x4x128x1024 .bf16 := blocksR (weightR (dyR X M O P G W) (mixR M O P))
def resM : FVec Ideal S4096x512 .f32 := firstR (backR W (dyR X M O P G W))
def resG : FVec Ideal S1x1024 .f32 := gainGradR (yR W (mixR M O P)) X (rootR (yR W (mixR M O P)))
def resA : FVec Ideal S4096x512 .bf16 := roundR (attGradR X M O P G W)
def resT : FVec Ideal S512x4096 .bf16 := turnR (attGradR X M O P G W)
def resC : FVec Ideal S4096x512 .bf16 := roundR (slopeR O (thirdGradR X M O P G W) (gateR P))
def resD : FVec Ideal S2x8x2048 .f32 := deltaR O (attGradR X M O P G W)

end Results

variable (m : (ℓ : Loc nD τ sig) → Buf (Elt Ideal) ℓ) (c : Dev nD)

def aX : FVec Ideal S4096x1024 .f32 := m ((c.tc : Thread nD τ).loc main_arg0)
def aM : FVec Ideal S4096x512 .f32 := m ((c.tc : Thread nD τ).loc main_arg1)
def aO : FVec Ideal S4096x512 .f32 := m ((c.tc : Thread nD τ).loc main_arg2)
def aP : FVec Ideal S4096x3584 .f32 := m ((c.tc : Thread nD τ).loc main_arg3)
def aG : FVec Ideal S1x1024 .f32 := m ((c.tc : Thread nD τ).loc main_arg4)
def aW : FVec Ideal S1024x1024 .f32 := m ((c.tc : Thread nD τ).loc main_arg5)

theorem v53_eq : Value.res_main_v53 m c = resS (aX m c) (aM m c) (aO m c) (aP m c) (aG m c) (aW m c) := by unfold Value.res_main_v53; rfl
theorem v42_eq : Value.res_main_v42 m c = resM (aX m c) (aM m c) (aO m c) (aP m c) (aG m c) (aW m c) := by unfold Value.res_main_v42; rfl
theorem v54_eq : Value.res_main_v54 m c = resA (aX m c) (aM m c) (aO m c) (aP m c) (aG m c) (aW m c) := by unfold Value.res_main_v54; rfl
theorem v56_eq : Value.res_main_v56 m c = resT (aX m c) (aM m c) (aO m c) (aP m c) (aG m c) (aW m c) := by unfold Value.res_main_v56; rfl
theorem v57_eq : Value.res_main_v57 m c = resC (aX m c) (aM m c) (aO m c) (aP m c) (aG m c) (aW m c) := by unfold Value.res_main_v57; rfl
theorem v50_eq : Value.res_main_v50 m c = resD (aX m c) (aM m c) (aO m c) (aP m c) (aG m c) (aW m c) := by unfold Value.res_main_v50; rfl

theorem run_results (ρ : Dev nD → PrngReg) : θ_run defs (onTc (τ := τ) (main (F := Ideal))) ⟨m, fun _ => 0, ρ⟩ fun r => ∀ c : Dev nD,
    r.2.mem ((c.tc : Thread nD τ).loc main_v53) = resS (aX m c) (aM m c) (aO m c) (aP m c) (aG m c) (aW m c)
    ∧ r.2.mem ((c.tc : Thread nD τ).loc main_v42) = resM (aX m c) (aM m c) (aO m c) (aP m c) (aG m c) (aW m c)
    ∧ r.2.mem ((c.tc : Thread nD τ).loc main_v22) = resG (aX m c) (aM m c) (aO m c) (aP m c) (aW m c)
    ∧ r.2.mem ((c.tc : Thread nD τ).loc main_v54) = resA (aX m c) (aM m c) (aO m c) (aP m c) (aG m c) (aW m c)
    ∧ r.2.mem ((c.tc : Thread nD τ).loc main_v56) = resT (aX m c) (aM m c) (aO m c) (aP m c) (aG m c) (aW m c)
    ∧ r.2.mem ((c.tc : Thread nD τ).loc main_v57) = resC (aX m c) (aM m c) (aO m c) (aP m c) (aG m c) (aW m c)
    ∧ r.2.mem ((c.tc : Thread nD τ).loc main_v50) = resD (aX m c) (aM m c) (aO m c) (aP m c) (aG m c) (aW m c)
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4) ∧ r.2.mem ((c.tc : Thread nD τ).loc main_arg5) = m ((c.tc : Thread nD τ).loc main_arg5) :=
  (θ_run defs _ _).mono (fun _ h c => ⟨(h c).1.trans (v53_eq m c), (h c).2.1.trans (v42_eq m c), (h c).2.2.1.trans rfl, (h c).2.2.2.1.trans (v54_eq m c),
    (h c).2.2.2.2.1.trans (v56_eq m c), (h c).2.2.2.2.2.1.trans (v57_eq m c), (h c).2.2.2.2.2.2.1.trans (v50_eq m c), (h c).2.2.2.2.2.2.2⟩) (Value.run m ρ)

end Cert.Reference4Ideal.Merge

end
-- ==== Proof.MgValue.lean ====
/- The merge's value claim: over real arguments the launch's results are the reference's. -/
module

public import proofs.«01_k».proof.Proof.MgRef
public import proofs.«01_k».proof.Proof.InValue
public import proofs.«01_k».proof.Pre_finite4
public import proofs.«01_k».proof.Proof.Gen.Kernel4Ideal.Value

@[expose] public section

set_option maxRecDepth 16384

noncomputable section

namespace Cert.MgValue

open Idealize.ShloMosaic Idealize.ShloMosaic.Tactic Idealize.SL.Sem Idealize.ShloMosaic.TcCoe
open Cert.Kernel2Ideal.InProj (len tiny dxAt)
open Cert.KernelIdeal.Fox (coe_sum IsReal)
open Cert.InValue (row_eq div_real len_real tiny_real)
open Cert.Kernel4Ideal.Merge (one sg dgate gate mix Y dY dMix dThird dA gainRow weightRow headSum outS outM outG outA outT outC outD deltaAt gwOf)

/-! ## Real numbers -/

/-- An extended number that is real. -/
def Re (a : EReal) : Prop := ∃ r : ℝ, a = (r : EReal)

theorem Re.of {s : Shape} {x : s.Idx → EReal} (h : IsReal x) (i : s.Idx) : Re (x i) := ⟨(x i).toReal, (h i).symm⟩
theorem Re.zero : Re 0 := ⟨0, rfl⟩
theorem Re.add {a b : EReal} (ha : Re a) (hb : Re b) : Re (a + b) := by
  obtain ⟨a, rfl⟩ := ha
  obtain ⟨b, rfl⟩ := hb
  exact ⟨a + b, (EReal.coe_add a b).symm⟩
theorem Re.mul {a b : EReal} (ha : Re a) (hb : Re b) : Re (a * b) := by
  obtain ⟨a, rfl⟩ := ha
  obtain ⟨b, rfl⟩ := hb
  exact ⟨a * b, (EReal.coe_mul a b).symm⟩
theorem Re.sub {a b : EReal} (ha : Re a) (hb : Re b) : Re (a - b) := by
  obtain ⟨a, rfl⟩ := ha
  obtain ⟨b, rfl⟩ := hb
  exact ⟨a - b, (EReal.coe_sub a b).symm⟩
theorem Re.sum {ι : Type} [Fintype ι] {f : ι → EReal} (h : ∀ i, Re (f i)) : Re (∑ i, f i) := by
  choose r hr using h
  obtain rfl : f = fun i => ((r i : ℝ) : EReal) := funext hr
  exact ⟨∑ i, r i, (coe_sum ..).symm⟩
theorem Re.over {a : EReal} (ha : Re a) : Re (Ideal.div a len) := by
  obtain ⟨a, rfl⟩ := ha
  rw [len_real, div_real _ _ (by norm_num)]
  exact ⟨_, rfl⟩

theorem one_real : one = ((1 : ℝ) : EReal) := by
  show Ideal.ofBits .f32 0x3F800000#32 = _
  simp [Ideal.ofBits, Ideal.ieee, -EReal.coe_mul]; norm_num

/-- The two ways of negating the gate. -/
theorem sig_eq (g : EReal) : Ideal.div one (one + Ideal.exp (-g)) = sg g := by
  unfold sg
  rw [zero_sub]

theorem Re.sg {g : EReal} (hg : Re g) : Re (sg g) := by
  obtain ⟨g, rfl⟩ := hg
  rw [← sig_eq, ← EReal.coe_neg, Ideal.exp_coe, one_real, ← EReal.coe_add, div_real _ _ (by positivity)]
  exact ⟨_, rfl⟩

/-- A row's reciprocal root mean square. -/
theorem Re.inv {x : Fin 1024 → EReal} (hx : ∀ k, Re (x k)) : Re (Cert.Kernel2Ideal.InProj.inv x) := by
  obtain ⟨e, he, et⟩ := tiny_real
  choose r hr using hx
  obtain rfl : x = fun k => ((r k : ℝ) : EReal) := funext hr
  have pv : 0 < (∑ k, r k * r k) / 1024 + e := add_pos_of_nonneg_of_pos (div_nonneg (Finset.sum_nonneg fun k _ => mul_self_nonneg _) (by norm_num)) he
  unfold Cert.Kernel2Ideal.InProj.inv
  simp only [← EReal.coe_mul, ← coe_sum, len_real, et]
  rw [div_real _ _ (by norm_num), ← EReal.coe_add, Ideal.rsqrt_coe, if_neg (not_lt.mpr pv.le), if_neg pv.ne']
  exact ⟨_, rfl⟩

theorem Re.dxAt {x g d o : Fin 1024 → EReal} (hx : ∀ k, Re (x k)) (hg : ∀ k, Re (g k)) (hd : ∀ k, Re (d k)) (ho : ∀ k, Re (o k)) (k : Fin 1024) : Re (dxAt x g d o k) :=
  (ho k).add ((Re.inv hx).mul (((hd k).mul (hg k)).sub (((hx k).mul (Re.inv hx)).mul (Re.sum fun k => ((hd k).mul (hg k)).mul ((hx k).mul (Re.inv hx))).over)))

/-! ## One head's lanes -/

theorem lanes (x : Fin 512 → EReal) (hx : ∀ j, Re (x j)) (h : Fin 8) : headSum x h.val = ∑ l : Fin 64, x ⟨h.val * 64 + l.val, by omega⟩ := by
  have z : ∀ j, x j - x j = 0 := fun j => by
    obtain ⟨r, hr⟩ := hx j
    rw [hr, ← EReal.coe_sub, sub_self, EReal.coe_zero]
  unfold headSum
  simp only [z, zero_mul, Finset.sum_const_zero, add_zero, mul_ite, mul_one, mul_zero, ← Finset.sum_filter]
  refine Finset.sum_nbij' (fun j => (⟨j.val % 64, Nat.mod_lt _ (by decide)⟩ : Fin 64)) (fun l => (⟨h.val * 64 + l.val, by omega⟩ : Fin 512)) ?_ ?_ ?_ ?_ ?_
  · intro j _
    exact Finset.mem_univ _
  · intro l _
    exact Finset.mem_filter.mpr ⟨Finset.mem_univ _, by show (h.val * 64 + l.val) / 64 = h.val; omega⟩
  · intro j hj
    have := (Finset.mem_filter.mp hj).2
    exact Fin.ext (by show h.val * 64 + j.val % 64 = j.val; omega)
  · intro l _
    exact Fin.ext (by show (h.val * 64 + l.val) % 64 = l.val; omega)
  · intro j hj
    have := (Finset.mem_filter.mp hj).2
    exact congrArg x (Fin.ext (by show j.val = h.val * 64 + j.val % 64; omega))

/-- The gate's gradient in its two forms. -/
theorem slope_eq {d g o : EReal} (hd : Re d) (hg : Re g) (ho : Re o) : o * d * sg g + g * (o * d) * (sg g * (one - sg g)) = dgate d g o := by
  unfold dgate
  obtain ⟨s, hs⟩ := hg.sg
  obtain ⟨d, rfl⟩ := hd
  obtain ⟨g, rfl⟩ := hg
  obtain ⟨o, rfl⟩ := ho
  rw [hs, one_real]
  norm_cast
  ring

/-! ## The results, at any arguments -/

section Results

variable (X : FVec Ideal Cert.Reference4Ideal.S4096x1024 .f32) (M O : FVec Ideal Cert.Reference4Ideal.S4096x512 .f32) (P : FVec Ideal Cert.Reference4Ideal.S4096x3584 .f32)
  (G : FVec Ideal Cert.Reference4Ideal.S1x1024 .f32) (W : FVec Ideal Cert.Reference4Ideal.S1024x1024 .f32)

open Cert.Reference4Ideal.Merge

theorem y_at (a : Fin 4096) (k : Fin 1024) : yR W (mixR M O P) (ix2 a k) = Y M O P W a k := by
  rw [yR_at]
  unfold Y
  simp only [mixR_at]

theorem norm_at (y : FVec Ideal Cert.Reference4Ideal.S4096x1024 .f32) (a : Fin 4096) (k : Fin 1024) :
    normR X G y (ix2 a k) = dxAt (fun k => y (ix2 a k)) (fun k => G (ix2 0 k)) (fun k => X (ix2 a k)) (fun _ => 0) k := by
  have root : rootR y (ix2 a 0) = Ideal.rsqrt (meanR y (ix2 a 0)) := rfl
  have flat : ∀ z : FVec Ideal Cert.Reference4Ideal.S4096 .f32, (shapeCast Cert.Reference4Ideal.S4096x1 z Cert.Reference4Ideal.Facts₀.shapeCasts_S4096_S4096x1 : FVec Ideal Cert.Reference4Ideal.S4096x1 .f32) (ix2 a 0) = z (ix1 a) := fun z => by pointwise
  rw [row_eq]
  unfold normR Cert.InValue.refAt
  rw [joinR_at, unitR_at, halfR_at, flat, root, meanR_at, sumR_at]
  simp only [gainR_at, zero_add]

theorem dy_at (a : Fin 4096) (k : Fin 1024) : dyR X M O P G W (ix2 a k) = dY X M O P G W a k := by
  unfold dyR
  rw [norm_at]
  simp only [y_at]
  rfl

theorem back_at (a : Fin 4096) (i : Fin 1024) : backR W (dyR X M O P G W) (ix2 a i) = dMix X M O P G W a i := by
  rw [backR_at]
  unfold dMix
  simp only [dy_at]

theorem third_at (a : Fin 4096) (j : Fin 512) : thirdGradR X M O P G W (ix2 a j) = dThird X M O P G W a j := by
  unfold thirdGradR
  rw [thirdR_at, back_at]
  rfl

theorem att_at (a : Fin 4096) (j : Fin 512) : attGradR X M O P G W (ix2 a j) = dA X M O P G W a j := by
  unfold attGradR
  rw [attR_at, third_at, gateR_at, sig_eq]
  rfl

theorem eqS : resS X M O P G W = gwOf (outS X M O P G W) := by
  funext i
  idx_vars i
  unfold resS
  rw [blocksR_at, weightR_at]
  refine Finset.sum_congr rfl fun a _ => ?_
  rw [dy_at, mixR_at, mul_comm]
  rfl

theorem eqM : resM X M O P G W = outM X M O P G W := by
  funext i
  idx_vars i
  unfold resM
  rw [firstR_at, back_at]
  rfl

theorem eqG : resG X M O P W = outG X M O P W := by
  funext i
  idx_vars i
  obtain rfl : i0 = 0 := Subsingleton.elim _ _
  have root : ∀ a, rootR (yR W (mixR M O P)) (ix2 a 0) = Cert.Kernel2Ideal.InProj.inv (Y M O P W a) := fun a => by
    show Ideal.rsqrt (meanR _ (ix2 a 0)) = _
    rw [meanR_at]
    simp only [y_at]
    rfl
  unfold resG
  rw [gainGradR_at]
  refine Finset.sum_congr rfl fun a _ => ?_
  rw [root, y_at, mul_comm]
  rfl

theorem eqA : resA X M O P G W = outA X M O P G W := by
  funext i
  idx_vars i
  unfold resA
  rw [roundR_at, att_at]
  rfl

theorem eqT : resT X M O P G W = outT X M O P G W := by
  funext i
  idx_vars i
  unfold resT
  rw [turnR_at, att_at]
  rfl

/-! ## The results, at real arguments -/

variable {X M O P G W} (hX : IsReal X) (hM : IsReal M) (hO : IsReal O) (hP : IsReal P) (hG : IsReal G) (hW : IsReal W)

include hP in
theorem gate_real (a : Fin 4096) (j : Fin 512) : Re (gate P a j) := .of hP _

include hM hO hP in
theorem mix_real (a : Fin 4096) (i : Fin 1024) : Re (mix M O P a i) := by
  unfold mix
  split
  · exact .of hM _
  · rw [sig_eq]
    exact (Re.of hO _).mul ((gate_real hP _ _).mul (gate_real hP _ _).sg)

include hM hO hP hW in
theorem y_real (a : Fin 4096) (k : Fin 1024) : Re (Y M O P W a k) := by
  unfold Y
  exact Re.sum fun i => (mix_real hM hO hP a i).mul (.of hW _)

include hX hM hO hP hG hW in
theorem dy_real (a : Fin 4096) (k : Fin 1024) : Re (dY X M O P G W a k) := by
  unfold dY
  exact Re.dxAt (fun k => y_real hM hO hP hW a k) (fun k => .of hG _) (fun k => .of hX _) (fun _ => .zero) k

include hX hM hO hP hG hW in
theorem third_real (a : Fin 4096) (j : Fin 512) : Re (dThird X M O P G W a j) := by
  unfold dThird dMix
  exact Re.sum fun k => (dy_real hX hM hO hP hG hW a k).mul (.of hW _)

include hX hM hO hP hG hW in
theorem att_real (a : Fin 4096) (j : Fin 512) : Re (dA X M O P G W a j) := by
  unfold dA
  exact (third_real hX hM hO hP hG hW a j).mul ((gate_real hP a j).mul (gate_real hP a j).sg)

include hX hM hO hP hG hW in
theorem eqC : resC X M O P G W = outC X M O P G W := by
  funext i
  idx_vars i
  unfold resC
  rw [roundR_at, slopeR_at (hq := rfl), third_at, gateR_at, sig_eq]
  exact slope_eq (third_real hX hM hO hP hG hW _ _) (gate_real hP _ _) (.of hO _)

include hX hM hO hP hG hW in
theorem eqD : resD X M O P G W = outD X M O P G W := by
  funext i
  idx_vars i
  unfold resD
  rw [deltaR_at]
  have e : (⟨i0.val * 2048 + i2.val, by omega⟩ : Fin 4096) = ⟨2048 * i0.val + i2.val, by omega⟩ := Fin.ext (by show i0.val * 2048 + i2.val = 2048 * i0.val + i2.val; omega)
  rw [e]
  simp only [att_at]
  exact (lanes (fun j => dA X M O P G W ⟨2048 * i0.val + i2.val, by omega⟩ j * O (ix2 ⟨2048 * i0.val + i2.val, by omega⟩ j))
    (fun j => (att_real hX hM hO hP hG hW _ j).mul (.of hO _)) i1).symm

end Results

/-! ## The precondition -/

instance preFacts : Cert.Pre_finite4.Facts where
  bcast_S_S4096x1024 := by decide
  reducesTo_S4096x1024_S_d0_1 := by decide
  h_S_ := by decide
  bcast_S_S4096x512 := by decide
  reducesTo_S4096x512_S_d0_1 := by decide
  bcast_S_S4096x3584 := by decide
  reducesTo_S4096x3584_S_d0_1 := by decide
  bcast_S_S1x1024 := by decide
  reducesTo_S1x1024_S_d0_1 := by decide
  bcast_S_S1024x1024 := by decide
  reducesTo_S1024x1024_S_d0_1 := by decide
  shapeCasts_S_S1 := by decide

theorem real_args (X : FVec Ideal Cert.Pre_finite4.S4096x1024 .f32) (M O : FVec Ideal Cert.Pre_finite4.S4096x512 .f32) (P : FVec Ideal Cert.Pre_finite4.S4096x3584 .f32)
    (G : FVec Ideal Cert.Pre_finite4.S1x1024 .f32) (W : FVec Ideal Cert.Pre_finite4.S1024x1024 .f32)
    (h : Cert.Pre_finite4.fn X M O P G W = fun _ => 1#1) : IsReal X ∧ IsReal M ∧ IsReal O ∧ IsReal P ∧ IsReal G ∧ IsReal W := by
  haveI : Subsingleton Cert.Pre_finite4.S_.Idx := ⟨fun a b => funext fun i => i.elim0⟩
  have h0 := congrFun h (ix1 (0 : Fin 1))
  dsimp only [Cert.Pre_finite4.fn, Cert.Pre_finite4.fn_part1] at h0
  obtain ⟨h1, w⟩ := IntOp.andi_eq_one.1 h0
  obtain ⟨h2, g⟩ := IntOp.andi_eq_one.1 h1
  obtain ⟨h3, p⟩ := IntOp.andi_eq_one.1 h2
  obtain ⟨h4, o⟩ := IntOp.andi_eq_one.1 h3
  obtain ⟨x, n⟩ := IntOp.andi_eq_one.1 h4
  exact ⟨Cert.Value.isReal_of_all X _ (fun _ => rfl) _ _ _ _ x, Cert.Value.isReal_of_all M _ (fun _ => rfl) _ _ _ _ n, Cert.Value.isReal_of_all O _ (fun _ => rfl) _ _ _ _ o,
    Cert.Value.isReal_of_all P _ (fun _ => rfl) _ _ _ _ p, Cert.Value.isReal_of_all G _ (fun _ => rfl) _ _ _ _ g, Cert.Value.isReal_of_all W _ (fun _ => rfl) _ _ _ _ w⟩

/-! ## The claim -/

section Claim

open Cert.Kernel4Ideal.Merge

theorem algebraic : Cert.algebraic_Kernel4Ideal_Reference4Ideal_pre_finite4 (hKernel4Ideal := Cert.Kernel4Ideal.Gen.facts) (hReference4Ideal := Cert.Reference4Ideal.Gen.facts) (hPre_finite4 := preFacts) := by
  intro m g m' g' hp ha
  have ex : ∀ c, Cert.Reference4Ideal.Merge.aX m' c = aX m c := fun c => (ha c).1
  have em : ∀ c, Cert.Reference4Ideal.Merge.aM m' c = aM m c := fun c => (ha c).2.1
  have eo : ∀ c, Cert.Reference4Ideal.Merge.aO m' c = aO m c := fun c => (ha c).2.2.1
  have ep : ∀ c, Cert.Reference4Ideal.Merge.aP m' c = aP m c := fun c => (ha c).2.2.2.1
  have eg : ∀ c, Cert.Reference4Ideal.Merge.aG m' c = aG m c := fun c => (ha c).2.2.2.2.1
  have ew : ∀ c, Cert.Reference4Ideal.Merge.aW m' c = aW m c := fun c => (ha c).2.2.2.2.2
  refine ⟨fun c => gwOf (outS (aX m c) (aM m c) (aO m c) (aP m c) (aG m c) (aW m c)), fun c => outM (aX m c) (aM m c) (aO m c) (aP m c) (aG m c) (aW m c),
    fun c => outG (aX m c) (aM m c) (aO m c) (aP m c) (aW m c), fun c => outA (aX m c) (aM m c) (aO m c) (aP m c) (aG m c) (aW m c),
    fun c => outT (aX m c) (aM m c) (aO m c) (aP m c) (aG m c) (aW m c), fun c => outC (aX m c) (aM m c) (aO m c) (aP m c) (aG m c) (aW m c),
    fun c => outD (aX m c) (aM m c) (aO m c) (aP m c) (aG m c) (aW m c), ?_, ?_⟩
  · refine (θ_run Cert.Kernel4Ideal.defs _ _).mono (fun r h c => ?_) (Cert.Kernel4Ideal.Value.run_blocks m g)
    exact ⟨(h c).1.trans (final_W m c), (h c).2.1.trans (final_M m c), (h c).2.2.1.trans (final_G m c), (h c).2.2.2.1.trans (final_A m c),
      (h c).2.2.2.2.1.trans (final_T m c), (h c).2.2.2.2.2.1.trans (final_C m c), (h c).2.2.2.2.2.2.1.trans (final_D m c), (h c).2.2.2.2.2.2.2⟩
  · refine (θ_run Cert.Reference4Ideal.defs _ _).mono (fun r h c => ?_) (Cert.Reference4Ideal.Merge.run_results m' g')
    obtain ⟨rX, rM, rO, rP, rG, rW⟩ := real_args (aX m c) (aM m c) (aO m c) (aP m c) (aG m c) (aW m c) (hp c)
    have k := h c
    rw [ex, em, eo, ep, eg, ew, eqS, eqM, eqG, eqA, eqT, eqC rX rM rO rP rG rW, eqD rX rM rO rP rG rW] at k
    exact k

end Claim

end Cert.MgValue

end
-- ==== Proof.lean ====
/- The claim, put together from the modules that prove its parts. -/
module

public import proofs.«01_k».proof.Defs
public import proofs.«01_k».proof.Proof.Frames
public import proofs.«01_k».proof.Proof.Value
public import proofs.«01_k».proof.Proof.InFrames
public import proofs.«01_k».proof.Proof.InValue
public import proofs.«01_k».proof.Proof.FwFrames
public import proofs.«01_k».proof.Proof.FwValue
public import proofs.«01_k».proof.Proof.MgFrames
public import proofs.«01_k».proof.Proof.MgValue
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Value.preFacts, Cert.MgValue.preFacts,
    Cert.Frames.kernel, Cert.Frames.kernelIdeal, fun m g _ => Cert.Frames.kernelIdeal m g trivial,
    Cert.Frames.referenceIdeal, fun m g _ => Cert.Frames.referenceIdeal m g trivial,
    Cert.InFrames.kernel, Cert.InFrames.kernelIdeal,
    Cert.InFrames.referenceIdeal,
    Cert.FwFrames.kernel, Cert.FwFrames.kernelIdeal, Cert.FwFrames.referenceIdeal,
    Cert.MgFrames.kernel, Cert.MgFrames.kernelIdeal, fun m g _ => Cert.MgFrames.kernelIdeal m g trivial,
    Cert.MgFrames.referenceIdeal, fun m g _ => Cert.MgFrames.referenceIdeal m g trivial,
    trivial, Cert.Value.algebraic, trivial, Cert.InValue.algebraic, trivial, Cert.FwValue.algebraic, trivial, Cert.MgValue.algebraic⟩

end Cert.Proof

end
